-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v113_0)) (v1 : (c : Dev Cert.KernelIdeal.nD) → Buf (Elt Ideal) ((c.tc : Thread Cert.KernelIdeal.nD Cert.KernelIdeal.τ).loc Cert.KernelIdeal.main_v113_1)) (v2 : (c : Dev Cert.KernelIdeal.nD) → Buf (Elt Ideal) ((c.tc : Thread Cert.KernelIdeal.nD Cert.KernelIdeal.τ).loc Cert.KernelIdeal.main_v113_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113_0) = v0 c
          ∧ r.2.mem ((c.tc : Thread Cert.KernelIdeal.nD Cert.KernelIdeal.τ).loc Cert.KernelIdeal.main_v113_1) = v1 c
          ∧ r.2.mem ((c.tc : Thread Cert.KernelIdeal.nD Cert.KernelIdeal.τ).loc Cert.KernelIdeal.main_v113_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v60_1)) (v1 : (c : Dev Cert.Kernel6Ideal.nD) → Buf (Elt Ideal) ((c.tc : Thread Cert.Kernel6Ideal.nD Cert.Kernel6Ideal.τ).loc Cert.Kernel6Ideal.main_v60_2)) (v2 : (c : Dev Cert.Kernel6Ideal.nD) → Buf (Elt Ideal) ((c.tc : Thread Cert.Kernel6Ideal.nD Cert.Kernel6Ideal.τ).loc Cert.Kernel6Ideal.main_v60_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v60_1) = v0 c
          ∧ r.2.mem ((c.tc : Thread Cert.Kernel6Ideal.nD Cert.Kernel6Ideal.τ).loc Cert.Kernel6Ideal.main_v60_2) = v1 c
          ∧ r.2.mem ((c.tc : Thread Cert.Kernel6Ideal.nD Cert.Kernel6Ideal.τ).loc Cert.Kernel6Ideal.main_v60_3) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v90) = v0 c
          ∧ r.2.mem ((c.tc : Thread Cert.Reference6Ideal.nD Cert.Reference6Ideal.τ).loc Cert.Reference6Ideal.main_v91) = v1 c
          ∧ r.2.mem ((c.tc : Thread Cert.Reference6Ideal.nD Cert.Reference6Ideal.τ).loc Cert.Reference6Ideal.main_v92) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v69) = v0 c
          ∧ r.2.mem ((c.tc : Thread Cert.Reference7Ideal.nD Cert.Reference7Ideal.τ).loc Cert.Reference7Ideal.main_v70) = v1 c
          ∧ r.2.mem ((c.tc : Thread Cert.Reference7Ideal.nD Cert.Reference7Ideal.τ).loc Cert.Reference7Ideal.main_v71) = v2 c
          ∧ r.2.mem ((c.tc : Thread Cert.Reference7Ideal.nD Cert.Reference7Ideal.τ).loc Cert.Reference7Ideal.main_v72) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0_1)) (v1 : (c : Dev Cert.Kernel8Ideal.nD) → Buf (Elt Ideal) ((c.tc : Thread Cert.Kernel8Ideal.nD Cert.Kernel8Ideal.τ).loc Cert.Kernel8Ideal.main_v0_2)) (v2 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_1) = v0 c
          ∧ r.2.mem ((c.tc : Thread Cert.Kernel8Ideal.nD Cert.Kernel8Ideal.τ).loc Cert.Kernel8Ideal.main_v0_2) = v1 c
          ∧ r.2.mem ((c.tc : Thread Cert.Kernel8Ideal.nD Cert.Kernel8Ideal.τ).loc Cert.Kernel8Ideal.main_v0_3) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v35) = v0 c
          ∧ r.2.mem ((c.tc : Thread Cert.Reference8Ideal.nD Cert.Reference8Ideal.τ).loc Cert.Reference8Ideal.main_v38) = v1 c
          ∧ r.2.mem ((c.tc : Thread Cert.Reference8Ideal.nD Cert.Reference8Ideal.τ).loc Cert.Reference8Ideal.main_v41) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S2x4352x6x96 : Shape := ⟨4, ![2, 4352, 6, 96]⟩
abbrev S2x4352x6x64 : Shape := ⟨4, ![2, 4352, 6, 64]⟩
abbrev S_ : Shape := ⟨0, ![]⟩

class Facts : Prop where
  bcast_S_S2x4352x6x96 : S_.BroadcastsInDim S2x4352x6x96 (![] : Fin 0 → Fin S2x4352x6x96.rank)
  reducesTo_S2x4352x6x96_S_d0_1_2_3 : S2x4352x6x96.ReducesTo [0, 1, 2, 3] S_
  h_S_ : 0 < S_.numel
  bcast_S_S2x4352x6x64 : S_.BroadcastsInDim S2x4352x6x64 (![] : Fin 0 → Fin S2x4352x6x64.rank)
  reducesTo_S2x4352x6x64_S_d0_1_2_3 : S2x4352x6x64.ReducesTo [0, 1, 2, 3] S_

variable [Facts]

def fn_part1 {F : FTy → Type} [FloatOps F] (main_v8 : IVec S_ 1) (main_v12 : IVec S_ 1) (main_v15 : IVec S2x4352x6x64 1) (main_c_5 : IVec S_ 1) : IVec S_ 1 :=
  let main_v16 : IVec S_ 1 := (fun x v => Host.reduce IntOp.andi x v reducesTo_S2x4352x6x64_S_d0_1_2_3 h_S_) main_v15 main_c_5
  let main_v17 : IVec S_ 1 := andi main_v12 main_v16
  let main_v18 : IVec S_ 1 := andi main_v8 main_v17
  main_v18

def fn {F : FTy → Type} [FloatOps F] (main_arg0 : FVec F S2x4352x6x96 .f32) (main_arg1 : FVec F S2x4352x6x96 .f32) (main_arg2 : FVec F S2x4352x6x64 .f32) (main_arg3 : FVec F S2x4352x6x64 .f32) : IVec S_ 1 :=
  let main_v0 : FVec F S2x4352x6x96 .f32 := Host.absf main_arg0
  let main_cst : FVec F S_ .f32 := constant S_ .f32 0x7F800000#32
  let main_v1 : FVec F S2x4352x6x96 .f32 := broadcastInDim S2x4352x6x96 ![] bcast_S_S2x4352x6x96 main_cst
  let main_v2 : IVec S2x4352x6x96 1 := cmpf .olt main_v0 main_v1
  let main_c : IVec S_ 1 := constantI S_ 1 1#1
  let main_v3 : IVec S_ 1 := (fun x v => Host.reduce IntOp.andi x v reducesTo_S2x4352x6x96_S_d0_1_2_3 h_S_) main_v2 main_c
  let main_v4 : FVec F S2x4352x6x96 .f32 := Host.absf main_arg1
  let main_cst_0 : FVec F S_ .f32 := constant S_ .f32 0x7F800000#32
  let main_v5 : FVec F S2x4352x6x96 .f32 := broadcastInDim S2x4352x6x96 ![] bcast_S_S2x4352x6x96 main_cst_0
  let main_v6 : IVec S2x4352x6x96 1 := cmpf .olt main_v4 main_v5
  let main_c_1 : IVec S_ 1 := constantI S_ 1 1#1
  let main_v7 : IVec S_ 1 := (fun x v => Host.reduce IntOp.andi x v reducesTo_S2x4352x6x96_S_d0_1_2_3 h_S_) main_v6 main_c_1
  let main_v8 : IVec S_ 1 := andi main_v3 main_v7
  let main_v9 : FVec F S2x4352x6x64 .f32 := Host.absf main_arg2
  let main_cst_2 : FVec F S_ .f32 := constant S_ .f32 0x7F800000#32
  let main_v10 : FVec F S2x4352x6x64 .f32 := broadcastInDim S2x4352x6x64 ![] bcast_S_S2x4352x6x64 main_cst_2
  let main_v11 : IVec S2x4352x6x64 1 := cmpf .olt main_v9 main_v10
  let main_c_3 : IVec S_ 1 := constantI S_ 1 1#1
  let main_v12 : IVec S_ 1 := (fun x v => Host.reduce IntOp.andi x v reducesTo_S2x4352x6x64_S_d0_1_2_3 h_S_) main_v11 main_c_3
  let main_v13 : FVec F S2x4352x6x64 .f32 := Host.absf main_arg3
  let main_cst_4 : FVec F S_ .f32 := constant S_ .f32 0x7F800000#32
  let main_v14 : FVec F S2x4352x6x64 .f32 := broadcastInDim S2x4352x6x64 ![] bcast_S_S2x4352x6x64 main_cst_4
  let main_v15 : IVec S2x4352x6x64 1 := cmpf .olt main_v13 main_v14
  let main_c_5 : IVec S_ 1 := constantI S_ 1 1#1
  fn_part1 (F := F) main_v8 main_v12 main_v15 main_c_5
-- ==== Kernel.lean ====
abbrev S2x4352x6x96 : Shape := ⟨4, ![2, 4352, 6, 96]⟩
abbrev S2x4352x6x64 : Shape := ⟨4, ![2, 4352, 6, 64]⟩
abbrev S_ : Shape := ⟨0, ![]⟩
abbrev S2x256x6x96 : Shape := ⟨4, ![2, 256, 6, 96]⟩
abbrev S2x256x6x64 : Shape := ⟨4, ![2, 256, 6, 64]⟩
abbrev S2x6x256x256 : Shape := ⟨4, ![2, 6, 256, 256]⟩
abbrev S2x6x256 : Shape := ⟨3, ![2, 6, 256]⟩
abbrev S2x6x256x1 : Shape := ⟨4, ![2, 6, 256, 1]⟩
abbrev S2x6x64x256 : Shape := ⟨4, ![2, 6, 64, 256]⟩
abbrev S2x256x6x1 : Shape := ⟨4, ![2, 256, 6, 1]⟩
abbrev S2x4096x6x96 : Shape := ⟨4, ![2, 4096, 6, 96]⟩
abbrev S2x6x4096x4352 : Shape := ⟨4, ![2, 6, 4096, 4352]⟩
abbrev S2x6x4096 : Shape := ⟨3, ![2, 6, 4096]⟩
abbrev S2x6x4096x1 : Shape := ⟨4, ![2, 6, 4096, 1]⟩
abbrev S2x6x64x4096 : Shape := ⟨4, ![2, 6, 64, 4096]⟩
abbrev S2x4096x6x64 : Shape := ⟨4, ![2, 4096, 6, 64]⟩
abbrev S2x4096x6x1 : Shape := ⟨4, ![2, 4096, 6, 1]⟩
abbrev S2x4352x6x1 : Shape := ⟨4, ![2, 4352, 6, 1]⟩
abbrev S2x4352x6x128 : Shape := ⟨4, ![2, 4352, 6, 128]⟩
abbrev S2x4352x6 : Shape := ⟨3, ![2, 4352, 6]⟩
abbrev S2x4352x768 : Shape := ⟨3, ![2, 4352, 768]⟩
abbrev S2x6x128x4352 : Shape := ⟨4, ![2, 6, 128, 4352]⟩
abbrev S1x256x256 : Shape := ⟨3, ![1, 256, 256]⟩
abbrev S1x2x128x256 : Shape := ⟨4, ![1, 2, 128, 256]⟩
abbrev S1x4352x256 : Shape := ⟨3, ![1, 4352, 256]⟩
abbrev S1x2x128x4352 : Shape := ⟨4, ![1, 2, 128, 4352]⟩
abbrev S2x4352x256 : Shape := ⟨3, ![2, 4352, 256]⟩
abbrev S1x4352x128 : Shape := ⟨3, ![1, 4352, 128]⟩
abbrev S4352x128 : Shape := ⟨2, ![4352, 128]⟩
abbrev S1x1x128x256 : Shape := ⟨4, ![1, 1, 128, 256]⟩
abbrev S128x256 : Shape := ⟨2, ![128, 256]⟩
abbrev S4352x256 : Shape := ⟨2, ![4352, 256]⟩
abbrev S256x256 : Shape := ⟨2, ![256, 256]⟩
abbrev S1x256x128 : Shape := ⟨3, ![1, 256, 128]⟩
abbrev S256x128 : Shape := ⟨2, ![256, 128]⟩

abbrev nBuf : Space → Nat
  | .hbm => 152
  | .vmem => 23
  | .smem => 0
  | _ => 0

abbrev hbmTy0_0 (i : Nat) : BufTy := match i % 128 with
  | 0 => ⟨S2x4352x6x96, .f32⟩
  | 1 => ⟨S2x4352x6x96, .f32⟩
  | 2 => ⟨S2x4352x6x64, .f32⟩
  | 3 => ⟨S2x4352x6x64, .f32⟩
  | 4 => ⟨S_, .f32⟩
  | 5 => ⟨S2x4352x6x96, .f32⟩
  | 6 => ⟨S2x4352x6x96, .f32⟩
  | 7 => ⟨S2x256x6x96, .f32⟩
  | 8 => ⟨S2x256x6x96, .f32⟩
  | 9 => ⟨S2x256x6x64, .f32⟩
  | 10 => ⟨S2x6x256x256, .f32⟩
  | 11 => ⟨S_, .f32⟩
  | 12 => ⟨S2x6x256, .f32⟩
  | 13 => ⟨S2x6x256x1, .f32⟩
  | 14 => ⟨S2x6x256x256, .f32⟩
  | 15 => ⟨S2x6x256x256, .f32⟩
  | 16 => ⟨S2x6x256x256, .f32⟩
  | 17 => ⟨S_, .f32⟩
  | 18 => ⟨S2x6x256, .f32⟩
  | 19 => ⟨S2x6x256x1, .f32⟩
  | 20 => ⟨S2x6x256x256, .f32⟩
  | 21 => ⟨S2x6x256x256, .f32⟩
  | 22 => ⟨S2x6x64x256, .f32⟩
  | 23 => ⟨S2x256x6x64, .f32⟩
  | 24 => ⟨S2x6x256x1, .f32⟩
  | 25 => ⟨S2x6x256x1, .f32⟩
  | 26 => ⟨S2x256x6x1, .f32⟩
  | 27 => ⟨S2x4096x6x96, .f32⟩
  | 28 => ⟨S2x6x4096x4352, .f32⟩
  | 29 => ⟨S_, .f32⟩
  | 30 => ⟨S2x6x4096, .f32⟩
  | 31 => ⟨S2x6x4096x1, .f32⟩
  | 32 => ⟨S2x6x4096x4352, .f32⟩
  | 33 => ⟨S2x6x4096x4352, .f32⟩
  | 34 => ⟨S2x6x4096x4352, .f32⟩
  | 35 => ⟨S_, .f32⟩
  | 36 => ⟨S2x6x4096, .f32⟩
  | 37 => ⟨S2x6x4096x1, .f32⟩
  | 38 => ⟨S2x6x4096x4352, .f32⟩
  | 39 => ⟨S2x6x4096x4352, .f32⟩
  | 40 => ⟨S2x6x64x4096, .f32⟩
  | 41 => ⟨S2x4096x6x64, .f32⟩
  | 42 => ⟨S2x6x4096x1, .f32⟩
  | 43 => ⟨S2x6x4096x1, .f32⟩
  | 44 => ⟨S2x4096x6x1, .f32⟩
  | 45 => ⟨S2x4352x6x64, .f32⟩
  | 46 => ⟨S2x4352x6x1, .f32⟩
  | 47 => ⟨S_, .i32⟩
  | 48 => ⟨S_, .f32⟩
  | 49 => ⟨S2x4352x6x128, .f32⟩
  | 50 => ⟨S_, .i32⟩
  | 51 => ⟨S_, .f32⟩
  | 52 => ⟨S2x4352x6x128, .f32⟩
  | 53 => ⟨S_, .i32⟩
  | 54 => ⟨S_, .f32⟩
  | 55 => ⟨S2x4352x6x128, .f32⟩
  | 56 => ⟨S_, .i32⟩
  | 57 => ⟨S_, .f32⟩
  | 58 => ⟨S2x4352x6x128, .f32⟩
  | 59 => ⟨S_, .i32⟩
  | 60 => ⟨S_, .f32⟩
  | 61 => ⟨S2x4352x6x128, .f32⟩
  | 62 => ⟨S2x4352x6x128, .i32⟩
  | 63 => ⟨S_, .i32⟩
  | 64 => ⟨S2x4352x6x128, .i32⟩
  | 65 => ⟨S2x4352x6x128, .i1⟩
  | 66 => ⟨S_, .i32⟩
  | 67 => ⟨S2x4352x6x128, .i32⟩
  | 68 => ⟨S2x4352x6x128, .i1⟩
  | 69 => ⟨S2x4352x6x128, .i1⟩
  | 70 => ⟨S_, .f32⟩
  | 71 => ⟨S_, .f32⟩
  | 72 => ⟨S2x4352x6x128, .f32⟩
  | 73 => ⟨S2x4352x6x128, .f32⟩
  | 74 => ⟨S_, .i32⟩
  | 75 => ⟨S2x4352x6x128, .i32⟩
  | 76 => ⟨S2x4352x6x128, .i1⟩
  | 77 => ⟨S_, .i32⟩
  | 78 => ⟨S2x4352x6x128, .i32⟩
  | 79 => ⟨S2x4352x6x128, .i1⟩
  | 80 => ⟨S2x4352x6x128, .i1⟩
  | 81 => ⟨S_, .f32⟩
  | 82 => ⟨S_, .f32⟩
  | 83 => ⟨S2x4352x6x128, .f32⟩
  | 84 => ⟨S2x4352x6x128, .f32⟩
  | 85 => ⟨S2x4352x6x128, .f32⟩
  | 86 => ⟨S_, .f32⟩
  | 87 => ⟨S2x4352x6, .f32⟩
  | 88 => ⟨S2x4352x6x1, .f32⟩
  | 89 => ⟨S2x4352x6x128, .f32⟩
  | 90 => ⟨S2x4352x6x128, .bf16⟩
  | 91 => ⟨S2x4352x6x128, .f32⟩
  | 92 => ⟨S2x4352x6x128, .f32⟩
  | 93 => ⟨S2x4352x6x128, .bf16⟩
  | 94 => ⟨S2x4352x6x128, .f32⟩
  | 95 => ⟨S2x4352x6x128, .i32⟩
  | 96 => ⟨S_, .i32⟩
  | 97 => ⟨S2x4352x6x128, .i32⟩
  | 98 => ⟨S2x4352x6x128, .i1⟩
  | 99 => ⟨S2x4352x6x128, .f32⟩
  | 100 => ⟨S_, .i32⟩
  | 101 => ⟨S2x4352x6x128, .i32⟩
  | 102 => ⟨S2x4352x6x128, .i1⟩
  | 103 => ⟨S2x4352x6x128, .f32⟩
  | 104 => ⟨S_, .i32⟩
  | 105 => ⟨S2x4352x6x128, .i32⟩
  | 106 => ⟨S2x4352x6x128, .i1⟩
  | 107 => ⟨S2x4352x6x128, .f32⟩
  | 108 => ⟨S2x4352x6x128, .f32⟩
  | 109 => ⟨S2x4352x6x128, .f32⟩
  | 110 => ⟨S2x4352x6x128, .f32⟩
  | 111 => ⟨S2x4352x6x128, .bf16⟩
  | 112 => ⟨S2x4352x6x128, .f32⟩
  | 113 => ⟨S2x4352x6x128, .f32⟩
  | 114 => ⟨S2x4352x6x128, .bf16⟩
  | 115 => ⟨S2x4352x6x128, .f32⟩
  | 116 => ⟨S2x4352x6x128, .f32⟩
  | 117 => ⟨S2x4352x6x128, .bf16⟩
  | 118 => ⟨S2x4352x6x128, .f32⟩
  | 119 => ⟨S2x4352x6x128, .i32⟩
  | 120 => ⟨S_, .i32⟩
  | 121 => ⟨S2x4352x6x128, .i32⟩
  | 122 => ⟨S2x4352x6x128, .i1⟩
  | 123 => ⟨S2x4352x6x128, .f32⟩
  | 124 => ⟨S_, .i32⟩
  | 125 => ⟨S2x4352x6x128, .i32⟩
  | 126 => ⟨S2x4352x6x128, .i1⟩
  | 127 => ⟨S2x4352x6x128, .f32⟩
  | _ => ⟨S2x4352x6x96, .f32⟩

abbrev hbmTy0_1 (i : Nat) : BufTy := match i % 128 with
  | 0 => ⟨S_, .i32⟩
  | 1 => ⟨S2x4352x6x128, .i32⟩
  | 2 => ⟨S2x4352x6x128, .i1⟩
  | 3 => ⟨S2x4352x6x128, .f32⟩
  | 4 => ⟨S2x4352x6x128, .f32⟩
  | 5 => ⟨S2x4352x6x128, .f32⟩
  | 6 => ⟨S2x4352x6x128, .f32⟩
  | 7 => ⟨S2x4352x768, .f32⟩
  | 8 => ⟨S2x4352x768, .bf16⟩
  | 9 => ⟨S2x4352x768, .f32⟩
  | 10 => ⟨S2x4352x768, .bf16⟩
  | 11 => ⟨S2x4352x768, .f32⟩
  | 12 => ⟨S2x4352x768, .bf16⟩
  | 13 => ⟨S2x6x128x4352, .f32⟩
  | 14 => ⟨S2x6x128x4352, .bf16⟩
  | 15 => ⟨S2x6x128x4352, .f32⟩
  | 16 => ⟨S2x6x128x4352, .bf16⟩
  | 17 => ⟨S2x6x128x4352, .f32⟩
  | 18 => ⟨S2x6x128x4352, .bf16⟩
  | 19 => ⟨S2x6x128x4352, .f32⟩
  | 20 => ⟨S2x6x128x4352, .bf16⟩
  | 21 => ⟨S2x4352x768, .f32⟩
  | 22 => ⟨S2x4352x768, .f32⟩
  | 23 => ⟨S2x4352x768, .f32⟩
  | _ => ⟨S2x4352x6x96, .f32⟩

abbrev hbmTy (i : Nat) : BufTy := match i / 128 with
  | 0 => hbmTy0_0 i
  | 1 => hbmTy0_1 i
  | _ => ⟨S2x4352x6x96, .f32⟩

abbrev bufTy : (tb : Table) → Fin (tcTables nBuf tb) → BufTy
  | .hbm, ⟨i, _⟩ => hbmTy i
  | .local _ .vmem, ⟨0, _⟩ => ⟨S1x256x256, .bf16⟩
  | .local _ .vmem, ⟨1, _⟩ => ⟨S1x256x256, .bf16⟩
  | .local _ .vmem, ⟨2, _⟩ => ⟨S1x2x128x256, .bf16⟩
  | .local _ .vmem, ⟨3, _⟩ => ⟨S1x2x128x256, .bf16⟩
  | .local _ .vmem, ⟨4, _⟩ => ⟨S1x2x128x256, .bf16⟩
  | .local _ .vmem, ⟨5, _⟩ => ⟨S1x2x128x256, .bf16⟩
  | .local _ .vmem, ⟨6, _⟩ => ⟨S1x4352x256, .bf16⟩
  | .local _ .vmem, ⟨7, _⟩ => ⟨S1x4352x256, .bf16⟩
  | .local _ .vmem, ⟨8, _⟩ => ⟨S1x4352x256, .bf16⟩
  | .local _ .vmem, ⟨9, _⟩ => ⟨S1x4352x256, .bf16⟩
  | .local _ .vmem, ⟨10, _⟩ => ⟨S1x2x128x4352, .bf16⟩
  | .local _ .vmem, ⟨11, _⟩ => ⟨S1x2x128x4352, .bf16⟩
  | .local _ .vmem, ⟨12, _⟩ => ⟨S1x2x128x4352, .bf16⟩
  | .local _ .vmem, ⟨13, _⟩ => ⟨S1x2x128x4352, .bf16⟩
  | .local _ .vmem, ⟨14, _⟩ => ⟨S1x4352x256, .f32⟩
  | .local _ .vmem, ⟨15, _⟩ => ⟨S1x4352x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S2x4352x256, .f32⟩
  | .local _ .vmem, ⟨21, _⟩ => ⟨S2x4352x256, .f32⟩
  | .local _ .vmem, ⟨22, _⟩ => ⟨S2x4352x256, .bf16⟩
  | _, _ => ⟨S2x4352x6x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c : Ref sig .tc := ⟨.hbm, 47, rfl⟩
abbrev main_call0_v0 : Ref sig .tc := ⟨.hbm, 48, rfl⟩
abbrev main_v38 : Ref sig .tc := ⟨.hbm, 49, rfl⟩
abbrev main_c_4 : Ref sig .tc := ⟨.hbm, 50, rfl⟩
abbrev main_call1_v0 : Ref sig .tc := ⟨.hbm, 51, rfl⟩
abbrev main_v39 : Ref sig .tc := ⟨.hbm, 52, rfl⟩
abbrev main_c_5 : Ref sig .tc := ⟨.hbm, 53, rfl⟩
abbrev main_call2_v0 : Ref sig .tc := ⟨.hbm, 54, rfl⟩
abbrev main_v40 : Ref sig .tc := ⟨.hbm, 55, rfl⟩
abbrev main_c_6 : Ref sig .tc := ⟨.hbm, 56, rfl⟩
abbrev main_call3_v0 : Ref sig .tc := ⟨.hbm, 57, rfl⟩
abbrev main_v41 : Ref sig .tc := ⟨.hbm, 58, rfl⟩
abbrev main_c_7 : Ref sig .tc := ⟨.hbm, 59, rfl⟩
abbrev main_call4_v0 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_call5_v0 : Ref sig .tc := ⟨.hbm, 71, rfl⟩
abbrev main_call5_v1 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_c_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_13 : Ref sig .tc := ⟨.hbm, 81, rfl⟩
abbrev main_call6_v0 : Ref sig .tc := ⟨.hbm, 82, rfl⟩
abbrev main_call6_v1 : Ref sig .tc := ⟨.hbm, 83, rfl⟩
abbrev main_v55 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_19 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_20 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113_0 : Ref sig .tc := ⟨.hbm, 149, rfl⟩
abbrev main_v113_1 : Ref sig .tc := ⟨.hbm, 150, rfl⟩
abbrev main_v113_2 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 3, 17], ![false, false, false]⟩

def k0_cond1 (i : grid0.Coords) : BitVec 1 :=
  let arg2 : BitVec 32 := BitVec.ofNat 32 (i 2).val
  let c0_i32 : BitVec 32 := 0#32
  let v366 : BitVec 1 := Scalar.cmpi .eq arg2 c0_i32
  let v367 : BitVec 32 := Scalar.extui v366
  let c0_i32_358 : BitVec 32 := 0#32
  let v368 : BitVec 1 := Scalar.cmpi .ne v367 c0_i32_358
  v368

def k0_cond2 (i : grid0.Coords) : BitVec 1 :=
  let arg2 : BitVec 32 := BitVec.ofNat 32 (i 2).val
  let c0_i32_359 : BitVec 32 := 0#32
  let v369 : BitVec 1 := Scalar.cmpi .sgt arg2 c0_i32_359
  let v370 : BitVec 32 := Scalar.extui v369
  let c0_i32_360 : BitVec 32 := 0#32
  let v371 : BitVec 1 := Scalar.cmpi .ne v370 c0_i32_360
  v371

def k0_cond3 (i : grid0.Coords) : BitVec 1 :=
  let arg2 : BitVec 32 := BitVec.ofNat 32 (i 2).val
  let c0_i32_699 : BitVec 32 := 0#32
  let v712 : BitVec 1 := Scalar.cmpi .eq arg2 c0_i32_699
  let v713 : BitVec 32 := Scalar.extui v712
  let c0_i32_700 : BitVec 32 := 0#32
  let v714 : BitVec 1 := Scalar.cmpi .ne v713 c0_i32_700
  v714

def k0_cond4 (i : grid0.Coords) : BitVec 1 :=
  let arg2 : BitVec 32 := BitVec.ofNat 32 (i 2).val
  let c0_i32_701 : BitVec 32 := 0#32
  let v715 : BitVec 1 := Scalar.cmpi .sgt arg2 c0_i32_701
  let v716 : BitVec 32 := Scalar.extui v715
  let c0_i32_702 : BitVec 32 := 0#32
  let v717 : BitVec 1 := Scalar.cmpi .ne v716 c0_i32_702
  v717

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4352x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4352x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2x128x4352 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2x128x4352 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x4352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S2x4352x6x96 : Shape := ⟨4, ![2, 4352, 6, 96]⟩
abbrev S2x4352x6x64 : Shape := ⟨4, ![2, 4352, 6, 64]⟩
abbrev S_ : Shape := ⟨0, ![]⟩
abbrev S2x256x6x96 : Shape := ⟨4, ![2, 256, 6, 96]⟩
abbrev S2x256x6x64 : Shape := ⟨4, ![2, 256, 6, 64]⟩
abbrev S2x6x256x256 : Shape := ⟨4, ![2, 6, 256, 256]⟩
abbrev S2x6x256 : Shape := ⟨3, ![2, 6, 256]⟩
abbrev S2x6x256x1 : Shape := ⟨4, ![2, 6, 256, 1]⟩
abbrev S2x6x64x256 : Shape := ⟨4, ![2, 6, 64, 256]⟩
abbrev S2x4096x6x96 : Shape := ⟨4, ![2, 4096, 6, 96]⟩
abbrev S2x6x4096x4352 : Shape := ⟨4, ![2, 6, 4096, 4352]⟩
abbrev S2x6x4096 : Shape := ⟨3, ![2, 6, 4096]⟩
abbrev S2x6x4096x1 : Shape := ⟨4, ![2, 6, 4096, 1]⟩
abbrev S2x6x64x4096 : Shape := ⟨4, ![2, 6, 64, 4096]⟩
abbrev S2x4096x6x64 : Shape := ⟨4, ![2, 4096, 6, 64]⟩
abbrev S2x6x64x4352 : Shape := ⟨4, ![2, 6, 64, 4352]⟩
abbrev S2x6x4352x96 : Shape := ⟨4, ![2, 6, 4352, 96]⟩
abbrev S2x6x4096x96 : Shape := ⟨4, ![2, 6, 4096, 96]⟩
abbrev S2x6x256x96 : Shape := ⟨4, ![2, 6, 256, 96]⟩
abbrev S2x4352x6x128 : Shape := ⟨4, ![2, 4352, 6, 128]⟩
abbrev S2x4352x768 : Shape := ⟨3, ![2, 4352, 768]⟩

abbrev nBuf : Space → Nat
  | .hbm => 117
  | .vmem => 0
  | .smem => 0
  | _ => 0

abbrev bufTy : (tb : Table) → Fin (tcTables nBuf tb) → BufTy
  | .hbm, ⟨0, _⟩ => ⟨S2x4352x6x96, .f32⟩
  | .hbm, ⟨1, _⟩ => ⟨S2x4352x6x96, .f32⟩
  | .hbm, ⟨2, _⟩ => ⟨S2x4352x6x64, .f32⟩
  | .hbm, ⟨3, _⟩ => ⟨S2x4352x6x64, .f32⟩
  | .hbm, ⟨4, _⟩ => ⟨S_, .f32⟩
  | .hbm, ⟨5, _⟩ => ⟨S2x4352x6x96, .f32⟩
  | .hbm, ⟨6, _⟩ => ⟨S2x4352x6x96, .f32⟩
  | .hbm, ⟨7, _⟩ => ⟨S2x256x6x96, .f32⟩
  | .hbm, ⟨8, _⟩ => ⟨S2x256x6x96, .f32⟩
  | .hbm, ⟨9, _⟩ => ⟨S2x256x6x64, .f32⟩
  | .hbm, ⟨10, _⟩ => ⟨S2x6x256x256, .f32⟩
  | .hbm, ⟨11, _⟩ => ⟨S_, .f32⟩
  | .hbm, ⟨12, _⟩ => ⟨S2x6x256, .f32⟩
  | .hbm, ⟨13, _⟩ => ⟨S2x6x256x1, .f32⟩
  | .hbm, ⟨14, _⟩ => ⟨S2x6x256x256, .f32⟩
  | .hbm, ⟨15, _⟩ => ⟨S2x6x256x256, .f32⟩
  | .hbm, ⟨16, _⟩ => ⟨S2x6x256x256, .f32⟩
  | .hbm, ⟨17, _⟩ => ⟨S_, .f32⟩
  | .hbm, ⟨18, _⟩ => ⟨S2x6x256, .f32⟩
  | .hbm, ⟨19, _⟩ => ⟨S2x6x256x1, .f32⟩
  | .hbm, ⟨20, _⟩ => ⟨S2x6x256x256, .f32⟩
  | .hbm, ⟨21, _⟩ => ⟨S2x6x256x256, .f32⟩
  | .hbm, ⟨22, _⟩ => ⟨S2x6x256x1, .f32⟩
  | .hbm, ⟨23, _⟩ => ⟨S_, .f32⟩
  | .hbm, ⟨24, _⟩ => ⟨S2x6x256x1, .f32⟩
  | .hbm, ⟨25, _⟩ => ⟨S2x6x256x1, .f32⟩
  | .hbm, ⟨26, _⟩ => ⟨S2x6x64x256, .f32⟩
  | .hbm, ⟨27, _⟩ => ⟨S2x256x6x64, .f32⟩
  | .hbm, ⟨28, _⟩ => ⟨S2x4096x6x96, .f32⟩
  | .hbm, ⟨29, _⟩ => ⟨S2x6x4096x4352, .f32⟩
  | .hbm, ⟨30, _⟩ => ⟨S_, .f32⟩
  | .hbm, ⟨31, _⟩ => ⟨S2x6x4096, .f32⟩
  | .hbm, ⟨32, _⟩ => ⟨S2x6x4096x1, .f32⟩
  | .hbm, ⟨33, _⟩ => ⟨S2x6x4096x4352, .f32⟩
  | .hbm, ⟨34, _⟩ => ⟨S2x6x4096x4352, .f32⟩
  | .hbm, ⟨35, _⟩ => ⟨S2x6x4096x4352, .f32⟩
  | .hbm, ⟨36, _⟩ => ⟨S_, .f32⟩
  | .hbm, ⟨37, _⟩ => ⟨S2x6x4096, .f32⟩
  | .hbm, ⟨38, _⟩ => ⟨S2x6x4096x1, .f32⟩
  | .hbm, ⟨39, _⟩ => ⟨S2x6x4096x4352, .f32⟩
  | .hbm, ⟨40, _⟩ => ⟨S2x6x4096x4352, .f32⟩
  | .hbm, ⟨41, _⟩ => ⟨S2x6x4096x1, .f32⟩
  | .hbm, ⟨42, _⟩ => ⟨S_, .f32⟩
  | .hbm, ⟨43, _⟩ => ⟨S2x6x4096x1, .f32⟩
  | .hbm, ⟨44, _⟩ => ⟨S2x6x4096x1, .f32⟩
  | .hbm, ⟨45, _⟩ => ⟨S2x6x64x4096, .f32⟩
  | .hbm, ⟨46, _⟩ => ⟨S2x4096x6x64, .f32⟩
  | .hbm, ⟨47, _⟩ => ⟨S2x4352x6x64, .f32⟩
  | .hbm, ⟨48, _⟩ => ⟨S2x256x6x64, .f32⟩
  | .hbm, ⟨49, _⟩ => ⟨S2x4096x6x64, .f32⟩
  | .hbm, ⟨50, _⟩ => ⟨S2x6x64x4096, .f32⟩
  | .hbm, ⟨51, _⟩ => ⟨S2x6x4096x4352, .f32⟩
  | .hbm, ⟨52, _⟩ => ⟨S2x6x64x4352, .f32⟩
  | .hbm, ⟨53, _⟩ => ⟨S2x4352x6x64, .f32⟩
  | .hbm, ⟨54, _⟩ => ⟨S2x6x4096x4352, .f32⟩
  | .hbm, ⟨55, _⟩ => ⟨S2x6x4096x4352, .f32⟩
  | .hbm, ⟨56, _⟩ => ⟨S2x6x4096x4352, .f32⟩
  | .hbm, ⟨57, _⟩ => ⟨S_, .f32⟩
  | .hbm, ⟨58, _⟩ => ⟨S2x6x4096, .f32⟩
  | .hbm, ⟨59, _⟩ => ⟨S2x6x4096x1, .f32⟩
  | .hbm, ⟨60, _⟩ => ⟨S2x6x4096x1, .f32⟩
  | .hbm, ⟨61, _⟩ => ⟨S2x6x4096x4352, .f32⟩
  | .hbm, ⟨62, _⟩ => ⟨S2x6x4096x4352, .f32⟩
  | .hbm, ⟨63, _⟩ => ⟨S_, .f32⟩
  | .hbm, ⟨64, _⟩ => ⟨S2x6x4096, .f32⟩
  | .hbm, ⟨65, _⟩ => ⟨S2x6x4096x4352, .f32⟩
  | .hbm, ⟨66, _⟩ => ⟨S2x6x4096x4352, .f32⟩
  | .hbm, ⟨67, _⟩ => ⟨S2x6x4096x4352, .f32⟩
  | .hbm, ⟨68, _⟩ => ⟨S2x6x4352x96, .f32⟩
  | .hbm, ⟨69, _⟩ => ⟨S2x4352x6x96, .f32⟩
  | .hbm, ⟨70, _⟩ => ⟨S2x6x4096x96, .f32⟩
  | .hbm, ⟨71, _⟩ => ⟨S2x4096x6x96, .f32⟩
  | .hbm, ⟨72, _⟩ => ⟨S_, .f32⟩
  | .hbm, ⟨73, _⟩ => ⟨S2x4352x6x96, .f32⟩
  | .hbm, ⟨74, _⟩ => ⟨S2x6x64x256, .f32⟩
  | .hbm, ⟨75, _⟩ => ⟨S2x6x256x256, .f32⟩
  | .hbm, ⟨76, _⟩ => ⟨S2x6x64x256, .f32⟩
  | .hbm, ⟨77, _⟩ => ⟨S2x256x6x64, .f32⟩
  | .hbm, ⟨78, _⟩ => ⟨S2x6x256x256, .f32⟩
  | .hbm, ⟨79, _⟩ => ⟨S2x6x256x256, .f32⟩
  | .hbm, ⟨80, _⟩ => ⟨S2x6x256x256, .f32⟩
  | .hbm, ⟨81, _⟩ => ⟨S_, .f32⟩
  | .hbm, ⟨82, _⟩ => ⟨S2x6x256, .f32⟩
  | .hbm, ⟨83, _⟩ => ⟨S2x6x256x1, .f32⟩
  | .hbm, ⟨84, _⟩ => ⟨S2x6x256x1, .f32⟩
  | .hbm, ⟨85, _⟩ => ⟨S2x6x256x256, .f32⟩
  | .hbm, ⟨86, _⟩ => ⟨S2x6x256x256, .f32⟩
  | .hbm, ⟨87, _⟩ => ⟨S_, .f32⟩
  | .hbm, ⟨88, _⟩ => ⟨S2x6x256, .f32⟩
  | .hbm, ⟨89, _⟩ => ⟨S2x6x256x256, .f32⟩
  | .hbm, ⟨90, _⟩ => ⟨S2x6x256x256, .f32⟩
  | .hbm, ⟨91, _⟩ => ⟨S2x6x256x256, .f32⟩
  | .hbm, ⟨92, _⟩ => ⟨S2x6x256x96, .f32⟩
  | .hbm, ⟨93, _⟩ => ⟨S2x256x6x96, .f32⟩
  | .hbm, ⟨94, _⟩ => ⟨S2x6x256x96, .f32⟩
  | .hbm, ⟨95, _⟩ => ⟨S2x256x6x96, .f32⟩
  | .hbm, ⟨96, _⟩ => ⟨S_, .f32⟩
  | .hbm, ⟨97, _⟩ => ⟨S2x4352x6x64, .f32⟩
  | .hbm, ⟨98, _⟩ => ⟨S2x4352x6x64, .f32⟩
  | .hbm, ⟨99, _⟩ => ⟨S_, .f32⟩
  | .hbm, ⟨100, _⟩ => ⟨S2x4352x6x96, .f32⟩
  | .hbm, ⟨101, _⟩ => ⟨S2x4352x6x96, .f32⟩
  | .hbm, ⟨102, _⟩ => ⟨S_, .f32⟩
  | .hbm, ⟨103, _⟩ => ⟨S2x4352x6x96, .f32⟩
  | .hbm, ⟨104, _⟩ => ⟨S2x4352x6x96, .f32⟩
  | .hbm, ⟨105, _⟩ => ⟨S_, .i32⟩
  | .hbm, ⟨106, _⟩ => ⟨S_, .f32⟩
  | .hbm, ⟨107, _⟩ => ⟨S2x4352x6x128, .f32⟩
  | .hbm, ⟨108, _⟩ => ⟨S2x4352x768, .f32⟩
  | .hbm, ⟨109, _⟩ => ⟨S_, .i32⟩
  | .hbm, ⟨110, _⟩ => ⟨S_, .f32⟩
  | .hbm, ⟨111, _⟩ => ⟨S2x4352x6x128, .f32⟩
  | .hbm, ⟨112, _⟩ => ⟨S2x4352x768, .f32⟩
  | .hbm, ⟨113, _⟩ => ⟨S_, .i32⟩
  | .hbm, ⟨114, _⟩ => ⟨S_, .f32⟩
  | .hbm, ⟨115, _⟩ => ⟨S2x4352x6x128, .f32⟩
  | .hbm, ⟨116, _⟩ => ⟨S2x4352x768, .f32⟩
  | _, _ => ⟨S2x4352x6x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_8 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_9 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_10 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_11 : Ref sig .tc := ⟨.hbm, 96, rfl⟩
abbrev main_v80 : Ref sig .tc := ⟨.hbm, 97, rfl⟩
abbrev main_v81 : Ref sig .tc := ⟨.hbm, 98, rfl⟩
abbrev main_cst_12 : Ref sig .tc := ⟨.hbm, 99, rfl⟩
abbrev main_v82 : Ref sig .tc := ⟨.hbm, 100, rfl⟩
abbrev main_v83 : Ref sig .tc := ⟨.hbm, 101, rfl⟩
abbrev main_cst_13 : Ref sig .tc := ⟨.hbm, 102, rfl⟩
abbrev main_v84 : Ref sig .tc := ⟨.hbm, 103, rfl⟩
abbrev main_v85 : Ref sig .tc := ⟨.hbm, 104, rfl⟩
abbrev main_c : Ref sig .tc := ⟨.hbm, 105, rfl⟩
abbrev main_call0_v0 : Ref sig .tc := ⟨.hbm, 106, rfl⟩
abbrev main_v86 : Ref sig .tc := ⟨.hbm, 107, rfl⟩
abbrev main_v87 : Ref sig .tc := ⟨.hbm, 108, rfl⟩
abbrev main_c_14 : Ref sig .tc := ⟨.hbm, 109, rfl⟩
abbrev main_call1_v0 : Ref sig .tc := ⟨.hbm, 110, rfl⟩
abbrev main_v88 : Ref sig .tc := ⟨.hbm, 111, rfl⟩
abbrev main_v89 : Ref sig .tc := ⟨.hbm, 112, rfl⟩
abbrev main_c_15 : Ref sig .tc := ⟨.hbm, 113, rfl⟩
abbrev main_call2_v0 : Ref sig .tc := ⟨.hbm, 114, rfl⟩
abbrev main_v90 : Ref sig .tc := ⟨.hbm, 115, rfl⟩
abbrev main_v91 : Ref sig .tc := ⟨.hbm, 116, rfl⟩

abbrev nD : Nat := 1
abbrev τ : Topo := Topo.v7x

variable {F : FTy → Type} [FloatOps F]
-- ==== Kernel2.lean ====
abbrev S2x4352x1024 : Shape := ⟨3, ![2, 4352, 1024]⟩
abbrev S2x4352x4096 : Shape := ⟨3, ![2, 4352, 4096]⟩
abbrev S8x1024x512 : Shape := ⟨3, ![8, 1024, 512]⟩
abbrev S1x1088x1024 : Shape := ⟨3, ![1, 1088, 1024]⟩
abbrev S1x1088x2048 : Shape := ⟨3, ![1, 1088, 2048]⟩
abbrev S4x1024x512 : Shape := ⟨3, ![4, 1024, 512]⟩
abbrev S1088x1024 : Shape := ⟨2, ![1088, 1024]⟩
abbrev S1088x2048 : Shape := ⟨2, ![1088, 2048]⟩
abbrev S1024x2048 : Shape := ⟨2, ![1024, 2048]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x4096, .bf16⟩
  | .hbm, ⟨2, _⟩ => ⟨S8x1024x512, .f32⟩
  | .local _ .vmem, ⟨0, _⟩ => ⟨S1x1088x1024, .bf16⟩
  | .local _ .vmem, ⟨1, _⟩ => ⟨S1x1088x1024, .bf16⟩
  | .local _ .vmem, ⟨2, _⟩ => ⟨S1x1088x2048, .bf16⟩
  | .local _ .vmem, ⟨3, _⟩ => ⟨S1x1088x2048, .bf16⟩
  | .local _ .vmem, ⟨4, _⟩ => ⟨S4x1024x512, .f32⟩
  | .local _ .vmem, ⟨5, _⟩ => ⟨S4x1024x512, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 2, 4], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true, true]

abbrev stage0_1 : Fin 2 → Memref sig .tc .vmem S1x1088x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S4x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference2Ideal.lean ====
abbrev S2x4352x1024 : Shape := ⟨3, ![2, 4352, 1024]⟩
abbrev S2x4352x4096 : Shape := ⟨3, ![2, 4352, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x4096, .bf16⟩
  | .hbm, ⟨2, _⟩ => ⟨S2x4352x1024, .f32⟩
  | .hbm, ⟨3, _⟩ => ⟨S2x4352x4096, .f32⟩
  | .hbm, ⟨4, _⟩ => ⟨S_, .f32⟩
  | .hbm, ⟨5, _⟩ => ⟨S1024x4096, .f32⟩
  | .hbm, ⟨6, _⟩ => ⟨S2x4352x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S2x4352x4096 : Shape := ⟨3, ![2, 4352, 4096]⟩
abbrev S2x4352x1024 : Shape := ⟨3, ![2, 4352, 1024]⟩
abbrev S1x4096x1024 : Shape := ⟨3, ![1, 4096, 1024]⟩
abbrev S1x1088x2048 : Shape := ⟨3, ![1, 1088, 2048]⟩
abbrev S1x1088x1024 : Shape := ⟨3, ![1, 1088, 1024]⟩
abbrev S1x2048x1024 : Shape := ⟨3, ![1, 2048, 1024]⟩
abbrev S1088x2048 : Shape := ⟨2, ![1088, 2048]⟩
abbrev S1088x1024 : Shape := ⟨2, ![1088, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x4352x4096, .bf16⟩
  | .hbm, ⟨1, _⟩ => ⟨S2x4352x1024, .bf16⟩
  | .hbm, ⟨2, _⟩ => ⟨S1x4096x1024, .f32⟩
  | .local _ .vmem, ⟨0, _⟩ => ⟨S1x1088x2048, .bf16⟩
  | .local _ .vmem, ⟨1, _⟩ => ⟨S1x1088x2048, .bf16⟩
  | .local _ .vmem, ⟨2, _⟩ => ⟨S1x1088x1024, .bf16⟩
  | .local _ .vmem, ⟨3, _⟩ => ⟨S1x1088x1024, .bf16⟩
  | .local _ .vmem, ⟨4, _⟩ => ⟨S1x2048x1024, .f32⟩
  | .local _ .vmem, ⟨5, _⟩ => ⟨S1x2048x1024, .f32⟩
  | _, _ => ⟨S2x4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 4], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true, true]

abbrev stage0_1 : Fin 2 → Memref sig .tc .vmem S1x1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference3Ideal.lean ====
abbrev S2x4352x4096 : Shape := ⟨3, ![2, 4352, 4096]⟩
abbrev S2x4352x1024 : Shape := ⟨3, ![2, 4352, 1024]⟩
abbrev S_ : Shape := ⟨0, ![]⟩
abbrev S4096x1024 : Shape := ⟨2, ![4096, 1024]⟩
abbrev S1024x4096 : Shape := ⟨2, ![1024, 4096]⟩
abbrev S1x4096x1024 : Shape := ⟨3, ![1, 4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x4352x4096, .bf16⟩
  | .hbm, ⟨1, _⟩ => ⟨S2x4352x1024, .bf16⟩
  | .hbm, ⟨2, _⟩ => ⟨S2x4352x4096, .f32⟩
  | .hbm, ⟨3, _⟩ => ⟨S2x4352x1024, .f32⟩
  | .hbm, ⟨4, _⟩ => ⟨S_, .f32⟩
  | .hbm, ⟨5, _⟩ => ⟨S4096x1024, .f32⟩
  | .hbm, ⟨6, _⟩ => ⟨S2x4352x1024, .f32⟩
  | .hbm, ⟨7, _⟩ => ⟨S1024x4096, .f32⟩
  | .hbm, ⟨8, _⟩ => ⟨S4096x1024, .f32⟩
  | .hbm, ⟨9, _⟩ => ⟨S1x4096x1024, .f32⟩
  | _, _ => ⟨S2x4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2x4352x1024 : Shape := ⟨3, ![2, 4352, 1024]⟩
abbrev S2x4352x2304 : Shape := ⟨3, ![2, 4352, 2304]⟩
abbrev S1x1024x2304 : Shape := ⟨3, ![1, 1024, 2304]⟩
abbrev S1x1088x1024 : Shape := ⟨3, ![1, 1088, 1024]⟩
abbrev S1x1088x2304 : Shape := ⟨3, ![1, 1088, 2304]⟩
abbrev S1088x1024 : Shape := ⟨2, ![1088, 1024]⟩
abbrev S1088x2304 : Shape := ⟨2, ![1088, 2304]⟩
abbrev S1024x2304 : Shape := ⟨2, ![1024, 2304]⟩

abbrev nBuf : Space → Nat
  | .hbm => 3
  | .vmem => 5
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x2304, .bf16⟩
  | .hbm, ⟨2, _⟩ => ⟨S1x1024x2304, .f32⟩
  | .local _ .vmem, ⟨0, _⟩ => ⟨S1x1088x1024, .bf16⟩
  | .local _ .vmem, ⟨1, _⟩ => ⟨S1x1088x1024, .bf16⟩
  | .local _ .vmem, ⟨2, _⟩ => ⟨S1x1088x2304, .bf16⟩
  | .local _ .vmem, ⟨3, _⟩ => ⟨S1x1088x2304, .bf16⟩
  | .local _ .vmem, ⟨4, _⟩ => ⟨S1x1024x2304, .f32⟩
  | _, _ => ⟨S2x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 2, 4], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true, true]

abbrev stage0_1 : Fin 2 → Memref sig .tc .vmem S1x1088x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 1 → Memref sig .tc .vmem S1x1024x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false, false]
-- ==== Reference4Ideal.lean ====
abbrev S2x4352x1024 : Shape := ⟨3, ![2, 4352, 1024]⟩
abbrev S2x4352x2304 : Shape := ⟨3, ![2, 4352, 2304]⟩
abbrev S_ : Shape := ⟨0, ![]⟩
abbrev S1024x2304 : Shape := ⟨2, ![1024, 2304]⟩
abbrev S2304x1024 : Shape := ⟨2, ![2304, 1024]⟩
abbrev S1x1024x2304 : Shape := ⟨3, ![1, 1024, 2304]⟩

abbrev nBuf : Space → Nat
  | .hbm => 10
  | .vmem => 0
  | .smem => 0
  | _ => 0

abbrev bufTy : (tb : Table) → Fin (tcTables nBuf tb) → BufTy
  | .hbm, ⟨0, _⟩ => ⟨S2x4352x1024, .bf16⟩
  | .hbm, ⟨1, _⟩ => ⟨S2x4352x2304, .bf16⟩
  | .hbm, ⟨2, _⟩ => ⟨S2x4352x1024, .f32⟩
  | .hbm, ⟨3, _⟩ => ⟨S2x4352x2304, .f32⟩
  | .hbm, ⟨4, _⟩ => ⟨S_, .f32⟩
  | .hbm, ⟨5, _⟩ => ⟨S1024x2304, .f32⟩
  | .hbm, ⟨6, _⟩ => ⟨S2x4352x2304, .f32⟩
  | .hbm, ⟨7, _⟩ => ⟨S2304x1024, .f32⟩
  | .hbm, ⟨8, _⟩ => ⟨S1024x2304, .f32⟩
  | .hbm, ⟨9, _⟩ => ⟨S1x1024x2304, .f32⟩
  | _, _ => ⟨S2x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2x4352x1408 : Shape := ⟨3, ![2, 4352, 1408]⟩
abbrev S2x4352x1024 : Shape := ⟨3, ![2, 4352, 1024]⟩
abbrev S1x1408x1024 : Shape := ⟨3, ![1, 1408, 1024]⟩
abbrev S1x1088x1408 : Shape := ⟨3, ![1, 1088, 1408]⟩
abbrev S1x1088x1024 : Shape := ⟨3, ![1, 1088, 1024]⟩
abbrev S1088x1408 : Shape := ⟨2, ![1088, 1408]⟩
abbrev S1088x1024 : Shape := ⟨2, ![1088, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2x4352x1408, .bf16⟩
  | .hbm, ⟨1, _⟩ => ⟨S2x4352x1024, .bf16⟩
  | .hbm, ⟨2, _⟩ => ⟨S1x1408x1024, .f32⟩
  | .local _ .vmem, ⟨0, _⟩ => ⟨S1x1088x1408, .bf16⟩
  | .local _ .vmem, ⟨1, _⟩ => ⟨S1x1088x1408, .bf16⟩
  | .local _ .vmem, ⟨2, _⟩ => ⟨S1x1088x1024, .bf16⟩
  | .local _ .vmem, ⟨3, _⟩ => ⟨S1x1088x1024, .bf16⟩
  | .local _ .vmem, ⟨4, _⟩ => ⟨S1x1408x1024, .f32⟩
  | _, _ => ⟨S2x4352x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 2, 4], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1x1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true, true]

abbrev stage0_1 : Fin 2 → Memref sig .tc .vmem S1x1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 1 → Memref sig .tc .vmem S1x1408x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false, false]
-- ==== Reference5Ideal.lean ====
abbrev S2x4352x1408 : Shape := ⟨3, ![2, 4352, 1408]⟩
abbrev S2x4352x1024 : Shape := ⟨3, ![2, 4352, 1024]⟩
abbrev S_ : Shape := ⟨0, ![]⟩
abbrev S1408x1024 : Shape := ⟨2, ![1408, 1024]⟩
abbrev S1024x1408 : Shape := ⟨2, ![1024, 1408]⟩
abbrev S1x1408x1024 : Shape := ⟨3, ![1, 1408, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x4352x1408, .bf16⟩
  | .hbm, ⟨1, _⟩ => ⟨S2x4352x1024, .bf16⟩
  | .hbm, ⟨2, _⟩ => ⟨S2x4352x1408, .f32⟩
  | .hbm, ⟨3, _⟩ => ⟨S2x4352x1024, .f32⟩
  | .hbm, ⟨4, _⟩ => ⟨S_, .f32⟩
  | .hbm, ⟨5, _⟩ => ⟨S1408x1024, .f32⟩
  | .hbm, ⟨6, _⟩ => ⟨S2x4352x1024, .f32⟩
  | .hbm, ⟨7, _⟩ => ⟨S1024x1408, .f32⟩
  | .hbm, ⟨8, _⟩ => ⟨S1408x1024, .f32⟩
  | .hbm, ⟨9, _⟩ => ⟨S1x1408x1024, .f32⟩
  | _, _ => ⟨S2x4352x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S2x4352x1024 : Shape := ⟨3, ![2, 4352, 1024]⟩
abbrev S2x2x8x1024 : Shape := ⟨4, ![2, 2, 8, 1024]⟩
abbrev S1x1024 : Shape := ⟨2, ![1, 1024]⟩
abbrev S8x1024x512 : Shape := ⟨3, ![8, 1024, 512]⟩
abbrev S8x512x1024 : Shape := ⟨3, ![8, 512, 1024]⟩
abbrev S1024x8x512 : Shape := ⟨3, ![1024, 8, 512]⟩
abbrev S1024x4096 : Shape := ⟨2, ![1024, 4096]⟩
abbrev S4096x1024 : Shape := ⟨2, ![4096, 1024]⟩
abbrev S2x256x1024 : Shape := ⟨3, ![2, 256, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x1x1x1024 : Shape := ⟨4, ![2, 1, 1, 1024]⟩
abbrev S2x1x1024 : Shape := ⟨3, ![2, 1, 1024]⟩
abbrev S2x4096x1024 : Shape := ⟨3, ![2, 4096, 1024]⟩
abbrev S2x4096 : Shape := ⟨2, ![2, 4096]⟩
abbrev S2x4096x1 : Shape := ⟨3, ![2, 4096, 1]⟩
abbrev S2x4352x4096 : Shape := ⟨3, ![2, 4352, 4096]⟩
abbrev S8x1024 : Shape := ⟨2, ![8, 1024]⟩
abbrev S1x256x1024 : Shape := ⟨3, ![1, 256, 1024]⟩
abbrev S1x256x4096 : Shape := ⟨3, ![1, 256, 4096]⟩
abbrev S1x1x8x1024 : Shape := ⟨4, ![1, 1, 8, 1024]⟩
abbrev S2 : Shape := ⟨1, ![2]⟩
abbrev S1 : Shape := ⟨1, ![1]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1x256x512 : Shape := ⟨3, ![1, 256, 512]⟩
abbrev S256x512 : Shape := ⟨2, ![256, 512]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 82
  | .vmem => 24
  | .smem => 0
  | _ => 0

abbrev bufTy : (tb : Table) → Fin (tcTables nBuf tb) → BufTy
  | .hbm, ⟨0, _⟩ => ⟨S2x4352x1024, .f32⟩
  | .hbm, ⟨1, _⟩ => ⟨S2x4352x1024, .f32⟩
  | .hbm, ⟨2, _⟩ => ⟨S2x2x8x1024, .f32⟩
  | .hbm, ⟨3, _⟩ => ⟨S1x1024, .f32⟩
  | .hbm, ⟨4, _⟩ => ⟨S8x1024x512, .bf16⟩
  | .hbm, ⟨5, _⟩ => ⟨S8x512x1024, .bf16⟩
  | .hbm, ⟨6, _⟩ => ⟨S1024x8x512, .bf16⟩
  | .hbm, ⟨7, _⟩ => ⟨S1024x4096, .bf16⟩
  | .hbm, ⟨8, _⟩ => ⟨S1024x4096, .f32⟩
  | .hbm, ⟨9, _⟩ => ⟨S4096x1024, .bf16⟩
  | .hbm, ⟨10, _⟩ => ⟨S4096x1024, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256, .f32⟩
  | .hbm, ⟨15, _⟩ => ⟨S2x256x1, .f32⟩
  | .hbm, ⟨16, _⟩ => ⟨S_, .f32⟩
  | .hbm, ⟨17, _⟩ => ⟨S2x256x1, .f32⟩
  | .hbm, ⟨18, _⟩ => ⟨S2x256x1, .f32⟩
  | .hbm, ⟨19, _⟩ => ⟨S_, .f32⟩
  | .hbm, ⟨20, _⟩ => ⟨S2x256x1, .f32⟩
  | .hbm, ⟨21, _⟩ => ⟨S2x256x1, .f32⟩
  | .hbm, ⟨22, _⟩ => ⟨S2x256x1, .f32⟩
  | .hbm, ⟨23, _⟩ => ⟨S2x256x1024, .f32⟩
  | .hbm, ⟨24, _⟩ => ⟨S2x256x1024, .f32⟩
  | .hbm, ⟨25, _⟩ => ⟨S1x1x1024, .f32⟩
  | .hbm, ⟨26, _⟩ => ⟨S2x256x1024, .f32⟩
  | .hbm, ⟨27, _⟩ => ⟨S2x256x1024, .f32⟩
  | .hbm, ⟨28, _⟩ => ⟨S2x1x1x1024, .f32⟩
  | .hbm, ⟨29, _⟩ => ⟨S2x1x1024, .f32⟩
  | .hbm, ⟨30, _⟩ => ⟨S2x1x1x1024, .f32⟩
  | .hbm, ⟨31, _⟩ => ⟨S2x1x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S2x256x1024, .f32⟩
  | .hbm, ⟨39, _⟩ => ⟨S2x4096x1024, .f32⟩
  | .hbm, ⟨40, _⟩ => ⟨S2x4096x1024, .f32⟩
  | .hbm, ⟨41, _⟩ => ⟨S_, .f32⟩
  | .hbm, ⟨42, _⟩ => ⟨S2x4096, .f32⟩
  | .hbm, ⟨43, _⟩ => ⟨S2x4096x1, .f32⟩
  | .hbm, ⟨44, _⟩ => ⟨S_, .f32⟩
  | .hbm, ⟨45, _⟩ => ⟨S2x4096x1, .f32⟩
  | .hbm, ⟨46, _⟩ => ⟨S2x4096x1, .f32⟩
  | .hbm, ⟨47, _⟩ => ⟨S_, .f32⟩
  | .hbm, ⟨48, _⟩ => ⟨S2x4096x1, .f32⟩
  | .hbm, ⟨49, _⟩ => ⟨S2x4096x1, .f32⟩
  | .hbm, ⟨50, _⟩ => ⟨S2x4096x1, .f32⟩
  | .hbm, ⟨51, _⟩ => ⟨S2x4096x1024, .f32⟩
  | .hbm, ⟨52, _⟩ => ⟨S2x4096x1024, .f32⟩
  | .hbm, ⟨53, _⟩ => ⟨S1x1x1024, .f32⟩
  | .hbm, ⟨54, _⟩ => ⟨S2x4096x1024, .f32⟩
  | .hbm, ⟨55, _⟩ => ⟨S2x4096x1024, .f32⟩
  | .hbm, ⟨56, _⟩ => ⟨S2x1x1x1024, .f32⟩
  | .hbm, ⟨57, _⟩ => ⟨S2x1x1024, .f32⟩
  | .hbm, ⟨58, _⟩ => ⟨S2x1x1x1024, .f32⟩
  | .hbm, ⟨59, _⟩ => ⟨S2x1x1024, .f32⟩
  | .hbm, ⟨60, _⟩ => ⟨S_, .f32⟩
  | .hbm, ⟨61, _⟩ => ⟨S2x1x1024, .f32⟩
  | .hbm, ⟨62, _⟩ => ⟨S2x1x1024, .f32⟩
  | .hbm, ⟨63, _⟩ => ⟨S2x4096x1024, .f32⟩
  | .hbm, ⟨64, _⟩ => ⟨S2x4096x1024, .f32⟩
  | .hbm, ⟨65, _⟩ => ⟨S2x4096x1024, .f32⟩
  | .hbm, ⟨66, _⟩ => ⟨S2x4096x1024, .f32⟩
  | .hbm, ⟨67, _⟩ => ⟨S2x4352x1024, .f32⟩
  | .hbm, ⟨68, _⟩ => ⟨S2x4352x4096, .f32⟩
  | .hbm, ⟨69, _⟩ => ⟨S_, .f32⟩
  | .hbm, ⟨70, _⟩ => ⟨S2x4352x4096, .f32⟩
  | .hbm, ⟨71, _⟩ => ⟨S2x4352x4096, .f32⟩
  | .hbm, ⟨72, _⟩ => ⟨S2x4352x4096, .f32⟩
  | .hbm, ⟨73, _⟩ => ⟨S2x4352x1024, .f32⟩
  | .hbm, ⟨74, _⟩ => ⟨S2x4352x4096, .bf16⟩
  | .hbm, ⟨75, _⟩ => ⟨S2x4352x1024, .bf16⟩
  | .hbm, ⟨76, _⟩ => ⟨S2x4352x1024, .f32⟩
  | .hbm, ⟨77, _⟩ => ⟨S2x4352x4096, .bf16⟩
  | .hbm, ⟨78, _⟩ => ⟨S2x4352x4096, .bf16⟩
  | .hbm, ⟨79, _⟩ => ⟨S2x4352x1024, .bf16⟩
  | .hbm, ⟨80, _⟩ => ⟨S2x2x8x1024, .f32⟩
  | .hbm, ⟨81, _⟩ => ⟨S8x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x4096, .bf16⟩
  | .local _ .vmem, ⟨5, _⟩ => ⟨S1x256x4096, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1x8x1024, .f32⟩
  | .local _ .vmem, ⟨9, _⟩ => ⟨S1x1x8x1024, .f32⟩
  | .local _ .vmem, ⟨10, _⟩ => ⟨S1x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x4096, .bf16⟩
  | .local _ .vmem, ⟨14, _⟩ => ⟨S1x256x4096, .bf16⟩
  | .local _ .vmem, ⟨15, _⟩ => ⟨S1x256x4096, .bf16⟩
  | .local _ .vmem, ⟨16, _⟩ => ⟨S1x256x4096, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x1x8x1024, .f32⟩
  | .local _ .vmem, ⟨20, _⟩ => ⟨S1x1x8x1024, .f32⟩
  | .local _ .vmem, ⟨21, _⟩ => ⟨S8x1024, .f32⟩
  | .local _ .vmem, ⟨22, _⟩ => ⟨S8x1024x512, .bf16⟩
  | .local _ .vmem, ⟨23, _⟩ => ⟨S8x512x1024, .bf16⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_call0_cst : Ref sig .tc := ⟨.hbm, 69, rfl⟩
abbrev main_call0_v0 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60_0 : Ref sig .tc := ⟨.hbm, 76, rfl⟩
abbrev main_v60_1 : Ref sig .tc := ⟨.hbm, 77, rfl⟩
abbrev main_v60_2 : Ref sig .tc := ⟨.hbm, 78, rfl⟩
abbrev main_v60_3 : Ref sig .tc := ⟨.hbm, 79, rfl⟩
abbrev main_v60_4 : Ref sig .tc := ⟨.hbm, 80, rfl⟩
abbrev main_v60_5 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c0_i32_179 : BitVec 32 := 0#32
  let v277 : BitVec 1 := Scalar.cmpi .eq arg1 c0_i32_179
  let c1_i32 : BitVec 32 := 1#32
  let v278 : BitVec 1 := Scalar.cmpi .eq arg1 c1_i32
  let v279 : BitVec 1 := Scalar.ori v277 v278
  let v303 : BitVec 32 := Scalar.extui v279
  let c0_i32_186 : BitVec 32 := 0#32
  let v304 : BitVec 1 := Scalar.cmpi .ne v303 c0_i32_186
  v304

def k0_cond3 (i : grid0.Coords) : BitVec 1 :=
  let arg1 : BitVec 32 := BitVec.ofNat 32 (i 1).val
  let c0_i32_179 : BitVec 32 := 0#32
  let v277 : BitVec 1 := Scalar.cmpi .eq arg1 c0_i32_179
  let c1_i32 : BitVec 32 := 1#32
  let v278 : BitVec 1 := Scalar.cmpi .eq arg1 c1_i32
  let v279 : BitVec 1 := Scalar.ori v277 v278
  let v_true : BitVec 1 := 1#1
  let v305 : BitVec 1 := Scalar.xori v279 v_true
  let v306 : BitVec 32 := Scalar.extui v305
  let c0_i32_187 : BitVec 32 := 0#32
  let v307 : BitVec 1 := Scalar.cmpi .ne v306 c0_i32_187
  v307

def k0_cond4 (i : grid0.Coords) : BitVec 1 :=
  let arg0 : BitVec 32 := BitVec.ofNat 32 (i 0).val
  let c0_i32_188 : BitVec 32 := 0#32
  let v308 : BitVec 1 := Scalar.cmpi .eq arg0 c0_i32_188
  let arg1 : BitVec 32 := BitVec.ofNat 32 (i 1).val
  let c0_i32_189 : BitVec 32 := 0#32
  let v309 : BitVec 1 := Scalar.cmpi .eq arg1 c0_i32_189
  let v310 : BitVec 1 := Scalar.andi v308 v309
  let v320 : BitVec 32 := Scalar.extui v310
  let c0_i32_193 : BitVec 32 := 0#32
  let v321 : BitVec 1 := Scalar.cmpi .ne v320 c0_i32_193
  v321

def k0_cond5 (i : grid0.Coords) : BitVec 1 :=
  let arg0 : BitVec 32 := BitVec.ofNat 32 (i 0).val
  let c0_i32_188 : BitVec 32 := 0#32
  let v308 : BitVec 1 := Scalar.cmpi .eq arg0 c0_i32_188
  let arg1 : BitVec 32 := BitVec.ofNat 32 (i 1).val
  let c0_i32_189 : BitVec 32 := 0#32
  let v309 : BitVec 1 := Scalar.cmpi .eq arg1 c0_i32_189
  let v310 : BitVec 1 := Scalar.andi v308 v309
  let true_194 : BitVec 1 := 1#1
  let v322 : BitVec 1 := Scalar.xori v310 true_194
  let v323 : BitVec 32 := Scalar.extui v322
  let c0_i32_195 : BitVec 32 := 0#32
  let v324 : BitVec 1 := Scalar.cmpi .ne v323 c0_i32_195
  v324

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference6Ideal.lean ====
abbrev S2x4352x1024 : Shape := ⟨3, ![2, 4352, 1024]⟩
abbrev S2x2x8x1024 : Shape := ⟨4, ![2, 2, 8, 1024]⟩
abbrev S1x1024 : Shape := ⟨2, ![1, 1024]⟩
abbrev S8x1024x512 : Shape := ⟨3, ![8, 1024, 512]⟩
abbrev S8x512x1024 : Shape := ⟨3, ![8, 512, 1024]⟩
abbrev S1024x8x512 : Shape := ⟨3, ![1024, 8, 512]⟩
abbrev S1024x4096 : Shape := ⟨2, ![1024, 4096]⟩
abbrev S4096x1024 : Shape := ⟨2, ![4096, 1024]⟩
abbrev S2x256x1024 : Shape := ⟨3, ![2, 256, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x1x1x1024 : Shape := ⟨4, ![2, 1, 1, 1024]⟩
abbrev S2x1x1024 : Shape := ⟨3, ![2, 1, 1024]⟩
abbrev S2x4096x1024 : Shape := ⟨3, ![2, 4096, 1024]⟩
abbrev S2x4096 : Shape := ⟨2, ![2, 4096]⟩
abbrev S2x4096x1 : Shape := ⟨3, ![2, 4096, 1]⟩
abbrev S2x4352x4096 : Shape := ⟨3, ![2, 4352, 4096]⟩

abbrev nBuf : Space → Nat
  | .hbm => 118
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S2x4352x1024, .f32⟩
  | .hbm, ⟨2, _⟩ => ⟨S2x2x8x1024, .f32⟩
  | .hbm, ⟨3, _⟩ => ⟨S1x1024, .f32⟩
  | .hbm, ⟨4, _⟩ => ⟨S8x1024x512, .bf16⟩
  | .hbm, ⟨5, _⟩ => ⟨S8x512x1024, .bf16⟩
  | .hbm, ⟨6, _⟩ => ⟨S1024x8x512, .bf16⟩
  | .hbm, ⟨7, _⟩ => ⟨S1024x4096, .bf16⟩
  | .hbm, ⟨8, _⟩ => ⟨S1024x4096, .f32⟩
  | .hbm, ⟨9, _⟩ => ⟨S4096x1024, .bf16⟩
  | .hbm, ⟨10, _⟩ => ⟨S4096x1024, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256, .f32⟩
  | .hbm, ⟨15, _⟩ => ⟨S2x256x1, .f32⟩
  | .hbm, ⟨16, _⟩ => ⟨S_, .f32⟩
  | .hbm, ⟨17, _⟩ => ⟨S2x256x1, .f32⟩
  | .hbm, ⟨18, _⟩ => ⟨S2x256x1, .f32⟩
  | .hbm, ⟨19, _⟩ => ⟨S_, .f32⟩
  | .hbm, ⟨20, _⟩ => ⟨S2x256x1, .f32⟩
  | .hbm, ⟨21, _⟩ => ⟨S2x256x1, .f32⟩
  | .hbm, ⟨22, _⟩ => ⟨S2x256x1, .f32⟩
  | .hbm, ⟨23, _⟩ => ⟨S2x256x1024, .f32⟩
  | .hbm, ⟨24, _⟩ => ⟨S2x256x1024, .f32⟩
  | .hbm, ⟨25, _⟩ => ⟨S1x1x1024, .f32⟩
  | .hbm, ⟨26, _⟩ => ⟨S2x256x1024, .f32⟩
  | .hbm, ⟨27, _⟩ => ⟨S2x256x1024, .f32⟩
  | .hbm, ⟨28, _⟩ => ⟨S2x1x1x1024, .f32⟩
  | .hbm, ⟨29, _⟩ => ⟨S2x1x1024, .f32⟩
  | .hbm, ⟨30, _⟩ => ⟨S2x1x1x1024, .f32⟩
  | .hbm, ⟨31, _⟩ => ⟨S2x1x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S2x256x1024, .f32⟩
  | .hbm, ⟨39, _⟩ => ⟨S2x4096x1024, .f32⟩
  | .hbm, ⟨40, _⟩ => ⟨S2x4096x1024, .f32⟩
  | .hbm, ⟨41, _⟩ => ⟨S_, .f32⟩
  | .hbm, ⟨42, _⟩ => ⟨S2x4096, .f32⟩
  | .hbm, ⟨43, _⟩ => ⟨S2x4096x1, .f32⟩
  | .hbm, ⟨44, _⟩ => ⟨S_, .f32⟩
  | .hbm, ⟨45, _⟩ => ⟨S2x4096x1, .f32⟩
  | .hbm, ⟨46, _⟩ => ⟨S2x4096x1, .f32⟩
  | .hbm, ⟨47, _⟩ => ⟨S_, .f32⟩
  | .hbm, ⟨48, _⟩ => ⟨S2x4096x1, .f32⟩
  | .hbm, ⟨49, _⟩ => ⟨S2x4096x1, .f32⟩
  | .hbm, ⟨50, _⟩ => ⟨S2x4096x1, .f32⟩
  | .hbm, ⟨51, _⟩ => ⟨S2x4096x1024, .f32⟩
  | .hbm, ⟨52, _⟩ => ⟨S2x4096x1024, .f32⟩
  | .hbm, ⟨53, _⟩ => ⟨S1x1x1024, .f32⟩
  | .hbm, ⟨54, _⟩ => ⟨S2x4096x1024, .f32⟩
  | .hbm, ⟨55, _⟩ => ⟨S2x4096x1024, .f32⟩
  | .hbm, ⟨56, _⟩ => ⟨S2x1x1x1024, .f32⟩
  | .hbm, ⟨57, _⟩ => ⟨S2x1x1024, .f32⟩
  | .hbm, ⟨58, _⟩ => ⟨S2x1x1x1024, .f32⟩
  | .hbm, ⟨59, _⟩ => ⟨S2x1x1024, .f32⟩
  | .hbm, ⟨60, _⟩ => ⟨S_, .f32⟩
  | .hbm, ⟨61, _⟩ => ⟨S2x1x1024, .f32⟩
  | .hbm, ⟨62, _⟩ => ⟨S2x1x1024, .f32⟩
  | .hbm, ⟨63, _⟩ => ⟨S2x4096x1024, .f32⟩
  | .hbm, ⟨64, _⟩ => ⟨S2x4096x1024, .f32⟩
  | .hbm, ⟨65, _⟩ => ⟨S2x4096x1024, .f32⟩
  | .hbm, ⟨66, _⟩ => ⟨S2x4096x1024, .f32⟩
  | .hbm, ⟨67, _⟩ => ⟨S2x4352x1024, .f32⟩
  | .hbm, ⟨68, _⟩ => ⟨S2x4352x4096, .f32⟩
  | .hbm, ⟨69, _⟩ => ⟨S_, .f32⟩
  | .hbm, ⟨70, _⟩ => ⟨S2x4352x1024, .f32⟩
  | .hbm, ⟨71, _⟩ => ⟨S2x1x1x1024, .f32⟩
  | .hbm, ⟨72, _⟩ => ⟨S2x1x1024, .f32⟩
  | .hbm, ⟨73, _⟩ => ⟨S2x256x1024, .f32⟩
  | .hbm, ⟨74, _⟩ => ⟨S2x256x1024, .f32⟩
  | .hbm, ⟨75, _⟩ => ⟨S2x256x1024, .f32⟩
  | .hbm, ⟨76, _⟩ => ⟨S2x1x1x1024, .f32⟩
  | .hbm, ⟨77, _⟩ => ⟨S2x1x1024, .f32⟩
  | .hbm, ⟨78, _⟩ => ⟨S2x4096x1024, .f32⟩
  | .hbm, ⟨79, _⟩ => ⟨S2x4096x1024, .f32⟩
  | .hbm, ⟨80, _⟩ => ⟨S2x4096x1024, .f32⟩
  | .hbm, ⟨81, _⟩ => ⟨S2x4352x1024, .f32⟩
  | .hbm, ⟨82, _⟩ => ⟨S2x256x1024, .f32⟩
  | .hbm, ⟨83, _⟩ => ⟨S2x4096x1024, .f32⟩
  | .hbm, ⟨84, _⟩ => ⟨S2x4096x1024, .f32⟩
  | .hbm, ⟨85, _⟩ => ⟨S2x4096x1024, .f32⟩
  | .hbm, ⟨86, _⟩ => ⟨S_, .f32⟩
  | .hbm, ⟨87, _⟩ => ⟨S2x4352x1024, .f32⟩
  | .hbm, ⟨88, _⟩ => ⟨S2x256x1024, .f32⟩
  | .hbm, ⟨89, _⟩ => ⟨S2x256x1024, .f32⟩
  | .hbm, ⟨90, _⟩ => ⟨S_, .f32⟩
  | .hbm, ⟨91, _⟩ => ⟨S2x4352x1024, .f32⟩
  | .hbm, ⟨92, _⟩ => ⟨S2x4352x1024, .f32⟩
  | .hbm, ⟨93, _⟩ => ⟨S_, .f32⟩
  | .hbm, ⟨94, _⟩ => ⟨S2x4352x4096, .f32⟩
  | .hbm, ⟨95, _⟩ => ⟨S2x4352x4096, .f32⟩
  | .hbm, ⟨96, _⟩ => ⟨S_, .f32⟩
  | .hbm, ⟨97, _⟩ => ⟨S2x4352x4096, .f32⟩
  | .hbm, ⟨98, _⟩ => ⟨S2x4352x4096, .i1⟩
  | .hbm, ⟨99, _⟩ => ⟨S_, .f32⟩
  | .hbm, ⟨100, _⟩ => ⟨S2x4352x4096, .f32⟩
  | .hbm, ⟨101, _⟩ => ⟨S2x4352x4096, .f32⟩
  | .hbm, ⟨102, _⟩ => ⟨S_, .f32⟩
  | .hbm, ⟨103, _⟩ => ⟨S2x4352x4096, .f32⟩
  | .hbm, ⟨104, _⟩ => ⟨S2x4352x4096, .f32⟩
  | .hbm, ⟨105, _⟩ => ⟨S2x4352x1024, .f32⟩
  | .hbm, ⟨106, _⟩ => ⟨S2x4352x4096, .f32⟩
  | .hbm, ⟨107, _⟩ => ⟨S2x4352x4096, .f32⟩
  | .hbm, ⟨108, _⟩ => ⟨S_, .f32⟩
  | .hbm, ⟨109, _⟩ => ⟨S2x4352x4096, .f32⟩
  | .hbm, ⟨110, _⟩ => ⟨S2x4352x4096, .f32⟩
  | .hbm, ⟨111, _⟩ => ⟨S_, .f32⟩
  | .hbm, ⟨112, _⟩ => ⟨S2x4352x4096, .f32⟩
  | .hbm, ⟨113, _⟩ => ⟨S2x4352x4096, .f32⟩
  | .hbm, ⟨114, _⟩ => ⟨S2x4352x4096, .f32⟩
  | .hbm, ⟨115, _⟩ => ⟨S2x4352x4096, .bf16⟩
  | .hbm, ⟨116, _⟩ => ⟨S2x4352x4096, .bf16⟩
  | .hbm, ⟨117, _⟩ => ⟨S2x4352x1024, .bf16⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_9 : Ref sig .tc := ⟨.hbm, 90, rfl⟩
abbrev main_v74 : Ref sig .tc := ⟨.hbm, 91, rfl⟩
abbrev main_v75 : Ref sig .tc := ⟨.hbm, 92, rfl⟩
abbrev main_call0_cst : Ref sig .tc := ⟨.hbm, 93, rfl⟩
abbrev main_call0_v0 : Ref sig .tc := ⟨.hbm, 94, rfl⟩
abbrev main_v76 : Ref sig .tc := ⟨.hbm, 95, rfl⟩
abbrev main_cst_10 : Ref sig .tc := ⟨.hbm, 96, rfl⟩
abbrev main_v77 : Ref sig .tc := ⟨.hbm, 97, rfl⟩
abbrev main_v78 : Ref sig .tc := ⟨.hbm, 98, rfl⟩
abbrev main_cst_11 : Ref sig .tc := ⟨.hbm, 99, rfl⟩
abbrev main_v79 : Ref sig .tc := ⟨.hbm, 100, rfl⟩
abbrev main_v80 : Ref sig .tc := ⟨.hbm, 101, rfl⟩
abbrev main_cst_12 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_13 : Ref sig .tc := ⟨.hbm, 108, rfl⟩
abbrev main_v86 : Ref sig .tc := ⟨.hbm, 109, rfl⟩
abbrev main_v87 : Ref sig .tc := ⟨.hbm, 110, rfl⟩
abbrev main_call1_cst : Ref sig .tc := ⟨.hbm, 111, rfl⟩
abbrev main_call1_v0 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩

abbrev nD : Nat := 1
abbrev τ : Topo := Topo.v7x

variable {F : FTy → Type} [FloatOps F]
-- ==== Kernel7.lean ====
abbrev S2x4352x1024 : Shape := ⟨3, ![2, 4352, 1024]⟩
abbrev S2x2x8x1024 : Shape := ⟨4, ![2, 2, 8, 1024]⟩
abbrev S1x1024 : Shape := ⟨2, ![1, 1024]⟩
abbrev S8x1024x512 : Shape := ⟨3, ![8, 1024, 512]⟩
abbrev S8x512x1024 : Shape := ⟨3, ![8, 512, 1024]⟩
abbrev S2x4352x4096 : Shape := ⟨3, ![2, 4352, 4096]⟩
abbrev S1x256x1024 : Shape := ⟨3, ![1, 256, 1024]⟩
abbrev S1x1x8x1024 : Shape := ⟨4, ![1, 1, 8, 1024]⟩
abbrev S1x256x4096 : Shape := ⟨3, ![1, 256, 4096]⟩
abbrev S2 : Shape := ⟨1, ![2]⟩
abbrev S1 : Shape := ⟨1, ![1]⟩
abbrev S_ : Shape := ⟨0, ![]⟩
abbrev S256x1024 : Shape := ⟨2, ![256, 1024]⟩
abbrev S8x1024 : Shape := ⟨2, ![8, 1024]⟩
abbrev S1024 : Shape := ⟨1, ![1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x256x512 : Shape := ⟨3, ![1, 256, 512]⟩
abbrev S1x512x1024 : Shape := ⟨3, ![1, 512, 1024]⟩
abbrev S512x1024 : Shape := ⟨2, ![512, 1024]⟩

abbrev nBuf : Space → Nat
  | .hbm => 9
  | .vmem => 15
  | .smem => 0
  | _ => 0

abbrev bufTy : (tb : Table) → Fin (tcTables nBuf tb) → BufTy
  | .hbm, ⟨0, _⟩ => ⟨S2x4352x1024, .f32⟩
  | .hbm, ⟨1, _⟩ => ⟨S2x2x8x1024, .f32⟩
  | .hbm, ⟨2, _⟩ => ⟨S1x1024, .f32⟩
  | .hbm, ⟨3, _⟩ => ⟨S8x1024x512, .bf16⟩
  | .hbm, ⟨4, _⟩ => ⟨S8x512x1024, .bf16⟩
  | .hbm, ⟨5, _⟩ => ⟨S2x4352x1024, .f32⟩
  | .hbm, ⟨6, _⟩ => ⟨S2x4352x1024, .bf16⟩
  | .hbm, ⟨7, _⟩ => ⟨S2x4352x4096, .bf16⟩
  | .hbm, ⟨8, _⟩ => ⟨S2x4352x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .bf16⟩
  | .local _ .vmem, ⟨8, _⟩ => ⟨S1x256x1024, .bf16⟩
  | .local _ .vmem, ⟨9, _⟩ => ⟨S1x256x4096, .bf16⟩
  | .local _ .vmem, ⟨10, _⟩ => ⟨S1x256x4096, .bf16⟩
  | .local _ .vmem, ⟨11, _⟩ => ⟨S1x256x1024, .bf16⟩
  | .local _ .vmem, ⟨12, _⟩ => ⟨S1x256x1024, .bf16⟩
  | .local _ .vmem, ⟨13, _⟩ => ⟨S8x1024x512, .bf16⟩
  | .local _ .vmem, ⟨14, _⟩ => ⟨S8x512x1024, .bf16⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S2x4352x1024 : Shape := ⟨3, ![2, 4352, 1024]⟩
abbrev S2x2x8x1024 : Shape := ⟨4, ![2, 2, 8, 1024]⟩
abbrev S1x1024 : Shape := ⟨2, ![1, 1024]⟩
abbrev S8x1024x512 : Shape := ⟨3, ![8, 1024, 512]⟩
abbrev S8x512x1024 : Shape := ⟨3, ![8, 512, 1024]⟩
abbrev S1024x8x512 : Shape := ⟨3, ![1024, 8, 512]⟩
abbrev S1024x4096 : Shape := ⟨2, ![1024, 4096]⟩
abbrev S4096x1024 : Shape := ⟨2, ![4096, 1024]⟩
abbrev S2x256x1024 : Shape := ⟨3, ![2, 256, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x1x1x1024 : Shape := ⟨4, ![2, 1, 1, 1024]⟩
abbrev S2x1x1024 : Shape := ⟨3, ![2, 1, 1024]⟩
abbrev S2x4096x1024 : Shape := ⟨3, ![2, 4096, 1024]⟩
abbrev S2x4096 : Shape := ⟨2, ![2, 4096]⟩
abbrev S2x4096x1 : Shape := ⟨3, ![2, 4096, 1]⟩
abbrev S2x4352x4096 : Shape := ⟨3, ![2, 4352, 4096]⟩

abbrev nBuf : Space → Nat
  | .hbm => 88
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S2x2x8x1024, .f32⟩
  | .hbm, ⟨2, _⟩ => ⟨S1x1024, .f32⟩
  | .hbm, ⟨3, _⟩ => ⟨S8x1024x512, .bf16⟩
  | .hbm, ⟨4, _⟩ => ⟨S8x512x1024, .bf16⟩
  | .hbm, ⟨5, _⟩ => ⟨S1024x8x512, .bf16⟩
  | .hbm, ⟨6, _⟩ => ⟨S1024x4096, .bf16⟩
  | .hbm, ⟨7, _⟩ => ⟨S1024x4096, .f32⟩
  | .hbm, ⟨8, _⟩ => ⟨S4096x1024, .bf16⟩
  | .hbm, ⟨9, _⟩ => ⟨S4096x1024, .f32⟩
  | .hbm, ⟨10, _⟩ => ⟨S2x256x1024, .f32⟩
  | .hbm, ⟨11, _⟩ => ⟨S2x256x1024, .f32⟩
  | .hbm, ⟨12, _⟩ => ⟨S_, .f32⟩
  | .hbm, ⟨13, _⟩ => ⟨S2x256, .f32⟩
  | .hbm, ⟨14, _⟩ => ⟨S2x256x1, .f32⟩
  | .hbm, ⟨15, _⟩ => ⟨S_, .f32⟩
  | .hbm, ⟨16, _⟩ => ⟨S2x256x1, .f32⟩
  | .hbm, ⟨17, _⟩ => ⟨S2x256x1, .f32⟩
  | .hbm, ⟨18, _⟩ => ⟨S_, .f32⟩
  | .hbm, ⟨19, _⟩ => ⟨S2x256x1, .f32⟩
  | .hbm, ⟨20, _⟩ => ⟨S2x256x1, .f32⟩
  | .hbm, ⟨21, _⟩ => ⟨S2x256x1, .f32⟩
  | .hbm, ⟨22, _⟩ => ⟨S2x256x1024, .f32⟩
  | .hbm, ⟨23, _⟩ => ⟨S2x256x1024, .f32⟩
  | .hbm, ⟨24, _⟩ => ⟨S1x1x1024, .f32⟩
  | .hbm, ⟨25, _⟩ => ⟨S2x256x1024, .f32⟩
  | .hbm, ⟨26, _⟩ => ⟨S2x256x1024, .f32⟩
  | .hbm, ⟨27, _⟩ => ⟨S2x1x1x1024, .f32⟩
  | .hbm, ⟨28, _⟩ => ⟨S2x1x1024, .f32⟩
  | .hbm, ⟨29, _⟩ => ⟨S2x1x1x1024, .f32⟩
  | .hbm, ⟨30, _⟩ => ⟨S2x1x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x256x1024, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S2x4096x1024, .f32⟩
  | .hbm, ⟨39, _⟩ => ⟨S2x4096x1024, .f32⟩
  | .hbm, ⟨40, _⟩ => ⟨S_, .f32⟩
  | .hbm, ⟨41, _⟩ => ⟨S2x4096, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S_, .f32⟩
  | .hbm, ⟨47, _⟩ => ⟨S2x4096x1, .f32⟩
  | .hbm, ⟨48, _⟩ => ⟨S2x4096x1, .f32⟩
  | .hbm, ⟨49, _⟩ => ⟨S2x4096x1, .f32⟩
  | .hbm, ⟨50, _⟩ => ⟨S2x4096x1024, .f32⟩
  | .hbm, ⟨51, _⟩ => ⟨S2x4096x1024, .f32⟩
  | .hbm, ⟨52, _⟩ => ⟨S1x1x1024, .f32⟩
  | .hbm, ⟨53, _⟩ => ⟨S2x4096x1024, .f32⟩
  | .hbm, ⟨54, _⟩ => ⟨S2x4096x1024, .f32⟩
  | .hbm, ⟨55, _⟩ => ⟨S2x1x1x1024, .f32⟩
  | .hbm, ⟨56, _⟩ => ⟨S2x1x1024, .f32⟩
  | .hbm, ⟨57, _⟩ => ⟨S2x1x1x1024, .f32⟩
  | .hbm, ⟨58, _⟩ => ⟨S2x1x1024, .f32⟩
  | .hbm, ⟨59, _⟩ => ⟨S_, .f32⟩
  | .hbm, ⟨60, _⟩ => ⟨S2x1x1024, .f32⟩
  | .hbm, ⟨61, _⟩ => ⟨S2x1x1024, .f32⟩
  | .hbm, ⟨62, _⟩ => ⟨S2x4096x1024, .f32⟩
  | .hbm, ⟨63, _⟩ => ⟨S2x4096x1024, .f32⟩
  | .hbm, ⟨64, _⟩ => ⟨S2x4096x1024, .f32⟩
  | .hbm, ⟨65, _⟩ => ⟨S2x4096x1024, .f32⟩
  | .hbm, ⟨66, _⟩ => ⟨S2x4352x1024, .f32⟩
  | .hbm, ⟨67, _⟩ => ⟨S2x4352x4096, .f32⟩
  | .hbm, ⟨68, _⟩ => ⟨S_, .f32⟩
  | .hbm, ⟨69, _⟩ => ⟨S2x4352x4096, .f32⟩
  | .hbm, ⟨70, _⟩ => ⟨S2x4352x4096, .f32⟩
  | .hbm, ⟨71, _⟩ => ⟨S2x4352x4096, .f32⟩
  | .hbm, ⟨72, _⟩ => ⟨S2x4352x1024, .f32⟩
  | .hbm, ⟨73, _⟩ => ⟨S2x1x1x1024, .f32⟩
  | .hbm, ⟨74, _⟩ => ⟨S2x1x1024, .f32⟩
  | .hbm, ⟨75, _⟩ => ⟨S2x256x1024, .f32⟩
  | .hbm, ⟨76, _⟩ => ⟨S2x256x1024, .f32⟩
  | .hbm, ⟨77, _⟩ => ⟨S2x256x1024, .f32⟩
  | .hbm, ⟨78, _⟩ => ⟨S2x1x1x1024, .f32⟩
  | .hbm, ⟨79, _⟩ => ⟨S2x1x1024, .f32⟩
  | .hbm, ⟨80, _⟩ => ⟨S2x4096x1024, .f32⟩
  | .hbm, ⟨81, _⟩ => ⟨S2x4096x1024, .f32⟩
  | .hbm, ⟨82, _⟩ => ⟨S2x4096x1024, .f32⟩
  | .hbm, ⟨83, _⟩ => ⟨S2x4352x1024, .f32⟩
  | .hbm, ⟨84, _⟩ => ⟨S2x4352x1024, .f32⟩
  | .hbm, ⟨85, _⟩ => ⟨S2x4352x1024, .bf16⟩
  | .hbm, ⟨86, _⟩ => ⟨S2x4352x4096, .bf16⟩
  | .hbm, ⟨87, _⟩ => ⟨S2x4352x1024, .bf16⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_call0_cst : Ref sig .tc := ⟨.hbm, 68, rfl⟩
abbrev main_call0_v0 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩

abbrev nD : Nat := 1
abbrev τ : Topo := Topo.v7x

variable {F : FTy → Type} [FloatOps F]
-- ==== Kernel8.lean ====
abbrev S2x4352x1024 : Shape := ⟨3, ![2, 4352, 1024]⟩
abbrev S2x2x8x1024 : Shape := ⟨4, ![2, 2, 8, 1024]⟩
abbrev S1x1024 : Shape := ⟨2, ![1, 1024]⟩
abbrev S8x1024x512 : Shape := ⟨3, ![8, 1024, 512]⟩
abbrev S8x512x1024 : Shape := ⟨3, ![8, 512, 1024]⟩
abbrev S2x4096x1024 : Shape := ⟨3, ![2, 4096, 1024]⟩
abbrev S2x4352x4096 : Shape := ⟨3, ![2, 4352, 4096]⟩
abbrev S8x128 : Shape := ⟨2, ![8, 128]⟩
abbrev S8x1024 : Shape := ⟨2, ![8, 1024]⟩
abbrev S1x256x1024 : Shape := ⟨3, ![1, 256, 1024]⟩
abbrev S1x1x8x1024 : Shape := ⟨4, ![1, 1, 8, 1024]⟩
abbrev S1x256x4096 : Shape := ⟨3, ![1, 256, 4096]⟩
abbrev S2 : Shape := ⟨1, ![2]⟩
abbrev S1 : Shape := ⟨1, ![1]⟩
abbrev S_ : Shape := ⟨0, ![]⟩
abbrev S256x1024 : Shape := ⟨2, ![256, 1024]⟩
abbrev S256x4096 : Shape := ⟨2, ![256, 4096]⟩
abbrev S1024 : Shape := ⟨1, ![1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x256x512 : Shape := ⟨3, ![1, 256, 512]⟩
abbrev S1x512x1024 : Shape := ⟨3, ![1, 512, 1024]⟩
abbrev S512x1024 : Shape := ⟨2, ![512, 1024]⟩
abbrev S1x1 : Shape := ⟨2, ![1, 1]⟩
abbrev S1x128 : Shape := ⟨2, ![1, 128]⟩

abbrev nBuf : Space → Nat
  | .hbm => 13
  | .vmem => 20
  | .smem => 0
  | _ => 0

abbrev bufTy : (tb : Table) → Fin (tcTables nBuf tb) → BufTy
  | .hbm, ⟨0, _⟩ => ⟨S2x4352x1024, .f32⟩
  | .hbm, ⟨1, _⟩ => ⟨S2x2x8x1024, .f32⟩
  | .hbm, ⟨2, _⟩ => ⟨S1x1024, .f32⟩
  | .hbm, ⟨3, _⟩ => ⟨S8x1024x512, .bf16⟩
  | .hbm, ⟨4, _⟩ => ⟨S8x512x1024, .bf16⟩
  | .hbm, ⟨5, _⟩ => ⟨S2x4096x1024, .f32⟩
  | .hbm, ⟨6, _⟩ => ⟨S1x1024, .f32⟩
  | .hbm, ⟨7, _⟩ => ⟨S2x4352x1024, .f32⟩
  | .hbm, ⟨8, _⟩ => ⟨S2x4352x1024, .bf16⟩
  | .hbm, ⟨9, _⟩ => ⟨S2x4352x4096, .bf16⟩
  | .hbm, ⟨10, _⟩ => ⟨S2x4352x1024, .bf16⟩
  | .hbm, ⟨11, _⟩ => ⟨S8x128, .f32⟩
  | .hbm, ⟨12, _⟩ => ⟨S8x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S1x256x4096, .bf16⟩
  | .local _ .vmem, ⟨13, _⟩ => ⟨S1x256x4096, .bf16⟩
  | .local _ .vmem, ⟨14, _⟩ => ⟨S1x256x1024, .bf16⟩
  | .local _ .vmem, ⟨15, _⟩ => ⟨S1x256x1024, .bf16⟩
  | .local _ .vmem, ⟨16, _⟩ => ⟨S8x128, .f32⟩
  | .local _ .vmem, ⟨17, _⟩ => ⟨S8x1024, .f32⟩
  | .local _ .vmem, ⟨18, _⟩ => ⟨S8x1024x512, .bf16⟩
  | .local _ .vmem, ⟨19, _⟩ => ⟨S8x512x1024, .bf16⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c1_i32 : BitVec 32 := 1#32
  let v5 : BitVec 1 := Scalar.cmpi .sge arg1 c1_i32
  let v_true : BitVec 1 := 1#1
  let v6 : BitVec 1 := Scalar.xori v5 v_true
  let v7 : BitVec 32 := Scalar.extui v6
  let c0_i32_2 : BitVec 32 := 0#32
  let v8 : BitVec 1 := Scalar.cmpi .ne v7 c0_i32_2
  v8

def k0_cond7 (i : grid0.Coords) : BitVec 1 :=
  let arg1 : BitVec 32 := BitVec.ofNat 32 (i 1).val
  let c1_i32 : BitVec 32 := 1#32
  let v5 : BitVec 1 := Scalar.cmpi .sge arg1 c1_i32
  let v9 : BitVec 32 := Scalar.extui v5
  let c0_i32_3 : BitVec 32 := 0#32
  let v10 : BitVec 1 := Scalar.cmpi .ne v9 c0_i32_3
  v10

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v28 : BitVec 32 := Scalar.extui v2
  let c0_i32_19 : BitVec 32 := 0#32
  let v29 : BitVec 1 := Scalar.cmpi .ne v28 c0_i32_19
  v29

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_20 : BitVec 1 := 1#1
  let v30 : BitVec 1 := Scalar.xori v2 true_20
  let v31 : BitVec 32 := Scalar.extui v30
  let c0_i32_21 : BitVec 32 := 0#32
  let v32 : BitVec 1 := Scalar.cmpi .ne v31 c0_i32_21
  v32

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v248 : BitVec 32 := Scalar.extui v2
  let c0_i32_142 : BitVec 32 := 0#32
  let v249 : BitVec 1 := Scalar.cmpi .ne v248 c0_i32_142
  v249

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_143 : BitVec 1 := 1#1
  let v250 : BitVec 1 := Scalar.xori v2 true_143
  let v251 : BitVec 32 := Scalar.extui v250
  let c0_i32_144 : BitVec 32 := 0#32
  let v252 : BitVec 1 := Scalar.cmpi .ne v251 c0_i32_144
  v252

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v34 : BitVec 32 := Scalar.extui v2
  let c0_i32_23 : BitVec 32 := 0#32
  let v35 : BitVec 1 := Scalar.cmpi .ne v34 c0_i32_23
  v35

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_24 : BitVec 1 := 1#1
  let v36 : BitVec 1 := Scalar.xori v2 true_24
  let v37 : BitVec 32 := Scalar.extui v36
  let c0_i32_25 : BitVec 32 := 0#32
  let v38 : BitVec 1 := Scalar.cmpi .ne v37 c0_i32_25
  v38

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v262 : BitVec 32 := Scalar.extui v2
  let c0_i32_148 : BitVec 32 := 0#32
  let v263 : BitVec 1 := Scalar.cmpi .ne v262 c0_i32_148
  v263

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let true_149 : BitVec 1 := 1#1
  let v264 : BitVec 1 := Scalar.xori v2 true_149
  let v265 : BitVec 32 := Scalar.extui v264
  let c0_i32_150 : BitVec 32 := 0#32
  let v266 : BitVec 1 := Scalar.cmpi .ne v265 c0_i32_150
  v266

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference8Ideal.lean ====
abbrev S2x4352x1024 : Shape := ⟨3, ![2, 4352, 1024]⟩
abbrev S2x2x8x1024 : Shape := ⟨4, ![2, 2, 8, 1024]⟩
abbrev S1x1024 : Shape := ⟨2, ![1, 1024]⟩
abbrev S8x1024x512 : Shape := ⟨3, ![8, 1024, 512]⟩
abbrev S8x512x1024 : Shape := ⟨3, ![8, 512, 1024]⟩
abbrev S2x4096x1024 : Shape := ⟨3, ![2, 4096, 1024]⟩
abbrev S1024x8x512 : Shape := ⟨3, ![1024, 8, 512]⟩
abbrev S1024x4096 : Shape := ⟨2, ![1024, 4096]⟩
abbrev S4096x1024 : Shape := ⟨2, ![4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x1x1x1024 : Shape := ⟨4, ![2, 1, 1, 1024]⟩
abbrev S2x1x1024 : Shape := ⟨3, ![2, 1, 1024]⟩
abbrev S2x4096x4096 : Shape := ⟨3, ![2, 4096, 4096]⟩
abbrev S2x256x1024 : Shape := ⟨3, ![2, 256, 1024]⟩
abbrev S2x256x4096 : Shape := ⟨3, ![2, 256, 4096]⟩
abbrev S2x4352x4096 : Shape := ⟨3, ![2, 4352, 4096]⟩

abbrev nBuf : Space → Nat
  | .hbm => 58
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S2x2x8x1024, .f32⟩
  | .hbm, ⟨2, _⟩ => ⟨S1x1024, .f32⟩
  | .hbm, ⟨3, _⟩ => ⟨S8x1024x512, .bf16⟩
  | .hbm, ⟨4, _⟩ => ⟨S8x512x1024, .bf16⟩
  | .hbm, ⟨5, _⟩ => ⟨S2x4096x1024, .f32⟩
  | .hbm, ⟨6, _⟩ => ⟨S1x1024, .f32⟩
  | .hbm, ⟨7, _⟩ => ⟨S1024x8x512, .bf16⟩
  | .hbm, ⟨8, _⟩ => ⟨S1024x4096, .bf16⟩
  | .hbm, ⟨9, _⟩ => ⟨S1024x4096, .f32⟩
  | .hbm, ⟨10, _⟩ => ⟨S4096x1024, .bf16⟩
  | .hbm, ⟨11, _⟩ => ⟨S4096x1024, .f32⟩
  | .hbm, ⟨12, _⟩ => ⟨S2x4096x1024, .f32⟩
  | .hbm, ⟨13, _⟩ => ⟨S2x4096x1024, .f32⟩
  | .hbm, ⟨14, _⟩ => ⟨S_, .f32⟩
  | .hbm, ⟨15, _⟩ => ⟨S2x4096, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S2x4096x1024, .f32⟩
  | .hbm, ⟨25, _⟩ => ⟨S2x4096x1024, .f32⟩
  | .hbm, ⟨26, _⟩ => ⟨S1x1x1024, .f32⟩
  | .hbm, ⟨27, _⟩ => ⟨S2x4096x1024, .f32⟩
  | .hbm, ⟨28, _⟩ => ⟨S2x4096x1024, .f32⟩
  | .hbm, ⟨29, _⟩ => ⟨S2x1x1x1024, .f32⟩
  | .hbm, ⟨30, _⟩ => ⟨S2x1x1024, .f32⟩
  | .hbm, ⟨31, _⟩ => ⟨S2x1x1x1024, .f32⟩
  | .hbm, ⟨32, _⟩ => ⟨S2x1x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S2x4096x4096, .f32⟩
  | .hbm, ⟨41, _⟩ => ⟨S_, .f32⟩
  | .hbm, ⟨42, _⟩ => ⟨S2x4096x4096, .f32⟩
  | .hbm, ⟨43, _⟩ => ⟨S2x4096x4096, .f32⟩
  | .hbm, ⟨44, _⟩ => ⟨S2x4096x4096, .f32⟩
  | .hbm, ⟨45, _⟩ => ⟨S2x4096x1024, .f32⟩
  | .hbm, ⟨46, _⟩ => ⟨S_, .f32⟩
  | .hbm, ⟨47, _⟩ => ⟨S2x256x1024, .f32⟩
  | .hbm, ⟨48, _⟩ => ⟨S2x4352x1024, .f32⟩
  | .hbm, ⟨49, _⟩ => ⟨S2x4352x1024, .bf16⟩
  | .hbm, ⟨50, _⟩ => ⟨S_, .f32⟩
  | .hbm, ⟨51, _⟩ => ⟨S2x256x4096, .f32⟩
  | .hbm, ⟨52, _⟩ => ⟨S2x4352x4096, .f32⟩
  | .hbm, ⟨53, _⟩ => ⟨S2x4352x4096, .bf16⟩
  | .hbm, ⟨54, _⟩ => ⟨S_, .f32⟩
  | .hbm, ⟨55, _⟩ => ⟨S2x256x1024, .f32⟩
  | .hbm, ⟨56, _⟩ => ⟨S2x4352x1024, .f32⟩
  | .hbm, ⟨57, _⟩ => ⟨S2x4352x1024, .bf16⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_cst : Ref sig .tc := ⟨.hbm, 41, rfl⟩
abbrev main_call0_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Proof.Real.lean ====
module

public import Idealize.ShloMosaic.Lib.Claim
public import Idealize.ShloMosaic.Lib.Pointwise
public import Mathlib.Analysis.SpecialFunctions.Log.Basic

@[expose] public section
noncomputable section
namespace Cert.Attn
open Idealize.ShloMosaic

/-! ## Extended reals that are reals -/

/-- `x` is the real `r`. -/
abbrev Is (x : EReal) (r : ℝ) : Prop := x = (r : EReal)

theorem Is.add {x y : EReal} {r s : ℝ} (h : Is x r) (h' : Is y s) : Is (x + y) (r + s) := by rw [h, h']; exact (EReal.coe_add r s).symm
theorem Is.sub {x y : EReal} {r s : ℝ} (h : Is x r) (h' : Is y s) : Is (x - y) (r - s) := by rw [h, h']; exact (EReal.coe_sub r s).symm
theorem Is.mul {x y : EReal} {r s : ℝ} (h : Is x r) (h' : Is y s) : Is (x * y) (r * s) := by rw [h, h']; exact (EReal.coe_mul r s).symm
theorem Is.neg {x : EReal} {r : ℝ} (h : Is x r) : Is (-x) (-r) := by rw [h]; exact (EReal.coe_neg r).symm
theorem Is.exp {x : EReal} {r : ℝ} (h : Is x r) : Is (Ideal.exp x) (Real.exp r) := by rw [h]; exact Ideal.exp_coe r
theorem Is.log {x : EReal} {r : ℝ} (h : Is x r) (h0 : 0 < r) : Is (Ideal.log x) (Real.log r) := by
  rw [h]; exact (Ideal.log_coe r).trans (if_neg (not_le.2 h0))
theorem Is.div {x y : EReal} {r s : ℝ} (h : Is x r) (h' : Is y s) (h0 : s ≠ 0) : Is (Ideal.div x y) (r / s) := by
  rw [h, h', Ideal.div_coe h0, ← EReal.coe_mul, div_eq_mul_one_div r s]
theorem Is.zero : Is 0 0 := EReal.coe_zero.symm
theorem Is.one : Is 1 1 := EReal.coe_one.symm
theorem Is.sum {ι : Type} (s : Finset ι) {f : ι → EReal} {g : ι → ℝ} (h : ∀ i, Is (f i) (g i)) : Is (∑ i ∈ s, f i) (∑ i ∈ s, g i) := by
  classical
  induction s using Finset.induction_on with
  | empty => rw [Finset.sum_empty, Finset.sum_empty]; exact Is.zero
  | insert a s ha ih => rw [Finset.sum_insert ha, Finset.sum_insert ha]; exact (h a).add ih
theorem Is.ite {x y : EReal} {r s : ℝ} {P : Prop} [Decidable P] (h : P → Is x r) (h' : ¬P → Is y s) : Is (if P then x else y) (if P then r else s) := by
  by_cases hp : P
  · rw [if_pos hp, if_pos hp]; exact h hp
  · rw [if_neg hp, if_neg hp]; exact h' hp
theorem Is.dite {P : Prop} [Decidable P] {x : P → EReal} {r : P → ℝ} {y : EReal} {s : ℝ} (h : ∀ p, Is (x p) (r p)) (h' : ¬P → Is y s) :
    Is (if p : P then x p else y) (if p : P then r p else s) := by
  by_cases hp : P
  · rw [dif_pos hp, dif_pos hp]; exact h hp
  · rw [dif_neg hp, dif_neg hp]; exact h' hp
theorem Is.congr {x : EReal} {r s : ℝ} (h : Is x r) (e : r = s) : Is x s := e ▸ h

/-- The maximum of finitely many reals, from −∞, is −∞ or a real. -/
theorem fold_max_cases {ι : Type} (s : Finset ι) (f : ι → EReal) (g : ι → ℝ) (h : ∀ i, Is (f i) (g i)) :
    Finset.fold max ⊥ f s = ⊥ ∧ s = ∅ ∨ ∃ M : ℝ, Is (Finset.fold max ⊥ f s) M := by
  classical
  induction s using Finset.induction_on with
  | empty => exact Or.inl ⟨Finset.fold_empty, rfl⟩
  | insert a s ha ih =>
    right
    rw [Finset.fold_insert ha]
    rcases ih with ⟨e, -⟩ | ⟨M, hM⟩
    · exact ⟨g a, by rw [e, h a]; exact max_bot_right _⟩
    · rw [hM, h a]
      rcases le_total (g a) M with hl | hl
      · exact ⟨M, max_eq_right (EReal.coe_le_coe_iff.2 hl)⟩
      · exact ⟨g a, max_eq_left (EReal.coe_le_coe_iff.2 hl)⟩

/-- The maximum of a nonempty row of reals is a real. -/
theorem fold_max_real {ι : Type} [Fintype ι] [Nonempty ι] (f : ι → EReal) (g : ι → ℝ) (h : ∀ i, Is (f i) (g i)) :
    ∃ M : ℝ, Is (Finset.fold max ⊥ f Finset.univ) M := by
  rcases fold_max_cases Finset.univ f g h with ⟨-, e⟩ | h
  · exact absurd e Finset.univ_nonempty.ne_empty
  · exact h

/-! ## Sums over all rows, of the context's rows and the latents' -/

theorem sum_rows (f : Fin 4352 → ℝ) : ∑ r : Fin 4352, f r = ∑ r : Fin 256, f ⟨r, by omega⟩ + ∑ r : Fin 4096, f ⟨256 + r, by omega⟩ :=
  Fin.sum_univ_add (M := ℝ) (a := 256) (b := 4096) (fun j : Fin (256 + 4096) => f j)

/-- A sum whose terms vanish off the context's rows. -/
theorem sum_only_ctx (f : Fin 4352 → ℝ) (h : ∀ j : Fin 4352, ¬ (j : ℕ) < 256 → f j = 0) : ∑ j : Fin 4352, f j = ∑ j : Fin 256, f ⟨j, by omega⟩ := by
  rw [sum_rows]
  refine (congrArg _ (Finset.sum_eq_zero fun r _ => h _ (by simp only []; omega))).trans (add_zero _)

/-! ## Attention of one head, over the reals -/

section
variable (Q k : Fin 4352 → Fin 96 → ℝ) (v g : Fin 4352 → Fin 64 → ℝ)

/-- A context row sees the context's keys, a latent row all of them. -/
abbrev Sees (r j : Fin 4352) : Prop := ¬ ((r : ℕ) < 256 ∧ ¬ (j : ℕ) < 256)

def S (r j : Fin 4352) : ℝ := ∑ l : Fin 96, Q r l * k j l
def E (r j : Fin 4352) : ℝ := if Sees r j then Real.exp (S Q k r j) else 0
def Z (r : Fin 4352) : ℝ := ∑ j, E Q k r j
def P (r j : Fin 4352) : ℝ := E Q k r j / Z Q k r
def O (r : Fin 4352) (c : Fin 64) : ℝ := ∑ j, v j c * P Q k r j
def D (r : Fin 4352) : ℝ := ∑ c, g r c * O Q k v r c
def dP (r j : Fin 4352) : ℝ := ∑ c, g r c * v j c
def dS (r j : Fin 4352) : ℝ := P Q k r j * (dP v g r j - D Q k v g r)
def dQ (r : Fin 4352) (d : Fin 96) : ℝ := ∑ j, dS Q k v g r j * k j d
def dK (j : Fin 4352) (d : Fin 96) : ℝ := ∑ r, Q r d * dS Q k v g r j
def dV (j : Fin 4352) (c : Fin 64) : ℝ := ∑ r, g r c * P Q k r j

theorem E_nonneg (r j : Fin 4352) : 0 ≤ E Q k r j := by
  unfold E; split
  · exact (Real.exp_pos _).le
  · exact le_rfl
theorem Z_pos (r : Fin 4352) : 0 < Z Q k r := by
  refine Finset.sum_pos' (fun j _ => E_nonneg Q k r j) ⟨⟨0, by omega⟩, Finset.mem_univ _, ?_⟩
  unfold E
  rw [if_pos (by simp)]
  exact Real.exp_pos _
theorem Z_ne (r : Fin 4352) : Z Q k r ≠ 0 := (Z_pos Q k r).ne'
theorem sum_P (r : Fin 4352) : ∑ j, P Q k r j = 1 := by
  unfold P; rw [← Finset.sum_div]; exact div_self (Z_ne Q k r)
/-- The row's dot product of the gradient with the output is the weighted sum of the weights' gradients. -/
theorem D_eq (r : Fin 4352) : D Q k v g r = ∑ j, dP v g r j * P Q k r j := by
  unfold D O dP
  simp only [Finset.mul_sum, Finset.sum_mul]
  rw [Finset.sum_comm]
  exact Finset.sum_congr rfl fun j _ => Finset.sum_congr rfl fun c _ => by ring
theorem sum_dS (r : Fin 4352) : ∑ j, dS Q k v g r j = 0 := by
  have h : ∀ j, dS Q k v g r j = dP v g r j * P Q k r j - D Q k v g r * P Q k r j := fun j => by unfold dS; ring
  simp only [h]
  rw [Finset.sum_sub_distrib, ← Finset.mul_sum, sum_P, ← D_eq, mul_one, sub_self]

theorem E_sees {r j : Fin 4352} (h : Sees r j) (M : ℝ) : Real.exp (S Q k r j - M) = Real.exp (-M) * E Q k r j := by
  unfold E; rw [if_pos h, sub_eq_neg_add, Real.exp_add]
theorem E_hidden {r j : Fin 4352} (h : ¬ Sees r j) : E Q k r j = 0 := if_neg h
theorem P_hidden {r j : Fin 4352} (h : ¬ Sees r j) : P Q k r j = 0 := by unfold P; rw [E_hidden Q k h, zero_div]
theorem dS_hidden {r j : Fin 4352} (h : ¬ Sees r j) : dS Q k v g r j = 0 := by unfold dS; rw [P_hidden Q k h, zero_mul]
theorem sees_ctx {r j : Fin 4352} (h : (j : ℕ) < 256) : Sees r j := fun e => e.2 h
theorem sees_lat {r j : Fin 4352} (h : ¬ (r : ℕ) < 256) : Sees r j := fun e => h e.1
theorem not_sees {r j : Fin 4352} (h : (r : ℕ) < 256) (h' : ¬ (j : ℕ) < 256) : ¬ Sees r j := fun e => e ⟨h, h'⟩
/-- The row's sum of a context row, over the context's keys. -/
theorem Z_ctx {r : Fin 4352} (h : (r : ℕ) < 256) : Z Q k r = ∑ j : Fin 256, E Q k r ⟨j, by omega⟩ :=
  sum_only_ctx _ fun j hj => E_hidden Q k (not_sees h hj)
theorem O_ctx {r : Fin 4352} (h : (r : ℕ) < 256) (c : Fin 64) : O Q k v r c = ∑ j : Fin 256, v ⟨j, by omega⟩ c * P Q k r ⟨j, by omega⟩ :=
  sum_only_ctx _ fun j hj => by rw [P_hidden Q k (not_sees h hj), mul_zero]
/-- A weight as computed from shifted exponentials. -/
theorem P_of (r j : Fin 4352) (M l e : ℝ) (hl : l = Real.exp (-M) * Z Q k r) (he : e = Real.exp (-M) * E Q k r j) : e / l = P Q k r j := by
  rw [hl, he]; exact mul_div_mul_left _ _ (Real.exp_pos _).ne'

/-- A weight is the exponential of the score less the log of the row's sum. -/
theorem P_exp (r j : Fin 4352) : P Q k r j = if Sees r j then Real.exp (S Q k r j - Real.log (Z Q k r)) else 0 := by
  unfold P E
  by_cases h : Sees r j
  · rw [if_pos h, if_pos h, Real.exp_sub, Real.exp_log (Z_pos Q k r)]
  · rw [if_neg h, if_neg h, zero_div]

/-- What the forward pass saves is the log of the row's sum, whatever real it subtracts first. -/
theorem log_Z (r : Fin 4352) (M L : ℝ) (hL : L = Real.exp (-M) * Z Q k r) : M + Real.log L = Real.log (Z Q k r) := by
  rw [hL, Real.log_mul (Real.exp_pos _).ne' (Z_ne Q k r), Real.log_exp]; ring

/-- The gradient of the softmax as differentiated: with `e` and `l` a row's shifted exponentials and their sum. -/
theorem dS_of (r j : Fin 4352) (M l e T : ℝ) (hl : l = Real.exp (-M) * Z Q k r) (he : e = Real.exp (-M) * E Q k r j)
    (hT : T = ∑ j, dP v g r j * (1 / (l * l)) * (Real.exp (-M) * E Q k r j)) : (dP v g r j / l + -T) * e = dS Q k v g r j := by
  have hz := Z_ne Q k r
  have hM := (Real.exp_pos (-M)).ne'
  have e1 : T = D Q k v g r / (Real.exp (-M) * Z Q k r) := by
    rw [hT, D_eq, Finset.sum_div, hl]
    refine Finset.sum_congr rfl fun j _ => ?_
    unfold P
    field_simp
  rw [e1, hl, he]
  unfold dS P
  field_simp
  ring

end
end Cert.Attn
end
-- ==== Proof.Finite.lean ====
module

public import proofs.«01_k».proof.Proof.Gen.Pre_finite
public import proofs.«01_k».proof.Proof.Real
public import Idealize.ShloMosaic.Lib.ReduceAll

@[expose] public section
noncomputable section
namespace Cert.Pre_finite.FB
open Cert.Pre_finite Cert.Pre_finite.Gen Idealize.ShloMosaic Idealize.SL.Sem
open Cert.Attn

/-! ## What the precondition says: every argument's every entry is a real -/

theorem top : Ideal.ofBits FTy.f32 0x7F800000#32 = (⊤ : EReal) := by
  simp [Ideal.ofBits, Ideal.ieee]

/-- A number whose absolute value is below the top one is a real. -/
theorem real_of (x : EReal) (h : Ideal.cmp .olt (max x (-x)) (Ideal.ofBits FTy.f32 0x7F800000#32) = 1#1) : ∃ r : ℝ, Is x r := by
  rw [top] at h
  have hlt : max x (-x) < ⊤ := by
    by_contra hn
    have h0 : Ideal.cmp .olt (max x (-x)) ⊤ = BitVec.ofBool (decide (max x (-x) < ⊤)) := rfl
    rw [h0, decide_eq_false hn] at h
    exact absurd h (by decide)
  obtain ⟨h1, h2⟩ := max_lt_iff.mp hlt
  refine ⟨x.toReal, (EReal.coe_toReal h1.ne ?_).symm⟩
  rintro rfl
  exact h2.ne rfl

instance : Subsingleton S_.Idx := ⟨fun a b => funext fun i => i.elim0⟩

/-- One conjunct of the precondition. -/
theorem real_all {s : Shape} (x : FVec Ideal s .f32) (axes : List (Fin s.rank)) (bd : Fin S_.rank → Fin s.rank) (hb) (hr : s.ReducesTo axes S_)
    (j : S_.Idx)
    (e : Host.reduce IntOp.andi (cmpf .olt (Host.absf x) (broadcastInDim s bd hb (constant S_ .f32 0x7F800000#32))) (constantI S_ 1 1#1) hr h_S_ j = 1#1)
    (i : s.Idx) : ∃ r : ℝ, Is (x i) r :=
  real_of (x i) (Host.reduce_andi_all _ _ hr h_S_ j e i)

theorem reals {x0 x1 : FVec Ideal S2x4352x6x96 .f32} {x2 x3 : FVec Ideal S2x4352x6x64 .f32}
    (h : fn (F := Ideal) x0 x1 x2 x3 = fun _ => 1#1) :
    (∀ i, ∃ r : ℝ, Is (x0 i) r) ∧ (∀ i, ∃ r : ℝ, Is (x1 i) r) ∧ (∀ i, ∃ r : ℝ, Is (x2 i) r) ∧ ∀ i, ∃ r : ℝ, Is (x3 i) r := by
  have h' := congrFun h (fun i => i.elim0)
  obtain ⟨h01, h23⟩ := IntOp.andi_eq_one.1 h'
  obtain ⟨h0, h1⟩ := IntOp.andi_eq_one.1 h01
  obtain ⟨h2, h3⟩ := IntOp.andi_eq_one.1 h23
  exact ⟨real_all x0 _ _ _ _ _ h0, real_all x1 _ _ _ _ _ h1, real_all x2 _ _ _ _ _ h2, real_all x3 _ _ _ _ _ h3⟩
end Cert.Pre_finite.FB
end
-- ==== Proof.Block.lean ====
module

public import proofs.«01_k».proof.Proof.Gen.KernelIdeal.Value
public import Idealize.ShloMosaic.Lib.Tactic
public import Idealize.ShloMosaic.Lib.Pointwise
public import Idealize.ShloMosaic.Lib.Pipeline.ValueKit

@[expose] public section
set_option maxRecDepth 16384
noncomputable section
namespace Cert.KernelIdeal.FB
open Cert.KernelIdeal Cert.KernelIdeal.Gen Idealize.ShloMosaic Idealize.ShloMosaic.TcCoe Idealize.SL.Sem

/-- The scores of one block: queries `x`, transposed keys `w`. -/
def SC (w : FVec Ideal S1x2x128x256 .bf16) (x : FVec Ideal S1x4352x256 .bf16) : FVec Ideal S2x4352x256 .f32 :=
  fun y => ∑ l : Fin 128, x (ix3 0 (y 1) ⟨128 * (y 0 : ℕ) + l, by have : (y 0 : ℕ) < 2 := (y 0).isLt; omega⟩) * w (ix4 0 (y 0) l (y 2))

theorem readCov_ld {S : Shape} {e : EltTy} {sig : RefSig} {κ : Kind} {sp : Space} (v : View sig κ sp S e) (L : List (View.Piece (Elt Ideal) S e)) (r : Rect S) :
    v.readCov L r.toLoadRect = View.ld (View.canon L) r := View.readCov_eq_canon' v L r.toLoadRect

theorem canon_two {S : Shape} {e : EltTy} (G : S.Idx → Elt Ideal e) (p q : View.Piece (Elt Ideal) S e)
    (hp : ∀ x : p.1.shape.Idx, p.2 x = View.ld G p.1 x) (hq : ∀ x : q.1.shape.Idx, q.2 x = View.ld G q.1 x)
    (hc : ∀ y, ∃ r ∈ [p, q], y ∈ r.1.set) : View.canon [p, q] = G :=
  funext fun y => View.canon_apply_of_pieces G [p, q]
    (by intro s hs; rcases List.mem_cons.mp hs with rfl | hs
        · exact hp
        · rcases List.mem_cons.mp hs with rfl | hs
          · exact hq
          · cases hs) y (hc y)

theorem sum_seventeen (g : Fin 17 → EReal) : ∑ j, g j = g 0 + g 1 + g 2 + g 3 + g 4 + g 5 + g 6 + g 7 + g 8 + g 9 + g 10 + g 11 + g 12 + g 13 + g 14 + g 15 + g 16 := by
  simp only [Fin.sum_univ_castSucc, Fin.sum_univ_zero, zero_add]
  rfl

/-- A sum over the 4352 rows, cut into its seventeen tiles of 256. -/
theorem sum_rows (f : Fin 4352 → EReal) : ∑ r, f r = ∑ x : Fin 256, f ⟨x, by omega⟩ + ∑ x : Fin 256, f ⟨256 + x, by omega⟩ + ∑ x : Fin 256, f ⟨512 + x, by omega⟩ + ∑ x : Fin 256, f ⟨768 + x, by omega⟩ + ∑ x : Fin 256, f ⟨1024 + x, by omega⟩ + ∑ x : Fin 256, f ⟨1280 + x, by omega⟩ + ∑ x : Fin 256, f ⟨1536 + x, by omega⟩ + ∑ x : Fin 256, f ⟨1792 + x, by omega⟩ + ∑ x : Fin 256, f ⟨2048 + x, by omega⟩ + ∑ x : Fin 256, f ⟨2304 + x, by omega⟩ + ∑ x : Fin 256, f ⟨2560 + x, by omega⟩ + ∑ x : Fin 256, f ⟨2816 + x, by omega⟩ + ∑ x : Fin 256, f ⟨3072 + x, by omega⟩ + ∑ x : Fin 256, f ⟨3328 + x, by omega⟩ + ∑ x : Fin 256, f ⟨3584 + x, by omega⟩ + ∑ x : Fin 256, f ⟨3840 + x, by omega⟩ + ∑ x : Fin 256, f ⟨4096 + x, by omega⟩ := by
  rw [Fin.sum_univ_tiles 17 256 rfl f, sum_seventeen]
  refine congrArg₂ (· + ·) ?_ rfl
  simp

/-- The weights of one block: the exponential of the scores, zero where a context row meets a key outside the context. -/
def PR (j : ℕ) (s : FVec Ideal S2x4352x256 .f32) (hh : Fin 2) (r : Fin 4352) (k : Fin 256) : EReal :=
  if (r : ℕ) < 256 then Scalar.select (Scalar.cmpi .slt (BitVec.ofNat 32 j) 1#32) (Ideal.exp (s (ix3 hh r k))) 0
  else Ideal.exp (s (ix3 hh r k))

theorem PR_lo (j : ℕ) (s : FVec Ideal S2x4352x256 .f32) (hh : Fin 2) (r : Fin 4352) (k : Fin 256) (h : (r : ℕ) < 256) :
    PR j s hh r k = Scalar.select (Scalar.cmpi .slt (BitVec.ofNat 32 j) 1#32) (Ideal.exp (s (ix3 hh r k))) 0 := if_pos h

theorem PR_hi (j : ℕ) (s : FVec Ideal S2x4352x256 .f32) (hh : Fin 2) (r : Fin 4352) (k : Fin 256) (h : ¬ (r : ℕ) < 256) :
    PR j s hh r k = Ideal.exp (s (ix3 hh r k)) := if_neg h

/-- The scaled weights of one block: each weight times what its product with the values' side gives. -/
def DS (j : ℕ) (s p : FVec Ideal S2x4352x256 .f32) : FVec Ideal S2x4352x256 .bf16 := fun y =>
  PR j s (y 0) (y 1) (y 2) * p y

/-- The gradient of a value row: the weighted sum of the incoming gradient's rows. -/
def DV (j : ℕ) (s : FVec Ideal S2x4352x256 .f32) (g : FVec Ideal S1x2x128x4352 .bf16) (hh : Fin 2) (d : Fin 128) (k : Fin 256) : EReal :=
  ∑ r : Fin 4352, g (ix4 0 hh d r) * PR j s hh r k

/-- The gradient of a key row: the queries' rows summed with the scaled weights. -/
def DK (j : ℕ) (s p : FVec Ideal S2x4352x256 .f32) (g : FVec Ideal S1x2x128x4352 .bf16) (hh : Fin 2) (d : Fin 128) (k : Fin 256) : EReal :=
  ∑ r : Fin 4352, g (ix4 0 hh d r) * DS j s p (ix3 hh r k)

/-- One block's part of the gradient of a query row: the keys' rows summed with the scaled weights. -/
def DQ (j : ℕ) (s p : FVec Ideal S2x4352x256 .f32) (w : FVec Ideal S1x256x256 .bf16) (hh : Fin 2) (r : Fin 4352) (d : Fin 128) : EReal :=
  ∑ k : Fin 256, DS j s p (ix3 hh r k) * w (ix3 0 k ⟨128 * (hh : ℕ) + d, by omega⟩)

section CaseA

variable (c : Dev nD) (i : grid0.Coords) (arg3 : Memref sig .tc .vmem S1x256x256 .bf16) (harg3 : arg3.IsWhole) (arg4 : Memref sig .tc .vmem S1x2x128x256 .bf16) (harg4 : arg4.IsWhole) (arg5 : Memref sig .tc .vmem S1x2x128x256 .bf16) (harg5 : arg5.IsWhole) (arg6 : Memref sig .tc .vmem S1x4352x256 .bf16) (harg6 : arg6.IsWhole) (arg7 : Memref sig .tc .vmem S1x4352x256 .bf16) (harg7 : arg7.IsWhole) (arg8 : Memref sig .tc .vmem S1x2x128x4352 .bf16) (harg8 : arg8.IsWhole) (arg9 : Memref sig .tc .vmem S1x2x128x4352 .bf16) (harg9 : arg9.IsWhole) (arg10 : Memref sig .tc .vmem S1x4352x256 .f32) (harg10 : arg10.IsWhole) (arg11 : Memref sig .tc .vmem S1x256x256 .f32) (harg11 : arg11.IsWhole) (arg12 : Memref sig .tc .vmem S1x256x256 .f32) (harg12 : arg12.IsWhole) (arg13 : Memref sig .tc .vmem S2x4352x256 .f32) (harg13 : arg13.IsWhole) (arg14 : Memref sig .tc .vmem S2x4352x256 .f32) (harg14 : arg14.IsWhole) (arg15 : Memref sig .tc .vmem S2x4352x256 .bf16) (harg15 : arg15.IsWhole) (hc0 : cond0_0 i) (hc1 : ¬cond0_1 i) (hc2 : cond0_2 i) (hc3 : ¬cond0_3 i)
    (x0 : Vec Ideal S1x256x256 .bf16) (x1 : Vec Ideal S1x2x128x256 .bf16) (x2 : Vec Ideal S1x2x128x256 .bf16) (x3 : Vec Ideal S1x4352x256 .bf16) (x4 : Vec Ideal S1x4352x256 .bf16) (x5 : Vec Ideal S1x2x128x4352 .bf16) (x6 : Vec Ideal S1x2x128x4352 .bf16)

theorem dv_A (y : S1x256x256.Idx) (hh : Fin 2) (d : Fin 128) (k : Fin 256) (e1 : (y 1 : ℕ) = k) (e2 : (y 2 : ℕ) = 128 * hh + d) :
    out0_A_9 (F := Ideal) c i arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 y = DV (i 2) (SC x1 x3) x6 hh d k := by
  frame_out
  simp only [readCov_ld]
  rw [canon_two (S := S2x4352x256) (e := .f32) (SC x1 x3) _ _ ?hp ?hq ?hc]
  case hp =>
    intro x
    dsimp only
    pointwise [k0_pay7, k0_pay5, k0_pay6, SC]
  case hq =>
    intro x
    dsimp only
    pointwise [k0_pay3, SC]
  case hc => exact View.cover_of_tiledL _ S1x4352x256.size (by sl_kernel_rfl)
  canon_tiles x h
  all_goals
    open_payloads
    idx_vars x
    obtain rfl : k = x1 := Fin.ext (by omega)
    obtain rfl : d = x2 := Fin.ext (by omega)
  · obtain rfl : hh = 1 := Fin.ext (by simp only [Fin.val_one]; omega)
    pointwise [DV]
    rw [sum_rows]
    simp (disch := (simp only; omega)) only [PR_lo, PR_hi]
    pointwise
  · obtain rfl : hh = 0 := Fin.ext (by simp only [Fin.val_zero]; omega)
    pointwise [DV]
    rw [sum_rows]
    simp (disch := (simp only; omega)) only [PR_lo, PR_hi]
    pointwise

theorem dk_A (y : S1x256x256.Idx) (hh : Fin 2) (d : Fin 128) (k : Fin 256) (e1 : (y 1 : ℕ) = k) (e2 : (y 2 : ℕ) = 128 * hh + d) :
    out0_A_8 (F := Ideal) c i arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 y = DK (i 2) (SC x1 x3) (SC x2 x4) x5 hh d k := by
  frame_out
  simp only [readCov_ld]
  rw [canon_two (S := S2x4352x256) (e := .f32) (SC x1 x3) _ _ ?hp ?hq ?hc]
  case hp =>
    intro x
    dsimp only
    pointwise [k0_pay7, k0_pay5, k0_pay6, SC]
  case hq =>
    intro x
    dsimp only
    pointwise [k0_pay3, SC]
  case hc => exact View.cover_of_tiledL _ S1x4352x256.size (by sl_kernel_rfl)
  rw [canon_two (S := S2x4352x256) (e := .f32) (SC x2 x4) _ _ ?hp ?hq ?hc]
  case hp =>
    intro x
    dsimp only
    open_payloads
    pointwise [SC]
  case hq =>
    intro x
    dsimp only
    open_payloads
    pointwise [SC]
  case hc => exact View.cover_of_tiledL _ S1x4352x256.size (by sl_kernel_rfl)
  canon_tiles x h
  all_goals
    open_payloads
    idx_vars x
    obtain rfl : k = x1 := Fin.ext (by omega)
    obtain rfl : d = x2 := Fin.ext (by omega)
  · obtain rfl : hh = 1 := Fin.ext (by simp only [Fin.val_one]; omega)
    pointwise [DK, DS]
    rw [sum_rows]
    simp (disch := (simp only; omega)) only [PR_lo, PR_hi]
    pointwise
  · obtain rfl : hh = 0 := Fin.ext (by simp only [Fin.val_zero]; omega)
    pointwise [DK, DS]
    rw [sum_rows]
    simp (disch := (simp only; omega)) only [PR_lo, PR_hi]
    pointwise

end CaseA

section CaseB

variable (c : Dev nD) (i : grid0.Coords) (arg3 : Memref sig .tc .vmem S1x256x256 .bf16) (harg3 : arg3.IsWhole) (arg4 : Memref sig .tc .vmem S1x2x128x256 .bf16) (harg4 : arg4.IsWhole) (arg5 : Memref sig .tc .vmem S1x2x128x256 .bf16) (harg5 : arg5.IsWhole) (arg6 : Memref sig .tc .vmem S1x4352x256 .bf16) (harg6 : arg6.IsWhole) (arg7 : Memref sig .tc .vmem S1x4352x256 .bf16) (harg7 : arg7.IsWhole) (arg8 : Memref sig .tc .vmem S1x2x128x4352 .bf16) (harg8 : arg8.IsWhole) (arg9 : Memref sig .tc .vmem S1x2x128x4352 .bf16) (harg9 : arg9.IsWhole) (arg10 : Memref sig .tc .vmem S1x4352x256 .f32) (harg10 : arg10.IsWhole) (arg11 : Memref sig .tc .vmem S1x256x256 .f32) (harg11 : arg11.IsWhole) (arg12 : Memref sig .tc .vmem S1x256x256 .f32) (harg12 : arg12.IsWhole) (arg13 : Memref sig .tc .vmem S2x4352x256 .f32) (harg13 : arg13.IsWhole) (arg14 : Memref sig .tc .vmem S2x4352x256 .f32) (harg14 : arg14.IsWhole) (arg15 : Memref sig .tc .vmem S2x4352x256 .bf16) (harg15 : arg15.IsWhole) (hc0 : ¬cond0_0 i) (hc1 : cond0_1 i) (hc2 : ¬cond0_2 i) (hc3 : cond0_3 i)
    (x0 : Vec Ideal S1x256x256 .bf16) (x1 : Vec Ideal S1x2x128x256 .bf16) (x2 : Vec Ideal S1x2x128x256 .bf16) (x3 : Vec Ideal S1x4352x256 .bf16) (x4 : Vec Ideal S1x4352x256 .bf16) (x5 : Vec Ideal S1x2x128x4352 .bf16) (x6 : Vec Ideal S1x2x128x4352 .bf16) (xo7 : Vec Ideal S1x4352x256 .f32)

theorem dv_B (y : S1x256x256.Idx) (hh : Fin 2) (d : Fin 128) (k : Fin 256) (e1 : (y 1 : ℕ) = k) (e2 : (y 2 : ℕ) = 128 * hh + d) :
    out0_B_9 (F := Ideal) c i arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xo7 y = DV (i 2) (SC x1 x3) x6 hh d k := by
  frame_out
  simp only [readCov_ld]
  rw [canon_two (S := S2x4352x256) (e := .f32) (SC x1 x3) _ _ ?hp ?hq ?hc]
  case hp =>
    intro x
    dsimp only
    pointwise [k0_pay7, k0_pay5, k0_pay6, SC]
  case hq =>
    intro x
    dsimp only
    pointwise [k0_pay3, SC]
  case hc => exact View.cover_of_tiledL _ S1x4352x256.size (by sl_kernel_rfl)
  canon_tiles x h
  all_goals
    open_payloads
    idx_vars x
    obtain rfl : k = x1 := Fin.ext (by omega)
    obtain rfl : d = x2 := Fin.ext (by omega)
  · obtain rfl : hh = 1 := Fin.ext (by simp only [Fin.val_one]; omega)
    pointwise [DV]
    rw [sum_rows]
    simp (disch := (simp only; omega)) only [PR_lo, PR_hi]
    pointwise
  · obtain rfl : hh = 0 := Fin.ext (by simp only [Fin.val_zero]; omega)
    pointwise [DV]
    rw [sum_rows]
    simp (disch := (simp only; omega)) only [PR_lo, PR_hi]
    pointwise

theorem dk_B (y : S1x256x256.Idx) (hh : Fin 2) (d : Fin 128) (k : Fin 256) (e1 : (y 1 : ℕ) = k) (e2 : (y 2 : ℕ) = 128 * hh + d) :
    out0_B_8 (F := Ideal) c i arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xo7 y = DK (i 2) (SC x1 x3) (SC x2 x4) x5 hh d k := by
  frame_out
  simp only [readCov_ld]
  rw [canon_two (S := S2x4352x256) (e := .f32) (SC x1 x3) _ _ ?hp ?hq ?hc]
  case hp =>
    intro x
    dsimp only
    pointwise [k0_pay7, k0_pay5, k0_pay6, SC]
  case hq =>
    intro x
    dsimp only
    pointwise [k0_pay3, SC]
  case hc => exact View.cover_of_tiledL _ S1x4352x256.size (by sl_kernel_rfl)
  rw [canon_two (S := S2x4352x256) (e := .f32) (SC x2 x4) _ _ ?hp ?hq ?hc]
  case hp =>
    intro x
    dsimp only
    open_payloads
    pointwise [SC]
  case hq =>
    intro x
    dsimp only
    open_payloads
    pointwise [SC]
  case hc => exact View.cover_of_tiledL _ S1x4352x256.size (by sl_kernel_rfl)
  canon_tiles x h
  all_goals
    open_payloads
    idx_vars x
    obtain rfl : k = x1 := Fin.ext (by omega)
    obtain rfl : d = x2 := Fin.ext (by omega)
  · obtain rfl : hh = 1 := Fin.ext (by simp only [Fin.val_one]; omega)
    pointwise [DK, DS]
    rw [sum_rows]
    simp (disch := (simp only; omega)) only [PR_lo, PR_hi]
    pointwise
  · obtain rfl : hh = 0 := Fin.ext (by simp only [Fin.val_zero]; omega)
    pointwise [DK, DS]
    rw [sum_rows]
    simp (disch := (simp only; omega)) only [PR_lo, PR_hi]
    pointwise

end CaseB

end Cert.KernelIdeal.FB
end
-- ==== Proof.BlockQ.lean ====
module

public import proofs.«01_k».proof.Proof.Block
public import Idealize.ShloMosaic.Lib.Tactic
public import Idealize.ShloMosaic.Lib.Pointwise
public import Idealize.ShloMosaic.Lib.Pipeline.ValueKit

@[expose] public section
set_option maxRecDepth 16384
noncomputable section
namespace Cert.KernelIdeal.FB
open Cert.KernelIdeal Cert.KernelIdeal.Gen Idealize.ShloMosaic Idealize.ShloMosaic.TcCoe Idealize.SL.Sem

theorem ld_canon {S : Shape} {e : EltTy} (G : S.Idx → Elt Ideal e) (L : List (View.Piece (Elt Ideal) S e)) (r : Rect S)
    (hp : ∀ p ∈ L, ∀ x : p.1.shape.Idx, p.2 x = View.ld G p.1 x) (hc : ∀ x : r.shape.Idx, ∃ p ∈ L, r.idx x ∈ p.1.set) :
    View.ld (View.canon L) r = View.ld G r :=
  funext fun x => View.canon_apply_of_pieces G L hp (r.idx x) (hc x)

/-- Pieces that hold the seventeen row tiles of one head cover that head. -/
theorem cover_rows (L : List (View.Piece (Elt Ideal) S2x4352x256 .bf16)) (q : ℕ)
    (h : decide (∀ i : Fin 17, ∃ p ∈ L, (∀ a, p.1.off a = ![q, 256 * (i : ℕ), 0] a) ∧ (∀ a, p.1.size a = ![1, 256, 256] a)
      ∧ ∀ a, p.1.stride a = 1) = true) (y : S2x4352x256.Idx) (hy : (y 0 : ℕ) = q) : ∃ p ∈ L, y ∈ p.1.set := by
  have h1 : (y 1 : ℕ) < 4352 := (y 1).isLt
  have h2 : (y 2 : ℕ) < 256 := (y 2).isLt
  obtain ⟨p, hp, ho, hs, ht⟩ := of_decide_eq_true h ⟨(y 1 : ℕ) / 256, by omega⟩
  refine ⟨p, hp, p.1.mem_set.mpr fun a => ?_⟩
  rw [hs, ho, ht]
  refine (show ∀ a : Fin 3, ∃ k, k < (![1, 256, 256] : Fin 3 → ℕ) a ∧ (y a : ℕ) = (![q, 256 * ((y 1 : ℕ) / 256), 0] : Fin 3 → ℕ) a + 1 * k from ?_) a
  intro a
  fin_cases a
  · exact ⟨0, by simp, by simpa using hy⟩
  · exact ⟨(y 1 : ℕ) % 256, by simp; omega, by simp; omega⟩
  · exact ⟨(y 2 : ℕ), by simpa using h2, by simp⟩

section CaseA

variable (c : Dev nD) (i : grid0.Coords) (arg3 : Memref sig .tc .vmem S1x256x256 .bf16) (harg3 : arg3.IsWhole) (arg4 : Memref sig .tc .vmem S1x2x128x256 .bf16) (harg4 : arg4.IsWhole) (arg5 : Memref sig .tc .vmem S1x2x128x256 .bf16) (harg5 : arg5.IsWhole) (arg6 : Memref sig .tc .vmem S1x4352x256 .bf16) (harg6 : arg6.IsWhole) (arg7 : Memref sig .tc .vmem S1x4352x256 .bf16) (harg7 : arg7.IsWhole) (arg8 : Memref sig .tc .vmem S1x2x128x4352 .bf16) (harg8 : arg8.IsWhole) (arg9 : Memref sig .tc .vmem S1x2x128x4352 .bf16) (harg9 : arg9.IsWhole) (arg10 : Memref sig .tc .vmem S1x4352x256 .f32) (harg10 : arg10.IsWhole) (arg11 : Memref sig .tc .vmem S1x256x256 .f32) (harg11 : arg11.IsWhole) (arg12 : Memref sig .tc .vmem S1x256x256 .f32) (harg12 : arg12.IsWhole) (arg13 : Memref sig .tc .vmem S2x4352x256 .f32) (harg13 : arg13.IsWhole) (arg14 : Memref sig .tc .vmem S2x4352x256 .f32) (harg14 : arg14.IsWhole) (arg15 : Memref sig .tc .vmem S2x4352x256 .bf16) (harg15 : arg15.IsWhole) (hc0 : cond0_0 i) (hc1 : ¬cond0_1 i) (hc2 : cond0_2 i) (hc3 : ¬cond0_3 i)
    (x0 : Vec Ideal S1x256x256 .bf16) (x1 : Vec Ideal S1x2x128x256 .bf16) (x2 : Vec Ideal S1x2x128x256 .bf16) (x3 : Vec Ideal S1x4352x256 .bf16) (x4 : Vec Ideal S1x4352x256 .bf16) (x5 : Vec Ideal S1x2x128x4352 .bf16) (x6 : Vec Ideal S1x2x128x4352 .bf16)

theorem dq_A (y : S1x4352x256.Idx) (hh : Fin 2) (d : Fin 128) (r : Fin 4352) (e1 : (y 1 : ℕ) = r) (e2 : (y 2 : ℕ) = 128 * hh + d) :
    out0_A_7 (F := Ideal) c i arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 y = DQ (i 2) (SC x1 x3) (SC x2 x4) x0 hh r d := by
  frame_out
  simp only [readCov_ld]
  rw [canon_two (S := S2x4352x256) (e := .f32) (SC x1 x3) _ _ ?hp ?hq ?hc]
  case hp =>
    intro x
    dsimp only
    pointwise [k0_pay7, k0_pay5, k0_pay6, SC]
  case hq =>
    intro x
    dsimp only
    pointwise [k0_pay3, SC]
  case hc => exact View.cover_of_tiledL _ S1x4352x256.size (by sl_kernel_rfl)
  rw [canon_two (S := S2x4352x256) (e := .f32) (SC x2 x4) _ _ ?hp ?hq ?hc]
  case hp =>
    intro x
    dsimp only
    open_payloads
    pointwise [SC]
  case hq =>
    intro x
    dsimp only
    open_payloads
    pointwise [SC]
  case hc => exact View.cover_of_tiledL _ S1x4352x256.size (by sl_kernel_rfl)
  rw [ld_canon (S := S2x4352x256) (e := .bf16) (DS (i 2) (SC x1 x3) (SC x2 x4)) _ _ ?hp ?hc]
  case hc => exact fun x => cover_rows _ 1 (by sl_kernel_rfl) _ (by simp)
  case hp =>
    repeat' (first | exact List.forall_mem_nil _ | refine List.forall_mem_cons.2 ⟨?_, ?_⟩)
    all_goals
      intro (x : S1x256x256.Idx)
      dsimp only
      idx_vars x
      open_payloads
      pointwise [DS]
      simp (disch := (simp only; omega)) only [PR_lo, PR_hi]
      try pointwise
  rw [ld_canon (S := S2x4352x256) (e := .bf16) (DS (i 2) (SC x1 x3) (SC x2 x4)) _ _ ?hp ?hc]
  case hc => exact fun x => cover_rows _ 0 (by sl_kernel_rfl) _ (by simp)
  case hp =>
    repeat' (first | exact List.forall_mem_nil _ | refine List.forall_mem_cons.2 ⟨?_, ?_⟩)
    all_goals
      intro (x : S1x256x256.Idx)
      dsimp only
      idx_vars x
      open_payloads
      pointwise [DS]
      simp (disch := (simp only; omega)) only [PR_lo, PR_hi]
      try pointwise
  canon_tiles x h
  all_goals
    open_payloads
    idx_vars x
    obtain rfl : r = x1 := Fin.ext (by omega)
    obtain rfl : d = x2 := Fin.ext (by omega)
  · obtain rfl : hh = 1 := Fin.ext (by simp only [Fin.val_one]; omega)
    pointwise [DQ]

  · obtain rfl : hh = 0 := Fin.ext (by simp only [Fin.val_zero]; omega)
    pointwise [DQ]

end CaseA

section CaseB

variable (c : Dev nD) (i : grid0.Coords) (arg3 : Memref sig .tc .vmem S1x256x256 .bf16) (harg3 : arg3.IsWhole) (arg4 : Memref sig .tc .vmem S1x2x128x256 .bf16) (harg4 : arg4.IsWhole) (arg5 : Memref sig .tc .vmem S1x2x128x256 .bf16) (harg5 : arg5.IsWhole) (arg6 : Memref sig .tc .vmem S1x4352x256 .bf16) (harg6 : arg6.IsWhole) (arg7 : Memref sig .tc .vmem S1x4352x256 .bf16) (harg7 : arg7.IsWhole) (arg8 : Memref sig .tc .vmem S1x2x128x4352 .bf16) (harg8 : arg8.IsWhole) (arg9 : Memref sig .tc .vmem S1x2x128x4352 .bf16) (harg9 : arg9.IsWhole) (arg10 : Memref sig .tc .vmem S1x4352x256 .f32) (harg10 : arg10.IsWhole) (arg11 : Memref sig .tc .vmem S1x256x256 .f32) (harg11 : arg11.IsWhole) (arg12 : Memref sig .tc .vmem S1x256x256 .f32) (harg12 : arg12.IsWhole) (arg13 : Memref sig .tc .vmem S2x4352x256 .f32) (harg13 : arg13.IsWhole) (arg14 : Memref sig .tc .vmem S2x4352x256 .f32) (harg14 : arg14.IsWhole) (arg15 : Memref sig .tc .vmem S2x4352x256 .bf16) (harg15 : arg15.IsWhole) (hc0 : ¬cond0_0 i) (hc1 : cond0_1 i) (hc2 : ¬cond0_2 i) (hc3 : cond0_3 i)
    (x0 : Vec Ideal S1x256x256 .bf16) (x1 : Vec Ideal S1x2x128x256 .bf16) (x2 : Vec Ideal S1x2x128x256 .bf16) (x3 : Vec Ideal S1x4352x256 .bf16) (x4 : Vec Ideal S1x4352x256 .bf16) (x5 : Vec Ideal S1x2x128x4352 .bf16) (x6 : Vec Ideal S1x2x128x4352 .bf16) (xo7 : Vec Ideal S1x4352x256 .f32)

theorem dq_B (y : S1x4352x256.Idx) (hh : Fin 2) (d : Fin 128) (r : Fin 4352) (e1 : (y 1 : ℕ) = r) (e2 : (y 2 : ℕ) = 128 * hh + d) :
    out0_B_7 (F := Ideal) c i arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xo7 y = xo7 (ix3 0 r ⟨128 * (hh : ℕ) + d, by omega⟩) + DQ (i 2) (SC x1 x3) (SC x2 x4) x0 hh r d := by
  frame_out
  simp only [readCov_ld]
  rw [canon_two (S := S2x4352x256) (e := .f32) (SC x1 x3) _ _ ?hp ?hq ?hc]
  case hp =>
    intro x
    dsimp only
    pointwise [k0_pay7, k0_pay5, k0_pay6, SC]
  case hq =>
    intro x
    dsimp only
    pointwise [k0_pay3, SC]
  case hc => exact View.cover_of_tiledL _ S1x4352x256.size (by sl_kernel_rfl)
  rw [canon_two (S := S2x4352x256) (e := .f32) (SC x2 x4) _ _ ?hp ?hq ?hc]
  case hp =>
    intro x
    dsimp only
    open_payloads
    pointwise [SC]
  case hq =>
    intro x
    dsimp only
    open_payloads
    pointwise [SC]
  case hc => exact View.cover_of_tiledL _ S1x4352x256.size (by sl_kernel_rfl)
  rw [ld_canon (S := S2x4352x256) (e := .bf16) (DS (i 2) (SC x1 x3) (SC x2 x4)) _ _ ?hp ?hc]
  case hc => exact fun x => cover_rows _ 1 (by sl_kernel_rfl) _ (by simp)
  case hp =>
    repeat' (first | exact List.forall_mem_nil _ | refine List.forall_mem_cons.2 ⟨?_, ?_⟩)
    all_goals
      intro (x : S1x256x256.Idx)
      dsimp only
      idx_vars x
      open_payloads
      pointwise [DS]
      simp (disch := (simp only; omega)) only [PR_lo, PR_hi]
      try pointwise
  rw [ld_canon (S := S2x4352x256) (e := .bf16) (DS (i 2) (SC x1 x3) (SC x2 x4)) _ _ ?hp ?hc]
  case hc => exact fun x => cover_rows _ 0 (by sl_kernel_rfl) _ (by simp)
  case hp =>
    repeat' (first | exact List.forall_mem_nil _ | refine List.forall_mem_cons.2 ⟨?_, ?_⟩)
    all_goals
      intro (x : S1x256x256.Idx)
      dsimp only
      idx_vars x
      open_payloads
      pointwise [DS]
      simp (disch := (simp only; omega)) only [PR_lo, PR_hi]
      try pointwise
  canon_tiles x h
  all_goals
    open_payloads
    idx_vars x
    obtain rfl : r = x1 := Fin.ext (by omega)
    obtain rfl : d = x2 := Fin.ext (by omega)
  · obtain rfl : hh = 1 := Fin.ext (by simp only [Fin.val_one]; omega)
    pointwise [DQ]

  · obtain rfl : hh = 0 := Fin.ext (by simp only [Fin.val_zero]; omega)
    pointwise [DQ]

end CaseB

end Cert.KernelIdeal.FB
end
-- ==== Proof.Array.lean ====
module

public import proofs.«01_k».proof.Proof.BlockQ

@[expose] public section
set_option maxRecDepth 16384
noncomputable section
namespace Cert.KernelIdeal.FB
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Which block of each array a grid point works on. -/
theorem idx : ∀ t : Fin cfg0.N,
    win0_0.index t = ![t.val / 51, t.val % 17, t.val / 17 % 3] ∧ win0_1.index t = ![t.val / 51, t.val / 17 % 3, 0, t.val % 17]
    ∧ win0_2.index t = ![t.val / 51, t.val / 17 % 3, 0, t.val % 17] ∧ win0_3.index t = ![t.val / 51, 0, t.val / 17 % 3]
    ∧ win0_4.index t = ![t.val / 51, 0, t.val / 17 % 3] ∧ win0_5.index t = ![t.val / 51, t.val / 17 % 3, 0, 0]
    ∧ win0_6.index t = ![t.val / 51, t.val / 17 % 3, 0, 0] ∧ win0_7.index t = ![t.val / 51, 0, t.val / 17 % 3]
    ∧ win0_8.index t = ![t.val / 51, t.val % 17, t.val / 17 % 3] ∧ win0_9.index t = ![t.val / 51, t.val % 17, t.val / 17 % 3]
    ∧ ((grid0.coords t) 2 : ℕ) = t.val % 17 :=
  (by decide +kernel : ∀ t : Fin grid0.N, _)

theorem lt_N (t : Fin cfg0.N) : t.val < 102 := t.isLt

/-! The seven operand arrays as the region finds them. -/

@[irreducible] def opKf (c : Dev nD) : FVec Ideal S2x4352x768 .bf16 := V m c (Pipeline.arrRef spec0 0)
@[irreducible] def opKT (c : Dev nD) : FVec Ideal S2x6x128x4352 .bf16 := V m c (Pipeline.arrRef spec0 1)
@[irreducible] def opVT (c : Dev nD) : FVec Ideal S2x6x128x4352 .bf16 := V m c (Pipeline.arrRef spec0 2)
@[irreducible] def opQS (c : Dev nD) : FVec Ideal S2x4352x768 .bf16 := V m c (Pipeline.arrRef spec0 3)
@[irreducible] def opDOS (c : Dev nD) : FVec Ideal S2x4352x768 .bf16 := V m c (Pipeline.arrRef spec0 4)
@[irreducible] def opQT (c : Dev nD) : FVec Ideal S2x6x128x4352 .bf16 := V m c (Pipeline.arrRef spec0 5)
@[irreducible] def opDOT (c : Dev nD) : FVec Ideal S2x6x128x4352 .bf16 := V m c (Pipeline.arrRef spec0 6)

/-! Where an entry of a block lies in its array. -/

theorem emb0 (t : Fin cfg0.N) (k e : Fin 256) : ((cfg0.win 0).blk t).view.emb (ix3 0 k e : S1x256x256.Idx) = (ix3 ⟨t.val / 51, by have := lt_N t; omega⟩ ⟨256 * (t.val % 17) + k, by omega⟩ ⟨256 * (t.val / 17 % 3) + e, by omega⟩ : S2x4352x768.Idx) := by
  have h := (idx t).1
  funext a
  apply Fin.ext
  match a with
  | ⟨0, _⟩ => show win0_0.index t 0 * 1 + 1 * 0 = t.val / 51; rw [h]; simp
  | ⟨1, _⟩ => show win0_0.index t 1 * 256 + 1 * k.val = 256 * (t.val % 17) + k.val; rw [h]; simp; try omega
  | ⟨2, _⟩ => show win0_0.index t 2 * 256 + 1 * e.val = 256 * (t.val / 17 % 3) + e.val; rw [h]; simp; try omega
theorem blk0 (c : Dev nD) (t : Fin cfg0.N) (k e : Fin 256) : iblk m c 0 t (ix3 0 k e : S1x256x256.Idx) = opKf m c (ix3 ⟨t.val / 51, by have := lt_N t; omega⟩ ⟨256 * (t.val % 17) + k, by omega⟩ ⟨256 * (t.val / 17 % 3) + e, by omega⟩) := by
  have read : ∀ (X : FVec Ideal S2x4352x768 .bf16) i j, ((cfg0.win 0).blk t).view.emb i = j → ((cfg0.win 0).blk t).view.read (Elt Ideal) X i = X j := by
    intro X i j h
    subst h
    rfl
  unfold iblk opKf
  exact read _ _ _ (emb0 t k e)
theorem emb1 (t : Fin cfg0.N) (hh : Fin 2) (l : Fin 128) (k : Fin 256) : ((cfg0.win 1).blk t).view.emb (ix4 0 hh l k : S1x2x128x256.Idx) = (ix4 ⟨t.val / 51, by have := lt_N t; omega⟩ ⟨2 * (t.val / 17 % 3) + hh, by omega⟩ l ⟨256 * (t.val % 17) + k, by omega⟩ : S2x6x128x4352.Idx) := by
  have h := (idx t).2.1
  funext a
  apply Fin.ext
  match a with
  | ⟨0, _⟩ => show win0_1.index t 0 * 1 + 1 * 0 = t.val / 51; rw [h]; simp
  | ⟨1, _⟩ => show win0_1.index t 1 * 2 + 1 * hh.val = 2 * (t.val / 17 % 3) + hh.val; rw [h]; simp; try omega
  | ⟨2, _⟩ => show win0_1.index t 2 * 128 + 1 * l.val = l.val; rw [h]; simp; try omega
  | ⟨3, _⟩ => show win0_1.index t 3 * 256 + 1 * k.val = 256 * (t.val % 17) + k.val; rw [h]; simp; try omega
theorem blk1 (c : Dev nD) (t : Fin cfg0.N) (hh : Fin 2) (l : Fin 128) (k : Fin 256) : iblk m c 1 t (ix4 0 hh l k : S1x2x128x256.Idx) = opKT m c (ix4 ⟨t.val / 51, by have := lt_N t; omega⟩ ⟨2 * (t.val / 17 % 3) + hh, by omega⟩ l ⟨256 * (t.val % 17) + k, by omega⟩) := by
  have read : ∀ (X : FVec Ideal S2x6x128x4352 .bf16) i j, ((cfg0.win 1).blk t).view.emb i = j → ((cfg0.win 1).blk t).view.read (Elt Ideal) X i = X j := by
    intro X i j h
    subst h
    rfl
  unfold iblk opKT
  exact read _ _ _ (emb1 t hh l k)
theorem emb2 (t : Fin cfg0.N) (hh : Fin 2) (l : Fin 128) (k : Fin 256) : ((cfg0.win 2).blk t).view.emb (ix4 0 hh l k : S1x2x128x256.Idx) = (ix4 ⟨t.val / 51, by have := lt_N t; omega⟩ ⟨2 * (t.val / 17 % 3) + hh, by omega⟩ l ⟨256 * (t.val % 17) + k, by omega⟩ : S2x6x128x4352.Idx) := by
  have h := (idx t).2.2.1
  funext a
  apply Fin.ext
  match a with
  | ⟨0, _⟩ => show win0_2.index t 0 * 1 + 1 * 0 = t.val / 51; rw [h]; simp
  | ⟨1, _⟩ => show win0_2.index t 1 * 2 + 1 * hh.val = 2 * (t.val / 17 % 3) + hh.val; rw [h]; simp; try omega
  | ⟨2, _⟩ => show win0_2.index t 2 * 128 + 1 * l.val = l.val; rw [h]; simp; try omega
  | ⟨3, _⟩ => show win0_2.index t 3 * 256 + 1 * k.val = 256 * (t.val % 17) + k.val; rw [h]; simp; try omega
theorem blk2 (c : Dev nD) (t : Fin cfg0.N) (hh : Fin 2) (l : Fin 128) (k : Fin 256) : iblk m c 2 t (ix4 0 hh l k : S1x2x128x256.Idx) = opVT m c (ix4 ⟨t.val / 51, by have := lt_N t; omega⟩ ⟨2 * (t.val / 17 % 3) + hh, by omega⟩ l ⟨256 * (t.val % 17) + k, by omega⟩) := by
  have read : ∀ (X : FVec Ideal S2x6x128x4352 .bf16) i j, ((cfg0.win 2).blk t).view.emb i = j → ((cfg0.win 2).blk t).view.read (Elt Ideal) X i = X j := by
    intro X i j h
    subst h
    rfl
  unfold iblk opVT
  exact read _ _ _ (emb2 t hh l k)
theorem emb3 (t : Fin cfg0.N) (r : Fin 4352) (e : Fin 256) : ((cfg0.win 3).blk t).view.emb (ix3 0 r e : S1x4352x256.Idx) = (ix3 ⟨t.val / 51, by have := lt_N t; omega⟩ r ⟨256 * (t.val / 17 % 3) + e, by omega⟩ : S2x4352x768.Idx) := by
  have h := (idx t).2.2.2.1
  funext a
  apply Fin.ext
  match a with
  | ⟨0, _⟩ => show win0_3.index t 0 * 1 + 1 * 0 = t.val / 51; rw [h]; simp
  | ⟨1, _⟩ => show win0_3.index t 1 * 4352 + 1 * r.val = r.val; rw [h]; simp; try omega
  | ⟨2, _⟩ => show win0_3.index t 2 * 256 + 1 * e.val = 256 * (t.val / 17 % 3) + e.val; rw [h]; simp; try omega
theorem blk3 (c : Dev nD) (t : Fin cfg0.N) (r : Fin 4352) (e : Fin 256) : iblk m c 3 t (ix3 0 r e : S1x4352x256.Idx) = opQS m c (ix3 ⟨t.val / 51, by have := lt_N t; omega⟩ r ⟨256 * (t.val / 17 % 3) + e, by omega⟩) := by
  have read : ∀ (X : FVec Ideal S2x4352x768 .bf16) i j, ((cfg0.win 3).blk t).view.emb i = j → ((cfg0.win 3).blk t).view.read (Elt Ideal) X i = X j := by
    intro X i j h
    subst h
    rfl
  unfold iblk opQS
  exact read _ _ _ (emb3 t r e)
theorem emb4 (t : Fin cfg0.N) (r : Fin 4352) (e : Fin 256) : ((cfg0.win 4).blk t).view.emb (ix3 0 r e : S1x4352x256.Idx) = (ix3 ⟨t.val / 51, by have := lt_N t; omega⟩ r ⟨256 * (t.val / 17 % 3) + e, by omega⟩ : S2x4352x768.Idx) := by
  have h := (idx t).2.2.2.2.1
  funext a
  apply Fin.ext
  match a with
  | ⟨0, _⟩ => show win0_4.index t 0 * 1 + 1 * 0 = t.val / 51; rw [h]; simp
  | ⟨1, _⟩ => show win0_4.index t 1 * 4352 + 1 * r.val = r.val; rw [h]; simp; try omega
  | ⟨2, _⟩ => show win0_4.index t 2 * 256 + 1 * e.val = 256 * (t.val / 17 % 3) + e.val; rw [h]; simp; try omega
theorem blk4 (c : Dev nD) (t : Fin cfg0.N) (r : Fin 4352) (e : Fin 256) : iblk m c 4 t (ix3 0 r e : S1x4352x256.Idx) = opDOS m c (ix3 ⟨t.val / 51, by have := lt_N t; omega⟩ r ⟨256 * (t.val / 17 % 3) + e, by omega⟩) := by
  have read : ∀ (X : FVec Ideal S2x4352x768 .bf16) i j, ((cfg0.win 4).blk t).view.emb i = j → ((cfg0.win 4).blk t).view.read (Elt Ideal) X i = X j := by
    intro X i j h
    subst h
    rfl
  unfold iblk opDOS
  exact read _ _ _ (emb4 t r e)
theorem emb5 (t : Fin cfg0.N) (hh : Fin 2) (d : Fin 128) (r : Fin 4352) : ((cfg0.win 5).blk t).view.emb (ix4 0 hh d r : S1x2x128x4352.Idx) = (ix4 ⟨t.val / 51, by have := lt_N t; omega⟩ ⟨2 * (t.val / 17 % 3) + hh, by omega⟩ d r : S2x6x128x4352.Idx) := by
  have h := (idx t).2.2.2.2.2.1
  funext a
  apply Fin.ext
  match a with
  | ⟨0, _⟩ => show win0_5.index t 0 * 1 + 1 * 0 = t.val / 51; rw [h]; simp
  | ⟨1, _⟩ => show win0_5.index t 1 * 2 + 1 * hh.val = 2 * (t.val / 17 % 3) + hh.val; rw [h]; simp; try omega
  | ⟨2, _⟩ => show win0_5.index t 2 * 128 + 1 * d.val = d.val; rw [h]; simp; try omega
  | ⟨3, _⟩ => show win0_5.index t 3 * 4352 + 1 * r.val = r.val; rw [h]; simp; try omega
theorem blk5 (c : Dev nD) (t : Fin cfg0.N) (hh : Fin 2) (d : Fin 128) (r : Fin 4352) : iblk m c 5 t (ix4 0 hh d r : S1x2x128x4352.Idx) = opQT m c (ix4 ⟨t.val / 51, by have := lt_N t; omega⟩ ⟨2 * (t.val / 17 % 3) + hh, by omega⟩ d r) := by
  have read : ∀ (X : FVec Ideal S2x6x128x4352 .bf16) i j, ((cfg0.win 5).blk t).view.emb i = j → ((cfg0.win 5).blk t).view.read (Elt Ideal) X i = X j := by
    intro X i j h
    subst h
    rfl
  unfold iblk opQT
  exact read _ _ _ (emb5 t hh d r)
theorem emb6 (t : Fin cfg0.N) (hh : Fin 2) (d : Fin 128) (r : Fin 4352) : ((cfg0.win 6).blk t).view.emb (ix4 0 hh d r : S1x2x128x4352.Idx) = (ix4 ⟨t.val / 51, by have := lt_N t; omega⟩ ⟨2 * (t.val / 17 % 3) + hh, by omega⟩ d r : S2x6x128x4352.Idx) := by
  have h := (idx t).2.2.2.2.2.2.1
  funext a
  apply Fin.ext
  match a with
  | ⟨0, _⟩ => show win0_6.index t 0 * 1 + 1 * 0 = t.val / 51; rw [h]; simp
  | ⟨1, _⟩ => show win0_6.index t 1 * 2 + 1 * hh.val = 2 * (t.val / 17 % 3) + hh.val; rw [h]; simp; try omega
  | ⟨2, _⟩ => show win0_6.index t 2 * 128 + 1 * d.val = d.val; rw [h]; simp; try omega
  | ⟨3, _⟩ => show win0_6.index t 3 * 4352 + 1 * r.val = r.val; rw [h]; simp; try omega
theorem blk6 (c : Dev nD) (t : Fin cfg0.N) (hh : Fin 2) (d : Fin 128) (r : Fin 4352) : iblk m c 6 t (ix4 0 hh d r : S1x2x128x4352.Idx) = opDOT m c (ix4 ⟨t.val / 51, by have := lt_N t; omega⟩ ⟨2 * (t.val / 17 % 3) + hh, by omega⟩ d r) := by
  have read : ∀ (X : FVec Ideal S2x6x128x4352 .bf16) i j, ((cfg0.win 6).blk t).view.emb i = j → ((cfg0.win 6).blk t).view.read (Elt Ideal) X i = X j := by
    intro X i j h
    subst h
    rfl
  unfold iblk opDOT
  exact read _ _ _ (emb6 t hh d r)
theorem emb7 (t : Fin cfg0.N) (r : Fin 4352) (e : Fin 256) : ((cfg0.win 7).blk t).view.emb (ix3 0 r e : S1x4352x256.Idx) = (ix3 ⟨t.val / 51, by have := lt_N t; omega⟩ r ⟨256 * (t.val / 17 % 3) + e, by omega⟩ : S2x4352x768.Idx) := by
  have h := (idx t).2.2.2.2.2.2.2.1
  funext a
  apply Fin.ext
  match a with
  | ⟨0, _⟩ => show win0_7.index t 0 * 1 + 1 * 0 = t.val / 51; rw [h]; simp
  | ⟨1, _⟩ => show win0_7.index t 1 * 4352 + 1 * r.val = r.val; rw [h]; simp; try omega
  | ⟨2, _⟩ => show win0_7.index t 2 * 256 + 1 * e.val = 256 * (t.val / 17 % 3) + e.val; rw [h]; simp; try omega
theorem emb8 (t : Fin cfg0.N) (k e : Fin 256) : ((cfg0.win 8).blk t).view.emb (ix3 0 k e : S1x256x256.Idx) = (ix3 ⟨t.val / 51, by have := lt_N t; omega⟩ ⟨256 * (t.val % 17) + k, by omega⟩ ⟨256 * (t.val / 17 % 3) + e, by omega⟩ : S2x4352x768.Idx) := by
  have h := (idx t).2.2.2.2.2.2.2.2.1
  funext a
  apply Fin.ext
  match a with
  | ⟨0, _⟩ => show win0_8.index t 0 * 1 + 1 * 0 = t.val / 51; rw [h]; simp
  | ⟨1, _⟩ => show win0_8.index t 1 * 256 + 1 * k.val = 256 * (t.val % 17) + k.val; rw [h]; simp; try omega
  | ⟨2, _⟩ => show win0_8.index t 2 * 256 + 1 * e.val = 256 * (t.val / 17 % 3) + e.val; rw [h]; simp; try omega
theorem emb9 (t : Fin cfg0.N) (k e : Fin 256) : ((cfg0.win 9).blk t).view.emb (ix3 0 k e : S1x256x256.Idx) = (ix3 ⟨t.val / 51, by have := lt_N t; omega⟩ ⟨256 * (t.val % 17) + k, by omega⟩ ⟨256 * (t.val / 17 % 3) + e, by omega⟩ : S2x4352x768.Idx) := by
  have h := (idx t).2.2.2.2.2.2.2.2.2.1
  funext a
  apply Fin.ext
  match a with
  | ⟨0, _⟩ => show win0_9.index t 0 * 1 + 1 * 0 = t.val / 51; rw [h]; simp
  | ⟨1, _⟩ => show win0_9.index t 1 * 256 + 1 * k.val = 256 * (t.val % 17) + k.val; rw [h]; simp; try omega
  | ⟨2, _⟩ => show win0_9.index t 2 * 256 + 1 * e.val = 256 * (t.val / 17 % 3) + e.val; rw [h]; simp; try omega

/-! ## The three results as functions of the seven operand arrays -/

section Arrays
variable (Kf QS DOS : FVec Ideal S2x4352x768 .bf16) (KT VT QT DOT : FVec Ideal S2x6x128x4352 .bf16)

/-- Lane `l` of head `H` in a row of all heads. -/
abbrev lane (H : Fin 6) (l : Fin 128) : Fin 768 := ⟨128 * (H : ℕ) + l, by omega⟩

/-- The product of row `r` of `x` with column `k` of `w`, in head `H`. -/
def AS (w : FVec Ideal S2x6x128x4352 .bf16) (x : FVec Ideal S2x4352x768 .bf16) (b : Fin 2) (H : Fin 6) (r k : Fin 4352) : EReal :=
  ∑ l : Fin 128, x (ix3 b r (lane H l)) * w (ix4 b H l k)

/-- The weight of key `k` in row `r`: none where a context row meets a key outside the context. -/
def AW (b : Fin 2) (H : Fin 6) (r k : Fin 4352) : EReal :=
  if (r : ℕ) < 256 ∧ ¬ (k : ℕ) < 256 then 0 else Ideal.exp (AS KT QS b H r k)

def ADS (b : Fin 2) (H : Fin 6) (r k : Fin 4352) : EReal := AW QS KT b H r k * AS VT DOS b H r k

def ADV (b : Fin 2) (H : Fin 6) (d : Fin 128) (k : Fin 4352) : EReal := ∑ r : Fin 4352, DOT (ix4 b H d r) * AW QS KT b H r k

def ADK (b : Fin 2) (H : Fin 6) (d : Fin 128) (k : Fin 4352) : EReal := ∑ r : Fin 4352, QT (ix4 b H d r) * ADS QS DOS KT VT b H r k

def ADQ (b : Fin 2) (H : Fin 6) (r : Fin 4352) (d : Fin 128) : EReal := ∑ k : Fin 4352, ADS QS DOS KT VT b H r k * Kf (ix3 b k (lane H d))

end Arrays

theorem sc_at (c : Dev nD) (t : Fin cfg0.N) (hh : Fin 2) (r : Fin 4352) (k : Fin 256) :
    SC (iblk m c 1 t) (iblk m c 3 t) (ix3 hh r k)
      = AS (opKT m c) (opQS m c) ⟨t.val / 51, by have := lt_N t; omega⟩ ⟨2 * (t.val / 17 % 3) + hh, by omega⟩ r ⟨256 * (t.val % 17) + k, by omega⟩ := by
  unfold SC AS
  refine Finset.sum_congr rfl fun l _ => ?_
  refine Ideal.mul_congr ((blk3 m c t r _).trans (congrArg _ ?_)) (blk1 m c t hh l k)
  exact (ix3_inj ..).2 ⟨rfl, rfl, Fin.ext (by simp [lane]; omega)⟩

theorem dp_at (c : Dev nD) (t : Fin cfg0.N) (hh : Fin 2) (r : Fin 4352) (k : Fin 256) :
    SC (iblk m c 2 t) (iblk m c 4 t) (ix3 hh r k)
      = AS (opVT m c) (opDOS m c) ⟨t.val / 51, by have := lt_N t; omega⟩ ⟨2 * (t.val / 17 % 3) + hh, by omega⟩ r ⟨256 * (t.val % 17) + k, by omega⟩ := by
  unfold SC AS
  refine Finset.sum_congr rfl fun l _ => ?_
  refine Ideal.mul_congr ((blk4 m c t r _).trans (congrArg _ ?_)) (blk2 m c t hh l k)
  exact (ix3_inj ..).2 ⟨rfl, rfl, Fin.ext (by simp [lane]; omega)⟩

theorem keep_iff : ∀ j : Fin 17, Scalar.cmpi .slt (BitVec.ofNat 32 (j : ℕ)) 1#32 = if (j : ℕ) = 0 then 1#1 else 0#1 := by
  decide +kernel

theorem select_on (a b : EReal) : Scalar.select 1#1 a b = a := rfl
theorem select_off (a b : EReal) : Scalar.select 0#1 a b = b := rfl

theorem pr_at (c : Dev nD) (t : Fin cfg0.N) (hh : Fin 2) (r : Fin 4352) (k : Fin 256) :
    PR ((grid0.coords t) 2) (SC (iblk m c 1 t) (iblk m c 3 t)) hh r k
      = AW (opQS m c) (opKT m c) ⟨t.val / 51, by have := lt_N t; omega⟩ ⟨2 * (t.val / 17 % 3) + hh, by omega⟩ r ⟨256 * (t.val % 17) + k, by omega⟩ := by
  have hj : ((grid0.coords t) 2 : ℕ) = t.val % 17 := (idx t).2.2.2.2.2.2.2.2.2.2
  have hc := keep_iff ⟨t.val % 17, by omega⟩
  rw [hj]
  by_cases hr : (r : ℕ) < 256
  · rw [PR_lo _ _ _ _ _ hr, hc, sc_at]
    by_cases h0 : t.val % 17 = 0
    · rw [if_pos h0, select_on]
      exact (if_neg fun h => h.2 (by show 256 * (t.val % 17) + (k : ℕ) < 256; omega)).symm
    · rw [if_neg h0, select_off]
      exact (if_pos ⟨hr, fun h => by have h : 256 * (t.val % 17) + (k : ℕ) < 256 := h; omega⟩).symm
  · rw [PR_hi _ _ _ _ _ hr, sc_at]
    exact (if_neg fun h => hr h.1).symm

/-- The batch, the head and the key a grid point works on. -/
abbrev pB (t : Fin cfg0.N) : Fin 2 := ⟨t.val / 51, by have := lt_N t; omega⟩
abbrev pH (t : Fin cfg0.N) (hh : Fin 2) : Fin 6 := ⟨2 * (t.val / 17 % 3) + hh, by omega⟩
abbrev pK (t : Fin cfg0.N) (k : Fin 256) : Fin 4352 := ⟨256 * (t.val % 17) + k, by omega⟩

theorem ds_at (c : Dev nD) (t : Fin cfg0.N) (hh : Fin 2) (r : Fin 4352) (k : Fin 256) :
    DS ((grid0.coords t) 2) (SC (iblk m c 1 t) (iblk m c 3 t)) (SC (iblk m c 2 t) (iblk m c 4 t)) (ix3 hh r k)
      = ADS (opQS m c) (opDOS m c) (opKT m c) (opVT m c) (pB t) (pH t hh) r (pK t k) :=
  Ideal.mul_congr (pr_at m c t hh r k) (dp_at m c t hh r k)

theorem dv_at (c : Dev nD) (t : Fin cfg0.N) (hh : Fin 2) (d : Fin 128) (k : Fin 256) :
    DV ((grid0.coords t) 2) (SC (iblk m c 1 t) (iblk m c 3 t)) (iblk m c 6 t) hh d k
      = ADV (opQS m c) (opKT m c) (opDOT m c) (pB t) (pH t hh) d (pK t k) :=
  Finset.sum_congr rfl fun r _ => Ideal.mul_congr (blk6 m c t hh d r) (pr_at m c t hh r k)

theorem dk_at (c : Dev nD) (t : Fin cfg0.N) (hh : Fin 2) (d : Fin 128) (k : Fin 256) :
    DK ((grid0.coords t) 2) (SC (iblk m c 1 t) (iblk m c 3 t)) (SC (iblk m c 2 t) (iblk m c 4 t)) (iblk m c 5 t) hh d k
      = ADK (opQS m c) (opDOS m c) (opKT m c) (opVT m c) (opQT m c) (pB t) (pH t hh) d (pK t k) :=
  Finset.sum_congr rfl fun r _ => Ideal.mul_congr (blk5 m c t hh d r) (ds_at m c t hh r k)

theorem dq_at (c : Dev nD) (t : Fin cfg0.N) (hh : Fin 2) (r : Fin 4352) (d : Fin 128) :
    DQ ((grid0.coords t) 2) (SC (iblk m c 1 t) (iblk m c 3 t)) (SC (iblk m c 2 t) (iblk m c 4 t)) (iblk m c 0 t) hh r d
      = ∑ k : Fin 256, ADS (opQS m c) (opDOS m c) (opKT m c) (opVT m c) (pB t) (pH t hh) r (pK t k) * opKf m c (ix3 (pB t) (pK t k) (lane (pH t hh) d)) :=
  Finset.sum_congr rfl fun k _ => Ideal.mul_congr (ds_at m c t hh r k) ((blk0 m c t k _).trans (congrArg _
    ((ix3_inj ..).2 ⟨rfl, rfl, Fin.ext (by simp [lane]; omega)⟩)))

end Cert.KernelIdeal.FB
end
-- ==== Proof.Host.lean ====
module

public import proofs.«01_k».proof.Proof.Array
public import Idealize.ShloMosaic.Lib.Claim

@[expose] public section
set_option maxRecDepth 16384
noncomputable section
namespace Cert.KernelIdeal.FB
open Cert.KernelIdeal Cert.KernelIdeal.Gen Idealize.ShloMosaic Idealize.ShloMosaic.TcCoe Idealize.SL.Sem
open Idealize.ShloMosaic.Pipeline (Dat)
open Idealize.ShloMosaic.StableHlo

/-! ## The operand arrays, stage by stage of the host program, over any contents before the stage -/

section
variable (σ : Valuation τ sig (Elt Ideal))

abbrev Rows := FVec Ideal S2x4352x6x128 .f32

theorem out_v100 (b : Fin 2) (H : Fin 6) (d : Fin 128) (r : Fin 4352) :
    (after hostOps0_22 σ (Proc.devRef .tc main_v100) : FVec Ideal S2x4352x768 .bf16) (ix3 b r (lane H d))
      = (σ (Proc.devRef .tc main_v98) : Rows) (ix4 b r H d) := by
  after_results_simp
  try simp -implicitDefEqProofs only [TRef.ofBuf, TRef.toBuf, cast_eq, cast_cast, id_eq]
  generalize σ (Proc.tc.devRef main_v98) = X
  pointwise
  exact congrArg X ((ix4_inj ..).2 ⟨rfl, rfl, Fin.ext (by simp only []; omega), Fin.ext (by simp only []; omega)⟩)
theorem out_v102 (b : Fin 2) (H : Fin 6) (d : Fin 128) (r : Fin 4352) :
    (after hostOps0_22 σ (Proc.devRef .tc main_v102) : FVec Ideal S2x4352x768 .bf16) (ix3 b r (lane H d))
      = (σ (Proc.devRef .tc main_v49) : Rows) (ix4 b r H d) := by
  after_results_simp
  try simp -implicitDefEqProofs only [TRef.ofBuf, TRef.toBuf, cast_eq, cast_cast, id_eq]
  generalize σ (Proc.tc.devRef main_v49) = X
  pointwise
  exact congrArg X ((ix4_inj ..).2 ⟨rfl, rfl, Fin.ext (by simp only []; omega), Fin.ext (by simp only []; omega)⟩)
theorem out_v104 (b : Fin 2) (H : Fin 6) (d : Fin 128) (r : Fin 4352) :
    (after hostOps0_22 σ (Proc.devRef .tc main_v104) : FVec Ideal S2x4352x768 .bf16) (ix3 b r (lane H d))
      = (σ (Proc.devRef .tc main_v77) : Rows) (ix4 b r H d) := by
  after_results_simp
  try simp -implicitDefEqProofs only [TRef.ofBuf, TRef.toBuf, cast_eq, cast_cast, id_eq]
  generalize σ (Proc.tc.devRef main_v77) = X
  pointwise
  exact congrArg X ((ix4_inj ..).2 ⟨rfl, rfl, Fin.ext (by simp only []; omega), Fin.ext (by simp only []; omega)⟩)
theorem out_v106 (b : Fin 2) (H : Fin 6) (d : Fin 128) (r : Fin 4352) :
    (after hostOps0_22 σ (Proc.devRef .tc main_v106) : FVec Ideal S2x6x128x4352 .bf16) (ix4 b H d r)
      = (σ (Proc.devRef .tc main_v38) : Rows) (ix4 b r H d) := by
  after_results_simp
  try simp -implicitDefEqProofs only [TRef.ofBuf, TRef.toBuf, cast_eq, cast_cast, id_eq]
  generalize σ (Proc.tc.devRef main_v38) = X
  pointwise
theorem out_v108 (b : Fin 2) (H : Fin 6) (d : Fin 128) (r : Fin 4352) :
    (after hostOps0_22 σ (Proc.devRef .tc main_v108) : FVec Ideal S2x6x128x4352 .bf16) (ix4 b H d r)
      = (σ (Proc.devRef .tc main_v49) : Rows) (ix4 b r H d) := by
  after_results_simp
  try simp -implicitDefEqProofs only [TRef.ofBuf, TRef.toBuf, cast_eq, cast_cast, id_eq]
  generalize σ (Proc.tc.devRef main_v49) = X
  pointwise
theorem out_v110 (b : Fin 2) (H : Fin 6) (d : Fin 128) (r : Fin 4352) :
    (after hostOps0_22 σ (Proc.devRef .tc main_v110) : FVec Ideal S2x6x128x4352 .bf16) (ix4 b H d r)
      = (σ (Proc.devRef .tc main_v55) : Rows) (ix4 b r H d) := by
  after_results_simp
  try simp -implicitDefEqProofs only [TRef.ofBuf, TRef.toBuf, cast_eq, cast_cast, id_eq]
  generalize σ (Proc.tc.devRef main_v55) = X
  pointwise
theorem out_v112 (b : Fin 2) (H : Fin 6) (d : Fin 128) (r : Fin 4352) :
    (after hostOps0_22 σ (Proc.devRef .tc main_v112) : FVec Ideal S2x6x128x4352 .bf16) (ix4 b H d r)
      = (σ (Proc.devRef .tc main_v41) : Rows) (ix4 b r H d) := by
  after_results_simp
  try simp -implicitDefEqProofs only [TRef.ofBuf, TRef.toBuf, cast_eq, cast_cast, id_eq]
  generalize σ (Proc.tc.devRef main_v41) = X
  pointwise

/-- The stages that append the log of the sums to the queries' rows, and the rows' dot products to the gradient's. -/
abbrev stQ : List (HloOp τ sig (Elt Ideal)) := hostOps0_18 ++ (hostOps0_19 ++ (hostOps0_20 ++ hostOps0_21))
abbrev stD : List (HloOp τ sig (Elt Ideal)) := hostOps0_14 ++ (hostOps0_15 ++ (hostOps0_16 ++ hostOps0_17))
/-- The stages that lay the rows out in 128 lanes. -/
abbrev stP : List (HloOp τ sig (Elt Ideal)) := hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ hostOps0_13)))))))))))

theorem cmp_eq : ∀ d : Fin 128,
    IntOp.cmpi .eq (BitVec.ofNat 32 (d : ℕ)) 96#32 = (if (d : ℕ) = 96 then 1#1 else 0#1)
    ∧ IntOp.cmpi .eq (BitVec.ofNat 32 (d : ℕ)) 97#32 = (if (d : ℕ) = 97 then 1#1 else 0#1)
    ∧ IntOp.cmpi .eq (BitVec.ofNat 32 (d : ℕ)) 98#32 = (if (d : ℕ) = 98 then 1#1 else 0#1)
    ∧ IntOp.cmpi .eq (BitVec.ofNat 32 (d : ℕ)) 65#32 = (if (d : ℕ) = 65 then 1#1 else 0#1)
    ∧ IntOp.cmpi .eq (BitVec.ofNat 32 (d : ℕ)) 66#32 = (if (d : ℕ) = 66 then 1#1 else 0#1)
    ∧ IntOp.cmpi .eq (BitVec.ofNat 32 (d : ℕ)) 67#32 = (if (d : ℕ) = 67 then 1#1 else 0#1)
    ∧ IntOp.andi (IntOp.cmpi .sge (BitVec.ofNat 32 (d : ℕ)) 96#32) (IntOp.cmpi .slt (BitVec.ofNat 32 (d : ℕ)) 99#32) = (if 96 ≤ (d : ℕ) ∧ (d : ℕ) < 99 then 1#1 else 0#1)
    ∧ IntOp.andi (IntOp.cmpi .sge (BitVec.ofNat 32 (d : ℕ)) 64#32) (IntOp.cmpi .slt (BitVec.ofNat 32 (d : ℕ)) 68#32) = (if 64 ≤ (d : ℕ) ∧ (d : ℕ) < 68 then 1#1 else 0#1) := by
  decide +kernel

theorem sit0 : (FloatOps.sitofp FTy.f32 (0#32) : Ideal .f32) = (0 : EReal) := by
  show ((((0#32 : BitVec 32).toInt : ℤ) : ℝ) : EReal) = 0
  simp

theorem select_if {P : Prop} [Decidable P] (A B : EReal) : Scalar.select (if P then 1#1 else 0#1) A B = if P then A else B := by
  by_cases h : P
  · rw [if_pos h, if_pos h]; exact if_pos rfl
  · rw [if_neg h, if_neg h]; exact if_neg (by decide)

theorem q_v98 (b : Fin 2) (H : Fin 6) (d : Fin 128) (r : Fin 4352) (X : Rows) (Y : FVec Ideal S2x4352x6x1 .f32)
    (hX : σ (Proc.devRef .tc main_v38) = X) (hY : σ (Proc.devRef .tc main_v37) = Y) (L A : EReal) (hL : Y (ix4 b r H 0) = L) (hA : X (ix4 b r H d) = A) :
    (after stQ σ (Proc.devRef .tc main_v98) : Rows) (ix4 b r H d)
      = if (d : ℕ) = 96 then -L else if (d : ℕ) = 97 then -(L - L) else if (d : ℕ) = 98 then (L - L) - (L - L) else A := by
  simp only [stQ, List.cons_append, List.nil_append]
  after_results_simp
  try simp -implicitDefEqProofs only [TRef.ofBuf, TRef.toBuf, cast_eq, cast_cast, id_eq]
  rw [hX, hY]
  pointwise
  obtain ⟨h1, h2, h3, -⟩ := cmp_eq d
  rw [h1, h2, h3, select_if, select_if, select_if, hA]
  try rw [hL]

theorem d_v77 (b : Fin 2) (H : Fin 6) (d : Fin 128) (r : Fin 4352) (X Y : Rows)
    (hX : σ (Proc.devRef .tc main_v41) = X) (hY : σ (Proc.devRef .tc main_v42) = Y) (L A : EReal) (hL : ∑ x : Fin 128, HMul.hMul (α := EReal) (X (ix4 b r H x)) (Y (ix4 b r H x)) = L) (hA : X (ix4 b r H d) = A) :
    (after stD σ (Proc.devRef .tc main_v77) : Rows) (ix4 b r H d)
      = if (d : ℕ) = 65 then -L else if (d : ℕ) = 66 then -(L - L) else if (d : ℕ) = 67 then (L - L) - (L - L) else A := by
  simp only [stD, List.cons_append, List.nil_append]
  after_results_simp
  try simp -implicitDefEqProofs only [TRef.ofBuf, TRef.toBuf, cast_eq, cast_cast, id_eq]
  rw [hX, hY]
  pointwise
  obtain ⟨-, -, -, h1, h2, h3, -⟩ := cmp_eq d
  rw [h1, h2, h3, select_if, select_if, select_if, hA]
  try rw [hL]

theorem p_v38 (b : Fin 2) (H : Fin 6) (d : Fin 128) (r : Fin 4352) (X : FVec Ideal S2x4352x6x96 .f32)
    (hX : σ (Proc.devRef .tc main_v1) = X) (h0 : σ (Proc.devRef .tc main_c) = constantI S_ 32 0#32) :
    (after stP σ (Proc.devRef .tc main_v38) : Rows) (ix4 b r H d) = (if h : (d : ℕ) < 96 then X (ix4 b r H ⟨d, h⟩) else 0 : EReal) := by
  simp only [stP, List.cons_append, List.nil_append]
  after_results_simp
  try simp -implicitDefEqProofs only [TRef.ofBuf, TRef.toBuf, cast_eq, cast_cast, id_eq]
  try rw [hX]
  rw [h0]
  pointwise
  rw [sit0]

theorem p_v49 (b : Fin 2) (H : Fin 6) (d : Fin 128) (r : Fin 4352) (X : FVec Ideal S2x4352x6x96 .f32)
    (hX : σ (Proc.devRef .tc main_arg1) = X) (h0 : σ (Proc.devRef .tc main_c) = constantI S_ 32 0#32) :
    (after stP σ (Proc.devRef .tc main_v49) : Rows) (ix4 b r H d) = (if 96 ≤ (d : ℕ) ∧ (d : ℕ) < 99 then 1 else (if h : (d : ℕ) < 96 then X (ix4 b r H ⟨d, h⟩) else 0) : EReal) := by
  simp only [stP, List.cons_append, List.nil_append]
  after_results_simp
  try simp -implicitDefEqProofs only [TRef.ofBuf, TRef.toBuf, cast_eq, cast_cast, id_eq]
  try rw [hX]
  clear h0
  pointwise
  obtain ⟨-, -, -, -, -, -, h1, -⟩ := cmp_eq d
  rw [h1, select_if, sit0]

theorem p_v55 (b : Fin 2) (H : Fin 6) (d : Fin 128) (r : Fin 4352) (X : FVec Ideal S2x4352x6x64 .f32)
    (hX : σ (Proc.devRef .tc main_arg2) = X) (h0 : σ (Proc.devRef .tc main_c) = constantI S_ 32 0#32) :
    (after stP σ (Proc.devRef .tc main_v55) : Rows) (ix4 b r H d) = (if 64 ≤ (d : ℕ) ∧ (d : ℕ) < 68 then 1 else (if h : (d : ℕ) < 64 then X (ix4 b r H ⟨d, h⟩) else 0) : EReal) := by
  simp only [stP, List.cons_append, List.nil_append]
  after_results_simp
  try simp -implicitDefEqProofs only [TRef.ofBuf, TRef.toBuf, cast_eq, cast_cast, id_eq]
  try rw [hX]
  clear h0
  pointwise
  obtain ⟨-, -, -, -, -, -, -, h1⟩ := cmp_eq d
  rw [h1, select_if, sit0]

theorem p_v41 (b : Fin 2) (H : Fin 6) (d : Fin 128) (r : Fin 4352) (X : FVec Ideal S2x4352x6x64 .f32)
    (hX : σ (Proc.devRef .tc main_arg3) = X) (h0 : σ (Proc.devRef .tc main_c) = constantI S_ 32 0#32) :
    (after stP σ (Proc.devRef .tc main_v41) : Rows) (ix4 b r H d) = (if h : (d : ℕ) < 64 then X (ix4 b r H ⟨d, h⟩) else 0 : EReal) := by
  simp only [stP, List.cons_append, List.nil_append]
  after_results_simp
  try simp -implicitDefEqProofs only [TRef.ofBuf, TRef.toBuf, cast_eq, cast_cast, id_eq]
  try rw [hX]
  clear h0
  pointwise
  rw [sit0]

theorem p_v42 (b : Fin 2) (H : Fin 6) (d : Fin 128) (r : Fin 4352) (X : FVec Ideal S2x4352x6x64 .f32)
    (hX : σ (Proc.devRef .tc main_v36) = X) (h0 : σ (Proc.devRef .tc main_c) = constantI S_ 32 0#32) :
    (after stP σ (Proc.devRef .tc main_v42) : Rows) (ix4 b r H d) = (if h : (d : ℕ) < 64 then X (ix4 b r H ⟨d, h⟩) else 0 : EReal) := by
  simp only [stP, List.cons_append, List.nil_append]
  after_results_simp
  try simp -implicitDefEqProofs only [TRef.ofBuf, TRef.toBuf, cast_eq, cast_cast, id_eq]
  try rw [hX]
  clear h0
  pointwise
  rw [sit0]
theorem stQ_v77 : after stQ σ (Proc.devRef .tc main_v77) = σ (Proc.devRef .tc main_v77) := by
  simp only [stQ, List.cons_append, List.nil_append]
  after_results_simp
theorem stQ_v49 : after stQ σ (Proc.devRef .tc main_v49) = σ (Proc.devRef .tc main_v49) := by
  simp only [stQ, List.cons_append, List.nil_append]
  after_results_simp
theorem stQ_v38 : after stQ σ (Proc.devRef .tc main_v38) = σ (Proc.devRef .tc main_v38) := by
  simp only [stQ, List.cons_append, List.nil_append]
  after_results_simp
theorem stQ_v55 : after stQ σ (Proc.devRef .tc main_v55) = σ (Proc.devRef .tc main_v55) := by
  simp only [stQ, List.cons_append, List.nil_append]
  after_results_simp
theorem stQ_v41 : after stQ σ (Proc.devRef .tc main_v41) = σ (Proc.devRef .tc main_v41) := by
  simp only [stQ, List.cons_append, List.nil_append]
  after_results_simp
theorem stD_v49 : after stD σ (Proc.devRef .tc main_v49) = σ (Proc.devRef .tc main_v49) := by
  simp only [stD, List.cons_append, List.nil_append]
  after_results_simp
theorem stD_v38 : after stD σ (Proc.devRef .tc main_v38) = σ (Proc.devRef .tc main_v38) := by
  simp only [stD, List.cons_append, List.nil_append]
  after_results_simp
theorem stD_v55 : after stD σ (Proc.devRef .tc main_v55) = σ (Proc.devRef .tc main_v55) := by
  simp only [stD, List.cons_append, List.nil_append]
  after_results_simp
theorem stD_v41 : after stD σ (Proc.devRef .tc main_v41) = σ (Proc.devRef .tc main_v41) := by
  simp only [stD, List.cons_append, List.nil_append]
  after_results_simp
theorem stD_v37 : after stD σ (Proc.devRef .tc main_v37) = σ (Proc.devRef .tc main_v37) := by
  simp only [stD, List.cons_append, List.nil_append]
  after_results_simp
theorem stP_v37 : after stP σ (Proc.devRef .tc main_v37) = σ (Proc.devRef .tc main_v37) := by
  simp only [stP, List.cons_append, List.nil_append]
  after_results_simp
theorem a_arg1 : after hostOps0 σ (Proc.devRef .tc main_arg1) = σ (Proc.devRef .tc main_arg1) := by
  after_results_simp
theorem a_arg2 : after hostOps0 σ (Proc.devRef .tc main_arg2) = σ (Proc.devRef .tc main_arg2) := by
  after_results_simp
theorem a_arg3 : after hostOps0 σ (Proc.devRef .tc main_arg3) = σ (Proc.devRef .tc main_arg3) := by
  after_results_simp
theorem a_c : after hostOps0 σ (Proc.devRef .tc main_c) = constantI S_ 32 0#32 := by
  after_results_simp
end
end Cert.KernelIdeal.FB
end
-- ==== Proof.Fwd.lean ====
module

public import proofs.«01_k».proof.Proof.Array
public import Idealize.ShloMosaic.Lib.Claim

@[expose] public section
set_option maxRecDepth 16384
noncomputable section
namespace Cert.KernelIdeal.FB
open Cert.KernelIdeal Cert.KernelIdeal.Gen Idealize.ShloMosaic Idealize.ShloMosaic.TcCoe Idealize.SL.Sem
open Idealize.ShloMosaic.Pipeline (Dat)
open Idealize.ShloMosaic.StableHlo

/-! ## What the forward pass saves: the rows' outputs and the logs of their sums -/

/-- The scores of the context rows. -/
def sC (q k : FVec Ideal S2x4352x6x96 .f32) : FVec Ideal S2x6x256x256 .f32 :=
  Host.dotGeneral dot_S2x256x6x96_S2x256x6x96_S2x6x256x256_3_3_1_1_02_02 none (extractStridedSlice S2x256x6x96 ![0, 0, 0, 0] (mulf q (broadcastInDim S2x4352x6x96 ![] bcast_S_S2x4352x6x96 (constant S_ FTy.f32 1037108716#32))) slices_S2x4352x6x96_S2x256x6x96_0_0_0_0) (extractStridedSlice S2x256x6x96 ![0, 0, 0, 0] k slices_S2x4352x6x96_S2x256x6x96_0_0_0_0)
def mC (X : FVec Ideal S2x6x256x256 .f32) : FVec Ideal S2x6x256 .f32 :=
  Host.reduce FloatOps.maximumf X (constant S_ FTy.f32 4286578688#32) reducesTo_S2x6x256x256_S2x6x256_d3 h_S_
def xC (X : FVec Ideal S2x6x256x256 .f32) (M : FVec Ideal S2x6x256 .f32) : FVec Ideal S2x6x256x256 .f32 :=
  Host.exp (subf X (broadcastInDim S2x6x256x256 ![0, 1, 2, 3] bcast_S2x6x256x1_S2x6x256x256_0_1_2_3 (broadcastInDim S2x6x256x1 ![0, 1, 2] bcast_S2x6x256_S2x6x256x1_0_1_2 M)))
def lC (E : FVec Ideal S2x6x256x256 .f32) : FVec Ideal S2x6x256 .f32 :=
  Host.reduceAdd E (constant S_ FTy.f32 0#32) reducesTo_S2x6x256x256_S2x6x256_d3 h_S_
def lseC (M L : FVec Ideal S2x6x256 .f32) : FVec Ideal S2x256x6x1 .f32 :=
  transpose S2x256x6x1 [0, 2, 1, 3] (addf (broadcastInDim S2x6x256x1 ![0, 1, 2] bcast_S2x6x256_S2x6x256x1_0_1_2 M)
    (Host.log (broadcastInDim S2x6x256x1 ![0, 1, 2] bcast_S2x6x256_S2x6x256x1_0_1_2 L))) transposes_S2x6x256x1_S2x256x6x1_0_2_1_3
def oC (E : FVec Ideal S2x6x256x256 .f32) (L : FVec Ideal S2x6x256 .f32) (v : FVec Ideal S2x4352x6x64 .f32) : FVec Ideal S2x256x6x64 .f32 :=
  transpose S2x256x6x64 [0, 3, 1, 2] (Host.dotGeneral dot_S2x256x6x64_S2x6x256x256_S2x6x64x256_1_3_3_2_02_01 none (extractStridedSlice S2x256x6x64 ![0, 0, 0, 0] v slices_S2x4352x6x64_S2x256x6x64_0_0_0_0)
    (Host.divf E (broadcastInDim S2x6x256x256 ![0, 1, 2, 3] bcast_S2x6x256x1_S2x6x256x256_0_1_2_3 (broadcastInDim S2x6x256x1 ![0, 1, 2] bcast_S2x6x256_S2x6x256x1_0_1_2 L)))) transposes_S2x6x64x256_S2x256x6x64_0_3_1_2

theorem sC_at (q k : FVec Ideal S2x4352x6x96 .f32) (b : Fin 2) (H : Fin 6) (r : Fin 256) (j : Fin 256) :
    sC q k (ix4 b H r j) = ∑ l : Fin 96, q (ix4 b ⟨(r : ℕ), by omega⟩ H l) * Ideal.ofBits FTy.f32 1037108716#32 * k (ix4 b ⟨(j : ℕ), by omega⟩ H l) := by
  pointwise [sC]
theorem mC_at (X : FVec Ideal S2x6x256x256 .f32) (b : Fin 2) (H : Fin 6) (r : Fin 256) :
    mC X (ix3 b H r) = Finset.fold max (Ideal.ofBits FTy.f32 4286578688#32) (fun j => X (ix4 b H r j)) Finset.univ := by
  pointwise [mC]
theorem xC_at (X : FVec Ideal S2x6x256x256 .f32) (M : FVec Ideal S2x6x256 .f32) (b : Fin 2) (H : Fin 6) (r : Fin 256) (j : Fin 256) :
    xC X M (ix4 b H r j) = Ideal.exp (X (ix4 b H r j) - M (ix3 b H r)) := by
  pointwise [xC]
theorem lC_at (E : FVec Ideal S2x6x256x256 .f32) (b : Fin 2) (H : Fin 6) (r : Fin 256) : lC E (ix3 b H r) = ∑ j : Fin 256, E (ix4 b H r j) := by
  pointwise [lC]
theorem lseC_at (M L : FVec Ideal S2x6x256 .f32) (b : Fin 2) (H : Fin 6) (r : Fin 256) :
    lseC M L (ix4 b r H 0) = M (ix3 b H r) + Ideal.log (L (ix3 b H r)) := by
  pointwise [lseC]
theorem oC_at (E : FVec Ideal S2x6x256x256 .f32) (L : FVec Ideal S2x6x256 .f32) (v : FVec Ideal S2x4352x6x64 .f32) (b : Fin 2) (H : Fin 6) (r : Fin 256) (d : Fin 64) :
    oC E L v (ix4 b r H d) = ∑ j : Fin 256, v (ix4 b ⟨(j : ℕ), by omega⟩ H d) * Ideal.div (E (ix4 b H r j)) (L (ix3 b H r)) := by
  pointwise [oC]

/-- The scores of the latent rows. -/
def sX (q k : FVec Ideal S2x4352x6x96 .f32) : FVec Ideal S2x6x4096x4352 .f32 :=
  Host.dotGeneral dot_S2x4096x6x96_S2x4352x6x96_S2x6x4096x4352_3_3_1_1_02_02 none (extractStridedSlice S2x4096x6x96 ![0, 256, 0, 0] (mulf q (broadcastInDim S2x4352x6x96 ![] bcast_S_S2x4352x6x96 (constant S_ FTy.f32 1037108716#32))) slices_S2x4352x6x96_S2x4096x6x96_0_256_0_0) k
def mX (X : FVec Ideal S2x6x4096x4352 .f32) : FVec Ideal S2x6x4096 .f32 :=
  Host.reduce FloatOps.maximumf X (constant S_ FTy.f32 4286578688#32) reducesTo_S2x6x4096x4352_S2x6x4096_d3 h_S_
def xX (X : FVec Ideal S2x6x4096x4352 .f32) (M : FVec Ideal S2x6x4096 .f32) : FVec Ideal S2x6x4096x4352 .f32 :=
  Host.exp (subf X (broadcastInDim S2x6x4096x4352 ![0, 1, 2, 3] bcast_S2x6x4096x1_S2x6x4096x4352_0_1_2_3 (broadcastInDim S2x6x4096x1 ![0, 1, 2] bcast_S2x6x4096_S2x6x4096x1_0_1_2 M)))
def lX (E : FVec Ideal S2x6x4096x4352 .f32) : FVec Ideal S2x6x4096 .f32 :=
  Host.reduceAdd E (constant S_ FTy.f32 0#32) reducesTo_S2x6x4096x4352_S2x6x4096_d3 h_S_
def lseX (M L : FVec Ideal S2x6x4096 .f32) : FVec Ideal S2x4096x6x1 .f32 :=
  transpose S2x4096x6x1 [0, 2, 1, 3] (addf (broadcastInDim S2x6x4096x1 ![0, 1, 2] bcast_S2x6x4096_S2x6x4096x1_0_1_2 M)
    (Host.log (broadcastInDim S2x6x4096x1 ![0, 1, 2] bcast_S2x6x4096_S2x6x4096x1_0_1_2 L))) transposes_S2x6x4096x1_S2x4096x6x1_0_2_1_3
def oX (E : FVec Ideal S2x6x4096x4352 .f32) (L : FVec Ideal S2x6x4096 .f32) (v : FVec Ideal S2x4352x6x64 .f32) : FVec Ideal S2x4096x6x64 .f32 :=
  transpose S2x4096x6x64 [0, 3, 1, 2] (Host.dotGeneral dot_S2x4352x6x64_S2x6x4096x4352_S2x6x64x4096_1_3_3_2_02_01 none v
    (Host.divf E (broadcastInDim S2x6x4096x4352 ![0, 1, 2, 3] bcast_S2x6x4096x1_S2x6x4096x4352_0_1_2_3 (broadcastInDim S2x6x4096x1 ![0, 1, 2] bcast_S2x6x4096_S2x6x4096x1_0_1_2 L)))) transposes_S2x6x64x4096_S2x4096x6x64_0_3_1_2

theorem sX_at (q k : FVec Ideal S2x4352x6x96 .f32) (b : Fin 2) (H : Fin 6) (r : Fin 4096) (j : Fin 4352) :
    sX q k (ix4 b H r j) = ∑ l : Fin 96, q (ix4 b ⟨256 + (r : ℕ), by omega⟩ H l) * Ideal.ofBits FTy.f32 1037108716#32 * k (ix4 b j H l) := by
  pointwise [sX]
theorem mX_at (X : FVec Ideal S2x6x4096x4352 .f32) (b : Fin 2) (H : Fin 6) (r : Fin 4096) :
    mX X (ix3 b H r) = Finset.fold max (Ideal.ofBits FTy.f32 4286578688#32) (fun j => X (ix4 b H r j)) Finset.univ := by
  pointwise [mX]
theorem xX_at (X : FVec Ideal S2x6x4096x4352 .f32) (M : FVec Ideal S2x6x4096 .f32) (b : Fin 2) (H : Fin 6) (r : Fin 4096) (j : Fin 4352) :
    xX X M (ix4 b H r j) = Ideal.exp (X (ix4 b H r j) - M (ix3 b H r)) := by
  pointwise [xX]
theorem lX_at (E : FVec Ideal S2x6x4096x4352 .f32) (b : Fin 2) (H : Fin 6) (r : Fin 4096) : lX E (ix3 b H r) = ∑ j : Fin 4352, E (ix4 b H r j) := by
  pointwise [lX]
theorem lseX_at (M L : FVec Ideal S2x6x4096 .f32) (b : Fin 2) (H : Fin 6) (r : Fin 4096) :
    lseX M L (ix4 b r H 0) = M (ix3 b H r) + Ideal.log (L (ix3 b H r)) := by
  pointwise [lseX]
theorem oX_at (E : FVec Ideal S2x6x4096x4352 .f32) (L : FVec Ideal S2x6x4096 .f32) (v : FVec Ideal S2x4352x6x64 .f32) (b : Fin 2) (H : Fin 6) (r : Fin 4096) (d : Fin 64) :
    oX E L v (ix4 b r H d) = ∑ j : Fin 4352, v (ix4 b j H d) * Ideal.div (E (ix4 b H r j)) (L (ix3 b H r)) := by
  pointwise [oX]

theorem cat1 {A A' : FVec Ideal S2x256x6x1 .f32} {B B' : FVec Ideal S2x4096x6x1 .f32} (h : A = A') (h' : B = B') :
    concatenate S2x4352x6x1 1 [⟨S2x256x6x1, A⟩, ⟨S2x4096x6x1, B⟩] concatenates_S2x256x6x1_S2x4096x6x1_S2x4352x6x1_d1
    = concatenate S2x4352x6x1 1 [⟨S2x256x6x1, A'⟩, ⟨S2x4096x6x1, B'⟩] concatenates_S2x256x6x1_S2x4096x6x1_S2x4352x6x1_d1 := by
  subst h; subst h'; rfl
theorem cat64 {A A' : FVec Ideal S2x256x6x64 .f32} {B B' : FVec Ideal S2x4096x6x64 .f32} (h : A = A') (h' : B = B') :
    concatenate S2x4352x6x64 1 [⟨S2x256x6x64, A⟩, ⟨S2x4096x6x64, B⟩] concatenates_S2x256x6x64_S2x4096x6x64_S2x4352x6x64_d1
    = concatenate S2x4352x6x64 1 [⟨S2x256x6x64, A'⟩, ⟨S2x4096x6x64, B'⟩] concatenates_S2x256x6x64_S2x4096x6x64_S2x4352x6x64_d1 := by
  subst h; subst h'; rfl

section
variable (σ : Valuation τ sig (Elt Ideal))

/-- The saved logs and outputs, as the host program composes them. -/
def lseOf (q k : FVec Ideal S2x4352x6x96 .f32) : FVec Ideal S2x4352x6x1 .f32 :=
  concatenate S2x4352x6x1 1 [⟨S2x256x6x1, lseC (mC (sC q k)) (lC (xC (sC q k) (mC (sC q k))))⟩, ⟨S2x4096x6x1, lseX (mX (sX q k)) (lX (xX (sX q k) (mX (sX q k))))⟩]
    concatenates_S2x256x6x1_S2x4096x6x1_S2x4352x6x1_d1
def outOf (q k : FVec Ideal S2x4352x6x96 .f32) (v : FVec Ideal S2x4352x6x64 .f32) : FVec Ideal S2x4352x6x64 .f32 :=
  concatenate S2x4352x6x64 1 [⟨S2x256x6x64, oC (xC (sC q k) (mC (sC q k))) (lC (xC (sC q k) (mC (sC q k)))) v⟩, ⟨S2x4096x6x64, oX (xX (sX q k) (mX (sX q k))) (lX (xX (sX q k) (mX (sX q k)))) v⟩]
    concatenates_S2x256x6x64_S2x4096x6x64_S2x4352x6x64_d1

theorem a_v37 : (after hostOps0 σ (Proc.devRef .tc main_v37) : FVec Ideal S2x4352x6x1 .f32)
    = lseOf (σ (Proc.devRef .tc main_arg0)) (σ (Proc.devRef .tc main_arg1)) := by
  after_results_simp
  refine cat1 ?_ ?_
  · after_results_simp
    simp only [lseC, lC, xC, mC, sC, oC]
  · after_results_simp
    simp only [lseX, lX, xX, mX, sX, oX]
theorem a_v36 : (after hostOps0 σ (Proc.devRef .tc main_v36) : FVec Ideal S2x4352x6x64 .f32)
    = outOf (σ (Proc.devRef .tc main_arg0)) (σ (Proc.devRef .tc main_arg1)) (σ (Proc.devRef .tc main_arg2)) := by
  after_results_simp
  refine cat64 ?_ ?_
  · after_results_simp
    simp only [lseC, lC, xC, mC, sC, oC]
  · after_results_simp
    simp only [lseX, lX, xX, mX, sX, oX]
theorem a_v1 (b : Fin 2) (H : Fin 6) (r : Fin 4352) (d : Fin 96) : (after hostOps0 σ (Proc.devRef .tc main_v1) : FVec Ideal S2x4352x6x96 .f32) (ix4 b r H d)
    = (HMul.hMul (α := EReal) (β := EReal) ((σ (Proc.devRef .tc main_arg0) : FVec Ideal S2x4352x6x96 .f32) (ix4 b r H d)) (Ideal.ofBits FTy.f32 1037108716#32)) := by
  after_results_simp
  generalize σ (Proc.tc.devRef main_arg0) = X
  pointwise

theorem lseOf_lo (q k : FVec Ideal S2x4352x6x96 .f32) (b : Fin 2) (H : Fin 6) (r : Fin 4352) (h : (r : ℕ) < 256) : lseOf q k (ix4 b r H 0)
    = lseC (mC (sC q k)) (lC (xC (sC q k) (mC (sC q k)))) (ix4 b ⟨r, h⟩ H 0) := by
  unfold lseOf
  generalize lseC (mC (sC q k)) (lC (xC (sC q k) (mC (sC q k)))) = A
  generalize lseX (mX (sX q k)) (lX (xX (sX q k) (mX (sX q k)))) = B
  pointwise
  rw [dif_pos h]
theorem lseOf_hi (q k : FVec Ideal S2x4352x6x96 .f32) (b : Fin 2) (H : Fin 6) (r : Fin 4352) (h : ¬ (r : ℕ) < 256) : lseOf q k (ix4 b r H 0)
    = lseX (mX (sX q k)) (lX (xX (sX q k) (mX (sX q k)))) (ix4 b ⟨r - 256, by omega⟩ H 0) := by
  unfold lseOf
  generalize lseC (mC (sC q k)) (lC (xC (sC q k) (mC (sC q k)))) = A
  generalize lseX (mX (sX q k)) (lX (xX (sX q k) (mX (sX q k)))) = B
  pointwise
  rw [dif_neg h]
theorem outOf_lo (q k : FVec Ideal S2x4352x6x96 .f32) (v : FVec Ideal S2x4352x6x64 .f32) (b : Fin 2) (H : Fin 6) (r : Fin 4352) (d : Fin 64) (h : (r : ℕ) < 256) :
    outOf q k v (ix4 b r H d) = oC (xC (sC q k) (mC (sC q k))) (lC (xC (sC q k) (mC (sC q k)))) v (ix4 b ⟨r, h⟩ H d) := by
  unfold outOf
  generalize oC (xC (sC q k) (mC (sC q k))) (lC (xC (sC q k) (mC (sC q k)))) v = A
  generalize oX (xX (sX q k) (mX (sX q k))) (lX (xX (sX q k) (mX (sX q k)))) v = B
  pointwise
  rw [dif_pos h]
theorem outOf_hi (q k : FVec Ideal S2x4352x6x96 .f32) (v : FVec Ideal S2x4352x6x64 .f32) (b : Fin 2) (H : Fin 6) (r : Fin 4352) (d : Fin 64) (h : ¬ (r : ℕ) < 256) :
    outOf q k v (ix4 b r H d) = oX (xX (sX q k) (mX (sX q k))) (lX (xX (sX q k) (mX (sX q k)))) v (ix4 b ⟨r - 256, by omega⟩ H d) := by
  unfold outOf
  generalize oC (xC (sC q k) (mC (sC q k))) (lC (xC (sC q k) (mC (sC q k)))) v = A
  generalize oX (xX (sX q k) (mX (sX q k))) (lX (xX (sX q k) (mX (sX q k)))) v = B
  pointwise
  rw [dif_neg h]

end
end Cert.KernelIdeal.FB
end
-- ==== Proof.Lanes.lean ====
module

public import proofs.«01_k».proof.Proof.Real

@[expose] public section
noncomputable section
namespace Cert.Attn
open Idealize.ShloMosaic

/-! ## The 128 lanes of a row: what a lane holds, and the products over them -/

section
variable (q k : Fin 96 → ℝ) (v g : Fin 64 → ℝ) (L : ℝ)

def padQ (d : Fin 128) : ℝ := if h : (d : ℕ) < 96 then q ⟨d, h⟩ else 0
def padG (d : Fin 128) : ℝ := if h : (d : ℕ) < 64 then g ⟨d, h⟩ else 0
def oneK (d : Fin 128) : ℝ := if 96 ≤ (d : ℕ) ∧ (d : ℕ) < 99 then 1 else padQ k d
def oneV (d : Fin 128) : ℝ := if 64 ≤ (d : ℕ) ∧ (d : ℕ) < 68 then 1 else padG v d
/-- A query's row, less the log of its sum in lane 96 (and what that loses in 97 and 98). -/
def lessQ (d : Fin 128) : ℝ := if (d : ℕ) = 96 then -L else if (d : ℕ) = 97 then -(L - L) else if (d : ℕ) = 98 then (L - L) - (L - L) else padQ q d
/-- A gradient's row, less its dot product in lane 65 (and what that loses in 66 and 67). -/
def lessG (d : Fin 128) : ℝ := if (d : ℕ) = 65 then -L else if (d : ℕ) = 66 then -(L - L) else if (d : ℕ) = 67 then (L - L) - (L - L) else padG g d

theorem lanes96 (F : Fin 128 → ℝ) : ∑ l, F l = ∑ l : Fin 96, F ⟨l, by omega⟩ + ∑ l : Fin 32, F ⟨96 + l, by omega⟩ :=
  Fin.sum_univ_add (M := ℝ) (a := 96) (b := 32) (fun j : Fin (96 + 32) => F j)
theorem lanes64 (F : Fin 128 → ℝ) : ∑ l, F l = ∑ l : Fin 64, F ⟨l, by omega⟩ + ∑ l : Fin 64, F ⟨64 + l, by omega⟩ :=
  Fin.sum_univ_add (M := ℝ) (a := 64) (b := 64) (fun j : Fin (64 + 64) => F j)

theorem padQ_lo (l : Fin 96) : padQ q ⟨l, by omega⟩ = q l := dif_pos l.2
theorem padQ_hi (l : Fin 32) : padQ q ⟨96 + l, by omega⟩ = 0 := dif_neg (by simp only []; omega)
theorem padG_lo (l : Fin 64) : padG g ⟨l, by omega⟩ = g l := dif_pos l.2
theorem padG_hi (l : Fin 64) : padG g ⟨64 + l, by omega⟩ = 0 := dif_neg (by simp only []; omega)
theorem oneK_lo (l : Fin 96) : oneK k ⟨l, by omega⟩ = k l := (if_neg (by simp only []; omega)).trans (padQ_lo k l)
theorem oneV_lo (l : Fin 64) : oneV v ⟨l, by omega⟩ = v l := (if_neg (by simp only []; omega)).trans (padG_lo v l)
theorem lessQ_lo (l : Fin 96) : lessQ q L ⟨l, by omega⟩ = q l := by
  unfold lessQ
  rw [if_neg (by simp only []; omega), if_neg (by simp only []; omega), if_neg (by simp only []; omega)]
  exact padQ_lo q l
theorem lessG_lo (l : Fin 64) : lessG g L ⟨l, by omega⟩ = g l := by
  unfold lessG
  rw [if_neg (by simp only []; omega), if_neg (by simp only []; omega), if_neg (by simp only []; omega)]
  exact padG_lo g l
theorem lessQ_hi (l : Fin 32) : lessQ q L ⟨96 + l, by omega⟩ * oneK k ⟨96 + l, by omega⟩ = if (l : ℕ) = 0 then -L else 0 := by
  unfold lessQ oneK
  by_cases h0 : (l : ℕ) = 0
  · rw [if_pos h0, if_pos (by simp only []; omega), if_pos (by simp only []; omega), mul_one]
  · rw [if_neg h0, if_neg (by simp only []; omega), padQ_hi q l]
    simp
theorem lessG_hi (l : Fin 64) : lessG g L ⟨64 + l, by omega⟩ * oneV v ⟨64 + l, by omega⟩ = if (l : ℕ) = 1 then -L else 0 := by
  unfold lessG oneV
  by_cases h0 : (l : ℕ) = 1
  · rw [if_pos h0, if_pos (by simp only []; omega), if_pos (by simp only []; omega), mul_one]
  · rw [if_neg h0, if_neg (by simp only []; omega), padG_hi g l]
    simp

/-- A query's row against a key's: the score less the log of the row's sum. -/
theorem score_lanes : ∑ l, lessQ q L l * oneK k l = ∑ l, q l * k l - L := by
  rw [lanes96, Finset.sum_congr rfl (fun l _ => by rw [lessQ_lo, oneK_lo]), Finset.sum_congr rfl (fun l _ => lessQ_hi q k L l), sub_eq_add_neg]
  congr 1
  exact (Finset.sum_eq_single (0 : Fin 32) (fun l _ h => if_neg (fun e => h (Fin.ext e))) (fun h => absurd (Finset.mem_univ _) h)).trans (if_pos rfl)
/-- A gradient's row against a value's: the weight's gradient less the row's dot product. -/
theorem grad_lanes : ∑ l, lessG g L l * oneV v l = ∑ l, g l * v l - L := by
  rw [lanes64, Finset.sum_congr rfl (fun l _ => by rw [lessG_lo, oneV_lo]), Finset.sum_congr rfl (fun l _ => lessG_hi v g L l), sub_eq_add_neg]
  congr 1
  exact (Finset.sum_eq_single (1 : Fin 64) (fun l _ h => if_neg (fun e => h (Fin.ext e))) (fun h => absurd (Finset.mem_univ _) h)).trans (if_pos rfl)
/-- The row's dot product of the gradient with the output, over the padded lanes. -/
theorem dot_lanes : ∑ l, padG g l * padG v l = ∑ l, g l * v l := by
  rw [lanes64, Finset.sum_congr rfl (fun l _ => by rw [padG_lo, padG_lo])]
  refine (congrArg _ (Finset.sum_eq_zero fun l _ => ?_)).trans (add_zero _)
  rw [padG_hi, zero_mul]

end
end Cert.Attn
end
-- ==== Proof.Ops.lean ====
module

public import proofs.«01_k».proof.Proof.Host
public import proofs.«01_k».proof.Proof.Fwd
public import proofs.«01_k».proof.Proof.Lanes

@[expose] public section
set_option maxRecDepth 16384
noncomputable section
namespace Cert.KernelIdeal.FB
open Cert.KernelIdeal Cert.KernelIdeal.Gen Idealize.ShloMosaic Idealize.ShloMosaic.TcCoe Idealize.SL.Sem
open Idealize.ShloMosaic.Pipeline (Dat)
open Idealize.ShloMosaic.StableHlo
open Cert.Attn

/-! ## The region's operand arrays, of real arguments -/

theorem after_two (A B : List (HloOp τ sig (Elt Ideal))) (σ : Valuation τ sig (Elt Ideal)) : after (A ++ B) σ = after B (after A σ) := by
  induction A generalizing σ with
  | nil => rfl
  | cons a A ih => exact ih _

variable (m : (ℓ : Loc nD τ sig) → Buf (Elt Ideal) ℓ)

/-- The contents after each stage of the host program. -/
def σ0 (c : Dev nD) : Valuation τ sig (Elt Ideal) := fun b => m (c, b)
@[irreducible] def σA (c : Dev nD) : Valuation τ sig (Elt Ideal) := after hostOps0 (σ0 m c)
@[irreducible] def σP (c : Dev nD) : Valuation τ sig (Elt Ideal) := after stP (σA m c)
@[irreducible] def σD (c : Dev nD) : Valuation τ sig (Elt Ideal) := after stD (σP m c)
@[irreducible] def σQ (c : Dev nD) : Valuation τ sig (Elt Ideal) := after stQ (σD m c)

theorem V_stages (c : Dev nD) (b : Ref sig .tc) : V m c b = after hostOps0_22 (σQ m c) (Proc.devRef .tc b) := by
  unfold σQ σD σP σA
  simp only [List.flatten_cons, List.flatten_nil, List.append_nil, after_two, stP, stD, stQ]
  rfl

theorem ninf : Ideal.ofBits FTy.f32 4286578688#32 = (⊥ : EReal) := by
  simp [Ideal.ofBits, Ideal.ieee]
theorem scale_real : ∃ sc : ℝ, Is (Ideal.ofBits FTy.f32 1037108716#32) sc := by
  show ∃ sc : ℝ, Ideal.ieee 8 23 (1037108716#32) = (sc : EReal)
  unfold Ideal.ieee
  dsimp only
  rw [if_neg (by decide), if_neg (by decide)]
  exact ⟨_, rfl⟩

section
variable (b : Fin 2) (H : Fin 6) (Xq Xk : FVec Ideal S2x4352x6x96 .f32) (Xv : FVec Ideal S2x4352x6x64 .f32)
  (Q K : Fin 4352 → Fin 96 → ℝ) (V : Fin 4352 → Fin 64 → ℝ)
  (hq : ∀ r d, Is (HMul.hMul (α := EReal) (Xq (ix4 b r H d)) (Ideal.ofBits FTy.f32 1037108716#32)) (Q r d)) (hk : ∀ r d, Is (Xk (ix4 b r H d)) (K r d))
  (hv : ∀ r d, Is (Xv (ix4 b r H d)) (V r d))
include hq hk

theorem sC_is (r : Fin 256) (j : Fin 256) : Is (sC Xq Xk (ix4 b H r j)) (S Q K ⟨(r : ℕ), by omega⟩ ⟨(j : ℕ), by omega⟩) := by
  rw [sC_at]
  unfold S
  exact Is.sum _ fun l => (hq _ l).mul (hk _ l)
theorem rowC (r : Fin 256) : ∃ M : ℝ, Is (mC (sC Xq Xk) (ix3 b H r)) M
    ∧ (∀ j, Is (xC (sC Xq Xk) (mC (sC Xq Xk)) (ix4 b H r j)) (Real.exp (-M) * E Q K ⟨(r : ℕ), by omega⟩ ⟨(j : ℕ), by omega⟩))
    ∧ Is (lC (xC (sC Xq Xk) (mC (sC Xq Xk))) (ix3 b H r)) (Real.exp (-M) * Z Q K ⟨(r : ℕ), by omega⟩) := by
  obtain ⟨M, hM⟩ := fold_max_real (fun j => sC Xq Xk (ix4 b H r j)) _ fun j => sC_is b H Xq Xk Q K hq hk r j
  rw [← ninf, ← mC_at] at hM
  have hx : ∀ j, Is (xC (sC Xq Xk) (mC (sC Xq Xk)) (ix4 b H r j)) (Real.exp (-M) * E Q K ⟨(r : ℕ), by omega⟩ ⟨(j : ℕ), by omega⟩) := fun j => by
    rw [xC_at]
    exact (((sC_is b H Xq Xk Q K hq hk r j).sub hM).exp).congr (E_sees Q K (sees_ctx j.2) M)
  refine ⟨M, hM, hx, ?_⟩
  rw [lC_at]
  refine (Is.sum _ hx).congr ?_
  rw [Z_ctx Q K (r := ⟨(r : ℕ), by omega⟩) r.2, Finset.mul_sum]
theorem lseC_is (r : Fin 256) : Is (lseC (mC (sC Xq Xk)) (lC (xC (sC Xq Xk) (mC (sC Xq Xk)))) (ix4 b r H 0)) (Real.log (Z Q K ⟨(r : ℕ), by omega⟩)) := by
  obtain ⟨M, hM, -, hl⟩ := rowC b H Xq Xk Q K hq hk r
  rw [lseC_at]
  exact (hM.add (hl.log (mul_pos (Real.exp_pos _) (Z_pos Q K _)))).congr (log_Z Q K _ M _ rfl)
include hv in
theorem oC_is (r : Fin 256) (d : Fin 64) : Is (oC (xC (sC Xq Xk) (mC (sC Xq Xk))) (lC (xC (sC Xq Xk) (mC (sC Xq Xk)))) Xv (ix4 b r H d)) (O Q K V ⟨(r : ℕ), by omega⟩ d) := by
  obtain ⟨M, -, hx, hl⟩ := rowC b H Xq Xk Q K hq hk r
  rw [oC_at]
  refine (Is.sum _ fun j => (hv _ d).mul (((hx j).div hl (mul_pos (Real.exp_pos _) (Z_pos Q K _)).ne').congr (P_of Q K _ _ M _ _ rfl rfl))).congr ?_
  rw [O_ctx Q K V (r := ⟨(r : ℕ), by omega⟩) r.2]
theorem sX_is (r : Fin 4096) (j : Fin 4352) : Is (sX Xq Xk (ix4 b H r j)) (S Q K ⟨256 + (r : ℕ), by omega⟩ j) := by
  rw [sX_at]
  unfold S
  exact Is.sum _ fun l => (hq _ l).mul (hk _ l)
theorem rowX (r : Fin 4096) : ∃ M : ℝ, Is (mX (sX Xq Xk) (ix3 b H r)) M
    ∧ (∀ j, Is (xX (sX Xq Xk) (mX (sX Xq Xk)) (ix4 b H r j)) (Real.exp (-M) * E Q K ⟨256 + (r : ℕ), by omega⟩ j))
    ∧ Is (lX (xX (sX Xq Xk) (mX (sX Xq Xk))) (ix3 b H r)) (Real.exp (-M) * Z Q K ⟨256 + (r : ℕ), by omega⟩) := by
  obtain ⟨M, hM⟩ := fold_max_real (fun j => sX Xq Xk (ix4 b H r j)) _ fun j => sX_is b H Xq Xk Q K hq hk r j
  rw [← ninf, ← mX_at] at hM
  have hx : ∀ j, Is (xX (sX Xq Xk) (mX (sX Xq Xk)) (ix4 b H r j)) (Real.exp (-M) * E Q K ⟨256 + (r : ℕ), by omega⟩ j) := fun j => by
    rw [xX_at]
    exact (((sX_is b H Xq Xk Q K hq hk r j).sub hM).exp).congr (E_sees Q K (sees_lat (by simp only []; omega)) M)
  refine ⟨M, hM, hx, ?_⟩
  rw [lX_at]
  refine (Is.sum _ hx).congr ?_
  rw [show Z Q K ⟨256 + (r : ℕ), by omega⟩ = ∑ j, E Q K ⟨256 + (r : ℕ), by omega⟩ j from rfl, Finset.mul_sum]
theorem lseX_is (r : Fin 4096) : Is (lseX (mX (sX Xq Xk)) (lX (xX (sX Xq Xk) (mX (sX Xq Xk)))) (ix4 b r H 0)) (Real.log (Z Q K ⟨256 + (r : ℕ), by omega⟩)) := by
  obtain ⟨M, hM, -, hl⟩ := rowX b H Xq Xk Q K hq hk r
  rw [lseX_at]
  exact (hM.add (hl.log (mul_pos (Real.exp_pos _) (Z_pos Q K _)))).congr (log_Z Q K _ M _ rfl)
include hv in
theorem oX_is (r : Fin 4096) (d : Fin 64) : Is (oX (xX (sX Xq Xk) (mX (sX Xq Xk))) (lX (xX (sX Xq Xk) (mX (sX Xq Xk)))) Xv (ix4 b r H d)) (O Q K V ⟨256 + (r : ℕ), by omega⟩ d) := by
  obtain ⟨M, -, hx, hl⟩ := rowX b H Xq Xk Q K hq hk r
  rw [oX_at]
  refine (Is.sum _ fun j => (hv _ d).mul (((hx j).div hl (mul_pos (Real.exp_pos _) (Z_pos Q K _)).ne').congr (P_of Q K _ _ M _ _ rfl rfl))).congr ?_
  rw [show O Q K V ⟨256 + (r : ℕ), by omega⟩ d = ∑ j, V j d * P Q K ⟨256 + (r : ℕ), by omega⟩ j from rfl]

/-- The saved logs are the logs of the rows' sums, and the saved outputs the rows' outputs. -/
theorem lse_is (r : Fin 4352) : Is (lseOf Xq Xk (ix4 b r H 0)) (Real.log (Z Q K r)) := by
  by_cases h : (r : ℕ) < 256
  · rw [lseOf_lo _ _ _ _ _ h]
    exact lseC_is b H Xq Xk Q K hq hk ⟨r, h⟩
  · rw [lseOf_hi _ _ _ _ _ h]
    refine (lseX_is b H Xq Xk Q K hq hk ⟨r - 256, by omega⟩).congr ?_
    rw [show (⟨256 + ((⟨r - 256, by omega⟩ : Fin 4096) : ℕ), by omega⟩ : Fin 4352) = r from Fin.ext (by simp only []; omega)]
include hv in
theorem out_is (r : Fin 4352) (d : Fin 64) : Is (outOf Xq Xk Xv (ix4 b r H d)) (O Q K V r d) := by
  by_cases h : (r : ℕ) < 256
  · rw [outOf_lo _ _ _ _ _ _ _ h]
    exact oC_is b H Xq Xk Xv Q K V hq hk hv ⟨r, h⟩ d
  · rw [outOf_hi _ _ _ _ _ _ _ h]
    refine (oX_is b H Xq Xk Xv Q K V hq hk hv ⟨r - 256, by omega⟩ d).congr ?_
    rw [show (⟨256 + ((⟨r - 256, by omega⟩ : Fin 4096) : ℕ), by omega⟩ : Fin 4352) = r from Fin.ext (by simp only []; omega)]
end

/-! The arguments and what they are. -/

def arg0 (c : Dev nD) : FVec Ideal S2x4352x6x96 .f32 := m ((c : Thread nD τ).loc main_arg0)
def arg1 (c : Dev nD) : FVec Ideal S2x4352x6x96 .f32 := m ((c : Thread nD τ).loc main_arg1)
def arg2 (c : Dev nD) : FVec Ideal S2x4352x6x64 .f32 := m ((c : Thread nD τ).loc main_arg2)
def arg3 (c : Dev nD) : FVec Ideal S2x4352x6x64 .f32 := m ((c : Thread nD τ).loc main_arg3)

section
variable (c : Dev nD) (b : Fin 2) (H : Fin 6) (Q K : Fin 4352 → Fin 96 → ℝ) (V G : Fin 4352 → Fin 64 → ℝ)

/-- The arguments' head `H` of batch entry `b` is real: the scaled queries `Q`, the keys `K`, the values `V`, the output's gradient `G`. -/
structure Real4 : Prop where
  q : ∀ r d, Is (HMul.hMul (α := EReal) (arg0 m c (ix4 b r H d)) (Ideal.ofBits FTy.f32 1037108716#32)) (Q r d)
  k : ∀ r d, Is (arg1 m c (ix4 b r H d)) (K r d)
  v : ∀ r d, Is (arg2 m c (ix4 b r H d)) (V r d)
  g : ∀ r d, Is (arg3 m c (ix4 b r H d)) (G r d)

theorem A_v37 : (σA m c (Proc.devRef .tc main_v37) : FVec Ideal S2x4352x6x1 .f32) = lseOf (arg0 m c) (arg1 m c) := by
  unfold σA; exact a_v37 _
theorem A_v36 : (σA m c (Proc.devRef .tc main_v36) : FVec Ideal S2x4352x6x64 .f32) = outOf (arg0 m c) (arg1 m c) (arg2 m c) := by
  unfold σA; exact a_v36 _
theorem A_v1 (r : Fin 4352) (d : Fin 96) : (σA m c (Proc.devRef .tc main_v1) : FVec Ideal S2x4352x6x96 .f32) (ix4 b r H d)
    = HMul.hMul (α := EReal) (arg0 m c (ix4 b r H d)) (Ideal.ofBits FTy.f32 1037108716#32) := by
  unfold σA; exact a_v1 _ b H r d
theorem A_arg1 : (σA m c (Proc.devRef .tc main_arg1) : FVec Ideal S2x4352x6x96 .f32) = arg1 m c := by unfold σA; exact a_arg1 _
theorem A_arg2 : (σA m c (Proc.devRef .tc main_arg2) : FVec Ideal S2x4352x6x64 .f32) = arg2 m c := by unfold σA; exact a_arg2 _
theorem A_arg3 : (σA m c (Proc.devRef .tc main_arg3) : FVec Ideal S2x4352x6x64 .f32) = arg3 m c := by unfold σA; exact a_arg3 _
theorem A_c : σA m c (Proc.devRef .tc main_c) = constantI S_ 32 0#32 := by unfold σA; exact a_c _

variable {m c b H Q K V G} (R : Real4 m c b H Q K V G)
include R

theorem P_v38 (r : Fin 4352) (d : Fin 128) : Is ((σP m c (Proc.devRef .tc main_v38) : Rows) (ix4 b r H d)) (padQ (Q r) d) := by
  unfold σP
  rw [p_v38 _ b H d r _ rfl (A_c m c)]
  exact Is.dite (fun h => by rw [A_v1]; exact R.q r ⟨d, h⟩) fun _ => Is.zero
theorem P_v49 (r : Fin 4352) (d : Fin 128) : Is ((σP m c (Proc.devRef .tc main_v49) : Rows) (ix4 b r H d)) (oneK (K r) d) := by
  unfold σP
  rw [p_v49 _ b H d r _ (A_arg1 m c) (A_c m c)]
  exact Is.ite (fun _ => Is.one) fun _ => Is.dite (fun h => R.k r ⟨d, h⟩) fun _ => Is.zero
theorem P_v55 (r : Fin 4352) (d : Fin 128) : Is ((σP m c (Proc.devRef .tc main_v55) : Rows) (ix4 b r H d)) (oneV (V r) d) := by
  unfold σP
  rw [p_v55 _ b H d r _ (A_arg2 m c) (A_c m c)]
  exact Is.ite (fun _ => Is.one) fun _ => Is.dite (fun h => R.v r ⟨d, h⟩) fun _ => Is.zero
theorem P_v41 (r : Fin 4352) (d : Fin 128) : Is ((σP m c (Proc.devRef .tc main_v41) : Rows) (ix4 b r H d)) (padG (G r) d) := by
  unfold σP
  rw [p_v41 _ b H d r _ (A_arg3 m c) (A_c m c)]
  exact Is.dite (fun h => R.g r ⟨d, h⟩) fun _ => Is.zero
theorem P_v42 (r : Fin 4352) (d : Fin 128) : Is ((σP m c (Proc.devRef .tc main_v42) : Rows) (ix4 b r H d)) (padG (O Q K V r) d) := by
  unfold σP
  rw [p_v42 _ b H d r _ (A_v36 m c) (A_c m c)]
  exact Is.dite (fun h => out_is b H _ _ _ Q K V R.q R.k R.v r ⟨d, h⟩) fun _ => Is.zero
theorem P_v37 (r : Fin 4352) : Is ((σP m c (Proc.devRef .tc main_v37) : FVec Ideal S2x4352x6x1 .f32) (ix4 b r H 0)) (Real.log (Z Q K r)) := by
  unfold σP
  rw [stP_v37, A_v37]
  exact lse_is b H _ _ Q K R.q R.k r
theorem Q_v98 (r : Fin 4352) (d : Fin 128) : Is ((σQ m c (Proc.devRef .tc main_v98) : Rows) (ix4 b r H d)) (lessQ (Q r) (Real.log (Z Q K r)) d) := by
  have hL := P_v37 R r
  have hX := P_v38 R r d
  unfold σQ σD
  rw [q_v98 _ b H d r _ _ (stD_v38 _) (stD_v37 _) _ _ hL hX]
  exact Is.ite (fun _ => Is.neg rfl) fun _ => Is.ite (fun _ => (Is.sub rfl rfl).neg) fun _ => Is.ite (fun _ => (Is.sub rfl rfl).sub (Is.sub rfl rfl)) fun _ => rfl
theorem Q_v77 (r : Fin 4352) (d : Fin 128) : Is ((σQ m c (Proc.devRef .tc main_v77) : Rows) (ix4 b r H d)) (lessG (G r) (D Q K V G r) d) := by
  have hL : Is _ (D Q K V G r) := (Is.sum Finset.univ fun x => (P_v41 R r x).mul (P_v42 R r x)).congr (dot_lanes _ _)
  have hX := P_v41 R r d
  unfold σQ σD
  rw [stQ_v77, d_v77 _ b H d r _ _ rfl rfl _ _ hL hX]
  exact Is.ite (fun _ => Is.neg rfl) fun _ => Is.ite (fun _ => (Is.sub rfl rfl).neg) fun _ => Is.ite (fun _ => (Is.sub rfl rfl).sub (Is.sub rfl rfl)) fun _ => rfl

/-! The seven operand arrays. -/

theorem opKf_is (r : Fin 4352) (d : Fin 128) : Is (opKf m c (ix3 b r (lane H d))) (oneK (K r) d) := by
  unfold opKf
  show Is ((Gen.V m c main_v102 : FVec Ideal S2x4352x768 .bf16) _) _
  rw [V_stages, out_v102]
  unfold σQ σD
  rw [stQ_v49, stD_v49]
  exact P_v49 R r d
theorem opQS_is (r : Fin 4352) (d : Fin 128) : Is (opQS m c (ix3 b r (lane H d))) (lessQ (Q r) (Real.log (Z Q K r)) d) := by
  unfold opQS
  show Is ((Gen.V m c main_v100 : FVec Ideal S2x4352x768 .bf16) _) _
  rw [V_stages, out_v100]
  exact Q_v98 R r d
theorem opDOS_is (r : Fin 4352) (d : Fin 128) : Is (opDOS m c (ix3 b r (lane H d))) (lessG (G r) (D Q K V G r) d) := by
  unfold opDOS
  show Is ((Gen.V m c main_v104 : FVec Ideal S2x4352x768 .bf16) _) _
  rw [V_stages, out_v104]
  exact Q_v77 R r d
theorem opQT_is (r : Fin 4352) (d : Fin 128) : Is (opQT m c (ix4 b H d r)) (padQ (Q r) d) := by
  unfold opQT
  show Is ((Gen.V m c main_v106 : FVec Ideal S2x6x128x4352 .bf16) _) _
  rw [V_stages, out_v106]
  unfold σQ σD
  rw [stQ_v38, stD_v38]
  exact P_v38 R r d
theorem opKT_is (r : Fin 4352) (d : Fin 128) : Is (opKT m c (ix4 b H d r)) (oneK (K r) d) := by
  unfold opKT
  show Is ((Gen.V m c main_v108 : FVec Ideal S2x6x128x4352 .bf16) _) _
  rw [V_stages, out_v108]
  unfold σQ σD
  rw [stQ_v49, stD_v49]
  exact P_v49 R r d
theorem opVT_is (r : Fin 4352) (d : Fin 128) : Is (opVT m c (ix4 b H d r)) (oneV (V r) d) := by
  unfold opVT
  show Is ((Gen.V m c main_v110 : FVec Ideal S2x6x128x4352 .bf16) _) _
  rw [V_stages, out_v110]
  unfold σQ σD
  rw [stQ_v55, stD_v55]
  exact P_v55 R r d
theorem opDOT_is (r : Fin 4352) (d : Fin 128) : Is (opDOT m c (ix4 b H d r)) (padG (G r) d) := by
  unfold opDOT
  show Is ((Gen.V m c main_v112 : FVec Ideal S2x6x128x4352 .bf16) _) _
  rw [V_stages, out_v112]
  unfold σQ σD
  rw [stQ_v41, stD_v41]
  exact P_v41 R r d

end
end Cert.KernelIdeal.FB
end
-- ==== Proof.Left.lean ====
module

public import proofs.«01_k».proof.Proof.Array

@[expose] public section
set_option maxRecDepth 16384
noncomputable section
namespace Cert.KernelIdeal.FB
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem left_dv (c : Dev nD) (t : Fin cfg0.N) (hh : Fin 2) (d : Fin 128) (k : Fin 256) (y : S1x256x256.Idx)
    (e1 : (y 1 : ℕ) = k) (e2 : (y 2 : ℕ) = 128 * hh + d) :
    (outsAt0 m c t.val t.isLt).2.2 y = ADV (opQS m c) (opKT m c) (opDOT m c) (pB t) (pH t hh) d (pK t k) := by
  rw [← dv_at]
  by_cases h0 : t.val % 17 = 0
  · rw [outsAt0_A m c t h0 (by omega) h0 (by omega)]
    dsimp only
    rw [dv_A (y := y) (hh := hh) (d := d) (k := k) (e1 := e1) (e2 := e2)]
  · rw [outsAt0_B m c t h0 (by omega) h0 (by omega)]
    dsimp only
    rw [dv_B (y := y) (hh := hh) (d := d) (k := k) (e1 := e1) (e2 := e2)]

theorem left_dk (c : Dev nD) (t : Fin cfg0.N) (hh : Fin 2) (d : Fin 128) (k : Fin 256) (y : S1x256x256.Idx)
    (e1 : (y 1 : ℕ) = k) (e2 : (y 2 : ℕ) = 128 * hh + d) :
    (outsAt0 m c t.val t.isLt).2.1 y = ADK (opQS m c) (opDOS m c) (opKT m c) (opVT m c) (opQT m c) (pB t) (pH t hh) d (pK t k) := by
  rw [← dk_at]
  by_cases h0 : t.val % 17 = 0
  · rw [outsAt0_A m c t h0 (by omega) h0 (by omega)]
    dsimp only
    rw [dk_A (y := y) (hh := hh) (d := d) (k := k) (e1 := e1) (e2 := e2)]
  · rw [outsAt0_B m c t h0 (by omega) h0 (by omega)]
    dsimp only
    rw [dk_B (y := y) (hh := hh) (d := d) (k := k) (e1 := e1) (e2 := e2)]

/-- One key block's part of a query row's gradient, the head and the row read off the block's index. -/
def part (c : Dev nD) (t : Fin cfg0.N) (y : S1x4352x256.Idx) : EReal :=
  DQ ((grid0.coords t) 2) (SC (iblk m c 1 t) (iblk m c 3 t)) (SC (iblk m c 2 t) (iblk m c 4 t)) (iblk m c 0 t)
    ⟨(y 2 : ℕ) / 128, by have : (y 2 : ℕ) < 256 := (y 2).isLt; omega⟩ (y 1) ⟨(y 2 : ℕ) % 128, by omega⟩

theorem left_reset (c : Dev nD) (t : Fin cfg0.N) (h0 : t.val % 17 = 0) (y : S1x4352x256.Idx) :
    (outsAt0 m c t.val t.isLt).1 y = 0 + part m c t y := by
  rw [outsAt0_A m c t h0 (by omega) h0 (by omega), zero_add]
  dsimp only
  rw [dq_A (y := y) (hh := ⟨(y 2 : ℕ) / 128, by have : (y 2 : ℕ) < 256 := (y 2).isLt; omega⟩) (d := ⟨(y 2 : ℕ) % 128, by omega⟩) (r := y 1)
    (e1 := rfl) (e2 := by simp only []; omega)]
  rfl

theorem left_step (c : Dev nD) (t : Fin cfg0.N) (h0 : ¬ t.val % 17 = 0) (y : S1x4352x256.Idx) :
    (outsAt0 m c t.val t.isLt).1 y
      = (outsAt0 m c (t.val - 1) (Nat.lt_of_le_of_lt (Nat.sub_le _ _) t.isLt)).1 y + part m c t y := by
  rw [outsAt0_B m c t h0 (by omega) h0 (by omega)]
  dsimp only
  rw [dq_B (y := y) (hh := ⟨(y 2 : ℕ) / 128, by have : (y 2 : ℕ) < 256 := (y 2).isLt; omega⟩) (d := ⟨(y 2 : ℕ) % 128, by omega⟩) (r := y 1)
    (e1 := rfl) (e2 := by simp only []; omega)]
  refine congrArg (· + part m c t y) (congrArg _ ?_)
  have h1 : (y 0 : ℕ) < 1 := (y 0).isLt
  rw [eq_ix3 y]
  refine (ix3_inj ..).2 ⟨Fin.ext ?_, rfl, Fin.ext ?_⟩
  · show 0 = (y 0 : ℕ); omega
  · show 128 * ((y 2 : ℕ) / 128) + (y 2 : ℕ) % 128 = (y 2 : ℕ); omega

end Cert.KernelIdeal.FB
end
-- ==== Proof.Final.lean ====
module

public import proofs.«01_k».proof.Proof.Left

@[expose] public section
set_option maxRecDepth 16384
noncomputable section
namespace Cert.KernelIdeal.FB
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The head and the lane of a place in a row of all heads. -/
abbrev hd (e : Fin 768) : Fin 6 := ⟨(e : ℕ) / 128, by omega⟩
abbrev ln (e : Fin 768) : Fin 128 := ⟨(e : ℕ) % 128, by omega⟩

/-- What the three result arrays hold. -/
def outDV (c : Dev nD) : FVec Ideal S2x4352x768 .f32 := fun y =>
  ADV (opQS m c) (opKT m c) (opDOT m c) (y 0) (hd (y 2)) (ln (y 2)) (y 1)
def outDK (c : Dev nD) : FVec Ideal S2x4352x768 .f32 := fun y =>
  ADK (opQS m c) (opDOS m c) (opKT m c) (opVT m c) (opQT m c) (y 0) (hd (y 2)) (ln (y 2)) (y 1)
def outDQ (c : Dev nD) : FVec Ideal S2x4352x768 .f32 := fun y =>
  ADQ (opKf m c) (opQS m c) (opDOS m c) (opKT m c) (opVT m c) (y 0) (hd (y 2)) (y 1) (ln (y 2))

theorem place9 (c : Dev nD) (t : Fin cfg0.N) (y : S1x256x256.Idx) :
    (outsAt0 m c t.val t.isLt).2.2 y = outDV m c (((cfg0.win 9).blk t).view.emb y) := by
  have h0 : (y 0 : ℕ) < 1 := (y 0).isLt
  have h1 : (y 1 : ℕ) < 256 := (y 1).isLt
  have h2 : (y 2 : ℕ) < 256 := (y 2).isLt
  have hy : y = ix3 0 (y 1) (y 2) := by
    refine (eq_ix3 y).trans ((ix3_inj ..).2 ⟨Fin.ext ?_, rfl, rfl⟩)
    show (y 0 : ℕ) = 0
    omega
  rw [left_dv m c t ⟨(y 2 : ℕ) / 128, by omega⟩ ⟨(y 2 : ℕ) % 128, by omega⟩ (y 1) y rfl (by simp only []; omega)]
  have he := (congrArg ((cfg0.win 9).blk t).view.emb hy).trans (emb9 t (y 1) (y 2))
  rw [he]
  have e1 : pH t ⟨(y 2 : ℕ) / 128, by omega⟩ = hd ⟨256 * (t.val / 17 % 3) + (y 2 : ℕ), by omega⟩ := Fin.ext (by simp only []; omega)
  have e2 : (⟨(y 2 : ℕ) % 128, by omega⟩ : Fin 128) = ln ⟨256 * (t.val / 17 % 3) + (y 2 : ℕ), by omega⟩ := Fin.ext (by simp only []; omega)
  rw [e1, e2]
  rfl

theorem final9 (c : Dev nD) : (dats m 0 c).arrAt 9 cfg0.N = outDV m c := by
  refine (dats m 0 c).arrAt_eq_of_covers 9 _ (by decide +kernel) fun t hf y => ?_
  rw [after0_9]
  exact place9 m c t y

theorem place8 (c : Dev nD) (t : Fin cfg0.N) (y : S1x256x256.Idx) :
    (outsAt0 m c t.val t.isLt).2.1 y = outDK m c (((cfg0.win 8).blk t).view.emb y) := by
  have h0 : (y 0 : ℕ) < 1 := (y 0).isLt
  have h1 : (y 1 : ℕ) < 256 := (y 1).isLt
  have h2 : (y 2 : ℕ) < 256 := (y 2).isLt
  have hy : y = ix3 0 (y 1) (y 2) := by
    refine (eq_ix3 y).trans ((ix3_inj ..).2 ⟨Fin.ext ?_, rfl, rfl⟩)
    show (y 0 : ℕ) = 0
    omega
  rw [left_dk m c t ⟨(y 2 : ℕ) / 128, by omega⟩ ⟨(y 2 : ℕ) % 128, by omega⟩ (y 1) y rfl (by simp only []; omega)]
  have he := (congrArg ((cfg0.win 8).blk t).view.emb hy).trans (emb8 t (y 1) (y 2))
  rw [he]
  have e1 : pH t ⟨(y 2 : ℕ) / 128, by omega⟩ = hd ⟨256 * (t.val / 17 % 3) + (y 2 : ℕ), by omega⟩ := Fin.ext (by simp only []; omega)
  have e2 : (⟨(y 2 : ℕ) % 128, by omega⟩ : Fin 128) = ln ⟨256 * (t.val / 17 % 3) + (y 2 : ℕ), by omega⟩ := Fin.ext (by simp only []; omega)
  rw [e1, e2]
  rfl

theorem final8 (c : Dev nD) : (dats m 0 c).arrAt 8 cfg0.N = outDK m c := by
  refine (dats m 0 c).arrAt_eq_of_covers 8 _ (by decide +kernel) fun t hf y => ?_
  rw [after0_8]
  exact place8 m c t y

theorem part_eq (c : Dev nD) (t : Fin cfg0.N) (y : S1x4352x256.Idx) (hh : Fin 2) (r : Fin 4352) (d : Fin 128)
    (e1 : (y 1 : ℕ) = r) (e2 : (y 2 : ℕ) / 128 = hh) (e3 : (y 2 : ℕ) % 128 = d) : part m c t y
      = ∑ k : Fin 256, ADS (opQS m c) (opDOS m c) (opKT m c) (opVT m c) (pB t) (pH t hh) r (pK t k) * opKf m c (ix3 (pB t) (pK t k) (lane (pH t hh) d)) := by
  refine Eq.trans ?_ (dq_at m c t hh r d)
  have h2 : (⟨(y 2 : ℕ) / 128, by have : (y 2 : ℕ) < 256 := (y 2).isLt; omega⟩ : Fin 2) = hh := Fin.ext e2
  have h3 : (⟨(y 2 : ℕ) % 128, by omega⟩ : Fin 128) = d := Fin.ext e3
  have h1 : y 1 = r := Fin.ext e1
  unfold part
  rw [h1, h2, h3]

theorem place7 (c : Dev nD) (t : Fin cfg0.N) (hf : t.val % 17 = 16) (y : S1x4352x256.Idx) :
    (outsAt0 m c t.val t.isLt).1 y = outDQ m c (((cfg0.win 7).blk t).view.emb y) := by
  have h0 : (y 0 : ℕ) < 1 := (y 0).isLt
  have h1 : (y 1 : ℕ) < 4352 := (y 1).isLt
  have h2 : (y 2 : ℕ) < 256 := (y 2).isLt
  have hy : y = ix3 0 (y 1) (y 2) := by
    refine (eq_ix3 y).trans ((ix3_inj ..).2 ⟨Fin.ext ?_, rfl, rfl⟩)
    show (y 0 : ℕ) = 0
    omega
  rw [Pipeline.eq_sum_fin_of_reset_step_apply_of_flush (fun n h => (outsAt0 m c n h).1) 17 (fun _ => 0) (part m c)
    (left_reset m c) (left_step m c) t hf y, zero_add]
  have he := (congrArg ((cfg0.win 7).blk t).view.emb hy).trans (emb7 t (y 1) (y 2))
  rw [he]
  have hN := lt_N t
  refine (Finset.sum_congr rfl fun s _ => part_eq m c _ y ⟨(y 2 : ℕ) / 128, by omega⟩ (y 1) ⟨(y 2 : ℕ) % 128, by omega⟩ rfl rfl rfl).trans ?_
  refine Fin.sum_mul_add_congr (n := 256) (S := 17) (L := 4352) (f := fun k => ADS (opQS m c) (opDOS m c) (opKT m c) (opVT m c) (pB t)
    (hd ⟨256 * (t.val / 17 % 3) + (y 2 : ℕ), by omega⟩) (y 1) k * opKf m c (ix3 (pB t) k (lane (hd ⟨256 * (t.val / 17 % 3) + (y 2 : ℕ), by omega⟩)
      (ln ⟨256 * (t.val / 17 % 3) + (y 2 : ℕ), by omega⟩)))) fun s k hl => ?_
  have e1 : ∀ h, pH ⟨17 * (t.val / 17) + s.val, h⟩ ⟨(y 2 : ℕ) / 128, by omega⟩ = hd ⟨256 * (t.val / 17 % 3) + (y 2 : ℕ), by omega⟩ :=
    fun h => Fin.ext (by simp only []; omega)
  have e2 : (⟨(y 2 : ℕ) % 128, by omega⟩ : Fin 128) = ln ⟨256 * (t.val / 17 % 3) + (y 2 : ℕ), by omega⟩ := Fin.ext (by simp only []; omega)
  have e3 : ∀ h, pB ⟨17 * (t.val / 17) + s.val, h⟩ = pB t := fun h => Fin.ext (by simp only []; omega)
  have e4 : ∀ h, pK ⟨17 * (t.val / 17) + s.val, h⟩ k = ⟨s.val * 256 + k.val, hl⟩ := fun h => Fin.ext (by simp only []; omega)
  rw [e1, e2, e3, e4]

theorem final7 (c : Dev nD) : (dats m 0 c).arrAt 7 cfg0.N = outDQ m c := by
  refine (dats m 0 c).arrAt_eq_of_covers 7 _ (by decide +kernel) fun t hf y => ?_
  rw [after0_7]
  exact place7 m c t ((flush0_7 t).mp hf) y

end Cert.KernelIdeal.FB
end
-- ==== Proof.KVal.lean ====
module

public import proofs.«01_k».proof.Proof.Ops
public import proofs.«01_k».proof.Proof.Final

@[expose] public section
set_option maxRecDepth 16384
noncomputable section
namespace Cert.KernelIdeal.FB
open Cert.KernelIdeal Cert.KernelIdeal.Gen Idealize.ShloMosaic Idealize.ShloMosaic.TcCoe Idealize.SL.Sem
open Cert.Attn

/-! ## The region's three results, of real arguments: attention's gradients, padded with zeros to 128 lanes -/

variable {m : (ℓ : Loc nD τ sig) → Buf (Elt Ideal) ℓ} {c : Dev nD} {b : Fin 2} {H : Fin 6} {Q K : Fin 4352 → Fin 96 → ℝ} {V G : Fin 4352 → Fin 64 → ℝ}
  (R : Real4 m c b H Q K V G)
include R

theorem AW_is (r k : Fin 4352) : Is (AW (opQS m c) (opKT m c) b H r k) (P Q K r k) := by
  have h : Is (AS (opKT m c) (opQS m c) b H r k) (S Q K r k - Real.log (Z Q K r)) :=
    (Is.sum _ fun l => (opQS_is R r l).mul (opKT_is R k l)).congr (score_lanes _ _ _)
  rw [P_exp]
  unfold AW
  by_cases hs : (r : ℕ) < 256 ∧ ¬ (k : ℕ) < 256
  · rw [if_pos hs, if_neg (not_not.2 hs)]
    exact Is.zero
  · rw [if_neg hs, if_pos hs]
    exact h.exp

theorem ADS_is (r k : Fin 4352) : Is (ADS (opQS m c) (opDOS m c) (opKT m c) (opVT m c) b H r k) (dS Q K V G r k) := by
  have h : Is (AS (opVT m c) (opDOS m c) b H r k) (dP V G r k - D Q K V G r) :=
    (Is.sum _ fun l => (opDOS_is R r l).mul (opVT_is R k l)).congr (grad_lanes _ _ _)
  exact (AW_is R r k).mul h

theorem ADV_is (j : Fin 4352) (d : Fin 128) : Is (ADV (opQS m c) (opKT m c) (opDOT m c) b H d j) (padG (dV Q K G j) d) := by
  refine (Is.sum _ fun r => (opDOT_is R r d).mul (AW_is R r j)).congr ?_
  unfold padG
  by_cases h : (d : ℕ) < 64
  · simp only [dif_pos h]; rfl
  · simp only [dif_neg h, zero_mul, Finset.sum_const_zero]

theorem ADK_is (j : Fin 4352) (d : Fin 128) : Is (ADK (opQS m c) (opDOS m c) (opKT m c) (opVT m c) (opQT m c) b H d j) (padQ (dK Q K V G j) d) := by
  refine (Is.sum _ fun r => (opQT_is R r d).mul (ADS_is R r j)).congr ?_
  unfold padQ
  by_cases h : (d : ℕ) < 96
  · simp only [dif_pos h]; rfl
  · simp only [dif_neg h, zero_mul, Finset.sum_const_zero]

theorem ADQ_is (r : Fin 4352) (d : Fin 128) : Is (ADQ (opKf m c) (opQS m c) (opDOS m c) (opKT m c) (opVT m c) b H r d) (padQ (dQ Q K V G r) d) := by
  refine (Is.sum _ fun k => (ADS_is R r k).mul (opKf_is R k d)).congr ?_
  unfold oneK padQ
  by_cases h : (d : ℕ) < 96
  · have h' : ¬ (96 ≤ (d : ℕ) ∧ (d : ℕ) < 99) := fun e => by omega
    simp only [dif_pos h, if_neg h']; rfl
  · by_cases h' : 96 ≤ (d : ℕ) ∧ (d : ℕ) < 99
    · simp only [dif_neg h, if_pos h', mul_one]
      exact sum_dS Q K V G r
    · simp only [dif_neg h, if_neg h', mul_zero, Finset.sum_const_zero]

end Cert.KernelIdeal.FB
end
-- ==== Proof.RefAt.lean ====
module

public import proofs.«01_k».proof.Proof.Lanes
public import proofs.«01_k».proof.Proof.Gen.ReferenceIdeal.Read

@[expose] public section
set_option maxRecDepth 16384
noncomputable section
namespace Cert.ReferenceIdeal.FB
open Cert.ReferenceIdeal Cert.ReferenceIdeal.Gen Cert.ReferenceIdeal.Read Idealize.ShloMosaic Idealize.ShloMosaic.TcCoe Idealize.SL.Sem

/-! ## The reference's stages at an index -/

variable (x0 x1 : FVec Ideal S2x4352x6x96 .f32) (x2 x3 : FVec Ideal S2x4352x6x64 .f32)

theorem v5_at (b : Fin 2) (H : Fin 6) (r : Fin 256) (j : Fin 256) : val_main_v5 (F := Ideal) x0 x1 (ix4 b H r j) = (∑ l : Fin 96, HMul.hMul (α := EReal) (β := EReal) (HMul.hMul (α := EReal) (β := EReal) (x0 (ix4 b ⟨(r : ℕ), by omega⟩ H l)) (Ideal.ofBits FTy.f32 1037108716#32)) (x1 (ix4 b ⟨(j : ℕ), by omega⟩ H l)) : EReal) := by
  unfold val_main_v5 val_main_v2 val_main_v3 val_main_v1 val_main_v0 val_main_cst
  pointwise
theorem v6_at (b : Fin 2) (H : Fin 6) (r : Fin 256) : val_main_v6 (F := Ideal) x0 x1 (ix3 b H r) = (Finset.fold max (Ideal.ofBits FTy.f32 4286578688#32) (fun j => val_main_v5 (F := Ideal) x0 x1 (ix4 b H r j)) Finset.univ : EReal) := by
  unfold val_main_v6 val_main_cst_0
  generalize val_main_v5 (F := Ideal) x0 x1 = X5
  pointwise
theorem v10_at (b : Fin 2) (H : Fin 6) (r : Fin 256) (j : Fin 256) : val_main_v10 (F := Ideal) x0 x1 (ix4 b H r j) = (Ideal.exp (HSub.hSub (α := EReal) (val_main_v5 (F := Ideal) x0 x1 (ix4 b H r j)) (val_main_v6 (F := Ideal) x0 x1 (ix3 b H r))) : EReal) := by
  unfold val_main_v10 val_main_v9 val_main_v8 val_main_v7
  generalize val_main_v5 (F := Ideal) x0 x1 = X5
  generalize val_main_v6 (F := Ideal) x0 x1 = X6
  pointwise
theorem v11_at (b : Fin 2) (H : Fin 6) (r : Fin 256) : val_main_v11 (F := Ideal) x0 x1 (ix3 b H r) = (∑ j : Fin 256, val_main_v10 (F := Ideal) x0 x1 (ix4 b H r j) : EReal) := by
  unfold val_main_v11 val_main_cst_1
  generalize val_main_v10 (F := Ideal) x0 x1 = X10
  pointwise
theorem v14_at (b : Fin 2) (H : Fin 6) (r : Fin 256) (j : Fin 256) : val_main_v14 (F := Ideal) x0 x1 (ix4 b H r j) = (Ideal.div (val_main_v10 (F := Ideal) x0 x1 (ix4 b H r j)) (val_main_v11 (F := Ideal) x0 x1 (ix3 b H r)) : EReal) := by
  unfold val_main_v14 val_main_v13 val_main_v12
  generalize val_main_v10 (F := Ideal) x0 x1 = X10
  generalize val_main_v11 (F := Ideal) x0 x1 = X11
  pointwise
theorem v61_at (b : Fin 2) (H : Fin 6) (r : Fin 256) (j : Fin 256) : val_main_v61 (F := Ideal) x2 x3 (ix4 b H r j) = (∑ c : Fin 64, HMul.hMul (α := EReal) (β := EReal) (x3 (ix4 b ⟨(r : ℕ), by omega⟩ H c)) (x2 (ix4 b ⟨(j : ℕ), by omega⟩ H c)) : EReal) := by
  unfold val_main_v61 val_main_v60 val_main_v37 val_main_v4
  pointwise
theorem v67_at (b : Fin 2) (H : Fin 6) (r : Fin 256) : val_main_v67 (F := Ideal) x0 x1 x2 x3 (ix3 b H r) = (∑ j : Fin 256, HMul.hMul (α := EReal) (β := EReal) (HMul.hMul (α := EReal) (β := EReal) (val_main_v61 (F := Ideal) x2 x3 (ix4 b H r j)) (Ideal.div (Ideal.ofBits FTy.f32 1065353216#32) (HMul.hMul (α := EReal) (β := EReal) (val_main_v11 (F := Ideal) x0 x1 (ix3 b H r)) (val_main_v11 (F := Ideal) x0 x1 (ix3 b H r))))) (val_main_v10 (F := Ideal) x0 x1 (ix4 b H r j)) : EReal) := by
  unfold val_main_v67 val_main_v66 val_main_v65 val_main_v64 val_main_v17 val_main_v16 val_main_cst_2 val_main_v15 val_main_v12 val_main_cst_9
  generalize val_main_v61 (F := Ideal) x2 x3 = X61
  generalize val_main_v11 (F := Ideal) x0 x1 = X11
  generalize val_main_v10 (F := Ideal) x0 x1 = X10
  pointwise
theorem v75_at (b : Fin 2) (H : Fin 6) (r : Fin 256) (j : Fin 256) : val_main_v75 (F := Ideal) x0 x1 x2 x3 (ix4 b H r j) = (HMul.hMul (α := EReal) (β := EReal) (HAdd.hAdd (α := EReal) (Ideal.div (val_main_v61 (F := Ideal) x2 x3 (ix4 b H r j)) (val_main_v11 (F := Ideal) x0 x1 (ix3 b H r))) (-(val_main_v67 (F := Ideal) x0 x1 x2 x3 (ix3 b H r)))) (val_main_v10 (F := Ideal) x0 x1 (ix4 b H r j)) : EReal) := by
  unfold val_main_v75 val_main_v74 val_main_v73 val_main_v72 val_main_v71 val_main_v70 val_main_v69 val_main_v68 val_main_v12 val_main_cst_10
  generalize val_main_v61 (F := Ideal) x2 x3 = X61
  generalize val_main_v11 (F := Ideal) x0 x1 = X11
  generalize val_main_v10 (F := Ideal) x0 x1 = X10
  generalize val_main_v67 (F := Ideal) x0 x1 x2 x3 = X67
  pointwise
  rw [Fin.sum_univ_one]
theorem v63_at (b : Fin 2) (H : Fin 6) (j : Fin 256) (c : Fin 64) : val_main_v63 (F := Ideal) x0 x1 x3 (ix4 b j H c) = (∑ r : Fin 256, HMul.hMul (α := EReal) (β := EReal) (x3 (ix4 b ⟨(r : ℕ), by omega⟩ H c)) (val_main_v14 (F := Ideal) x0 x1 (ix4 b H r j)) : EReal) := by
  unfold val_main_v63 val_main_v62 val_main_v60 val_main_v37
  generalize val_main_v14 (F := Ideal) x0 x1 = X14
  pointwise
theorem v77_at (b : Fin 2) (H : Fin 6) (j : Fin 256) (d : Fin 96) : val_main_v77 (F := Ideal) x0 x1 x2 x3 (ix4 b j H d) = (∑ r : Fin 256, HMul.hMul (α := EReal) (β := EReal) (val_main_v75 (F := Ideal) x0 x1 x2 x3 (ix4 b H r j)) (HMul.hMul (α := EReal) (β := EReal) (x0 (ix4 b ⟨(r : ℕ), by omega⟩ H d)) (Ideal.ofBits FTy.f32 1037108716#32)) : EReal) := by
  unfold val_main_v77 val_main_v76 val_main_v2 val_main_v1 val_main_v0 val_main_cst
  generalize val_main_v75 (F := Ideal) x0 x1 x2 x3 = X75
  pointwise
theorem v79_at (b : Fin 2) (H : Fin 6) (r : Fin 256) (d : Fin 96) : val_main_v79 (F := Ideal) x0 x1 x2 x3 (ix4 b r H d) = (∑ j : Fin 256, HMul.hMul (α := EReal) (β := EReal) (val_main_v75 (F := Ideal) x0 x1 x2 x3 (ix4 b H r j)) (x1 (ix4 b ⟨(j : ℕ), by omega⟩ H d)) : EReal) := by
  unfold val_main_v79 val_main_v78 val_main_v3
  generalize val_main_v75 (F := Ideal) x0 x1 x2 x3 = X75
  pointwise
theorem v21_at (b : Fin 2) (H : Fin 6) (r : Fin 4096) (j : Fin 4352) : val_main_v21 (F := Ideal) x0 x1 (ix4 b H r j) = (∑ l : Fin 96, HMul.hMul (α := EReal) (β := EReal) (HMul.hMul (α := EReal) (β := EReal) (x0 (ix4 b ⟨256 + (r : ℕ), by omega⟩ H l)) (Ideal.ofBits FTy.f32 1037108716#32)) (x1 (ix4 b j H l)) : EReal) := by
  unfold val_main_v21 val_main_v20 val_main_v1 val_main_v0 val_main_cst
  pointwise
theorem v22_at (b : Fin 2) (H : Fin 6) (r : Fin 4096) : val_main_v22 (F := Ideal) x0 x1 (ix3 b H r) = (Finset.fold max (Ideal.ofBits FTy.f32 4286578688#32) (fun j => val_main_v21 (F := Ideal) x0 x1 (ix4 b H r j)) Finset.univ : EReal) := by
  unfold val_main_v22 val_main_cst_3
  generalize val_main_v21 (F := Ideal) x0 x1 = X21
  pointwise
theorem v26_at (b : Fin 2) (H : Fin 6) (r : Fin 4096) (j : Fin 4352) : val_main_v26 (F := Ideal) x0 x1 (ix4 b H r j) = (Ideal.exp (HSub.hSub (α := EReal) (val_main_v21 (F := Ideal) x0 x1 (ix4 b H r j)) (val_main_v22 (F := Ideal) x0 x1 (ix3 b H r))) : EReal) := by
  unfold val_main_v26 val_main_v25 val_main_v24 val_main_v23
  generalize val_main_v21 (F := Ideal) x0 x1 = X21
  generalize val_main_v22 (F := Ideal) x0 x1 = X22
  pointwise
theorem v27_at (b : Fin 2) (H : Fin 6) (r : Fin 4096) : val_main_v27 (F := Ideal) x0 x1 (ix3 b H r) = (∑ j : Fin 4352, val_main_v26 (F := Ideal) x0 x1 (ix4 b H r j) : EReal) := by
  unfold val_main_v27 val_main_cst_4
  generalize val_main_v26 (F := Ideal) x0 x1 = X26
  pointwise
theorem v30_at (b : Fin 2) (H : Fin 6) (r : Fin 4096) (j : Fin 4352) : val_main_v30 (F := Ideal) x0 x1 (ix4 b H r j) = (Ideal.div (val_main_v26 (F := Ideal) x0 x1 (ix4 b H r j)) (val_main_v27 (F := Ideal) x0 x1 (ix3 b H r)) : EReal) := by
  unfold val_main_v30 val_main_v29 val_main_v28
  generalize val_main_v26 (F := Ideal) x0 x1 = X26
  generalize val_main_v27 (F := Ideal) x0 x1 = X27
  pointwise
theorem v40_at (b : Fin 2) (H : Fin 6) (r : Fin 4096) (j : Fin 4352) : val_main_v40 (F := Ideal) x2 x3 (ix4 b H r j) = (∑ c : Fin 64, HMul.hMul (α := EReal) (β := EReal) (x3 (ix4 b ⟨256 + (r : ℕ), by omega⟩ H c)) (x2 (ix4 b j H c)) : EReal) := by
  unfold val_main_v40 val_main_v39 val_main_v38
  pointwise
theorem v46_at (b : Fin 2) (H : Fin 6) (r : Fin 4096) : val_main_v46 (F := Ideal) x0 x1 x2 x3 (ix3 b H r) = (∑ j : Fin 4352, HMul.hMul (α := EReal) (β := EReal) (HMul.hMul (α := EReal) (β := EReal) (val_main_v40 (F := Ideal) x2 x3 (ix4 b H r j)) (Ideal.div (Ideal.ofBits FTy.f32 1065353216#32) (HMul.hMul (α := EReal) (β := EReal) (val_main_v27 (F := Ideal) x0 x1 (ix3 b H r)) (val_main_v27 (F := Ideal) x0 x1 (ix3 b H r))))) (val_main_v26 (F := Ideal) x0 x1 (ix4 b H r j)) : EReal) := by
  unfold val_main_v46 val_main_v45 val_main_v44 val_main_v43 val_main_v33 val_main_v32 val_main_cst_5 val_main_v31 val_main_v28 val_main_cst_6
  generalize val_main_v40 (F := Ideal) x2 x3 = X40
  generalize val_main_v27 (F := Ideal) x0 x1 = X27
  generalize val_main_v26 (F := Ideal) x0 x1 = X26
  pointwise
theorem v54_at (b : Fin 2) (H : Fin 6) (r : Fin 4096) (j : Fin 4352) : val_main_v54 (F := Ideal) x0 x1 x2 x3 (ix4 b H r j) = (HMul.hMul (α := EReal) (β := EReal) (HAdd.hAdd (α := EReal) (Ideal.div (val_main_v40 (F := Ideal) x2 x3 (ix4 b H r j)) (val_main_v27 (F := Ideal) x0 x1 (ix3 b H r))) (-(val_main_v46 (F := Ideal) x0 x1 x2 x3 (ix3 b H r)))) (val_main_v26 (F := Ideal) x0 x1 (ix4 b H r j)) : EReal) := by
  unfold val_main_v54 val_main_v53 val_main_v52 val_main_v51 val_main_v50 val_main_v49 val_main_v48 val_main_v47 val_main_v28 val_main_cst_7
  generalize val_main_v40 (F := Ideal) x2 x3 = X40
  generalize val_main_v27 (F := Ideal) x0 x1 = X27
  generalize val_main_v26 (F := Ideal) x0 x1 = X26
  generalize val_main_v46 (F := Ideal) x0 x1 x2 x3 = X46
  pointwise
  rw [Fin.sum_univ_one]
theorem v42_at (b : Fin 2) (H : Fin 6) (j : Fin 4352) (c : Fin 64) : val_main_v42 (F := Ideal) x0 x1 x3 (ix4 b j H c) = (∑ r : Fin 4096, HMul.hMul (α := EReal) (β := EReal) (x3 (ix4 b ⟨256 + (r : ℕ), by omega⟩ H c)) (val_main_v30 (F := Ideal) x0 x1 (ix4 b H r j)) : EReal) := by
  unfold val_main_v42 val_main_v41 val_main_v39 val_main_v38
  generalize val_main_v30 (F := Ideal) x0 x1 = X30
  pointwise
theorem v56_at (b : Fin 2) (H : Fin 6) (j : Fin 4352) (d : Fin 96) : val_main_v56 (F := Ideal) x0 x1 x2 x3 (ix4 b j H d) = (∑ r : Fin 4096, HMul.hMul (α := EReal) (β := EReal) (val_main_v54 (F := Ideal) x0 x1 x2 x3 (ix4 b H r j)) (HMul.hMul (α := EReal) (β := EReal) (x0 (ix4 b ⟨256 + (r : ℕ), by omega⟩ H d)) (Ideal.ofBits FTy.f32 1037108716#32)) : EReal) := by
  unfold val_main_v56 val_main_v55 val_main_v20 val_main_v1 val_main_v0 val_main_cst
  generalize val_main_v54 (F := Ideal) x0 x1 x2 x3 = X54
  pointwise
theorem v58_at (b : Fin 2) (H : Fin 6) (r : Fin 4096) (d : Fin 96) : val_main_v58 (F := Ideal) x0 x1 x2 x3 (ix4 b r H d) = (∑ j : Fin 4352, HMul.hMul (α := EReal) (β := EReal) (val_main_v54 (F := Ideal) x0 x1 x2 x3 (ix4 b H r j)) (x1 (ix4 b j H d)) : EReal) := by
  unfold val_main_v58 val_main_v57
  generalize val_main_v54 (F := Ideal) x0 x1 x2 x3 = X54
  pointwise
theorem v81_at (b : Fin 2) (H : Fin 6) (j : Fin 4352) (c : Fin 64) : val_main_v81 (F := Ideal) x0 x1 x3 (ix4 b j H c) = (val_main_v42 (F := Ideal) x0 x1 x3 (ix4 b j H c) + (if h : (j : ℕ) < 256 then val_main_v63 (F := Ideal) x0 x1 x3 (ix4 b ⟨j, h⟩ H c) else 0) : EReal) := by
  unfold val_main_v81 val_main_v80 val_main_cst_11
  generalize val_main_v42 (F := Ideal) x0 x1 x3 = X42
  generalize val_main_v63 (F := Ideal) x0 x1 x3 = X63
  pointwise
theorem v83_at (b : Fin 2) (H : Fin 6) (j : Fin 4352) (d : Fin 96) : val_main_v83 (F := Ideal) x0 x1 x2 x3 (ix4 b j H d) = (val_main_v56 (F := Ideal) x0 x1 x2 x3 (ix4 b j H d) + (if h : (j : ℕ) < 256 then val_main_v77 (F := Ideal) x0 x1 x2 x3 (ix4 b ⟨j, h⟩ H d) else 0) : EReal) := by
  unfold val_main_v83 val_main_v82 val_main_cst_12
  generalize val_main_v56 (F := Ideal) x0 x1 x2 x3 = X56
  generalize val_main_v77 (F := Ideal) x0 x1 x2 x3 = X77
  pointwise
theorem v85_at (b : Fin 2) (H : Fin 6) (r : Fin 4352) (d : Fin 96) : val_main_v85 (F := Ideal) x0 x1 x2 x3 (ix4 b r H d) = ((if h : 256 ≤ (r : ℕ) then val_main_v58 (F := Ideal) x0 x1 x2 x3 (ix4 b ⟨r - 256, by omega⟩ H d) else 0) + (if h : (r : ℕ) < 256 then val_main_v79 (F := Ideal) x0 x1 x2 x3 (ix4 b ⟨r, h⟩ H d) else 0) : EReal) := by
  unfold val_main_v85 val_main_v84 val_main_v59 val_main_cst_8 val_main_cst_13
  generalize val_main_v58 (F := Ideal) x0 x1 x2 x3 = X58
  generalize val_main_v79 (F := Ideal) x0 x1 x2 x3 = X79
  pointwise
  have e : (256 ≤ (r : ℕ) ∧ (r : ℕ) - 256 < 4096) ↔ 256 ≤ (r : ℕ) := ⟨fun h => h.1, fun h => ⟨h, by omega⟩⟩
  simp only [e]
theorem v86_at (b : Fin 2) (H : Fin 6) (r : Fin 4352) (d : Fin 128) : val_main_v86 (F := Ideal) x0 x1 x2 x3 (ix4 b r H d) = (if h : (d : ℕ) < 96 then val_main_v85 (F := Ideal) x0 x1 x2 x3 (ix4 b r H ⟨d, h⟩) else (FloatOps.sitofp FTy.f32 0#32 : Ideal .f32) : EReal) := by
  unfold val_main_v86 val_main_call0_v0 val_main_c
  generalize val_main_v85 (F := Ideal) x0 x1 x2 x3 = X85
  pointwise
theorem v88_at (b : Fin 2) (H : Fin 6) (r : Fin 4352) (d : Fin 128) : val_main_v88 (F := Ideal) x0 x1 x2 x3 (ix4 b r H d) = (if h : (d : ℕ) < 96 then val_main_v83 (F := Ideal) x0 x1 x2 x3 (ix4 b r H ⟨d, h⟩) else (FloatOps.sitofp FTy.f32 0#32 : Ideal .f32) : EReal) := by
  unfold val_main_v88 val_main_call1_v0 val_main_c_14
  generalize val_main_v83 (F := Ideal) x0 x1 x2 x3 = X83
  pointwise
theorem v90_at (b : Fin 2) (H : Fin 6) (r : Fin 4352) (d : Fin 128) : val_main_v90 (F := Ideal) x0 x1 x3 (ix4 b r H d) = (if h : (d : ℕ) < 64 then val_main_v81 (F := Ideal) x0 x1 x3 (ix4 b r H ⟨d, h⟩) else (FloatOps.sitofp FTy.f32 0#32 : Ideal .f32) : EReal) := by
  unfold val_main_v90 val_main_call2_v0 val_main_c_15
  generalize val_main_v81 (F := Ideal) x0 x1 x3 = X81
  pointwise

end Cert.ReferenceIdeal.FB
end
-- ==== Proof.RVal.lean ====
module

public import proofs.«01_k».proof.Proof.RefAt

@[expose] public section
set_option maxRecDepth 16384
noncomputable section
namespace Cert.ReferenceIdeal.FB
open Cert.ReferenceIdeal Cert.ReferenceIdeal.Gen Cert.ReferenceIdeal.Read Idealize.ShloMosaic Idealize.ShloMosaic.TcCoe Idealize.SL.Sem
open Cert.Attn

/-! ## The reference's results, of real arguments: attention's gradients, padded with zeros to 128 lanes -/

theorem ninf : Ideal.ofBits FTy.f32 4286578688#32 = (⊥ : EReal) := by
  simp [Ideal.ofBits, Ideal.ieee]
theorem one_real : Is (Ideal.ofBits FTy.f32 1065353216#32) 1 := by
  show Ideal.ieee 8 23 (1065353216#32) = ((1 : ℝ) : EReal)
  unfold Ideal.ieee
  dsimp only
  rw [if_neg (by decide), if_neg (by decide)]
  refine congrArg (fun x : ℝ => (x : EReal)) ?_
  simp
  norm_num
theorem zero_real : Is (FloatOps.sitofp FTy.f32 (0#32) : Ideal .f32) 0 := by
  show ((((0#32 : BitVec 32).toInt : ℤ) : ℝ) : EReal) = ((0 : ℝ) : EReal)
  simp

section
variable {b : Fin 2} {H : Fin 6} {x0 x1 : FVec Ideal S2x4352x6x96 .f32} {x2 x3 : FVec Ideal S2x4352x6x64 .f32}
  {Q K : Fin 4352 → Fin 96 → ℝ} {V G : Fin 4352 → Fin 64 → ℝ}
  (hq : ∀ r d, Is (HMul.hMul (α := EReal) (β := EReal) (x0 (ix4 b r H d)) (Ideal.ofBits FTy.f32 1037108716#32)) (Q r d)) (hk : ∀ r d, Is (x1 (ix4 b r H d)) (K r d))
  (hv : ∀ r d, Is (x2 (ix4 b r H d)) (V r d)) (hg : ∀ r d, Is (x3 (ix4 b r H d)) (G r d))

include hq hk in
theorem sC (r : Fin 256) (j : Fin 256) : Is (val_main_v5 (F := Ideal) x0 x1 (ix4 b H r j)) (S Q K ⟨(r : ℕ), by omega⟩ ⟨(j : ℕ), by omega⟩) := by
  rw [v5_at]
  exact Is.sum _ fun l => (hq _ l).mul (hk _ l)
include hq hk in
/-- The shifted exponentials of a row, their sum and the weights. -/
theorem rowC (r : Fin 256) : ∃ M : ℝ, (∀ j, Is (val_main_v10 (F := Ideal) x0 x1 (ix4 b H r j)) (Real.exp (-M) * E Q K ⟨(r : ℕ), by omega⟩ ⟨(j : ℕ), by omega⟩))
    ∧ Is (val_main_v11 (F := Ideal) x0 x1 (ix3 b H r)) (Real.exp (-M) * Z Q K ⟨(r : ℕ), by omega⟩) := by
  obtain ⟨M, hM⟩ := fold_max_real (fun j => val_main_v5 (F := Ideal) x0 x1 (ix4 b H r j)) _ fun j => sC hq hk r j
  have hM' : Is (val_main_v6 (F := Ideal) x0 x1 (ix3 b H r)) M := by
    rw [v6_at, ninf]; exact hM
  have hx : ∀ j, Is (val_main_v10 (F := Ideal) x0 x1 (ix4 b H r j)) (Real.exp (-M) * E Q K ⟨(r : ℕ), by omega⟩ ⟨(j : ℕ), by omega⟩) := fun j => by
    rw [v10_at]
    exact (((sC hq hk r j).sub hM').exp).congr (E_sees Q K (sees_ctx j.2) M)
  refine ⟨M, hx, ?_⟩
  rw [v11_at]
  refine (Is.sum _ hx).congr ?_
  rw [Z_ctx Q K (r := ⟨(r : ℕ), by omega⟩) r.2, Finset.mul_sum]
include hq hk in
theorem pC (r : Fin 256) (j : Fin 256) : Is (val_main_v14 (F := Ideal) x0 x1 (ix4 b H r j)) (P Q K ⟨(r : ℕ), by omega⟩ ⟨(j : ℕ), by omega⟩) := by
  obtain ⟨M, hx, hl⟩ := rowC hq hk r
  rw [v14_at]
  exact ((hx j).div hl (mul_pos (Real.exp_pos _) (Z_pos Q K _)).ne').congr (P_of Q K _ _ M _ _ rfl rfl)
include hv hg in
theorem dC (r : Fin 256) (j : Fin 256) : Is (val_main_v61 (F := Ideal) x2 x3 (ix4 b H r j)) (dP V G ⟨(r : ℕ), by omega⟩ ⟨(j : ℕ), by omega⟩) := by
  rw [v61_at]
  exact Is.sum _ fun c => (hg _ c).mul (hv _ c)
include hq hk hv hg in
/-- The scores' gradients. -/
theorem dsC (r : Fin 256) (j : Fin 256) : Is (val_main_v75 (F := Ideal) x0 x1 x2 x3 (ix4 b H r j)) (dS Q K V G ⟨(r : ℕ), by omega⟩ ⟨(j : ℕ), by omega⟩) := by
  obtain ⟨M, hx, hl⟩ := rowC hq hk r
  have h0 : 0 < Real.exp (-M) * Z Q K ⟨(r : ℕ), by omega⟩ := mul_pos (Real.exp_pos _) (Z_pos Q K _)
  have hT : Is (val_main_v67 (F := Ideal) x0 x1 x2 x3 (ix3 b H r)) _ := (v67_at ..).trans (Is.sum _ fun j => ((dC hv hg r j).mul (one_real.div (hl.mul hl) (mul_pos h0 h0).ne')).mul (hx j))
  rw [v75_at]
  refine ((((dC hv hg r j).div hl h0.ne').add hT.neg).mul (hx j)).congr (dS_of Q K V G _ _ M _ _ _ rfl rfl ?_)
  refine Eq.symm (sum_only_ctx _ fun j hj => ?_)
  rw [E_hidden Q K (not_sees r.2 hj), mul_zero, mul_zero]
include hq hk hg in
theorem dvC (j : Fin 256) (c : Fin 64) : Is (val_main_v63 (F := Ideal) x0 x1 x3 (ix4 b j H c)) (∑ r : Fin 256, G ⟨(r : ℕ), by omega⟩ c * P Q K ⟨(r : ℕ), by omega⟩ ⟨(j : ℕ), by omega⟩) := by
  rw [v63_at]
  exact Is.sum _ fun r => (hg _ c).mul (pC hq hk r j)
include hq hk hv hg in
theorem dkC (j : Fin 256) (d : Fin 96) : Is (val_main_v77 (F := Ideal) x0 x1 x2 x3 (ix4 b j H d)) (∑ r : Fin 256, Q ⟨(r : ℕ), by omega⟩ d * dS Q K V G ⟨(r : ℕ), by omega⟩ ⟨(j : ℕ), by omega⟩) := by
  rw [v77_at]
  exact (Is.sum _ fun r => (dsC hq hk hv hg r j).mul (hq _ d)).congr (Finset.sum_congr rfl fun r _ => mul_comm _ _)
include hq hk hv hg in
theorem dqC (r : Fin 256) (d : Fin 96) : Is (val_main_v79 (F := Ideal) x0 x1 x2 x3 (ix4 b r H d)) (dQ Q K V G ⟨(r : ℕ), by omega⟩ d) := by
  rw [v79_at]
  refine (Is.sum _ fun j => (dsC hq hk hv hg r j).mul (hk _ d)).congr ?_
  refine Eq.symm (sum_only_ctx _ fun j hj => ?_)
  rw [dS_hidden Q K V G (not_sees r.2 hj), zero_mul]

include hq hk in
theorem sX (r : Fin 4096) (j : Fin 4352) : Is (val_main_v21 (F := Ideal) x0 x1 (ix4 b H r j)) (S Q K ⟨256 + (r : ℕ), by omega⟩ j) := by
  rw [v21_at]
  exact Is.sum _ fun l => (hq _ l).mul (hk _ l)
include hq hk in
/-- The shifted exponentials of a row, their sum and the weights. -/
theorem rowX (r : Fin 4096) : ∃ M : ℝ, (∀ j, Is (val_main_v26 (F := Ideal) x0 x1 (ix4 b H r j)) (Real.exp (-M) * E Q K ⟨256 + (r : ℕ), by omega⟩ j))
    ∧ Is (val_main_v27 (F := Ideal) x0 x1 (ix3 b H r)) (Real.exp (-M) * Z Q K ⟨256 + (r : ℕ), by omega⟩) := by
  obtain ⟨M, hM⟩ := fold_max_real (fun j => val_main_v21 (F := Ideal) x0 x1 (ix4 b H r j)) _ fun j => sX hq hk r j
  have hM' : Is (val_main_v22 (F := Ideal) x0 x1 (ix3 b H r)) M := by
    rw [v22_at, ninf]; exact hM
  have hx : ∀ j, Is (val_main_v26 (F := Ideal) x0 x1 (ix4 b H r j)) (Real.exp (-M) * E Q K ⟨256 + (r : ℕ), by omega⟩ j) := fun j => by
    rw [v26_at]
    exact (((sX hq hk r j).sub hM').exp).congr (E_sees Q K (sees_lat (by simp only []; omega)) M)
  refine ⟨M, hx, ?_⟩
  rw [v27_at]
  refine (Is.sum _ hx).congr ?_
  rw [show Z Q K ⟨256 + (r : ℕ), by omega⟩ = ∑ j, E Q K ⟨256 + (r : ℕ), by omega⟩ j from rfl, Finset.mul_sum]
include hq hk in
theorem pX (r : Fin 4096) (j : Fin 4352) : Is (val_main_v30 (F := Ideal) x0 x1 (ix4 b H r j)) (P Q K ⟨256 + (r : ℕ), by omega⟩ j) := by
  obtain ⟨M, hx, hl⟩ := rowX hq hk r
  rw [v30_at]
  exact ((hx j).div hl (mul_pos (Real.exp_pos _) (Z_pos Q K _)).ne').congr (P_of Q K _ _ M _ _ rfl rfl)
include hv hg in
theorem dX (r : Fin 4096) (j : Fin 4352) : Is (val_main_v40 (F := Ideal) x2 x3 (ix4 b H r j)) (dP V G ⟨256 + (r : ℕ), by omega⟩ j) := by
  rw [v40_at]
  exact Is.sum _ fun c => (hg _ c).mul (hv _ c)
include hq hk hv hg in
/-- The scores' gradients. -/
theorem dsX (r : Fin 4096) (j : Fin 4352) : Is (val_main_v54 (F := Ideal) x0 x1 x2 x3 (ix4 b H r j)) (dS Q K V G ⟨256 + (r : ℕ), by omega⟩ j) := by
  obtain ⟨M, hx, hl⟩ := rowX hq hk r
  have h0 : 0 < Real.exp (-M) * Z Q K ⟨256 + (r : ℕ), by omega⟩ := mul_pos (Real.exp_pos _) (Z_pos Q K _)
  have hT : Is (val_main_v46 (F := Ideal) x0 x1 x2 x3 (ix3 b H r)) _ := (v46_at ..).trans (Is.sum _ fun j => ((dX hv hg r j).mul (one_real.div (hl.mul hl) (mul_pos h0 h0).ne')).mul (hx j))
  rw [v54_at]
  refine ((((dX hv hg r j).div hl h0.ne').add hT.neg).mul (hx j)).congr (dS_of Q K V G _ _ M _ _ _ rfl rfl ?_)
  rfl
include hq hk hg in
theorem dvX (j : Fin 4352) (c : Fin 64) : Is (val_main_v42 (F := Ideal) x0 x1 x3 (ix4 b j H c)) (∑ r : Fin 4096, G ⟨256 + (r : ℕ), by omega⟩ c * P Q K ⟨256 + (r : ℕ), by omega⟩ j) := by
  rw [v42_at]
  exact Is.sum _ fun r => (hg _ c).mul (pX hq hk r j)
include hq hk hv hg in
theorem dkX (j : Fin 4352) (d : Fin 96) : Is (val_main_v56 (F := Ideal) x0 x1 x2 x3 (ix4 b j H d)) (∑ r : Fin 4096, Q ⟨256 + (r : ℕ), by omega⟩ d * dS Q K V G ⟨256 + (r : ℕ), by omega⟩ j) := by
  rw [v56_at]
  exact (Is.sum _ fun r => (dsX hq hk hv hg r j).mul (hq _ d)).congr (Finset.sum_congr rfl fun r _ => mul_comm _ _)
include hq hk hv hg in
theorem dqX (r : Fin 4096) (d : Fin 96) : Is (val_main_v58 (F := Ideal) x0 x1 x2 x3 (ix4 b r H d)) (dQ Q K V G ⟨256 + (r : ℕ), by omega⟩ d) := by
  rw [v58_at]
  refine (Is.sum _ fun j => (dsX hq hk hv hg r j).mul (hk _ d)).congr ?_
  rfl

include hq hk hg in
theorem dv_all (j : Fin 4352) (d : Fin 64) : Is (val_main_v81 (F := Ideal) x0 x1 x3 (ix4 b j H d)) (dV Q K G j d) := by
  rw [v81_at]
  refine (((dvX hq hk hg j d).add (Is.dite (fun h => dvC hq hk hg ⟨j, h⟩ d) fun _ => Is.zero))).congr ?_
  unfold dV
  rw [sum_rows, add_comm]
  congr 1
  by_cases h : (j : ℕ) < 256
  · rw [dif_pos h]
  · rw [dif_neg h]
    refine (Finset.sum_eq_zero fun r _ => ?_).symm
    rw [P_hidden Q K (not_sees r.2 h), mul_zero]
include hq hk hv hg in
theorem dk_all (j : Fin 4352) (d : Fin 96) : Is (val_main_v83 (F := Ideal) x0 x1 x2 x3 (ix4 b j H d)) (dK Q K V G j d) := by
  rw [v83_at]
  refine (((dkX hq hk hv hg j d).add (Is.dite (fun h => dkC hq hk hv hg ⟨j, h⟩ d) fun _ => Is.zero))).congr ?_
  unfold dK
  rw [sum_rows, add_comm]
  congr 1
  by_cases h : (j : ℕ) < 256
  · rw [dif_pos h]
  · rw [dif_neg h]
    refine (Finset.sum_eq_zero fun r _ => ?_).symm
    rw [dS_hidden Q K V G (not_sees r.2 h), mul_zero]
include hq hk hv hg in
theorem dq_all (r : Fin 4352) (d : Fin 96) : Is (val_main_v85 (F := Ideal) x0 x1 x2 x3 (ix4 b r H d)) (dQ Q K V G r d) := by
  rw [v85_at]
  by_cases h : (r : ℕ) < 256
  · rw [dif_neg (by omega), dif_pos h]
    exact (Is.zero.add (dqC hq hk hv hg ⟨r, h⟩ d)).congr (zero_add _)
  · rw [dif_pos (by omega), dif_neg h]
    refine ((dqX hq hk hv hg ⟨r - 256, by omega⟩ d).add Is.zero).congr ((add_zero _).trans ?_)
    rw [show (⟨256 + ((⟨r - 256, by omega⟩ : Fin 4096) : ℕ), by omega⟩ : Fin 4352) = r from Fin.ext (by simp only []; omega)]
include hq hk hv hg in
theorem dq_pad (r : Fin 4352) (d : Fin 128) : Is (val_main_v86 (F := Ideal) x0 x1 x2 x3 (ix4 b r H d)) (padQ (dQ Q K V G r) d) := by
  rw [v86_at]
  exact Is.dite (fun h => dq_all hq hk hv hg r ⟨d, h⟩) fun _ => zero_real
include hq hk hv hg in
theorem dk_pad (r : Fin 4352) (d : Fin 128) : Is (val_main_v88 (F := Ideal) x0 x1 x2 x3 (ix4 b r H d)) (padQ (dK Q K V G r) d) := by
  rw [v88_at]
  exact Is.dite (fun h => dk_all hq hk hv hg r ⟨d, h⟩) fun _ => zero_real
include hq hk hg in
theorem dv_pad (r : Fin 4352) (d : Fin 128) : Is (val_main_v90 (F := Ideal) x0 x1 x3 (ix4 b r H d)) (padG (dV Q K G r) d) := by
  rw [v90_at]
  exact Is.dite (fun h => dv_all hq hk hg r ⟨d, h⟩) fun _ => zero_real
end
end Cert.ReferenceIdeal.FB
end
-- ==== Proof.Result.lean ====
module

public import proofs.«01_k».proof.Proof.KVal
public import proofs.«01_k».proof.Proof.RVal
public import proofs.«01_k».proof.Proof.Final

@[expose] public section
set_option maxRecDepth 16384
noncomputable section
namespace Cert.Join
open Idealize.ShloMosaic Idealize.ShloMosaic.TcCoe Idealize.SL.Sem
open Cert.Attn Cert.KernelIdeal.FB

/-! ## The kernel's gradients are the reference's, of real arguments -/

variable (m : (ℓ : Loc KernelIdeal.nD KernelIdeal.τ KernelIdeal.sig) → Buf (Elt Ideal) ℓ) (c : Dev KernelIdeal.nD)

theorem real4 (h0 : ∀ i, ∃ r : ℝ, Is (arg0 m c i) r) (h1 : ∀ i, ∃ r : ℝ, Is (arg1 m c i) r)
    (h2 : ∀ i, ∃ r : ℝ, Is (arg2 m c i) r) (h3 : ∀ i, ∃ r : ℝ, Is (arg3 m c i) r) (b : Fin 2) (H : Fin 6) :
    ∃ Q K V G, Real4 m c b H Q K V G := by
  choose f0 e0 using h0
  choose f1 e1 using h1
  choose f2 e2 using h2
  choose f3 e3 using h3
  obtain ⟨sc, hs⟩ := scale_real
  exact ⟨_, _, _, _, fun r d => (e0 (ix4 b r H d)).mul hs, fun r d => e1 (ix4 b r H d), fun r d => e2 (ix4 b r H d), fun r d => e3 (ix4 b r H d)⟩

/-- A result's index `(b, t, 128 h + l)` is the padded array's `(b, t, h, l)`. -/
theorem split (b r e : ℕ) (hb : b < 2) (hr : r < 4352) (he : e < 768) :
    ((b * 4352 + r) * 768 + e) / 3342336 = b ∧ ((b * 4352 + r) * 768 + e) / 768 % 4352 = r
    ∧ ((b * 4352 + r) * 768 + e) / 128 % 6 = e / 128 ∧ ((b * 4352 + r) * 768 + e) % 128 = e % 128 := by omega
theorem idx_eq (y : ReferenceIdeal.S2x4352x768.Idx) :
    ReferenceIdeal.Read.idx_main_v87 y = ix4 (y 0) (y 1) (hd (y 2)) (ln (y 2)) := by
  have h := split (y 0).val (y 1).val (y 2).val (y 0).isLt (y 1).isLt (y 2).isLt
  funext a
  match a with
  | ⟨0, _⟩ => exact Fin.ext h.1
  | ⟨1, _⟩ => exact Fin.ext h.2.1
  | ⟨2, _⟩ => exact Fin.ext h.2.2.1
  | ⟨3, _⟩ => exact Fin.ext h.2.2.2

variable (R4 : ∀ b H, ∃ Q K V G, Real4 m c b H Q K V G)
include R4

theorem dq_eq : (outDQ m c : FVec Ideal ReferenceIdeal.S2x4352x768 .f32)
    = ReferenceIdeal.Read.val_main_v87 (F := Ideal) (arg0 m c) (arg1 m c) (arg2 m c) (arg3 m c) := by
  funext y
  obtain ⟨Q, K, V, G, R⟩ := R4 (y 0) (hd (y 2))
  rw [ReferenceIdeal.Read.val_main_v87_apply, idx_eq]
  exact (ADQ_is R (y 1) (ln (y 2))).trans (ReferenceIdeal.FB.dq_pad R.q R.k R.v R.g (y 1) (ln (y 2))).symm

theorem dk_eq : (outDK m c : FVec Ideal ReferenceIdeal.S2x4352x768 .f32)
    = ReferenceIdeal.Read.val_main_v89 (F := Ideal) (arg0 m c) (arg1 m c) (arg2 m c) (arg3 m c) := by
  funext y
  obtain ⟨Q, K, V, G, R⟩ := R4 (y 0) (hd (y 2))
  rw [ReferenceIdeal.Read.val_main_v89_apply, show ReferenceIdeal.Read.idx_main_v89 y = _ from idx_eq y]
  exact (ADK_is R (y 1) (ln (y 2))).trans (ReferenceIdeal.FB.dk_pad R.q R.k R.v R.g (y 1) (ln (y 2))).symm

theorem dv_eq : (outDV m c : FVec Ideal ReferenceIdeal.S2x4352x768 .f32)
    = ReferenceIdeal.Read.val_main_v91 (F := Ideal) (arg0 m c) (arg1 m c) (arg3 m c) := by
  funext y
  obtain ⟨Q, K, V, G, R⟩ := R4 (y 0) (hd (y 2))
  rw [ReferenceIdeal.Read.val_main_v91_apply, show ReferenceIdeal.Read.idx_main_v91 y = _ from idx_eq y]
  exact (ADV_is R (y 1) (ln (y 2))).trans (ReferenceIdeal.FB.dv_pad R.q R.k R.g (y 1) (ln (y 2))).symm

end Cert.Join
end
-- ==== Proof.Grad.lean ====
/- A weight's gradient: the sum over both sequences and every row of activation times gradient. Two readings of it that
   the four weight-gradient calls share: the reference's contraction over two axes, and the kernel's eight points of 1088
   rows each. -/
module

public import Idealize.ShloMosaic.Lib.Tactic
public import Idealize.ShloMosaic.Lib.Pointwise
public import Idealize.ShloMosaic.Lib.Pipeline.ValueKit
public import Idealize.ShloMosaic.Lib.TwoAxisContraction
public import Idealize.ShloMosaic.PureOps.Ideal.Laws

@[expose] public section
set_option maxRecDepth 16384
noncomputable section
namespace Cert.Grad
open Idealize.ShloMosaic

/-- One element of a weight's gradient: `A` is a column of the activation, `G` a column of the incoming gradient. -/
def grad (A G : Fin 2 → Fin 4352 → EReal) : EReal := ∑ b, ∑ r, A b r * G b r

/-- Eight consecutive points starting at a multiple of eight, 1088 rows each, visit every row of both sequences once. -/
theorem grad_points (A G : Fin 2 → Fin 4352 → EReal) (q : ℕ) :
    ∑ s : Fin 8, ∑ x : Fin 1088, A ⟨(8 * q + s) / 4 % 2, by omega⟩ ⟨1088 * ((8 * q + s) % 4) + x, by omega⟩
      * G ⟨(8 * q + s) / 4 % 2, by omega⟩ ⟨1088 * ((8 * q + s) % 4) + x, by omega⟩ = grad A G := by
  refine Fin.sum_points_lanes_congr 4 (g := fun b r => A b r * G b r) fun s x hb hr => ?_
  have e1 : (⟨(8 * q + s) / 4 % 2, by omega⟩ : Fin 2) = ⟨s.val / 4, hb⟩ := Fin.ext (by simp only []; omega)
  have e2 : (⟨1088 * ((8 * q + s) % 4) + x, by omega⟩ : Fin 4352) = ⟨s.val % 4 * 1088 + x.val, hr⟩ := Fin.ext (by simp only []; omega)
  rw [e1, e2]

/-- What point `t` adds to an element: 1088 rows of one sequence. -/
def part (t : ℕ) (A G : Fin 2 → Fin 4352 → EReal) : EReal :=
  ∑ x : Fin 1088, A ⟨t / 4 % 2, by omega⟩ ⟨1088 * (t % 4) + x, by omega⟩ * G ⟨t / 4 % 2, by omega⟩ ⟨1088 * (t % 4) + x, by omega⟩

/-- A block that is reset at every eighth point, and to which each point adds its part, holds the gradient after the
    eighth; the columns `A` and `G` it works on are those of the eight points' common block. -/
theorem left_grad {M : ℕ} {ι : Type} (f : (n : ℕ) → n < M → ι → EReal) (A G : ℕ → ι → Fin 2 → Fin 4352 → EReal)
    (h0 : ∀ t : Fin M, t.val % 8 = 0 → ∀ y, f t.val t.isLt y = 0 + part t.val (A (t.val / 8) y) (G (t.val / 8) y))
    (hs : ∀ t : Fin M, ¬ t.val % 8 = 0 → ∀ y, f t.val t.isLt y
      = f (t.val - 1) (Nat.lt_of_le_of_lt (Nat.sub_le _ _) t.isLt) y + part t.val (A (t.val / 8) y) (G (t.val / 8) y))
    (t : Fin M) (hf : t.val % 8 = 7) (y : ι) : f t.val t.isLt y = grad (A (t.val / 8) y) (G (t.val / 8) y) := by
  rw [Pipeline.eq_sum_fin_of_reset_step_apply_of_flush f 8 (fun _ => 0)
    (fun t y => part t.val (A (t.val / 8) y) (G (t.val / 8) y)) h0 hs t hf y, zero_add, ← grad_points _ _ (t.val / 8)]
  refine Finset.sum_congr rfl fun s _ => ?_
  have e : (8 * (t.val / 8) + s.val) / 8 = t.val / 8 := by omega
  simp only [e]
  rfl

/-- An index whose first axis has one place is given by the other two. -/
theorem idx_eq {K N : ℕ} (y : (⟨3, ![1, K, N]⟩ : Shape).Idx) : ∃ (k : Fin K) (n : Fin N), y = ix3 0 k n := by
  have h0 : (y 0 : ℕ) < 1 := (y 0).isLt
  refine ⟨y 1, y 2, (eq_ix3 y).trans ((ix3_inj ..).2 ⟨Fin.ext ?_, rfl, rfl⟩)⟩
  show (y 0 : ℕ) = 0
  omega

/-- An index is given by its three coordinates. -/
theorem ix3_of {a b c : ℕ} (y : (⟨3, ![a, b, c]⟩ : Shape).Idx) (i : Fin a) (j : Fin b) (k : Fin c)
    (h0 : (y 0 : ℕ) = i) (h1 : (y 1 : ℕ) = j) (h2 : (y 2 : ℕ) = k) : y = ix3 i j k :=
  (eq_ix3 y).trans ((ix3_inj ..).2 ⟨Fin.ext h0, Fin.ext h1, Fin.ext h2⟩)

section
variable {K N : ℕ} (wf : DotDims.WF ⟨3, ![2, 4352, N]⟩ ⟨3, ![2, 4352, K]⟩ ⟨2, ![N, K]⟩ [0, 1] [0, 1] [2] [2] [] [])

/-- The reference's contraction over sequences and rows, the gradient on the left. -/
abbrev D : DotDims ⟨3, ![2, 4352, N]⟩ ⟨3, ![2, 4352, K]⟩ ⟨2, ![N, K]⟩ := ⟨[0, 1], [0, 1], [2], [2], [], [], wf⟩

theorem lhs_at (n : Fin N) (k : Fin K) (b : Fin 2) (r : Fin 4352) :
    (D wf).lhsIdx (ix2 n k) ((ValueIdx.contrEquiv2 (D wf) 2 4352 rfl rfl rfl).symm (b, r)) = ix3 b r n := by
  have h0 := ValueIdx.contrEquiv2_symm_val0 (D wf) 2 4352 rfl rfl rfl (b, r)
  have h1 := ValueIdx.contrEquiv2_symm_val1 (D wf) 2 4352 rfl rfl rfl (b, r)
  funext a
  apply Fin.ext
  match a with
  | ⟨0, _⟩ => exact h0
  | ⟨1, _⟩ => exact h1
  | ⟨2, _⟩ => rfl

theorem rhs_at (n : Fin N) (k : Fin K) (b : Fin 2) (r : Fin 4352) :
    (D wf).rhsIdx (ix2 n k) ((ValueIdx.contrEquiv2 (D wf) 2 4352 rfl rfl rfl).symm (b, r)) = ix3 b r k := by
  have h0 := ValueIdx.contrEquiv2_symm_val0 (D wf) 2 4352 rfl rfl rfl (b, r)
  have h1 := ValueIdx.contrEquiv2_symm_val1 (D wf) 2 4352 rfl rfl rfl (b, r)
  funext a
  apply Fin.ext
  match a with
  | ⟨0, _⟩ => exact h0
  | ⟨1, _⟩ => exact h1
  | ⟨2, _⟩ => rfl

/-- The reference's product is the gradient, its factors the other way round. -/
theorem dot_grad (G : FVec Ideal ⟨3, ![2, 4352, N]⟩ .f32) (A : FVec Ideal ⟨3, ![2, 4352, K]⟩ .f32) (n : Fin N) (k : Fin K) :
    Host.dotGeneral (D wf) none G A (ix2 n k) = grad (fun b r => A (ix3 b r k)) (fun b r => G (ix3 b r n)) := by
  simp only [Host.dotGeneral]
  rw [Ideal.dotGeneral_apply, ValueIdx.sum_contr2 (D wf) 2 4352 rfl rfl rfl]
  refine Finset.sum_congr rfl fun b _ => Finset.sum_congr rfl fun r _ => ?_
  rw [lhs_at, rhs_at]
  exact mul_comm _ _
end

end Cert.Grad
end
-- ==== Proof.Grad2.lean ====
/- The gradient of the MLP's first weight: what the call leaves in its array. The body splits the product of its blocks
   into four slabs of 512 columns, each added to its own slab of the result. -/
module

public import proofs.«01_k».proof.Proof.Grad
public import proofs.«01_k».proof.Proof.Gen.Kernel2Ideal.Value

@[expose] public section
set_option maxRecDepth 16384
noncomputable section
namespace Cert.Kernel2Ideal.WG
open Cert.Kernel2Ideal Cert.Kernel2Ideal.Gen Idealize.ShloMosaic Idealize.ShloMosaic.TcCoe Idealize.SL.Sem
open Cert.Grad

/-! ## Slabs: storing one leaves the others -/

theorem canon_off (p : ℕ) (inb) (w : (Rect.unit (s := S4x1024x512) ![p, 0, 0] ![1, 1024, 512] inb).shape.Idx → EReal)
    (L : List (View.Piece (Elt Ideal) S4x1024x512 .f32)) (y : S4x1024x512.Idx) (h : (y 0 : ℕ) ≠ p) :
    View.canon ((⟨Rect.unit ![p, 0, 0] ![1, 1024, 512] inb, w⟩ : View.Piece (Elt Ideal) S4x1024x512 .f32) :: L) y = View.canon L y := by
  refine View.canon_cons_of_not_mem _ _ fun hm => h ?_
  have h0 : p ≤ (y 0 : ℕ) ∧ (y 0 : ℕ) < p + 1 := (Rect.mem_set_unit (inb := inb)).mp hm 0
  omega

theorem canon_past (p : ℕ) (inb) (w : (Rect.unit (s := S4x1024x512) ![p, 0, 0] ![1, 1024, 512] inb).shape.Idx → EReal)
    (L : List (View.Piece (Elt Ideal) S4x1024x512 .f32)) (q : Fin 4) (k : Fin 1024) (n : Fin 512) (h : (q : ℕ) ≠ p) :
    View.canon ((⟨Rect.unit ![p, 0, 0] ![1, 1024, 512] inb, w⟩ : View.Piece (Elt Ideal) S4x1024x512 .f32) :: L) (ix3 q k n) = View.canon L (ix3 q k n) :=
  canon_off p inb w L _ h

theorem canon_on (p : ℕ) (inb) (w : (Rect.unit (s := S4x1024x512) ![p, 0, 0] ![1, 1024, 512] inb).shape.Idx → EReal)
    (L : List (View.Piece (Elt Ideal) S4x1024x512 .f32)) (q : Fin 4) (k : Fin 1024) (n : Fin 512) (h : (q : ℕ) = p) :
    View.canon ((⟨Rect.unit ![p, 0, 0] ![1, 1024, 512] inb, w⟩ : View.Piece (Elt Ideal) S4x1024x512 .f32) :: L) (ix3 q k n) = w (ix3 0 k n : S1x1024x512.Idx) := by
  have e : (Rect.unit (s := S4x1024x512) ![p, 0, 0] ![1, 1024, 512] inb).emb (ix3 0 k n : S1x1024x512.Idx) = (ix3 q k n : S4x1024x512.Idx) := by
    refine ix3_of _ _ _ _ ?_ ?_ ?_
    · show p + 1 * 0 = (q : ℕ); omega
    · show 0 + 1 * (k : ℕ) = (k : ℕ); omega
    · show 0 + 1 * (n : ℕ) = (n : ℕ); omega
  rw [← e]
  exact View.canon_cons_emb _ _ _ _

theorem ld_off (p q : ℕ) (inb inb') (w : (Rect.unit (s := S4x1024x512) ![p, 0, 0] ![1, 1024, 512] inb).shape.Idx → EReal)
    (L : List (View.Piece (Elt Ideal) S4x1024x512 .f32)) (h : q ≠ p) :
    View.ld (View.canon ((⟨Rect.unit ![p, 0, 0] ![1, 1024, 512] inb, w⟩ : View.Piece (Elt Ideal) S4x1024x512 .f32) :: L)) (Rect.unit ![q, 0, 0] ![1, 1024, 512] inb')
      = View.ld (View.canon L) (Rect.unit ![q, 0, 0] ![1, 1024, 512] inb') := by
  funext x
  refine canon_off p inb w L _ ?_
  have hx : (x 0 : ℕ) < 1 := (x 0).isLt
  show q + 1 * (x 0 : ℕ) ≠ p
  omega

theorem whole_eq (inb : ∀ a, (![0, 0, 0] : Fin 3 → ℕ) a + S4x1024x512.size a ≤ S4x1024x512.size a) (w : S4x1024x512.Idx → Elt Ideal .f32) :
    View.canon [(⟨Rect.unit (s := S4x1024x512) ![0, 0, 0] ![4, 1024, 512] inb, w⟩ : View.Piece (Elt Ideal) S4x1024x512 .f32)] = w := by
  have h : (![0, 0, 0] : Fin 3 → ℕ) = fun _ => 0 := by funext a; fin_cases a <;> rfl
  exact View.canon_unit_zero (Val := Elt Ideal) (S := S4x1024x512) (e := .f32) (off := ![0, 0, 0]) h inb w

theorem readCov_ld {S : Shape} {e : EltTy} {sig : RefSig} {κ : Kind} {sp : Space} (v : View sig κ sp S e) (L : List (View.Piece (Elt Ideal) S e)) (r : Rect S) :
    v.readCov L r.toLoadRect = View.ld (View.canon L) r := View.readCov_eq_canon' v L r.toLoadRect

section
variable (c : Dev nD) (i : grid0.Coords) (arg4 : Memref sig .tc .vmem S1x1088x1024 .bf16) (harg4 : arg4.IsWhole) (arg5 : Memref sig .tc .vmem S1x1088x2048 .bf16) (harg5 : arg5.IsWhole) (arg6 : Memref sig .tc .vmem S4x1024x512 .f32) (harg6 : arg6.IsWhole)
  (x0 : Vec Ideal S1x1088x1024 .bf16) (x1 : Vec Ideal S1x1088x2048 .bf16)

theorem left_B (hc0 : ¬ cond0_0 i) (xo : Vec Ideal S4x1024x512 .f32) (y : S4x1024x512.Idx) (q : Fin 4) (k : Fin 1024) (n : Fin 512) (e0 : (y 0 : ℕ) = q) (e1 : (y 1 : ℕ) = k) (e2 : (y 2 : ℕ) = n) :
    out0_B_2 (F := Ideal) c i arg4 harg4 arg5 harg5 arg6 harg6 hc0 x0 x1 xo y
      = (xo (ix3 q k n) + ∑ x : Fin 1088, HMul.hMul (α := EReal) (β := EReal) (x0 (ix3 0 x k)) (x1 (ix3 0 x ⟨512 * q + n, by omega⟩)) : EReal) := by
  frame_out
  canon_tiles x h
  all_goals
    open_payloads
    idx_vars x
    obtain rfl : k = x1 := Fin.ext (by omega)
    obtain rfl : n = x2 := Fin.ext (by omega)
  · obtain rfl : q = 3 := Fin.ext (by omega)
    pointwise
  · obtain rfl : q = 2 := Fin.ext (by omega)
    pointwise
  · obtain rfl : q = 1 := Fin.ext (by omega)
    pointwise
  · obtain rfl : q = 0 := Fin.ext (by omega)
    pointwise

theorem left_A (hc0 : cond0_0 i) (y : S4x1024x512.Idx) (q : Fin 4) (k : Fin 1024) (n : Fin 512) (e : y = ix3 q k n) :
    out0_A_2 (F := Ideal) c i arg4 harg4 arg5 harg5 arg6 harg6 hc0 x0 x1 y
      = (0 + ∑ x : Fin 1088, HMul.hMul (α := EReal) (β := EReal) (x0 (ix3 0 x k)) (x1 (ix3 0 x ⟨512 * q + n, by omega⟩)) : EReal) := by
  frame_out
  simp only [readCov_ld]
  simp (disch := decide) only [ld_off, whole_eq]
  subst e
  have hq : q = 0 ∨ q = 1 ∨ q = 2 ∨ q = 3 := by omega
  rcases hq with rfl | rfl | rfl | rfl
  all_goals
    simp (disch := decide) only [canon_past, canon_on]
    open_payloads
    pointwise
end

/-! ## The array -/

variable (m : (ℓ : Loc nD τ sig) → Buf (Elt Ideal) ℓ)

/-- Which block of each array a grid point works on. -/
theorem idx : ∀ t : Fin cfg0.N, win0_0.index t = ![t.val / 4 % 2, t.val % 4, 0]
    ∧ win0_1.index t = ![t.val / 4 % 2, t.val % 4, t.val / 8] ∧ win0_2.index t = ![t.val / 8, 0, 0] :=
  (by decide +kernel : ∀ t : Fin grid0.N, _)

/-- The activation and the incoming gradient. -/
@[irreducible] def opA (c : Dev nD) : FVec Ideal S2x4352x1024 .bf16 := V m c (Pipeline.arrRef spec0 0)
@[irreducible] def opG (c : Dev nD) : FVec Ideal S2x4352x4096 .bf16 := V m c (Pipeline.arrRef spec0 1)
theorem opA_eq (c : Dev nD) : opA m c = m ((c : Thread nD τ).loc main_arg0) := by unfold opA; exact V_main_arg0 m c
theorem opG_eq (c : Dev nD) : opG m c = m ((c : Thread nD τ).loc main_arg1) := by unfold opG; exact V_main_arg1 m c

/-- The sequence, the row and the column of a point's block, and the slab of the result. -/
abbrev pB (t : Fin cfg0.N) : Fin 2 := ⟨t.val / 4 % 2, by omega⟩
abbrev pR (t : Fin cfg0.N) (x : Fin 1088) : Fin 4352 := ⟨1088 * (t.val % 4) + x, by omega⟩
abbrev pN (t : Fin cfg0.N) (l : Fin 2048) : Fin 4096 := ⟨2048 * (t.val / 8) + l, by have : t.val < 16 := t.isLt; omega⟩
abbrev pQ (t : Fin cfg0.N) (q : Fin 4) : Fin 8 := ⟨4 * (t.val / 8) + q, by have : t.val < 16 := t.isLt; omega⟩

theorem emb0 (t : Fin cfg0.N) (x : Fin 1088) (k : Fin 1024) :
    ((cfg0.win 0).blk t).view.emb (ix3 0 x k : S1x1088x1024.Idx) = (ix3 (pB t) (pR t x) k : S2x4352x1024.Idx) := by
  have h := (idx t).1
  refine ix3_of _ _ _ _ ?_ ?_ ?_
  · show win0_0.index t 0 * 1 + 1 * 0 = t.val / 4 % 2; rw [h]; simp
  · show win0_0.index t 1 * 1088 + 1 * x.val = 1088 * (t.val % 4) + x.val; rw [h]; simp; omega
  · show win0_0.index t 2 * 1024 + 1 * k.val = k.val; rw [h]; simp
theorem emb1 (t : Fin cfg0.N) (x : Fin 1088) (l : Fin 2048) :
    ((cfg0.win 1).blk t).view.emb (ix3 0 x l : S1x1088x2048.Idx) = (ix3 (pB t) (pR t x) (pN t l) : S2x4352x4096.Idx) := by
  have h := (idx t).2.1
  refine ix3_of _ _ _ _ ?_ ?_ ?_
  · show win0_1.index t 0 * 1 + 1 * 0 = t.val / 4 % 2; rw [h]; simp
  · show win0_1.index t 1 * 1088 + 1 * x.val = 1088 * (t.val % 4) + x.val; rw [h]; simp; omega
  · show win0_1.index t 2 * 2048 + 1 * l.val = 2048 * (t.val / 8) + l.val; rw [h]; simp; omega
theorem emb2 (t : Fin cfg0.N) (q : Fin 4) (k : Fin 1024) (n : Fin 512) :
    ((cfg0.win 2).blk t).view.emb (ix3 q k n : S4x1024x512.Idx) = (ix3 (pQ t q) k n : S8x1024x512.Idx) := by
  have h := (idx t).2.2
  refine ix3_of _ _ _ _ ?_ ?_ ?_
  · show win0_2.index t 0 * 4 + 1 * q.val = 4 * (t.val / 8) + q.val; rw [h]; simp; omega
  · show win0_2.index t 1 * 1024 + 1 * k.val = k.val; rw [h]; simp
  · show win0_2.index t 2 * 512 + 1 * n.val = n.val; rw [h]; simp

theorem blk0 (c : Dev nD) (t : Fin cfg0.N) (x : Fin 1088) (k : Fin 1024) :
    iblk m c 0 t (ix3 0 x k : S1x1088x1024.Idx) = opA m c (ix3 (pB t) (pR t x) k) := by
  have read : ∀ (X : FVec Ideal S2x4352x1024 .bf16) i j, ((cfg0.win 0).blk t).view.emb i = j → ((cfg0.win 0).blk t).view.read (Elt Ideal) X i = X j := by
    intro X i j h; subst h; rfl
  unfold iblk opA
  exact read _ _ _ (emb0 t x k)
theorem blk1 (c : Dev nD) (t : Fin cfg0.N) (x : Fin 1088) (l : Fin 2048) :
    iblk m c 1 t (ix3 0 x l : S1x1088x2048.Idx) = opG m c (ix3 (pB t) (pR t x) (pN t l)) := by
  have read : ∀ (X : FVec Ideal S2x4352x4096 .bf16) i j, ((cfg0.win 1).blk t).view.emb i = j → ((cfg0.win 1).blk t).view.read (Elt Ideal) X i = X j := by
    intro X i j h; subst h; rfl
  unfold iblk opG
  exact read _ _ _ (emb1 t x l)

theorem idx_slab (y : S4x1024x512.Idx) : ∃ (q : Fin 4) (k : Fin 1024) (n : Fin 512), y = ix3 q k n :=
  ⟨y 0, y 1, y 2, ix3_of y (y 0) (y 1) (y 2) rfl rfl rfl⟩

/-- The columns an element of the block at `u` is the gradient of. -/
def colA (c : Dev nD) (y : S4x1024x512.Idx) (b : Fin 2) (r : Fin 4352) : EReal := opA m c (ix3 b r (y 1))
def colG (c : Dev nD) (u : ℕ) (y : S4x1024x512.Idx) (b : Fin 2) (r : Fin 4352) : EReal :=
  if h : 2048 * u + (512 * (y 0 : ℕ) + (y 2 : ℕ)) < 4096 then opG m c (ix3 b r ⟨2048 * u + (512 * (y 0 : ℕ) + (y 2 : ℕ)), h⟩) else 0
theorem colG_eq (c : Dev nD) (t : Fin cfg0.N) (q : Fin 4) (k : Fin 1024) (n : Fin 512) :
    colG m c (t.val / 8) (ix3 q k n) = fun b r => opG m c (ix3 b r (pN t ⟨512 * q + n, by omega⟩)) :=
  funext fun _ => funext fun _ => dif_pos (pN t ⟨512 * q + n, by omega⟩).isLt

/-- A point's two blocks, multiplied, are the part of the gradient its rows contribute. -/
theorem adds (c : Dev nD) (t : Fin cfg0.N) (q : Fin 4) (k : Fin 1024) (n : Fin 512) :
    ∑ x : Fin 1088, HMul.hMul (α := EReal) (β := EReal) (iblk m c 0 t (ix3 0 x k : S1x1088x1024.Idx)) (iblk m c 1 t (ix3 0 x ⟨512 * q + n, by omega⟩ : S1x1088x2048.Idx))
      = part t.val (colA m c (ix3 q k n)) (colG m c (t.val / 8) (ix3 q k n)) := by
  refine Finset.sum_congr rfl fun x _ => ?_
  rw [blk0 m c t x k, blk1 m c t x _]
  rw [colG_eq]
  rfl

theorem left (c : Dev nD) (t : Fin cfg0.N) (hf : t.val % 8 = 7) (y : S4x1024x512.Idx) :
    outsAt0 m c t.val t.isLt y = grad (colA m c y) (colG m c (t.val / 8) y) := by
  refine left_grad (fun n h => outsAt0 m c n h) (fun _ => colA m c) (colG m c) (fun t h0 y => ?_) (fun t h0 y => ?_) t hf y
  · obtain ⟨q, k, n, rfl⟩ := idx_slab y
    rw [outsAt0_A m c t h0]
    exact (left_A c (grid0.coords t) _ _ _ _ _ _ _ _ _ _ q k n rfl).trans (congrArg (HAdd.hAdd (α := EReal) _) (adds m c t q k n))
  · obtain ⟨q, k, n, rfl⟩ := idx_slab y
    rw [outsAt0_B m c t h0]
    exact (left_B c (grid0.coords t) _ _ _ _ _ _ _ _ _ _ _ q k n rfl rfl rfl).trans (congrArg (HAdd.hAdd (α := EReal) _) (adds m c t q k n))

/-- The gradient's column that column `n` of block `j` is. -/
def col (j : Fin 8) (n : Fin 512) : Fin 4096 := ⟨512 * j + n, by omega⟩
/-- What the result array holds: block `j` is the gradient's columns from 512 `j` on. -/
def out (c : Dev nD) : FVec Ideal S8x1024x512 .f32 := fun i =>
  grad (fun b r => opA m c (ix3 b r (i 1))) (fun b r => opG m c (ix3 b r (col (i 0) (i 2))))

theorem final (c : Dev nD) : (dats m 0 c).arrAt 2 cfg0.N = out m c := by
  refine (dats m 0 c).arrAt_eq_of_covers 2 _ (by decide +kernel) fun t hf y => ?_
  rw [after0_2]
  refine (left m c t ((flush0_2 t).mp hf) y).trans ?_
  obtain ⟨q, k, n, rfl⟩ := idx_slab y
  refine Eq.trans ?_ (congrArg (out m c) (emb2 t q k n)).symm
  rw [colG_eq]
  have e : ∀ b r, (ix3 b r (pN t ⟨512 * q + n, by omega⟩) : S2x4352x4096.Idx) = ix3 b r (col (pQ t q) n) := fun b r =>
    congrArg (ix3 b r) (Fin.ext (by show 2048 * (t.val / 8) + (512 * (q : ℕ) + n) = 512 * (4 * (t.val / 8) + q) + n; omega))
  simp only [e]
  rfl

end Cert.Kernel2Ideal.WG
end
-- ==== Proof.Grad3.lean ====
/- The gradient of the MLP's second weight: what the call leaves in its array. -/
module

public import proofs.«01_k».proof.Proof.Grad
public import proofs.«01_k».proof.Proof.Gen.Kernel3Ideal.Value

@[expose] public section
set_option maxRecDepth 16384
noncomputable section
namespace Cert.Kernel3Ideal.WG
open Cert.Kernel3Ideal Cert.Kernel3Ideal.Gen Idealize.ShloMosaic Idealize.ShloMosaic.TcCoe Idealize.SL.Sem
open Cert.Grad

variable (m : (ℓ : Loc nD τ sig) → Buf (Elt Ideal) ℓ)

/-- Which block of each array a grid point works on. -/
theorem idx : ∀ t : Fin cfg0.N, win0_0.index t = ![t.val / 4 % 2, t.val % 4, t.val / 8]
    ∧ win0_1.index t = ![t.val / 4 % 2, t.val % 4, 0] ∧ win0_2.index t = ![0, t.val / 8, 0] :=
  (by decide +kernel : ∀ t : Fin grid0.N, _)

/-- The activation and the incoming gradient. -/
@[irreducible] def opA (c : Dev nD) : FVec Ideal S2x4352x4096 .bf16 := V m c (Pipeline.arrRef spec0 0)
@[irreducible] def opG (c : Dev nD) : FVec Ideal S2x4352x1024 .bf16 := V m c (Pipeline.arrRef spec0 1)
theorem opA_eq (c : Dev nD) : opA m c = m ((c : Thread nD τ).loc main_arg0) := by unfold opA; exact V_main_arg0 m c
theorem opG_eq (c : Dev nD) : opG m c = m ((c : Thread nD τ).loc main_arg1) := by unfold opG; exact V_main_arg1 m c

/-- The sequence and the row of a point's block, and the row of the result. -/
abbrev pB (t : Fin cfg0.N) : Fin 2 := ⟨t.val / 4 % 2, by omega⟩
abbrev pR (t : Fin cfg0.N) (x : Fin 1088) : Fin 4352 := ⟨1088 * (t.val % 4) + x, by omega⟩
abbrev pK (t : Fin cfg0.N) (k : Fin 2048) : Fin 4096 := ⟨2048 * (t.val / 8) + k, by have : t.val < 16 := t.isLt; omega⟩

theorem emb0 (t : Fin cfg0.N) (x : Fin 1088) (k : Fin 2048) :
    ((cfg0.win 0).blk t).view.emb (ix3 0 x k : S1x1088x2048.Idx) = (ix3 (pB t) (pR t x) (pK t k) : S2x4352x4096.Idx) := by
  have h := (idx t).1
  refine ix3_of _ _ _ _ ?_ ?_ ?_
  · show win0_0.index t 0 * 1 + 1 * 0 = t.val / 4 % 2; rw [h]; simp
  · show win0_0.index t 1 * 1088 + 1 * x.val = 1088 * (t.val % 4) + x.val; rw [h]; simp; omega
  · show win0_0.index t 2 * 2048 + 1 * k.val = 2048 * (t.val / 8) + k.val; rw [h]; simp; omega
theorem emb1 (t : Fin cfg0.N) (x : Fin 1088) (n : Fin 1024) :
    ((cfg0.win 1).blk t).view.emb (ix3 0 x n : S1x1088x1024.Idx) = (ix3 (pB t) (pR t x) n : S2x4352x1024.Idx) := by
  have h := (idx t).2.1
  refine ix3_of _ _ _ _ ?_ ?_ ?_
  · show win0_1.index t 0 * 1 + 1 * 0 = t.val / 4 % 2; rw [h]; simp
  · show win0_1.index t 1 * 1088 + 1 * x.val = 1088 * (t.val % 4) + x.val; rw [h]; simp; omega
  · show win0_1.index t 2 * 1024 + 1 * n.val = n.val; rw [h]; simp
theorem emb2 (t : Fin cfg0.N) (k : Fin 2048) (n : Fin 1024) :
    ((cfg0.win 2).blk t).view.emb (ix3 0 k n : S1x2048x1024.Idx) = (ix3 0 (pK t k) n : S1x4096x1024.Idx) := by
  have h := (idx t).2.2
  refine ix3_of _ _ _ _ ?_ ?_ ?_
  · show win0_2.index t 0 * 1 + 1 * 0 = 0; rw [h]; simp
  · show win0_2.index t 1 * 2048 + 1 * k.val = 2048 * (t.val / 8) + k.val; rw [h]; simp; omega
  · show win0_2.index t 2 * 1024 + 1 * n.val = n.val; rw [h]; simp

theorem blk0 (c : Dev nD) (t : Fin cfg0.N) (x : Fin 1088) (k : Fin 2048) :
    iblk m c 0 t (ix3 0 x k : S1x1088x2048.Idx) = opA m c (ix3 (pB t) (pR t x) (pK t k)) := by
  have read : ∀ (X : FVec Ideal S2x4352x4096 .bf16) i j, ((cfg0.win 0).blk t).view.emb i = j → ((cfg0.win 0).blk t).view.read (Elt Ideal) X i = X j := by
    intro X i j h; subst h; rfl
  unfold iblk opA
  exact read _ _ _ (emb0 t x k)
theorem blk1 (c : Dev nD) (t : Fin cfg0.N) (x : Fin 1088) (n : Fin 1024) :
    iblk m c 1 t (ix3 0 x n : S1x1088x1024.Idx) = opG m c (ix3 (pB t) (pR t x) n) := by
  have read : ∀ (X : FVec Ideal S2x4352x1024 .bf16) i j, ((cfg0.win 1).blk t).view.emb i = j → ((cfg0.win 1).blk t).view.read (Elt Ideal) X i = X j := by
    intro X i j h; subst h; rfl
  unfold iblk opG
  exact read _ _ _ (emb1 t x n)

/-- The columns an element of the block at `q` is the gradient of. -/
def colA (c : Dev nD) (q : ℕ) (y : S1x2048x1024.Idx) (b : Fin 2) (r : Fin 4352) : EReal :=
  if h : 2048 * q + (y 1 : ℕ) < 4096 then opA m c (ix3 b r ⟨2048 * q + (y 1 : ℕ), h⟩) else 0
def colG (c : Dev nD) (y : S1x2048x1024.Idx) (b : Fin 2) (r : Fin 4352) : EReal := opG m c (ix3 b r (y 2))
theorem colA_eq (c : Dev nD) (t : Fin cfg0.N) (k : Fin 2048) (n : Fin 1024) :
    colA m c (t.val / 8) (ix3 0 k n) = fun b r => opA m c (ix3 b r (pK t k)) :=
  funext fun _ => funext fun _ => dif_pos (pK t k).isLt

/-- The body adds the product of its two blocks to what it finds. -/
theorem pay_at (x0 : Vec Ideal S1x1088x2048 .bf16) (x1 : Vec Ideal S1x1088x1024 .bf16) (acc : Vec Ideal S1x2048x1024 .f32) (k : Fin 2048) (n : Fin 1024) :
    k0_pay2 x0 x1 acc (ix3 0 k n) = (acc (ix3 0 k n) + ∑ x : Fin 1088, HMul.hMul (α := EReal) (β := EReal) (x0 (ix3 0 x k)) (x1 (ix3 0 x n)) : EReal) := by
  pointwise [k0_pay2]
theorem zero_at (k : Fin 2048) (n : Fin 1024) : k0_pay1 (F := Ideal) (ix3 0 k n) = (0 : EReal) := by
  pointwise [k0_pay1]

theorem adds (c : Dev nD) (t : Fin cfg0.N) (acc : Vec Ideal S1x2048x1024 .f32) (k : Fin 2048) (n : Fin 1024) :
    k0_pay2 (iblk m c 0 t) (iblk m c 1 t) acc (ix3 0 k n)
      = (acc (ix3 0 k n) + part t.val (colA m c (t.val / 8) (ix3 0 k n)) (colG m c (ix3 0 k n)) : EReal) := by
  rw [pay_at]
  refine congrArg (HAdd.hAdd (α := EReal) _) (Finset.sum_congr rfl fun x _ => ?_)
  rw [blk0 m c t x k, blk1 m c t x n]
  rw [colA_eq]
  rfl

theorem left (c : Dev nD) (t : Fin cfg0.N) (hf : t.val % 8 = 7) (y : S1x2048x1024.Idx) :
    outsAt0 m c t.val t.isLt y = grad (colA m c (t.val / 8) y) (colG m c y) := by
  refine left_grad (fun n h => outsAt0 m c n h) (colA m c) (fun _ => colG m c) (fun t h0 y => ?_) (fun t h0 y => ?_) t hf y
  · obtain ⟨k, n, rfl⟩ := idx_eq y
    rw [outsAt0_A m c t h0, Value.out_A_2_eq, adds, zero_at]
  · obtain ⟨k, n, rfl⟩ := idx_eq y
    rw [outsAt0_B m c t h0, Value.out_B_2_eq, adds]

/-- What the result array holds. -/
def out (c : Dev nD) : FVec Ideal S1x4096x1024 .f32 := fun i =>
  grad (fun b r => opA m c (ix3 b r (i 1))) (fun b r => opG m c (ix3 b r (i 2)))

theorem final (c : Dev nD) : (dats m 0 c).arrAt 2 cfg0.N = out m c := by
  refine (dats m 0 c).arrAt_eq_of_covers 2 _ (by decide +kernel) fun t hf y => ?_
  rw [after0_2]
  refine (left m c t ((flush0_2 t).mp hf) y).trans ?_
  obtain ⟨k, n, rfl⟩ := idx_eq y
  refine Eq.trans ?_ (congrArg (out m c) (emb2 t k n)).symm
  rw [colA_eq]
  rfl

end Cert.Kernel3Ideal.WG
end
-- ==== Proof.Grad4.lean ====
/- The gradient of the input projection's weight: what the call leaves in its array. -/
module

public import proofs.«01_k».proof.Proof.Grad
public import proofs.«01_k».proof.Proof.Gen.Kernel4Ideal.Value

@[expose] public section
set_option maxRecDepth 16384
noncomputable section
namespace Cert.Kernel4Ideal.WG
open Cert.Kernel4Ideal Cert.Kernel4Ideal.Gen Idealize.ShloMosaic Idealize.ShloMosaic.TcCoe Idealize.SL.Sem
open Cert.Grad

variable (m : (ℓ : Loc nD τ sig) → Buf (Elt Ideal) ℓ)

/-- Which block of each array a grid point works on. -/
theorem idx : ∀ t : Fin cfg0.N, win0_0.index t = ![t.val / 4 % 2, t.val % 4, 0]
    ∧ win0_1.index t = ![t.val / 4 % 2, t.val % 4, 0] ∧ win0_2.index t = ![0, 0, 0] :=
  (by decide +kernel : ∀ t : Fin grid0.N, _)

/-- The activation and the incoming gradient. -/
@[irreducible] def opA (c : Dev nD) : FVec Ideal S2x4352x1024 .bf16 := V m c (Pipeline.arrRef spec0 0)
@[irreducible] def opG (c : Dev nD) : FVec Ideal S2x4352x2304 .bf16 := V m c (Pipeline.arrRef spec0 1)
theorem opA_eq (c : Dev nD) : opA m c = m ((c : Thread nD τ).loc main_arg0) := by unfold opA; exact V_main_arg0 m c
theorem opG_eq (c : Dev nD) : opG m c = m ((c : Thread nD τ).loc main_arg1) := by unfold opG; exact V_main_arg1 m c

/-- The sequence and the row of a point's block. -/
abbrev pB (t : Fin cfg0.N) : Fin 2 := ⟨t.val / 4 % 2, by omega⟩
abbrev pR (t : Fin cfg0.N) (x : Fin 1088) : Fin 4352 := ⟨1088 * (t.val % 4) + x, by omega⟩

theorem emb0 (t : Fin cfg0.N) (x : Fin 1088) (k : Fin 1024) :
    ((cfg0.win 0).blk t).view.emb (ix3 0 x k : S1x1088x1024.Idx) = (ix3 (pB t) (pR t x) k : S2x4352x1024.Idx) := by
  have h := (idx t).1
  refine ix3_of _ _ _ _ ?_ ?_ ?_
  · show win0_0.index t 0 * 1 + 1 * 0 = t.val / 4 % 2; rw [h]; simp
  · show win0_0.index t 1 * 1088 + 1 * x.val = 1088 * (t.val % 4) + x.val; rw [h]; simp; omega
  · show win0_0.index t 2 * 1024 + 1 * k.val = k.val; rw [h]; simp
theorem emb1 (t : Fin cfg0.N) (x : Fin 1088) (n : Fin 2304) :
    ((cfg0.win 1).blk t).view.emb (ix3 0 x n : S1x1088x2304.Idx) = (ix3 (pB t) (pR t x) n : S2x4352x2304.Idx) := by
  have h := (idx t).2.1
  refine ix3_of _ _ _ _ ?_ ?_ ?_
  · show win0_1.index t 0 * 1 + 1 * 0 = t.val / 4 % 2; rw [h]; simp
  · show win0_1.index t 1 * 1088 + 1 * x.val = 1088 * (t.val % 4) + x.val; rw [h]; simp; omega
  · show win0_1.index t 2 * 2304 + 1 * n.val = n.val; rw [h]; simp
theorem emb2 (t : Fin cfg0.N) (k : Fin 1024) (n : Fin 2304) :
    ((cfg0.win 2).blk t).view.emb (ix3 0 k n : S1x1024x2304.Idx) = (ix3 0 k n : S1x1024x2304.Idx) := by
  have h := (idx t).2.2
  refine ix3_of _ _ _ _ ?_ ?_ ?_
  · show win0_2.index t 0 * 1 + 1 * 0 = 0; rw [h]; simp
  · show win0_2.index t 1 * 1024 + 1 * k.val = k.val; rw [h]; simp
  · show win0_2.index t 2 * 2304 + 1 * n.val = n.val; rw [h]; simp

theorem blk0 (c : Dev nD) (t : Fin cfg0.N) (x : Fin 1088) (k : Fin 1024) :
    iblk m c 0 t (ix3 0 x k : S1x1088x1024.Idx) = opA m c (ix3 (pB t) (pR t x) k) := by
  have read : ∀ (X : FVec Ideal S2x4352x1024 .bf16) i j, ((cfg0.win 0).blk t).view.emb i = j → ((cfg0.win 0).blk t).view.read (Elt Ideal) X i = X j := by
    intro X i j h; subst h; rfl
  unfold iblk opA
  exact read _ _ _ (emb0 t x k)
theorem blk1 (c : Dev nD) (t : Fin cfg0.N) (x : Fin 1088) (n : Fin 2304) :
    iblk m c 1 t (ix3 0 x n : S1x1088x2304.Idx) = opG m c (ix3 (pB t) (pR t x) n) := by
  have read : ∀ (X : FVec Ideal S2x4352x2304 .bf16) i j, ((cfg0.win 1).blk t).view.emb i = j → ((cfg0.win 1).blk t).view.read (Elt Ideal) X i = X j := by
    intro X i j h; subst h; rfl
  unfold iblk opG
  exact read _ _ _ (emb1 t x n)

/-- The columns an element of the block at `q` is the gradient of. -/
def colA (c : Dev nD) (_q : ℕ) (y : S1x1024x2304.Idx) (b : Fin 2) (r : Fin 4352) : EReal := opA m c (ix3 b r (y 1))
def colG (c : Dev nD) (y : S1x1024x2304.Idx) (b : Fin 2) (r : Fin 4352) : EReal := opG m c (ix3 b r (y 2))

/-- The body adds the product of its two blocks to what it finds. -/
theorem pay_at (x0 : Vec Ideal S1x1088x1024 .bf16) (x1 : Vec Ideal S1x1088x2304 .bf16) (acc : Vec Ideal S1x1024x2304 .f32) (k : Fin 1024) (n : Fin 2304) :
    k0_pay2 x0 x1 acc (ix3 0 k n) = (acc (ix3 0 k n) + ∑ x : Fin 1088, HMul.hMul (α := EReal) (β := EReal) (x0 (ix3 0 x k)) (x1 (ix3 0 x n)) : EReal) := by
  pointwise [k0_pay2]
theorem zero_at (k : Fin 1024) (n : Fin 2304) : k0_pay1 (F := Ideal) (ix3 0 k n) = (0 : EReal) := by
  pointwise [k0_pay1]

theorem adds (c : Dev nD) (t : Fin cfg0.N) (acc : Vec Ideal S1x1024x2304 .f32) (k : Fin 1024) (n : Fin 2304) :
    k0_pay2 (iblk m c 0 t) (iblk m c 1 t) acc (ix3 0 k n)
      = (acc (ix3 0 k n) + part t.val (colA m c (t.val / 8) (ix3 0 k n)) (colG m c (ix3 0 k n)) : EReal) := by
  rw [pay_at]
  refine congrArg (HAdd.hAdd (α := EReal) _) (Finset.sum_congr rfl fun x _ => ?_)
  rw [blk0 m c t x k, blk1 m c t x n]
  rfl

theorem left (c : Dev nD) (t : Fin cfg0.N) (hf : t.val % 8 = 7) (y : S1x1024x2304.Idx) :
    outsAt0 m c t.val t.isLt y = grad (colA m c (t.val / 8) y) (colG m c y) := by
  refine left_grad (fun n h => outsAt0 m c n h) (colA m c) (fun _ => colG m c) (fun t h0 y => ?_) (fun t h0 y => ?_) t hf y
  · obtain ⟨k, n, rfl⟩ := idx_eq y
    rw [outsAt0_A m c t h0, Value.out_A_2_eq, adds, zero_at]
  · obtain ⟨k, n, rfl⟩ := idx_eq y
    rw [outsAt0_B m c t h0, Value.out_B_2_eq, adds]

/-- What the result array holds. -/
def out (c : Dev nD) : FVec Ideal S1x1024x2304 .f32 := fun i =>
  grad (fun b r => opA m c (ix3 b r (i 1))) (fun b r => opG m c (ix3 b r (i 2)))

theorem final (c : Dev nD) : (dats m 0 c).arrAt 2 cfg0.N = out m c := by
  refine (dats m 0 c).arrAt_eq_of_covers 2 _ (by decide +kernel) fun t hf y => ?_
  rw [after0_2]
  refine (left m c t ((flush0_2 t).mp hf) y).trans ?_
  obtain ⟨k, n, rfl⟩ := idx_eq y
  refine Eq.trans ?_ (congrArg (out m c) (emb2 t k n)).symm
  rfl

end Cert.Kernel4Ideal.WG
end
-- ==== Proof.Grad5.lean ====
/- The gradient of the output projection's weight: what the call leaves in its array. -/
module

public import proofs.«01_k».proof.Proof.Grad
public import proofs.«01_k».proof.Proof.Gen.Kernel5Ideal.Value

@[expose] public section
set_option maxRecDepth 16384
noncomputable section
namespace Cert.Kernel5Ideal.WG
open Cert.Kernel5Ideal Cert.Kernel5Ideal.Gen Idealize.ShloMosaic Idealize.ShloMosaic.TcCoe Idealize.SL.Sem
open Cert.Grad

variable (m : (ℓ : Loc nD τ sig) → Buf (Elt Ideal) ℓ)

/-- Which block of each array a grid point works on. -/
theorem idx : ∀ t : Fin cfg0.N, win0_0.index t = ![t.val / 4 % 2, t.val % 4, 0]
    ∧ win0_1.index t = ![t.val / 4 % 2, t.val % 4, 0] ∧ win0_2.index t = ![0, 0, 0] :=
  (by decide +kernel : ∀ t : Fin grid0.N, _)

/-- The activation and the incoming gradient. -/
@[irreducible] def opA (c : Dev nD) : FVec Ideal S2x4352x1408 .bf16 := V m c (Pipeline.arrRef spec0 0)
@[irreducible] def opG (c : Dev nD) : FVec Ideal S2x4352x1024 .bf16 := V m c (Pipeline.arrRef spec0 1)
theorem opA_eq (c : Dev nD) : opA m c = m ((c : Thread nD τ).loc main_arg0) := by unfold opA; exact V_main_arg0 m c
theorem opG_eq (c : Dev nD) : opG m c = m ((c : Thread nD τ).loc main_arg1) := by unfold opG; exact V_main_arg1 m c

/-- The sequence and the row of a point's block. -/
abbrev pB (t : Fin cfg0.N) : Fin 2 := ⟨t.val / 4 % 2, by omega⟩
abbrev pR (t : Fin cfg0.N) (x : Fin 1088) : Fin 4352 := ⟨1088 * (t.val % 4) + x, by omega⟩

theorem emb0 (t : Fin cfg0.N) (x : Fin 1088) (k : Fin 1408) :
    ((cfg0.win 0).blk t).view.emb (ix3 0 x k : S1x1088x1408.Idx) = (ix3 (pB t) (pR t x) k : S2x4352x1408.Idx) := by
  have h := (idx t).1
  refine ix3_of _ _ _ _ ?_ ?_ ?_
  · show win0_0.index t 0 * 1 + 1 * 0 = t.val / 4 % 2; rw [h]; simp
  · show win0_0.index t 1 * 1088 + 1 * x.val = 1088 * (t.val % 4) + x.val; rw [h]; simp; omega
  · show win0_0.index t 2 * 1408 + 1 * k.val = k.val; rw [h]; simp
theorem emb1 (t : Fin cfg0.N) (x : Fin 1088) (n : Fin 1024) :
    ((cfg0.win 1).blk t).view.emb (ix3 0 x n : S1x1088x1024.Idx) = (ix3 (pB t) (pR t x) n : S2x4352x1024.Idx) := by
  have h := (idx t).2.1
  refine ix3_of _ _ _ _ ?_ ?_ ?_
  · show win0_1.index t 0 * 1 + 1 * 0 = t.val / 4 % 2; rw [h]; simp
  · show win0_1.index t 1 * 1088 + 1 * x.val = 1088 * (t.val % 4) + x.val; rw [h]; simp; omega
  · show win0_1.index t 2 * 1024 + 1 * n.val = n.val; rw [h]; simp
theorem emb2 (t : Fin cfg0.N) (k : Fin 1408) (n : Fin 1024) :
    ((cfg0.win 2).blk t).view.emb (ix3 0 k n : S1x1408x1024.Idx) = (ix3 0 k n : S1x1408x1024.Idx) := by
  have h := (idx t).2.2
  refine ix3_of _ _ _ _ ?_ ?_ ?_
  · show win0_2.index t 0 * 1 + 1 * 0 = 0; rw [h]; simp
  · show win0_2.index t 1 * 1408 + 1 * k.val = k.val; rw [h]; simp
  · show win0_2.index t 2 * 1024 + 1 * n.val = n.val; rw [h]; simp

theorem blk0 (c : Dev nD) (t : Fin cfg0.N) (x : Fin 1088) (k : Fin 1408) :
    iblk m c 0 t (ix3 0 x k : S1x1088x1408.Idx) = opA m c (ix3 (pB t) (pR t x) k) := by
  have read : ∀ (X : FVec Ideal S2x4352x1408 .bf16) i j, ((cfg0.win 0).blk t).view.emb i = j → ((cfg0.win 0).blk t).view.read (Elt Ideal) X i = X j := by
    intro X i j h; subst h; rfl
  unfold iblk opA
  exact read _ _ _ (emb0 t x k)
theorem blk1 (c : Dev nD) (t : Fin cfg0.N) (x : Fin 1088) (n : Fin 1024) :
    iblk m c 1 t (ix3 0 x n : S1x1088x1024.Idx) = opG m c (ix3 (pB t) (pR t x) n) := by
  have read : ∀ (X : FVec Ideal S2x4352x1024 .bf16) i j, ((cfg0.win 1).blk t).view.emb i = j → ((cfg0.win 1).blk t).view.read (Elt Ideal) X i = X j := by
    intro X i j h; subst h; rfl
  unfold iblk opG
  exact read _ _ _ (emb1 t x n)

/-- The columns an element of the block at `q` is the gradient of. -/
def colA (c : Dev nD) (_q : ℕ) (y : S1x1408x1024.Idx) (b : Fin 2) (r : Fin 4352) : EReal := opA m c (ix3 b r (y 1))
def colG (c : Dev nD) (y : S1x1408x1024.Idx) (b : Fin 2) (r : Fin 4352) : EReal := opG m c (ix3 b r (y 2))

/-- The body adds the product of its two blocks to what it finds. -/
theorem pay_at (x0 : Vec Ideal S1x1088x1408 .bf16) (x1 : Vec Ideal S1x1088x1024 .bf16) (acc : Vec Ideal S1x1408x1024 .f32) (k : Fin 1408) (n : Fin 1024) :
    k0_pay2 x0 x1 acc (ix3 0 k n) = (acc (ix3 0 k n) + ∑ x : Fin 1088, HMul.hMul (α := EReal) (β := EReal) (x0 (ix3 0 x k)) (x1 (ix3 0 x n)) : EReal) := by
  pointwise [k0_pay2]
theorem zero_at (k : Fin 1408) (n : Fin 1024) : k0_pay1 (F := Ideal) (ix3 0 k n) = (0 : EReal) := by
  pointwise [k0_pay1]

theorem adds (c : Dev nD) (t : Fin cfg0.N) (acc : Vec Ideal S1x1408x1024 .f32) (k : Fin 1408) (n : Fin 1024) :
    k0_pay2 (iblk m c 0 t) (iblk m c 1 t) acc (ix3 0 k n)
      = (acc (ix3 0 k n) + part t.val (colA m c (t.val / 8) (ix3 0 k n)) (colG m c (ix3 0 k n)) : EReal) := by
  rw [pay_at]
  refine congrArg (HAdd.hAdd (α := EReal) _) (Finset.sum_congr rfl fun x _ => ?_)
  rw [blk0 m c t x k, blk1 m c t x n]
  rfl

theorem left (c : Dev nD) (t : Fin cfg0.N) (hf : t.val % 8 = 7) (y : S1x1408x1024.Idx) :
    outsAt0 m c t.val t.isLt y = grad (colA m c (t.val / 8) y) (colG m c y) := by
  refine left_grad (fun n h => outsAt0 m c n h) (colA m c) (fun _ => colG m c) (fun t h0 y => ?_) (fun t h0 y => ?_) t hf y
  · obtain ⟨k, n, rfl⟩ := idx_eq y
    rw [outsAt0_A m c t h0, Value.out_A_2_eq, adds, zero_at]
  · obtain ⟨k, n, rfl⟩ := idx_eq y
    rw [outsAt0_B m c t h0, Value.out_B_2_eq, adds]

/-- What the result array holds. -/
def out (c : Dev nD) : FVec Ideal S1x1408x1024 .f32 := fun i =>
  grad (fun b r => opA m c (ix3 b r (i 1))) (fun b r => opG m c (ix3 b r (i 2)))

theorem final (c : Dev nD) : (dats m 0 c).arrAt 2 cfg0.N = out m c := by
  refine (dats m 0 c).arrAt_eq_of_covers 2 _ (by decide +kernel) fun t hf y => ?_
  rw [after0_2]
  refine (left m c t ((flush0_2 t).mp hf) y).trans ?_
  obtain ⟨k, n, rfl⟩ := idx_eq y
  refine Eq.trans ?_ (congrArg (out m c) (emb2 t k n)).symm
  rfl

end Cert.Kernel5Ideal.WG
end
-- ==== Proof.GradRef.lean ====
/- The plain gradients of the weights, entry by entry: each is the sum over both sequences and all rows, which is what the
   calls leave. -/
module

public import proofs.«01_k».proof.Proof.Grad2
public import proofs.«01_k».proof.Proof.Grad3
public import proofs.«01_k».proof.Proof.Grad4
public import proofs.«01_k».proof.Proof.Grad5
public import proofs.«01_k».proof.Proof.Gen.Reference2Ideal.Read
public import proofs.«01_k».proof.Proof.Gen.Reference3Ideal.Read
public import proofs.«01_k».proof.Proof.Gen.Reference4Ideal.Read
public import proofs.«01_k».proof.Proof.Gen.Reference5Ideal.Read

@[expose] public section
set_option maxRecDepth 16384
noncomputable section
namespace Cert.Grad
open Idealize.ShloMosaic Idealize.ShloMosaic.TcCoe Idealize.SL.Sem

theorem ref2 (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v7 (F := Ideal) (Cert.Kernel2Ideal.WG.opA m c) (Cert.Kernel2Ideal.WG.opG m c) = Cert.Kernel2Ideal.WG.out m c := by
  unfold Cert.Kernel2Ideal.WG.out
  generalize Cert.Kernel2Ideal.WG.opA m c = A
  generalize Cert.Kernel2Ideal.WG.opG m c = G
  funext y
  have h0 : (y 0 : ℕ) < 8 := (y 0).isLt
  have h2 : (y 2 : ℕ) < 512 := (y 2).isLt
  have h1 : (y 1 : ℕ) < 1024 := (y 1).isLt
  rw [Cert.Reference2Ideal.Read.val_main_v7_apply, Cert.Reference2Ideal.Read.val_main_v6_apply, Cert.Reference2Ideal.Read.val_main_v5_apply]
  have e : Cert.Reference2Ideal.Read.idx_main_v5 (Cert.Reference2Ideal.Read.idx_main_v6 (Cert.Reference2Ideal.Read.idx_main_v7 y))
      = ix2 (Cert.Kernel2Ideal.WG.col (y 0) (y 2)) (y 1) := by
    funext a
    match a with
    | ⟨0, _⟩ =>
      refine Fin.ext ?_
      show (((y 1 : ℕ) * 8 + (y 0 : ℕ)) * 512 + (y 2 : ℕ)) % 4096 = 512 * (y 0 : ℕ) + (y 2 : ℕ)
      omega
    | ⟨1, _⟩ =>
      refine Fin.ext ?_
      show (((y 1 : ℕ) * 8 + (y 0 : ℕ)) * 512 + (y 2 : ℕ)) / 4096 = (y 1 : ℕ)
      omega
  rw [e]
  unfold Cert.Reference2Ideal.Read.val_main_v4
  exact dot_grad Cert.Reference2Ideal.Gen.dot_S2x4352x4096_S2x4352x1024_S4096x1024_01_01_2_2_n_n_wf G A _ _

theorem ref3 (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v6 (F := Ideal) (Cert.Kernel3Ideal.WG.opA m c) (Cert.Kernel3Ideal.WG.opG m c) = Cert.Kernel3Ideal.WG.out m c := by
  unfold Cert.Kernel3Ideal.WG.out
  generalize Cert.Kernel3Ideal.WG.opA m c = A
  generalize Cert.Kernel3Ideal.WG.opG m c = G
  funext y
  obtain ⟨k, n, rfl⟩ := idx_eq y
  rw [Cert.Reference3Ideal.Read.val_main_v6_apply, Cert.Reference3Ideal.Read.val_main_v5_apply]
  unfold Cert.Reference3Ideal.Read.val_main_v4
  have e : Cert.Reference3Ideal.Read.idx_main_v5 (Cert.Reference3Ideal.Read.idx_main_v6 (ix3 0 k n)) = ix2 n k := by
    funext a
    match a with
    | ⟨0, _⟩ => rfl
    | ⟨1, _⟩ => rfl
  rw [e]
  exact dot_grad Cert.Reference3Ideal.Gen.dot_S2x4352x1024_S2x4352x4096_S1024x4096_01_01_2_2_n_n_wf G A n k

theorem ref4 (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v6 (F := Ideal) (Cert.Kernel4Ideal.WG.opA m c) (Cert.Kernel4Ideal.WG.opG m c) = Cert.Kernel4Ideal.WG.out m c := by
  unfold Cert.Kernel4Ideal.WG.out
  generalize Cert.Kernel4Ideal.WG.opA m c = A
  generalize Cert.Kernel4Ideal.WG.opG m c = G
  funext y
  obtain ⟨k, n, rfl⟩ := idx_eq y
  rw [Cert.Reference4Ideal.Read.val_main_v6_apply, Cert.Reference4Ideal.Read.val_main_v5_apply]
  unfold Cert.Reference4Ideal.Read.val_main_v4
  have e : Cert.Reference4Ideal.Read.idx_main_v5 (Cert.Reference4Ideal.Read.idx_main_v6 (ix3 0 k n)) = ix2 n k := by
    funext a
    match a with
    | ⟨0, _⟩ => rfl
    | ⟨1, _⟩ => rfl
  rw [e]
  exact dot_grad Cert.Reference4Ideal.Gen.dot_S2x4352x2304_S2x4352x1024_S2304x1024_01_01_2_2_n_n_wf G A n k

theorem ref5 (m : (ℓ : Loc Cert.Kernel5Ideal.nD Cert.Kernel5Ideal.τ Cert.Kernel5Ideal.sig) → Buf (Elt Ideal) ℓ) (c : Dev Cert.Kernel5Ideal.nD) :
    Cert.Reference5Ideal.Read.val_main_v6 (F := Ideal) (Cert.Kernel5Ideal.WG.opA m c) (Cert.Kernel5Ideal.WG.opG m c) = Cert.Kernel5Ideal.WG.out m c := by
  unfold Cert.Kernel5Ideal.WG.out
  generalize Cert.Kernel5Ideal.WG.opA m c = A
  generalize Cert.Kernel5Ideal.WG.opG m c = G
  funext y
  obtain ⟨k, n, rfl⟩ := idx_eq y
  rw [Cert.Reference5Ideal.Read.val_main_v6_apply, Cert.Reference5Ideal.Read.val_main_v5_apply]
  unfold Cert.Reference5Ideal.Read.val_main_v4
  have e : Cert.Reference5Ideal.Read.idx_main_v5 (Cert.Reference5Ideal.Read.idx_main_v6 (ix3 0 k n)) = ix2 n k := by
    funext a
    match a with
    | ⟨0, _⟩ => rfl
    | ⟨1, _⟩ => rfl
  rw [e]
  exact dot_grad Cert.Reference5Ideal.Gen.dot_S2x4352x1024_S2x4352x1408_S1024x1408_01_01_2_2_n_n_wf G A n k

end Cert.Grad
end
-- ==== Proof.MlpKit.lean ====
/-
The set-up of `mlp_bwd`'s launch: its grid and staging buffers, the conditions of the body's branches, the two weight
arrays the body copies into scratch by itself, and what the launch keeps of them between two points.
-/
module

public import proofs.«01_k».proof.Proof.Gen.Kernel6Ideal.Frame
public import proofs.«01_k».proof.Proof.Gen.Kernel6Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel6Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The host operations and then the launch, over the resources of a body with transfers of its own. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-! Each input's staging buffer holds its block at every point: the body leaves it in place. -/

theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 34 = 0 :=
  (fun t => by
    have ht : t.val < 34 := Nat.lt_of_lt_of_eq t.isLt N_0
    have e0 : (grid0.coords t 0).val = t.val / 17 % 2 := Pipeline.Grid.coords_val t 0 (by decide) rfl
    have e1 : (grid0.coords t 1).val = t.val / 1 % 17 := Pipeline.Grid.coords_val t 1 (by decide) rfl
    simp only [cond0_0, e0, e1]
    word_cmp
   : ∀ t : Fin grid0.N, cond0_0 (grid0.coords t) ↔ t.val % 34 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 1 — by arithmetic of the point. -/
theorem hcond0_1 : ∀ t : Fin cfg0.N, cond0_1 (grid0.coords t) ↔ t.val % 17 ≤ 1 :=
  (fun t => by
    have ht : t.val < 34 := Nat.lt_of_lt_of_eq t.isLt N_0
    have e0 : (grid0.coords t 0).val = t.val / 17 % 2 := Pipeline.Grid.coords_val t 0 (by decide) rfl
    have e1 : (grid0.coords t 1).val = t.val / 1 % 17 := Pipeline.Grid.coords_val t 1 (by decide) rfl
    simp only [cond0_1, k0_cond2, e0, e1]
    word_cmp
   : ∀ t : Fin grid0.N, cond0_1 (grid0.coords t) ↔ t.val % 17 ≤ 1)

/-- The condition of the body's `scf.if` 2 (`k0_h3`), from the grid coordinates (the skeleton's scalar
    chain substituted). -/
abbrev cond0_2 (i : grid0.Coords) : Prop := k0_cond3 i = 1#1
/-- It holds at the points whose coordinates have 2 ≤ i1 — decided over the grid. -/
theorem hcond0_2 : ∀ t : Fin cfg0.N, cond0_2 (grid0.coords t) ↔ 2 ≤ t.val % 17 :=
  (by decide +kernel : ∀ t : Fin grid0.N, cond0_2 (grid0.coords t) ↔ 2 ≤ t.val % 17)

/-- The condition of the body's `scf.if` 3 (`k0_h4`), from the grid coordinates (the skeleton's scalar
    chain substituted). -/
abbrev cond0_3 (i : grid0.Coords) : Prop := k0_cond4 i = 1#1
/-- It holds at the first point only — by arithmetic of the point. -/
theorem hcond0_3 : ∀ t : Fin cfg0.N, cond0_3 (grid0.coords t) ↔ t.val % 34 = 0 :=
  (fun t => by
    have ht : t.val < 34 := Nat.lt_of_lt_of_eq t.isLt N_0
    have e0 : (grid0.coords t 0).val = t.val / 17 % 2 := Pipeline.Grid.coords_val t 0 (by decide) rfl
    have e1 : (grid0.coords t 1).val = t.val / 1 % 17 := Pipeline.Grid.coords_val t 1 (by decide) rfl
    simp only [cond0_3, k0_cond4, e0, e1]
    word_cmp
   : ∀ t : Fin grid0.N, cond0_3 (grid0.coords t) ↔ t.val % 34 = 0)

/-- The condition of the body's `scf.if` 4 (`k0_h5`), from the grid coordinates (the skeleton's scalar
    chain substituted). -/
abbrev cond0_4 (i : grid0.Coords) : Prop := k0_cond5 i = 1#1
/-- It holds at the points from point 1 on — decided over the grid. -/
theorem hcond0_4 : ∀ t : Fin cfg0.N, cond0_4 (grid0.coords t) ↔ 1 ≤ t.val :=
  (by decide +kernel : ∀ t : Fin grid0.N, cond0_4 (grid0.coords t) ↔ 1 ≤ t.val)

/-- Each window's current staging memref at point `t`, spelled as the pipeline passes it (`bodyAt0`), and its wholeness. -/
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x4096 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x4096 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x8x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x1024 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S8x1024x512 .bf16 := Memref.whole cc0_scratch0
abbrev scM0_1 : Memref sig .tc .vmem S8x512x1024 .bf16 := Memref.whole cc0_scratch1
/-- The operands left in HBM that the body copies into scratch itself, whole. -/
abbrev hbM0_0 : Memref sig .tc .hbm S8x1024x512 .bf16 := Memref.whole main_arg4
abbrev hbM0_1 : Memref sig .tc .hbm S8x512x1024 .bf16 := Memref.whole main_arg5
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 22, SemLoc.dma 23] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 22) 0 ∗ semVal ((c : Thread nD τ), SemLoc.dma 23) 0) := by
  rw [Pipeline.ownSems0_eq_of_list c osem0 [0, 1] (by decide) (by decide)]; rfl
/-- The HBM operands the body moves, as references: unscoped, no window's array (`Pipeline.restRefs`). -/
def H0 : Finset (Ref sig .tc) := {main_arg4, main_arg5}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg4) ∗ hbPt0 c hbM0_1 (V m c main_arg5)) := by
  rw [BI.bigSep_eq_bigSepL_of_eq [main_arg4, main_arg5] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 22) 0 ∗ semVal ((c : Thread nD τ), SemLoc.dma 23) 0) ∗ iprop(hbPt0 c hbM0_0 (V m c main_arg4) ∗ hbPt0 c hbM0_1 (V m c main_arg5))) := by
  rw [Pipeline.ΦD_eq, scopedRest0_eq, ownSems00_eq, hbmPts0_eq]; simp only [scM0_0, scM0_1, owns_whole]; try rfl

end Cert.Kernel6Ideal.Mlp

end
-- ==== Proof.MlpFirst.lean ====
/-
The body of `mlp_bwd` at the first point of its grid, run.
-/
module

public import proofs.«01_k».proof.Proof.MlpKit

@[expose] public section

set_option maxRecDepth 16384

noncomputable section

namespace Cert.Kernel6Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- the run's proof term is large
set_option maxHeartbeats 2000000 in
/-- The body at the first point. Both weight arrays are copied into scratch and waited for; the pieces `L7`, `L8`, `L9`
    are what the stores leave in the buffers of `du`, `a` and `dy`, and `LS0`, `LS1` what the copies leave in scratch. -/
noncomputable def runFirst (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x4096 .bf16) (harg4 : arg4.IsWhole) (arg5 : Memref sig .tc .vmem S1x256x1024 .bf16) (harg5 : arg5.IsWhole) (arg6 : Memref sig .tc .vmem S1x1x8x1024 .f32) (harg6 : arg6.IsWhole) (arg7 : Memref sig .tc .vmem S1x1024 .f32) (harg7 : arg7.IsWhole) (arg10 : Memref sig .tc .vmem S1x256x1024 .f32) (harg10 : arg10.IsWhole) (arg11 : Memref sig .tc .vmem S1x256x4096 .bf16) (harg11 : arg11.IsWhole) (arg12 : Memref sig .tc .vmem S1x256x4096 .bf16) (harg12 : arg12.IsWhole) (arg13 : Memref sig .tc .vmem S1x256x1024 .bf16) (harg13 : arg13.IsWhole) (arg14 : Memref sig .tc .vmem S1x1x8x1024 .f32) (harg14 : arg14.IsWhole) (arg15 : Memref sig .tc .vmem S8x1024 .f32) (harg15 : arg15.IsWhole) (arg16 : Memref sig .tc .vmem S8x1024x512 .bf16) (harg16 : arg16.IsWhole) (arg17 : Memref sig .tc .vmem S8x512x1024 .bf16) (harg17 : arg17.IsWhole) (hc0 : cond0_0 i) (hc1 : cond0_1 i) (hc2 : ¬cond0_2 i) (hc3 : cond0_3 i) (hc4 : ¬cond0_4 i)
    (x0 : Vec F S1x256x1024 .f32) (x1 : Vec F S1x256x1024 .f32) (x2 : Vec F S1x256x4096 .bf16) (x3 : Vec F S1x256x1024 .bf16) (x4 : Vec F S1x1x8x1024 .f32) (x5 : Vec F S1x1024 .f32) (fh0 : HbBuf0 (F := F) c hbM0_0) (fh1 : HbBuf0 (F := F) c hbM0_1) :
    Σ' (L7 : List (View.Piece (Elt F) S1x256x4096 .bf16)), Σ' (L8 : List (View.Piece (Elt F) S1x256x4096 .bf16)), Σ' (L9 : List (View.Piece (Elt F) S1x256x1024 .bf16)), Σ' (LS0 : List (View.Piece (Elt F) S8x1024x512 .bf16)), { LS1 : List (View.Piece (Elt F) S8x512x1024 .bf16) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 22) 0 ∗ semVal ((c : Thread nD τ), SemLoc.dma 23) 0 ∗ hbPt0 c hbM0_0 fh0 ∗ hbPt0 c hbM0_1 fh1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg10 fullShare d) ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f L8) ∗ (∃ f, arg13.view.loc (c : Thread nD τ) ↦[arg13.view.set]{fullShare} arg13.view.writes (Elt F) f L9) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ semVal ((c : Thread nD τ), SemLoc.dma 22) 0 ∗ semVal ((c : Thread nD τ), SemLoc.dma 23) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_bwd i arg2 harg2 arg3 harg3 arg4 harg4 arg5 harg5 arg6 harg6 arg7 harg7 (Memref.whole main_arg4) (Memref.isWhole_whole _) (Memref.whole main_arg5) (Memref.isWhole_whole _) arg10 harg10 arg11 harg11 arg12 harg12 arg13 harg13 arg14 harg14 arg15 harg15 arg16 harg16 arg17 harg17 cc0_scratch2) K } := by
  refine ⟨?_, ?_, ?_, ?_, ?_, fun W K => ?run⟩
  case run =>
    simp only [cc0_mlp_bwd_eq_skeleton]; unfold cc0_mlp_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%ds0, %fs0, -, HS0⟩, ⟨%ds1, %fs1, -, HS1⟩, Hq0, Hq1, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]; · iexists _; iexact H7
    isplitl [H8]; · iexists _; iexact H8
    isplitl [H9]; · iexists _; iexact H9
    isplitl [H10]
    · iexists _, _; isplitr; swap; · iexact H10
      ipureintro; rfl
    isplitl [H11]
    · iexists _, _; isplitr; swap; · iexact H11
      ipureintro; rfl
    isplitl [HS0]; · iexists _; iexact HS0
    isplitl [HS1]; · iexists _; iexact HS1
    isplitl [Hq0]; · iexact Hq0
    isplitl [Hq1]; · iexact Hq1
    isplitl [Hh0]; · iexact Hh0
    isplitl [Hh1]; · iexact Hh1
    iexists _; iexact HW

end Cert.Kernel6Ideal.Mlp

end
-- ==== Proof.MlpLater.lean ====
/-
The body of `mlp_bwd` at every later point of its grid, run.
-/
module

public import proofs.«01_k».proof.Proof.MlpFirst

@[expose] public section

set_option maxRecDepth 16384

noncomputable section

namespace Cert.Kernel6Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- the run's proof term is large
set_option maxHeartbeats 2000000 in
/-- The body at a later point, the scratch at the weights `xs0`, `xs1` and left there; the pieces `L7`, `L8`, `L9` are what
    the stores leave in the buffers of `du`, `a` and `dy`, whichever way the gates' sums branch. -/
noncomputable def runLater (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x4096 .bf16) (harg4 : arg4.IsWhole) (arg5 : Memref sig .tc .vmem S1x256x1024 .bf16) (harg5 : arg5.IsWhole) (arg6 : Memref sig .tc .vmem S1x1x8x1024 .f32) (harg6 : arg6.IsWhole) (arg7 : Memref sig .tc .vmem S1x1024 .f32) (harg7 : arg7.IsWhole) (arg10 : Memref sig .tc .vmem S1x256x1024 .f32) (harg10 : arg10.IsWhole) (arg11 : Memref sig .tc .vmem S1x256x4096 .bf16) (harg11 : arg11.IsWhole) (arg12 : Memref sig .tc .vmem S1x256x4096 .bf16) (harg12 : arg12.IsWhole) (arg13 : Memref sig .tc .vmem S1x256x1024 .bf16) (harg13 : arg13.IsWhole) (arg14 : Memref sig .tc .vmem S1x1x8x1024 .f32) (harg14 : arg14.IsWhole) (arg15 : Memref sig .tc .vmem S8x1024 .f32) (harg15 : arg15.IsWhole) (arg16 : Memref sig .tc .vmem S8x1024x512 .bf16) (harg16 : arg16.IsWhole) (arg17 : Memref sig .tc .vmem S8x512x1024 .bf16) (harg17 : arg17.IsWhole) (hc0 : ¬cond0_0 i) (hc12 : (cond0_1 i ∧ ¬cond0_2 i) ∨ (¬cond0_1 i ∧ cond0_2 i)) (hc3 : ¬cond0_3 i) (hc4 : cond0_4 i)
    (x0 : Vec F S1x256x1024 .f32) (x1 : Vec F S1x256x1024 .f32) (x2 : Vec F S1x256x4096 .bf16) (x3 : Vec F S1x256x1024 .bf16) (x4 : Vec F S1x1x8x1024 .f32) (x5 : Vec F S1x1024 .f32) (fh0 : HbBuf0 (F := F) c hbM0_0) (fh1 : HbBuf0 (F := F) c hbM0_1) (xs0 : Vec F S8x1024x512 .bf16) (xs1 : Vec F S8x512x1024 .bf16) :
    Σ' (L7 : List (View.Piece (Elt F) S1x256x4096 .bf16)), Σ' (L8 : List (View.Piece (Elt F) S1x256x4096 .bf16)), { L9 : List (View.Piece (Elt F) S1x256x1024 .bf16) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ owns (c : Thread nD τ) arg17 fullShare xs1 ∗ semVal ((c : Thread nD τ), SemLoc.dma 22) 0 ∗ semVal ((c : Thread nD τ), SemLoc.dma 23) 0 ∗ hbPt0 c hbM0_0 fh0 ∗ hbPt0 c hbM0_1 fh1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg10 fullShare d) ∗ (∃ f, arg11.view.loc (c : Thread nD τ) ↦[arg11.view.set]{fullShare} arg11.view.writes (Elt F) f L7) ∗ (∃ f, arg12.view.loc (c : Thread nD τ) ↦[arg12.view.set]{fullShare} arg12.view.writes (Elt F) f L8) ∗ (∃ f, arg13.view.loc (c : Thread nD τ) ↦[arg13.view.set]{fullShare} arg13.view.writes (Elt F) f L9) ∗ (∃ d, owns (c : Thread nD τ) arg14 fullShare d) ∗ (∃ d, owns (c : Thread nD τ) arg15 fullShare d) ∗ owns (c : Thread nD τ) arg16 fullShare xs0 ∗ owns (c : Thread nD τ) arg17 fullShare xs1 ∗ semVal ((c : Thread nD τ), SemLoc.dma 22) 0 ∗ semVal ((c : Thread nD τ), SemLoc.dma 23) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_bwd i arg2 harg2 arg3 harg3 arg4 harg4 arg5 harg5 arg6 harg6 arg7 harg7 (Memref.whole main_arg4) (Memref.isWhole_whole _) (Memref.whole main_arg5) (Memref.isWhole_whole _) arg10 harg10 arg11 harg11 arg12 harg12 arg13 harg13 arg14 harg14 arg15 harg15 arg16 harg16 arg17 harg17 cc0_scratch2) K } := by
  refine ⟨?_, ?_, ?_, fun W K => ?run⟩
  case run =>
    simp only [cc0_mlp_bwd_eq_skeleton]; unfold cc0_mlp_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%fs0, %hfs0, HS0⟩, ⟨%fs1, %hfs1, HS1⟩, Hq0, Hq1, Hh0, Hh1, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg16.eq_unread hfs0; obtain rfl := harg17.eq_unread hfs1
    rcases hc12 with ⟨hc1, hc2⟩ | ⟨hc1, hc2⟩
    all_goals
      sl_exec (disch := first | sl_exact hc0 | sl_exact hc1 | sl_exact hc2 | sl_exact hc3 | sl_exact hc4)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _, _; isplitr; swap; · iexact H6
        ipureintro; rfl
      isplitl [H7]; · iexists _; iexact H7
      isplitl [H8]; · iexists _; iexact H8
      isplitl [H9]; · iexists _; iexact H9
      isplitl [H10]
      · iexists _, _; isplitr; swap; · iexact H10
        ipureintro; rfl
      isplitl [H11]
      · iexists _, _; isplitr; swap; · iexact H11
        ipureintro; rfl
      isplitl [HS0]
      · iexists _; isplitr; · ipureintro; exact harg16.read_unread _
        iexact HS0
      isplitl [HS1]
      · iexists _; isplitr; · ipureintro; exact harg17.read_unread _
        iexact HS1
      isplitl [Hq0]; · iexact Hq0
      isplitl [Hq1]; · iexact Hq1
      isplitl [Hh0]; · iexact Hh0
      isplitl [Hh1]; · iexact Hh1
      iexists _; iexact HW

end Cert.Kernel6Ideal.Mlp

end
-- ==== Proof.MlpBlock.lean ====
/-
What the body of `mlp_bwd` leaves in the buffers of `du`, `a` and `dy`, as functions of the blocks it reads and of the
second weight. `du` and `a` are stored as eight slabs of 512 columns, each slab by the same expression of its columns of
`u`; the first point, which copies the weights in, and the later ones leave the same.
-/
module

public import proofs.«01_k».proof.Proof.MlpLater
public import proofs.«01_k».proof.Proof.Grad

@[expose] public section

set_option maxRecDepth 16384

noncomputable section

namespace Cert.Kernel6Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen
open Cert.Grad

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Eight slabs of columns -/

theorem slab_inb (k : ℕ) (hk : k < 8) : ∀ a, (![0, 0, 512 * k] : Fin 3 → ℕ) a + S1x256x512.size a ≤ S1x256x4096.size a := by
  intro a
  fin_cases a
  · exact Nat.le_refl 1
  · exact Nat.le_refl 256
  · show 512 * k + 512 ≤ 4096
    omega

theorem wslab_inb (k : ℕ) (hk : k < 8) : ∀ a, (![k, 0, 0] : Fin 3 → ℕ) a + S1x512x1024.size a ≤ S8x512x1024.size a := by
  intro a
  fin_cases a
  · show k + 1 ≤ 8
    omega
  · exact Nat.le_refl 512
  · exact Nat.le_refl 1024

/-- Columns `512 k` to `512 k + 511` of a block of 4096. -/
abbrev cols (k : Fin 8) : Rect S1x256x4096 := Rect.unit (s := S1x256x4096) ![0, 0, 512 * (k : ℕ)] S1x256x512.size (slab_inb k k.isLt)

/-- The `k`-th slab of the second weight: its rows `512 k` to `512 k + 511`. -/
abbrev wrows (k : Fin 8) : Rect S8x512x1024 := Rect.unit (s := S8x512x1024) ![(k : ℕ), 0, 0] S1x512x1024.size (wslab_inb k k.isLt)

/-- Eight slabs, the last stored first. -/
def slabs (f : Fin 8 → Vec F S1x256x512 .bf16) : List (View.Piece (Elt F) S1x256x4096 .bf16) :=
  [⟨cols 7, f 7⟩, ⟨cols 6, f 6⟩, ⟨cols 5, f 5⟩, ⟨cols 4, f 4⟩, ⟨cols 3, f 3⟩, ⟨cols 2, f 2⟩, ⟨cols 1, f 1⟩, ⟨cols 0, f 0⟩]

/-- The slab a position lies in, and the position within it. -/
def slabOf (y : S1x256x4096.Idx) : Fin 8 := ⟨(y 2 : ℕ) / 512, by have h : (y 2 : ℕ) < 4096 := (y 2).isLt; omega⟩
def inSlab (y : S1x256x4096.Idx) : S1x256x512.Idx := ix3 (y 0) (y 1) ⟨(y 2 : ℕ) % 512, Nat.mod_lt _ (by decide)⟩

theorem canon_off (k : Fin 8) (w : Vec F S1x256x512 .bf16) (L : List (View.Piece (Elt F) S1x256x4096 .bf16)) (y : S1x256x4096.Idx) (h : slabOf y ≠ k) :
    View.canon ((⟨cols k, w⟩ : View.Piece (Elt F) S1x256x4096 .bf16) :: L) y = View.canon L y := by
  refine View.canon_cons_of_not_mem _ _ fun hm => h ?_
  have h2 : 512 * (k : ℕ) ≤ (y 2 : ℕ) ∧ (y 2 : ℕ) < 512 * (k : ℕ) + 512 := (Rect.mem_set_unit (inb := slab_inb k k.isLt)).mp hm 2
  exact Fin.ext (show (y 2 : ℕ) / 512 = (k : ℕ) by omega)

theorem canon_on (k : Fin 8) (w : Vec F S1x256x512 .bf16) (L : List (View.Piece (Elt F) S1x256x4096 .bf16)) (y : S1x256x4096.Idx) (h : slabOf y = k) :
    View.canon ((⟨cols k, w⟩ : View.Piece (Elt F) S1x256x4096 .bf16) :: L) y = w (inSlab y) := by
  have hk : (y 2 : ℕ) / 512 = (k : ℕ) := congrArg Fin.val h
  have e : (cols k).emb (inSlab y : S1x256x512.Idx) = y := by
    refine (Cert.Grad.ix3_of _ (y 0) (y 1) (y 2) ?_ ?_ ?_).trans (Cert.Grad.ix3_of y _ _ _ rfl rfl rfl).symm
    · show 0 + 1 * (y 0 : ℕ) = (y 0 : ℕ); omega
    · show 0 + 1 * (y 1 : ℕ) = (y 1 : ℕ); omega
    · show 512 * (k : ℕ) + 1 * ((y 2 : ℕ) % 512) = (y 2 : ℕ); omega
  conv_lhs => rw [← e]
  exact View.canon_cons_emb _ _ _ _

/-- Slabs stored one after another leave at each position its own slab's value. -/
theorem canon_map (f : Fin 8 → Vec F S1x256x512 .bf16) (y : S1x256x4096.Idx) : ∀ l : List (Fin 8), slabOf y ∈ l →
    View.canon (l.map fun k => (⟨cols k, f k⟩ : View.Piece (Elt F) S1x256x4096 .bf16)) y = f (slabOf y) (inSlab y)
  | [], h => absurd h (List.not_mem_nil)
  | k :: l, h => by
    by_cases hk : slabOf y = k
    · rw [hk]
      exact canon_on k (f k) _ y hk
    · exact (canon_off k (f k) _ y hk).trans (canon_map f y l ((List.mem_cons.mp h).resolve_left hk))

/-- What eight slabs leave: at each position the slab's own value. -/
theorem canon_slabs (f : Fin 8 → Vec F S1x256x512 .bf16) : View.canon (slabs f) = fun y => f (slabOf y) (inSlab y) :=
  funext fun y => canon_map f y [7, 6, 5, 4, 3, 2, 1, 0] ((by decide : ∀ k : Fin 8, k ∈ [7, 6, 5, 4, 3, 2, 1, 0]) _)

/-- Eight slabs cover their block. -/
theorem slabs_cover (f : Fin 8 → Vec F S1x256x512 .bf16) (y : S1x256x4096.Idx) : ∃ pc ∈ slabs f, y ∈ pc.1.set :=
  View.cover_of_tiledL (slabs f) S1x256x512.size (by sl_kernel_rfl) y

/-- One copy of a whole array leaves that array. -/
theorem canon_whole {S : Shape} {e : EltTy} (w : S.Idx → Elt F e) : View.canon [(⟨Rect.whole S, w⟩ : View.Piece (Elt F) S e)] = w := by
  funext y
  exact (congrArg (View.canon _) (Rect.emb_whole_apply S y).symm).trans (View.canon_cons_emb (Rect.whole S) w [] y)

theorem read_whole {S : Shape} {e : EltTy} {sig : RefSig} {κ : Kind} {sp : Space} (v : View sig κ sp S e) (w : S.Idx → Elt F e) (f : v.ty.Contents (Elt F)) :
    v.read (Elt F) (v.writes (Elt F) f [(⟨Rect.whole S, w⟩ : View.Piece (Elt F) S e)]) = w :=
  (View.read_writes_eq_canon _ _ _ fun y => ⟨_, List.mem_singleton_self _, by rw [Rect.set_whole]; exact Finset.mem_univ y⟩).trans (canon_whole w)

/-! ## The body's results -/

/-- `dy` in the products' format. -/
def dyMat (x0 : Vec F S1x256x1024 .f32) (x4 : Vec F S1x1x8x1024 .f32) : FVec F S256x1024 .bf16 :=
  k0_pay9 (View.ld x0 (Rect.unit (s := S1x256x1024) ![0, 0, 0] S1x256x1024.size inb_S1x256x1024_S1x256x1024_0_0_0))
    (View.ld x4 (Rect.unit (s := S1x1x8x1024) ![0, 0, 0, 0] S1x1x8x1024.size inb_S1x1x8x1024_S1x1x8x1024_0_0_0_0))

def dyPieces (x0 : Vec F S1x256x1024 .f32) (x4 : Vec F S1x1x8x1024 .f32) : List (View.Piece (Elt F) S1x256x1024 .bf16) :=
  [⟨Rect.unit (s := S1x256x1024) ![0, 0, 0] S1x256x1024.size inb_S1x256x1024_S1x256x1024_0_0_0,
    k0_pay10 (View.ld x0 (Rect.unit (s := S1x256x1024) ![0, 0, 0] S1x256x1024.size inb_S1x256x1024_S1x256x1024_0_0_0))
      (View.ld x4 (Rect.unit (s := S1x1x8x1024) ![0, 0, 0, 0] S1x1x8x1024.size inb_S1x1x8x1024_S1x1x8x1024_0_0_0_0))⟩]

def aPieces (x2 : Vec F S1x256x4096 .bf16) : List (View.Piece (Elt F) S1x256x4096 .bf16) :=
  slabs fun k => k0_pay13 (View.ld x2 (cols k))

def duPieces (x0 : Vec F S1x256x1024 .f32) (x2 : Vec F S1x256x4096 .bf16) (x4 : Vec F S1x1x8x1024 .f32) (ws : Fin 8 → Vec F S1x512x1024 .bf16) :
    List (View.Piece (Elt F) S1x256x4096 .bf16) :=
  slabs fun k => k0_pay15 (dyMat x0 x4) (View.ld x2 (cols k)) (ws k)

theorem dy_cover (x0 : Vec F S1x256x1024 .f32) (x4 : Vec F S1x1x8x1024 .f32) (y : S1x256x1024.Idx) : ∃ pc ∈ dyPieces x0 x4, y ∈ pc.1.set :=
  ⟨_, List.mem_singleton_self _, (Rect.mem_set_unit (inb := inb_S1x256x1024_S1x256x1024_0_0_0)).mpr fun a => by
    have h : (y a : ℕ) < S1x256x1024.size a := (y a).isLt
    fin_cases a <;> exact ⟨Nat.zero_le _, by simpa using h⟩⟩

section
variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x4096 .bf16) (harg4 : arg4.IsWhole) (arg5 : Memref sig .tc .vmem S1x256x1024 .bf16) (harg5 : arg5.IsWhole) (arg6 : Memref sig .tc .vmem S1x1x8x1024 .f32) (harg6 : arg6.IsWhole) (arg7 : Memref sig .tc .vmem S1x1024 .f32) (harg7 : arg7.IsWhole) (arg10 : Memref sig .tc .vmem S1x256x1024 .f32) (harg10 : arg10.IsWhole) (arg11 : Memref sig .tc .vmem S1x256x4096 .bf16) (harg11 : arg11.IsWhole) (arg12 : Memref sig .tc .vmem S1x256x4096 .bf16) (harg12 : arg12.IsWhole) (arg13 : Memref sig .tc .vmem S1x256x1024 .bf16) (harg13 : arg13.IsWhole) (arg14 : Memref sig .tc .vmem S1x1x8x1024 .f32) (harg14 : arg14.IsWhole) (arg15 : Memref sig .tc .vmem S8x1024 .f32) (harg15 : arg15.IsWhole) (arg16 : Memref sig .tc .vmem S8x1024x512 .bf16) (harg16 : arg16.IsWhole) (arg17 : Memref sig .tc .vmem S8x512x1024 .bf16) (harg17 : arg17.IsWhole)
    (x0 : Vec F S1x256x1024 .f32) (x1 : Vec F S1x256x1024 .f32) (x2 : Vec F S1x256x4096 .bf16) (x3 : Vec F S1x256x1024 .bf16) (x4 : Vec F S1x1x8x1024 .f32) (x5 : Vec F S1x1024 .f32) (fh0 : HbBuf0 (F := F) c hbM0_0) (fh1 : HbBuf0 (F := F) c hbM0_1)

set_option maxHeartbeats 2000000 in
theorem first_du (hc0 : cond0_0 i) (hc1 : cond0_1 i) (hc2 : ¬cond0_2 i) (hc3 : cond0_3 i) (hc4 : ¬cond0_4 i) : (runFirst c i arg2 harg2 arg3 harg3 arg4 harg4 arg5 harg5 arg6 harg6 arg7 harg7 arg10 harg10 arg11 harg11 arg12 harg12 arg13 harg13 arg14 harg14 arg15 harg15 arg16 harg16 arg17 harg17 hc0 hc1 hc2 hc3 hc4 x0 x1 x2 x3 x4 x5 fh0 fh1).1 = duPieces x0 x2 x4 (fun k => View.ld (hbM0_1.view.read (Elt F) fh1) (wrows k)) := by
  have e : (runFirst c i arg2 harg2 arg3 harg3 arg4 harg4 arg5 harg5 arg6 harg6 arg7 harg7 arg10 harg10 arg11 harg11 arg12 harg12 arg13 harg13 arg14 harg14 arg15 harg15 arg16 harg16 arg17 harg17 hc0 hc1 hc2 hc3 hc4 x0 x1 x2 x3 x4 x5 fh0 fh1).1
      = duPieces (arg2.view.read (Elt F) (harg2.unread x0)) (arg4.view.read (Elt F) (harg4.unread x2)) (arg6.view.read (Elt F) (harg6.unread x4)) (fun k => arg17.view.readCov [⟨Rect.whole S8x512x1024, hbM0_1.view.read (Elt F) fh1⟩] (wrows k).toLoadRect) := rfl
  rw [e, harg2.read_unread, harg4.read_unread, harg6.read_unread]
  congr 1
  funext k
  rw [View.readCov_eq_canon' arg17.view _ (wrows k).toLoadRect]
  rw [canon_whole]

theorem first_a (hc0 : cond0_0 i) (hc1 : cond0_1 i) (hc2 : ¬cond0_2 i) (hc3 : cond0_3 i) (hc4 : ¬cond0_4 i) : (runFirst c i arg2 harg2 arg3 harg3 arg4 harg4 arg5 harg5 arg6 harg6 arg7 harg7 arg10 harg10 arg11 harg11 arg12 harg12 arg13 harg13 arg14 harg14 arg15 harg15 arg16 harg16 arg17 harg17 hc0 hc1 hc2 hc3 hc4 x0 x1 x2 x3 x4 x5 fh0 fh1).2.1 = aPieces x2 := by
  have e : (runFirst c i arg2 harg2 arg3 harg3 arg4 harg4 arg5 harg5 arg6 harg6 arg7 harg7 arg10 harg10 arg11 harg11 arg12 harg12 arg13 harg13 arg14 harg14 arg15 harg15 arg16 harg16 arg17 harg17 hc0 hc1 hc2 hc3 hc4 x0 x1 x2 x3 x4 x5 fh0 fh1).2.1 = aPieces (arg4.view.read (Elt F) (harg4.unread x2)) := rfl
  rw [e, harg4.read_unread]

theorem first_dy (hc0 : cond0_0 i) (hc1 : cond0_1 i) (hc2 : ¬cond0_2 i) (hc3 : cond0_3 i) (hc4 : ¬cond0_4 i) : (runFirst c i arg2 harg2 arg3 harg3 arg4 harg4 arg5 harg5 arg6 harg6 arg7 harg7 arg10 harg10 arg11 harg11 arg12 harg12 arg13 harg13 arg14 harg14 arg15 harg15 arg16 harg16 arg17 harg17 hc0 hc1 hc2 hc3 hc4 x0 x1 x2 x3 x4 x5 fh0 fh1).2.2.1 = dyPieces x0 x4 := by
  have e : (runFirst c i arg2 harg2 arg3 harg3 arg4 harg4 arg5 harg5 arg6 harg6 arg7 harg7 arg10 harg10 arg11 harg11 arg12 harg12 arg13 harg13 arg14 harg14 arg15 harg15 arg16 harg16 arg17 harg17 hc0 hc1 hc2 hc3 hc4 x0 x1 x2 x3 x4 x5 fh0 fh1).2.2.1 = dyPieces (arg2.view.read (Elt F) (harg2.unread x0)) (arg6.view.read (Elt F) (harg6.unread x4)) := rfl
  rw [e, harg2.read_unread, harg6.read_unread]

theorem first_w1 (hc0 : cond0_0 i) (hc1 : cond0_1 i) (hc2 : ¬cond0_2 i) (hc3 : cond0_3 i) (hc4 : ¬cond0_4 i) : (runFirst c i arg2 harg2 arg3 harg3 arg4 harg4 arg5 harg5 arg6 harg6 arg7 harg7 arg10 harg10 arg11 harg11 arg12 harg12 arg13 harg13 arg14 harg14 arg15 harg15 arg16 harg16 arg17 harg17 hc0 hc1 hc2 hc3 hc4 x0 x1 x2 x3 x4 x5 fh0 fh1).2.2.2.1 = [⟨Rect.whole S8x1024x512, hbM0_0.view.read (Elt F) fh0⟩] := rfl

theorem first_w2 (hc0 : cond0_0 i) (hc1 : cond0_1 i) (hc2 : ¬cond0_2 i) (hc3 : cond0_3 i) (hc4 : ¬cond0_4 i) : (runFirst c i arg2 harg2 arg3 harg3 arg4 harg4 arg5 harg5 arg6 harg6 arg7 harg7 arg10 harg10 arg11 harg11 arg12 harg12 arg13 harg13 arg14 harg14 arg15 harg15 arg16 harg16 arg17 harg17 hc0 hc1 hc2 hc3 hc4 x0 x1 x2 x3 x4 x5 fh0 fh1).2.2.2.2.1 = [⟨Rect.whole S8x512x1024, hbM0_1.view.read (Elt F) fh1⟩] := rfl

set_option maxHeartbeats 2000000 in
theorem later_du (hc0 : ¬cond0_0 i) (hc12 : (cond0_1 i ∧ ¬cond0_2 i) ∨ (¬cond0_1 i ∧ cond0_2 i)) (hc3 : ¬cond0_3 i) (hc4 : cond0_4 i) (xs0 : Vec F S8x1024x512 .bf16) (xs1 : Vec F S8x512x1024 .bf16) : (runLater c i arg2 harg2 arg3 harg3 arg4 harg4 arg5 harg5 arg6 harg6 arg7 harg7 arg10 harg10 arg11 harg11 arg12 harg12 arg13 harg13 arg14 harg14 arg15 harg15 arg16 harg16 arg17 harg17 hc0 hc12 hc3 hc4 x0 x1 x2 x3 x4 x5 fh0 fh1 xs0 xs1).1 = duPieces x0 x2 x4 (fun k => View.ld xs1 (wrows k)) := by
  have e : (runLater c i arg2 harg2 arg3 harg3 arg4 harg4 arg5 harg5 arg6 harg6 arg7 harg7 arg10 harg10 arg11 harg11 arg12 harg12 arg13 harg13 arg14 harg14 arg15 harg15 arg16 harg16 arg17 harg17 hc0 hc12 hc3 hc4 x0 x1 x2 x3 x4 x5 fh0 fh1 xs0 xs1).1
      = duPieces (arg2.view.read (Elt F) (harg2.unread x0)) (arg4.view.read (Elt F) (harg4.unread x2)) (arg6.view.read (Elt F) (harg6.unread x4)) (fun k => View.ld (arg17.view.read (Elt F) (harg17.unread xs1)) (wrows k)) := rfl
  rw [e, harg2.read_unread, harg4.read_unread, harg6.read_unread, harg17.read_unread]

theorem later_a (hc0 : ¬cond0_0 i) (hc12 : (cond0_1 i ∧ ¬cond0_2 i) ∨ (¬cond0_1 i ∧ cond0_2 i)) (hc3 : ¬cond0_3 i) (hc4 : cond0_4 i) (xs0 : Vec F S8x1024x512 .bf16) (xs1 : Vec F S8x512x1024 .bf16) : (runLater c i arg2 harg2 arg3 harg3 arg4 harg4 arg5 harg5 arg6 harg6 arg7 harg7 arg10 harg10 arg11 harg11 arg12 harg12 arg13 harg13 arg14 harg14 arg15 harg15 arg16 harg16 arg17 harg17 hc0 hc12 hc3 hc4 x0 x1 x2 x3 x4 x5 fh0 fh1 xs0 xs1).2.1 = aPieces x2 := by
  have e : (runLater c i arg2 harg2 arg3 harg3 arg4 harg4 arg5 harg5 arg6 harg6 arg7 harg7 arg10 harg10 arg11 harg11 arg12 harg12 arg13 harg13 arg14 harg14 arg15 harg15 arg16 harg16 arg17 harg17 hc0 hc12 hc3 hc4 x0 x1 x2 x3 x4 x5 fh0 fh1 xs0 xs1).2.1 = aPieces (arg4.view.read (Elt F) (harg4.unread x2)) := rfl
  rw [e, harg4.read_unread]

theorem later_dy (hc0 : ¬cond0_0 i) (hc12 : (cond0_1 i ∧ ¬cond0_2 i) ∨ (¬cond0_1 i ∧ cond0_2 i)) (hc3 : ¬cond0_3 i) (hc4 : cond0_4 i) (xs0 : Vec F S8x1024x512 .bf16) (xs1 : Vec F S8x512x1024 .bf16) : (runLater c i arg2 harg2 arg3 harg3 arg4 harg4 arg5 harg5 arg6 harg6 arg7 harg7 arg10 harg10 arg11 harg11 arg12 harg12 arg13 harg13 arg14 harg14 arg15 harg15 arg16 harg16 arg17 harg17 hc0 hc12 hc3 hc4 x0 x1 x2 x3 x4 x5 fh0 fh1 xs0 xs1).2.2.1 = dyPieces x0 x4 := by
  have e : (runLater c i arg2 harg2 arg3 harg3 arg4 harg4 arg5 harg5 arg6 harg6 arg7 harg7 arg10 harg10 arg11 harg11 arg12 harg12 arg13 harg13 arg14 harg14 arg15 harg15 arg16 harg16 arg17 harg17 hc0 hc12 hc3 hc4 x0 x1 x2 x3 x4 x5 fh0 fh1 xs0 xs1).2.2.1 = dyPieces (arg2.view.read (Elt F) (harg2.unread x0)) (arg6.view.read (Elt F) (harg6.unread x4)) := rfl
  rw [e, harg2.read_unread, harg6.read_unread]

end

end Cert.Kernel6Ideal.Mlp

end
-- ==== Proof.MlpFrame.lean ====
/-
The launch of `mlp_bwd`: from any memory it ends with its arguments unchanged and with the blocks of `du`, `a` and `dy`
at what the body leaves there. After the first point the scratch holds both weights, whatever the point. The residual
stream's gradient and the sums for the gates and the norm's weight are left unnamed.
-/
module

public import proofs.«01_k».proof.Proof.MlpBlock

@[expose] public section

set_option maxRecDepth 16384

noncomputable section

namespace Cert.Kernel6Ideal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- The outputs left unnamed: the residual stream's gradient and the two sums. -/
def unnamed : Fin 12 → Bool := fun w => w.val == 6 || w.val == 10 || w.val == 11

/-- The weights as the launch finds them. -/
def wt1 (c : Dev nD) : Vec F S8x1024x512 .bf16 := hbM0_0.view.read (Elt F) (V m c main_arg4)
def wt2 (c : Dev nD) : Vec F S8x512x1024 .bf16 := hbM0_1.view.read (Elt F) (V m c main_arg5)

/-- What the body leaves of `du`, `a` and `dy` at point `t`. -/
def duAt (c : Dev nD) (t : Fin cfg0.N) : Vec F S1x256x4096 .bf16 :=
  View.canon (duPieces (iblk m c 0 t) (iblk m c 2 t) (iblk m c 4 t) fun k => View.ld (wt2 m c) (wrows k))
def aAt (c : Dev nD) (t : Fin cfg0.N) : Vec F S1x256x4096 .bf16 := View.canon (aPieces (iblk m c 2 t))
def dyAt (c : Dev nD) (t : Fin cfg0.N) : Vec F S1x256x1024 .bf16 := View.canon (dyPieces (iblk m c 0 t) (iblk m c 4 t))

/-- What is kept from one point to the next: at the start the scratch at anything, afterwards at the weights. -/
def kept (c : Dev nD) : ℕ → sProp 𝕄
  | 0 => Pipeline.ΦD osem0 spec0 H0 (V m) c
  | _ + 1 => iprop(iprop(owns (c : Thread nD τ) scM0_0 fullShare (wt1 m c) ∗ owns (c : Thread nD τ) scM0_1 fullShare (wt2 m c)) ∗ (∃ r, prngReg c r) ∗ iprop(semVal ((c : Thread nD τ), SemLoc.dma 22) 0 ∗ semVal ((c : Thread nD τ), SemLoc.dma 23) 0) ∗ iprop(hbPt0 c hbM0_0 (V m c main_arg4) ∗ hbPt0 c hbM0_1 (V m c main_arg5)))

theorem kept_pos (c : Dev nD) (n : ℕ) (h : n ≠ 0) : kept m c n = kept m c 1 := by
  cases n with
  | zero => exact absurd rfl h
  | succ n => rfl

/-- The launch's proof data: the arrays as the launch finds them, and after each point the blocks above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, _⟩ => duAt m c t
    | ⟨8, _⟩ => aAt m c t
    | ⟨9, _⟩ => dyAt m c t
    | ⟨10, h⟩ => Pipeline.Dat.unnamed (cfg := cfg0) ⟨10, h⟩ t
    | ⟨11, h⟩ => Pipeline.Dat.unnamed (cfg := cfg0) ⟨11, h⟩ t
  Φ t := kept m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_7 (c : Dev nD) (t : Fin cfg0.N) : (dats m 0 c).after 7 t = duAt m c t := by dsimp only [dats]
theorem after_8 (c : Dev nD) (t : Fin cfg0.N) : (dats m 0 c).after 8 t = aAt m c t := by dsimp only [dats]
theorem after_9 (c : Dev nD) (t : Fin cfg0.N) : (dats m 0 c).after 9 t = dyAt m c t := by dsimp only [dats]

/-! ## The body at a point -/

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d))

set_option maxHeartbeats 3600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0 m (dats m 0 c) (A_eq m c 0) (after_0 m c), before_1 m (dats m 0 c) (A_eq m c 1) (after_1 m c), before_2 m (dats m 0 c) (A_eq m c 2) (after_2 m c),
    before_3 m (dats m 0 c) (A_eq m c 3) (after_3 m c), before_4 m (dats m 0 c) (A_eq m c 4) (after_4 m c), before_5 m (dats m 0 c) (A_eq m c 5) (after_5 m c),
    after_0, after_1, after_2, after_3, after_4, after_5, after_7, after_8, after_9]
  rw [show (dats m 0 c).Φ t.succ = kept m c (t.val + 1) from rfl, show (dats m 0 c).Φ t.castSucc = kept m c t.val from rfl, kept_pos m c (t.val + 1) (Nat.succ_ne_zero _)]
  unfold Dat.owesAt Pipeline.owesWithin
  rw [show (dats m 0 c).owed t.castSucc = 0 from rfl, show (dats m 0 c).owed t.succ = 0 from rfl]
  have hN : t.val < 34 := lt_of_lt_of_eq t.isLt (show cfg0.N = 34 from N_0)
  unfold duAt aAt dyAt
  by_cases hz : t.val = 0
  · rw [show kept m c t.val = kept m c 0 from congrArg (kept m c) hz, show kept m c 0 = Pipeline.ΦD osem0 spec0 H0 (V m) c from rfl, PhiD0_eq]
    unfold kept
    iintro ⟨⟨⟨HS0, HS1⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runFirst c (grid0.coords t) _ _ _ _ _ _ _ _ _ _ _ _ _ _ _ _ _ _ _ _ _ _ _ _ _ _ _ _ ((hcond0_0 t).mpr (by omega)) ((hcond0_1 t).mpr (by omega)) (fun h => absurd ((hcond0_2 t).mp h) (by omega)) ((hcond0_3 t).mpr (by omega)) (fun h => absurd ((hcond0_4 t).mp h) (by omega)) (iblk m c 0 t) (iblk m c 1 t) (iblk m c 2 t) (iblk m c 3 t) (iblk m c 4 t) (iblk m c 5 t) (V m c main_arg4) (V m c main_arg5)).2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, H5, H6, ⟨%e7, H7⟩, ⟨%e8, H8⟩, ⟨%e9, H9⟩, H10, H11, ⟨%es0, HS0⟩, ⟨%es1, HS1⟩, Hq0, Hq1, Hh0, Hh1, ⟨%W', HW'⟩⟩
    isplitl [HS0 HS1 Hg Hq0 Hq1 Hh0 Hh1]
    · isplitl [HS0 HS1]
      · isplitl [HS0]
        · unfold owns; iexists _; isplitr
          swap; · iexact HS0
          ipureintro; rw [first_w1]; exact read_whole _ _ _
        unfold owns; iexists _; isplitr
        swap; · iexact HS1
        ipureintro; rw [first_w2]; exact read_whole _ _ _
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; rw [first_du]; exact View.read_writes_eq_canon _ _ _ (slabs_cover _)
    isplitl [H8]
    · unfold owns; iexists _; isplitr
      swap; · iexact H8
      ipureintro; rw [first_a]; exact View.read_writes_eq_canon _ _ _ (slabs_cover _)
    isplitl [H9]
    · unfold owns; iexists _; isplitr
      swap; · iexact H9
      ipureintro; rw [first_dy]; exact View.read_writes_eq_canon _ _ _ (dy_cover _ _)
    isplitl [H10]; · iexact H10
    iexact H11
  · rw [kept_pos m c t.val hz]
    have hc12 : (cond0_1 (grid0.coords t) ∧ ¬cond0_2 (grid0.coords t)) ∨ (¬cond0_1 (grid0.coords t) ∧ cond0_2 (grid0.coords t)) := by
      rw [hcond0_1 t, hcond0_2 t]; omega
    unfold kept
    iintro ⟨⟨⟨HS0, HS1⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runLater c (grid0.coords t) _ _ _ _ _ _ _ _ _ _ _ _ _ _ _ _ _ _ _ _ _ _ _ _ _ _ _ _ (fun h => absurd ((hcond0_0 t).mp h) (by omega)) hc12 (fun h => absurd ((hcond0_3 t).mp h) (by omega)) ((hcond0_4 t).mpr (by omega)) (iblk m c 0 t) (iblk m c 1 t) (iblk m c 2 t) (iblk m c 3 t) (iblk m c 4 t) (iblk m c 5 t) (V m c main_arg4) (V m c main_arg5) (wt1 m c) (wt2 m c)).2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, H5, H6, ⟨%e7, H7⟩, ⟨%e8, H8⟩, ⟨%e9, H9⟩, H10, H11, HS0, HS1, Hq0, Hq1, Hh0, Hh1, ⟨%W', HW'⟩⟩
    isplitl [HS0 HS1 Hg Hq0 Hq1 Hh0 Hh1]
    · isplitl [HS0 HS1]
      · isplitl [HS0]; · iexact HS0
        iexact HS1
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; rw [later_du]; exact View.read_writes_eq_canon _ _ _ (slabs_cover _)
    isplitl [H8]
    · unfold owns; iexists _; isplitr
      swap; · iexact H8
      ipureintro; rw [later_a]; exact View.read_writes_eq_canon _ _ _ (slabs_cover _)
    isplitl [H9]
    · unfold owns; iexists _; isplitr
      swap; · iexact H9
      ipureintro; rw [later_dy]; exact View.read_writes_eq_canon _ _ _ (dy_cover _ _)
    isplitl [H10]; · iexact H10
    iexact H11

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ unnamed := fun t => by
  rw [bigSep_W0, bigSep_W0, defs₀_row]
  exact triple_restated (sound_body m c t) rfl .rfl fun _ => .rfl

/-! ## The launch -/

theorem hin (c : Dev nD) : Pipeline.ΦD osem0 spec0 H0 (V m) c ⊢ (dats m 0 c).Φ 0 := by
  rw [show (dats m 0 c).Φ 0 = Pipeline.ΦD osem0 spec0 H0 (V m) c from rfl]

theorem hout (c : Dev nD) : (dats m 0 c).Φ (Fin.last cfg0.N) ⊢ Pipeline.ΦD osem0 spec0 H0 (V m) c := by
  rw [show (dats m 0 c).Φ (Fin.last cfg0.N) = kept m c cfg0.N from rfl, kept_pos m c cfg0.N (by rw [show cfg0.N = 34 from N_0]; decide), PhiD0_eq]
  unfold kept
  iintro ⟨⟨HS0, HS1⟩, Hg, ⟨Hq0, Hq1⟩, ⟨Hh0, Hh1⟩⟩
  isplitl [HS0 HS1]
  · isplitl [HS0]
    · iexists _; iexact HS0
    iexists _; iexact HS1
  isplitl [Hg]; · iexact Hg
  isplitl [Hq0 Hq1]
  · isplitl [Hq0]; · iexact Hq0
    iexact Hq1
  isplitl [Hh0]; · iexact Hh0
  iexact Hh1

-- the launch theorem's implicit arguments are found by unfolding plain definitions in a type
set_option backward.isDefEq.respectTransparency.types false in
theorem run_main_quiescent : θ_run defs (onTc (τ := τ) (main (F := F))) (s₀ m ρ) (fun r => (Pipeline.RDat.FramePost (cfgs 0) (fun c => (dats m 0 c).toRForget unnamed) (V m)) r ∧ r.2.sem = fun _ => 0) :=
  Pipeline.θ_run_frame_dma_forget (Q' := _) cfgs (dats m) (0 : Fin 1) launch0 osem0 defs₀ Variants.none unnamed ownSemFacts0 H0 H0_sub m ρ main
    (hbody := fun c => (body_obligation m c).loose) (hshare := fun c => (dats m 0 c).share_full fun _ => rfl)
    (howed := fun _ _ => rfl) (V := V m) (hmain := hmainD m Variants.none) (hA := A_eq m) (hin := hin m) (hout := hout m)

/-- Every execution ends, with the arrays at what the proof data says of them. -/
theorem run_main : θ_run defs (onTc (τ := τ) (main (F := F))) (s₀ m ρ) (Pipeline.RDat.FramePost (cfgs 0) (fun c => (dats m 0 c).toRForget unnamed) (V m)) :=
  (θ_run defs _ _).mono (fun _ h => h.1) (run_main_quiescent m ρ)

/-- The arguments end unchanged. -/
theorem args_of (rdat : (c : Dev nD) → Pipeline.RDat τ (Elt F) Unit ℕ (Pipeline.UD sig nD τ) ℕ (cfgs 0) c)
    (hA : ∀ c w, (rdat c).A w = V m c (Pipeline.arrRef spec0 w))
    (r : PUnit × MemSt nD τ sig (Elt F)) (h : Pipeline.RDat.FramePost (cfgs 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Pipeline.RDat.FramePost.arr_in h c 0 rfl).trans ((hA c 0).trans (V_main_arg0 m c)),
    (Pipeline.RDat.FramePost.arr_in h c 1 rfl).trans ((hA c 1).trans (V_main_arg1 m c)),
    (Pipeline.RDat.FramePost.arr_in h c 4 rfl).trans ((hA c 4).trans (V_main_arg2 m c)),
    (Pipeline.RDat.FramePost.arr_in h c 5 rfl).trans ((hA c 5).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame, at any kind of floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of m (fun c => (dats m 0 c).toRForget unnamed) (A_eq m) r h.1, h.2⟩) (run_main_quiescent m ρ)

end Cert.Kernel6Ideal.Mlp

end
-- ==== Proof.MlpHost.lean ====
/-
The hidden layer `mlp_bwd` is given is the one the reference works out: the same operations of the same arguments.
-/
module

public import proofs.«01_k».proof.Proof.MlpFrame
public import proofs.«01_k».proof.Proof.Gen.Reference6Ideal.Read

@[expose] public section

set_option maxRecDepth 16384

noncomputable section

namespace Cert.Kernel6Ideal.Mlp

open Idealize.ShloMosaic Idealize.ShloMosaic.TcCoe Idealize.SL.Sem
open Idealize.ShloMosaic.StableHlo
open Cert.Kernel6Ideal.Gen

variable {F : FTy → Type} [FloatOps F]
variable (m : (ℓ : Loc nD τ sig) → Buf (Elt F) ℓ)

theorem after_two (A B : List (HloOp τ sig (Elt F))) (σ : Valuation τ sig (Elt F)) : after (A ++ B) σ = after B (after A σ) := by
  induction A generalizing σ with
  | nil => rfl
  | cons a A ih => exact ih _

theorem out_v58 (σ : Valuation τ sig (Elt F)) :
    (after hostOps0_2 σ (Proc.devRef .tc main_v58) : Vec F S2x4352x4096 .bf16) = truncf .bf16 (σ (Proc.devRef .tc main_v54) : Vec F S2x4352x4096 .f32) bitsLt_bf16_f32 := by
  after_results_simp

theorem out_relu (σ : Valuation τ sig (Elt F)) :
    (after hostOps0_1 σ (Proc.devRef .tc main_v54) : Vec F S2x4352x4096 .f32) = σ (Proc.devRef .tc main_v54) := by
  after_results_simp

set_option maxHeartbeats 16000000 in
theorem out_v54 (σ : Valuation τ sig (Elt F)) :
    (after hostOps0 σ (Proc.devRef .tc main_v54) : Vec F S2x4352x4096 .f32)
      = Cert.Reference6Ideal.Read.val_main_v54 (F := F) (σ (Proc.devRef .tc main_arg1)) (σ (Proc.devRef .tc main_arg2)) (σ (Proc.devRef .tc main_arg3)) (σ (Proc.devRef .tc main_arg4)) := by
  after_results_simp
  rfl

/-- The hidden layer, at the call. -/
theorem hidden_eq (c : Dev nD) : (V m c main_v58 : Vec F S2x4352x4096 .bf16)
    = truncf .bf16 (Cert.Reference6Ideal.Read.val_main_v54 (F := F) (m ((c.tc : Thread nD τ).loc main_arg1)) (m ((c.tc : Thread nD τ).loc main_arg2))
        (m ((c.tc : Thread nD τ).loc main_arg3)) (m ((c.tc : Thread nD τ).loc main_arg4))) bitsLt_bf16_f32 := by
  have e : V m c main_v58 = after hostOps0_2 (after hostOps0_1 (after hostOps0 fun b => m (c, b))) (Proc.devRef .tc main_v58) := by
    show after (hostOps0 ++ (hostOps0_1 ++ (hostOps0_2 ++ []))) (fun b => m (c, b)) (Proc.devRef .tc main_v58) = _
    rw [List.append_nil, after_two, after_two]
  exact e.trans ((out_v58 _).trans (congrArg (truncf .bf16 · bitsLt_bf16_f32) ((out_relu _).trans (out_v54 _))))

end Cert.Kernel6Ideal.Mlp

end
-- ==== Proof.MlpVal.lean ====
/-
The blocks of `du`, `a` and `dy`, element by element, over the extended reals.
-/
module

public import proofs.«01_k».proof.Proof.MlpBlock
public import Idealize.ShloMosaic.PureOps.Ideal.Laws

@[expose] public section

set_option maxRecDepth 16384

noncomputable section

namespace Cert.Kernel6Ideal.Mlp

open Idealize.ShloMosaic Idealize.ShloMosaic.TcCoe Idealize.SL.Sem
open Idealize.ShloMosaic.Pipeline (Dat)
open Cert.Kernel6Ideal.Gen
open Cert.Grad

/-- The gate is row 5 of the eight: the sum over the rows keeps only that one. -/
theorem gate_row (f : Fin 8 → EReal) : ∑ k : Fin 8, Scalar.select (IntOp.cmpi .eq (BitVec.ofNat 32 (k : ℕ)) 5#32) (f k) 0 = f 5 := by
  rw [Finset.sum_eq_single (5 : Fin 8)]
  · rfl
  · intro k _ hk
    fin_cases k <;> first | rfl | exact absurd rfl hk
  · intro h
    exact absurd (Finset.mem_univ _) h

theorem dy_at (x0 : FVec Ideal S1x256x1024 .f32) (x4 : FVec Ideal S1x1x8x1024 .f32) (r : Fin 256) (l : Fin 1024) :
    (k0_pay9 (F := Ideal) x0 x4 (ix2 r l) : EReal) = x0 (ix3 0 r l) * x4 (ix4 0 0 5 l) := by
  unfold k0_pay9 k0_pay5
  pointwise
  rw [gate_row fun k => x4 (ix4 0 0 k l)]

theorem dyStore_at (x0 : FVec Ideal S1x256x1024 .f32) (x4 : FVec Ideal S1x1x8x1024 .f32) (r : Fin 256) (l : Fin 1024) :
    (k0_pay10 (F := Ideal) x0 x4 (ix3 0 r l) : EReal) = x0 (ix3 0 r l) * x4 (ix4 0 0 5 l) := by
  rw [← dy_at]
  unfold k0_pay10
  generalize k0_pay9 (F := Ideal) x0 x4 = D
  pointwise

theorem a_at (x : FVec Ideal S1x256x512 .bf16) (r : Fin 256) (j : Fin 512) :
    k0_pay13 x (ix3 0 r j) = max (x (ix3 0 r j)) 0 * max (x (ix3 0 r j)) 0 := by
  unfold k0_pay13 k0_pay12
  pointwise

theorem du_at (D : FVec Ideal S256x1024 .bf16) (x : FVec Ideal S1x256x512 .bf16) (w : FVec Ideal S1x512x1024 .bf16) (r : Fin 256) (j : Fin 512) :
    k0_pay15 D x w (ix3 0 r j) = (∑ l : Fin 1024, HMul.hMul (α := EReal) (β := EReal) (D (ix2 r l)) (w (ix3 0 j l))) * (Ideal.ofBits .f32 0x40000000#32 * max (x (ix3 0 r j)) 0) := by
  unfold k0_pay15 k0_pay14 k0_pay12
  pointwise

/-! ## The blocks -/

theorem ld_cols (x : FVec Ideal S1x256x4096 .bf16) (k : Fin 8) (r : Fin 256) (j : Fin 512) (n : Fin 4096) (h : (n : ℕ) = 512 * k + j) :
    (View.ld (Val := Elt Ideal) (e' := .bf16) x (cols k) : FVec Ideal S1x256x512 .bf16) (ix3 0 r j) = x (ix3 0 r n) := by
  refine congrArg x (ix3_of _ _ _ _ ?_ ?_ ?_)
  · show 0 + 1 * 0 = 0; rfl
  · show 0 + 1 * (r : ℕ) = r; omega
  · show 512 * (k : ℕ) + 1 * (j : ℕ) = n; omega

theorem ld_wrows (w : FVec Ideal S8x512x1024 .bf16) (k : Fin 8) (j : Fin 512) (l : Fin 1024) :
    (View.ld (Val := Elt Ideal) (e' := .bf16) w (wrows k) : FVec Ideal S1x512x1024 .bf16) (ix3 0 j l) = w (ix3 k j l) := by
  refine congrArg w (ix3_of _ _ _ _ ?_ ?_ ?_)
  · show (k : ℕ) + 1 * 0 = k; omega
  · show 0 + 1 * (j : ℕ) = j; omega
  · show 0 + 1 * (l : ℕ) = l; omega

theorem ld_all {S : Shape} {e : EltTy} {off : Fin S.rank → ℕ} (h : off = fun _ => 0) (inb : ∀ a, off a + S.size a ≤ S.size a) (x : S.Idx → Elt Ideal e) :
    View.ld x (Rect.unit (s := S) off S.size inb) = x := by
  subst h
  funext i
  refine congrArg x (funext fun a => Fin.ext ?_)
  show 0 + 1 * (i a : ℕ) = i a
  omega

theorem off3 : (![0, 0, 0] : Fin 3 → ℕ) = fun _ => 0 := by funext a; fin_cases a <;> rfl
theorem off4 : (![0, 0, 0, 0] : Fin 4 → ℕ) = fun _ => 0 := by funext a; fin_cases a <;> rfl

theorem dyMat_at (x0 : FVec Ideal S1x256x1024 .f32) (x4 : FVec Ideal S1x1x8x1024 .f32) (r : Fin 256) (l : Fin 1024) :
    (dyMat (F := Ideal) x0 x4 (ix2 r l) : EReal) = x0 (ix3 0 r l) * x4 (ix4 0 0 5 l) := by
  unfold dyMat
  rw [ld_all off3, ld_all off4]
  exact dy_at x0 x4 r l

theorem dyBlock_at (x0 : FVec Ideal S1x256x1024 .f32) (x4 : FVec Ideal S1x1x8x1024 .f32) (r : Fin 256) (l : Fin 1024) :
    (View.canon (dyPieces (F := Ideal) x0 x4) (ix3 0 r l) : EReal) = x0 (ix3 0 r l) * x4 (ix4 0 0 5 l) := by
  unfold dyPieces
  rw [ld_all off3, ld_all off4]
  refine Eq.trans (congrFun (View.canon_unit_zero (Val := Elt Ideal) (S := S1x256x1024) (e := .bf16) (off := ![0, 0, 0]) off3 _ _) _) ?_
  exact dyStore_at x0 x4 r l

theorem aBlock_at (x2 : FVec Ideal S1x256x4096 .bf16) (r : Fin 256) (n : Fin 4096) :
    (View.canon (aPieces (F := Ideal) x2) (ix3 0 r n) : EReal) = max (x2 (ix3 0 r n)) 0 * max (x2 (ix3 0 r n)) 0 := by
  unfold aPieces
  rw [canon_slabs]
  refine (a_at _ r ⟨(n : ℕ) % 512, Nat.mod_lt _ (by decide)⟩).trans ?_
  rw [ld_cols x2 _ r _ n (by show (n : ℕ) = 512 * ((n : ℕ) / 512) + (n : ℕ) % 512; omega)]

theorem duBlock_at (x0 : FVec Ideal S1x256x1024 .f32) (x2 : FVec Ideal S1x256x4096 .bf16) (x4 : FVec Ideal S1x1x8x1024 .f32) (w : FVec Ideal S8x512x1024 .bf16)
    (r : Fin 256) (n : Fin 4096) :
    (View.canon (duPieces (F := Ideal) x0 x2 x4 fun k => View.ld w (wrows k)) (ix3 0 r n) : EReal)
      = (∑ l : Fin 1024, x0 (ix3 0 r l) * x4 (ix4 0 0 5 l) * w (ix3 ⟨(n : ℕ) / 512, by omega⟩ ⟨(n : ℕ) % 512, by omega⟩ l))
        * (Ideal.ofBits .f32 0x40000000#32 * max (x2 (ix3 0 r n)) 0) := by
  unfold duPieces
  rw [canon_slabs]
  refine (du_at _ _ _ r ⟨(n : ℕ) % 512, by omega⟩).trans ?_
  rw [ld_cols x2 _ r _ n (by show (n : ℕ) = 512 * ((n : ℕ) / 512) + (n : ℕ) % 512; omega)]
  refine congrArg (· * _) (Finset.sum_congr rfl fun l _ => ?_)
  exact congrArg₂ (· * ·) (dyMat_at x0 x4 r l) (ld_wrows w _ _ l)

/-! ## The arrays -/

/-- The stream a row belongs to: the context's 256 rows come first. -/
def stream (r : Fin 4352) : Fin 2 := if (r : ℕ) < 256 then 0 else 1

/-- `dy`: the incoming gradient times the row's gate. -/
def dyOf (X : FVec Ideal S2x4352x1024 .f32) (M : FVec Ideal S2x2x8x1024 .f32) : FVec Ideal S2x4352x1024 .bf16 := fun i =>
  HMul.hMul (α := EReal) (β := EReal) (X i) (M (ix4 (i 0) (stream (i 1)) 5 (i 2)))

/-- `a`: the hidden layer's positive part, squared. -/
def aOf (U : FVec Ideal S2x4352x4096 .bf16) : FVec Ideal S2x4352x4096 .bf16 := fun i =>
  HMul.hMul (α := EReal) (β := EReal) (max (U i : EReal) 0) (max (U i : EReal) 0)

/-- `du`: `dy` times the second weight's rows, times twice the hidden layer's positive part. -/
def duOf (X : FVec Ideal S2x4352x1024 .f32) (U : FVec Ideal S2x4352x4096 .bf16) (M : FVec Ideal S2x2x8x1024 .f32) (W : FVec Ideal S8x512x1024 .bf16) :
    FVec Ideal S2x4352x4096 .bf16 := fun i =>
  HMul.hMul (α := EReal) (β := EReal)
    (∑ l : Fin 1024, HMul.hMul (α := EReal) (β := EReal) (HMul.hMul (α := EReal) (β := EReal) (X (ix3 (i 0) (i 1) l)) (M (ix4 (i 0) (stream (i 1)) 5 l)))
      (W (ix3 ⟨(i 2 : ℕ) / 512, by have h : (i 2 : ℕ) < 4096 := (i 2).isLt; omega⟩ ⟨(i 2 : ℕ) % 512, Nat.mod_lt _ (by decide)⟩ l)))
    (HMul.hMul (α := EReal) (β := EReal) (Ideal.ofBits .f32 0x40000000#32) (max (U i : EReal) 0))

end Cert.Kernel6Ideal.Mlp

end
-- ==== Proof.MlpOut.lean ====
/-
The three arrays `mlp_bwd` leaves, over the extended reals, as functions of its operands.
-/
module

public import proofs.«01_k».proof.Proof.MlpHost
public import proofs.«01_k».proof.Proof.MlpVal

@[expose] public section

set_option maxRecDepth 16384

noncomputable section

namespace Cert.Kernel6Ideal.Mlp

open Idealize.ShloMosaic Idealize.ShloMosaic.TcCoe Idealize.SL.Sem
open Idealize.ShloMosaic.Pipeline (Dat)
open Cert.Kernel6Ideal.Gen
open Cert.Grad

/-! ## Which rows a point works on -/

/-- The sequence and the rows of a point's blocks. -/
abbrev pB (t : Fin cfg0.N) : Fin 2 := ⟨t.val / 17, by have : t.val < 34 := t.isLt; omega⟩
abbrev pR (t : Fin cfg0.N) (r : Fin 256) : Fin 4352 := ⟨256 * (t.val % 17) + r, by omega⟩
/-- The stream of a point's rows: its first block of a sequence is the context. -/
abbrev pS (t : Fin cfg0.N) : Fin 2 := if t.val % 17 < 1 then 0 else 1

theorem pS_eq (t : Fin cfg0.N) (r : Fin 256) : pS t = stream (pR t r) := by
  unfold pS stream
  refine if_congr ?_ rfl rfl
  show t.val % 17 < 1 ↔ 256 * (t.val % 17) + r.val < 256
  omega

theorem idx0 : ∀ t : Fin cfg0.N, win0_0.index t = ![t.val / 17, t.val % 17, 0] := (by decide +kernel : ∀ t : Fin grid0.N, _)
theorem idx2 : ∀ t : Fin cfg0.N, win0_2.index t = ![t.val / 17, t.val % 17, 0] := (by decide +kernel : ∀ t : Fin grid0.N, _)
theorem idx7 : ∀ t : Fin cfg0.N, win0_7.index t = ![t.val / 17, t.val % 17, 0] := (by decide +kernel : ∀ t : Fin grid0.N, _)
theorem idx8 : ∀ t : Fin cfg0.N, win0_8.index t = ![t.val / 17, t.val % 17, 0] := (by decide +kernel : ∀ t : Fin grid0.N, _)
theorem idx9 : ∀ t : Fin cfg0.N, win0_9.index t = ![t.val / 17, t.val % 17, 0] := (by decide +kernel : ∀ t : Fin grid0.N, _)
theorem idx4 : ∀ t : Fin cfg0.N, win0_4.index t = ![t.val / 17, (if t.val % 17 < 1 then 0 else 1), 0, 0] := (by decide +kernel : ∀ t : Fin grid0.N, _)

theorem emb0 (t : Fin cfg0.N) (r : Fin 256) (l : Fin 1024) :
    ((cfg0.win 0).blk t).view.emb (ix3 0 r l : S1x256x1024.Idx) = (ix3 (pB t) (pR t r) l : S2x4352x1024.Idx) := by
  have h := idx0 t
  refine ix3_of _ _ _ _ ?_ ?_ ?_
  · show win0_0.index t 0 * 1 + 1 * 0 = t.val / 17; rw [h]; simp
  · show win0_0.index t 1 * 256 + 1 * r.val = 256 * (t.val % 17) + r.val; rw [h]; simp; omega
  · show win0_0.index t 2 * 1024 + 1 * l.val = l.val; rw [h]; simp
theorem emb2 (t : Fin cfg0.N) (r : Fin 256) (l : Fin 4096) :
    ((cfg0.win 2).blk t).view.emb (ix3 0 r l : S1x256x4096.Idx) = (ix3 (pB t) (pR t r) l : S2x4352x4096.Idx) := by
  have h := idx2 t
  refine ix3_of _ _ _ _ ?_ ?_ ?_
  · show win0_2.index t 0 * 1 + 1 * 0 = t.val / 17; rw [h]; simp
  · show win0_2.index t 1 * 256 + 1 * r.val = 256 * (t.val % 17) + r.val; rw [h]; simp; omega
  · show win0_2.index t 2 * 4096 + 1 * l.val = l.val; rw [h]; simp
theorem emb7 (t : Fin cfg0.N) (r : Fin 256) (l : Fin 4096) :
    ((cfg0.win 7).blk t).view.emb (ix3 0 r l : S1x256x4096.Idx) = (ix3 (pB t) (pR t r) l : S2x4352x4096.Idx) := by
  have h := idx7 t
  refine ix3_of _ _ _ _ ?_ ?_ ?_
  · show win0_7.index t 0 * 1 + 1 * 0 = t.val / 17; rw [h]; simp
  · show win0_7.index t 1 * 256 + 1 * r.val = 256 * (t.val % 17) + r.val; rw [h]; simp; omega
  · show win0_7.index t 2 * 4096 + 1 * l.val = l.val; rw [h]; simp
theorem emb8 (t : Fin cfg0.N) (r : Fin 256) (l : Fin 4096) :
    ((cfg0.win 8).blk t).view.emb (ix3 0 r l : S1x256x4096.Idx) = (ix3 (pB t) (pR t r) l : S2x4352x4096.Idx) := by
  have h := idx8 t
  refine ix3_of _ _ _ _ ?_ ?_ ?_
  · show win0_8.index t 0 * 1 + 1 * 0 = t.val / 17; rw [h]; simp
  · show win0_8.index t 1 * 256 + 1 * r.val = 256 * (t.val % 17) + r.val; rw [h]; simp; omega
  · show win0_8.index t 2 * 4096 + 1 * l.val = l.val; rw [h]; simp
theorem emb9 (t : Fin cfg0.N) (r : Fin 256) (l : Fin 1024) :
    ((cfg0.win 9).blk t).view.emb (ix3 0 r l : S1x256x1024.Idx) = (ix3 (pB t) (pR t r) l : S2x4352x1024.Idx) := by
  have h := idx9 t
  refine ix3_of _ _ _ _ ?_ ?_ ?_
  · show win0_9.index t 0 * 1 + 1 * 0 = t.val / 17; rw [h]; simp
  · show win0_9.index t 1 * 256 + 1 * r.val = 256 * (t.val % 17) + r.val; rw [h]; simp; omega
  · show win0_9.index t 2 * 1024 + 1 * l.val = l.val; rw [h]; simp
theorem emb4 (t : Fin cfg0.N) (k : Fin 8) (l : Fin 1024) :
    ((cfg0.win 4).blk t).view.emb (ix4 0 0 k l : S1x1x8x1024.Idx) = (ix4 (pB t) (pS t) k l : S2x2x8x1024.Idx) := by
  have h := idx4 t
  refine (eq_ix4 _).trans ((ix4_inj ..).2 ⟨Fin.ext ?_, Fin.ext ?_, Fin.ext ?_, Fin.ext ?_⟩)
  · show win0_4.index t 0 * 1 + 1 * 0 = t.val / 17; rw [h]; simp
  · show win0_4.index t 1 * 1 + 1 * 0 = (pS t : ℕ)
    rw [h]
    unfold pS
    by_cases hh : t.val % 17 < 1 <;> simp [hh]
  · show win0_4.index t 2 * 8 + 1 * k.val = k.val; rw [h]; simp
  · show win0_4.index t 3 * 1024 + 1 * l.val = l.val; rw [h]; simp

/-! ## The blocks read -/

variable (m : (ℓ : Loc nD τ sig) → Buf (Elt Ideal) ℓ)

/-- The incoming gradient, the hidden layer, the gates and the second weight. -/
@[irreducible] def opX (c : Dev nD) : FVec Ideal S2x4352x1024 .f32 := V m c (Pipeline.arrRef spec0 0)
@[irreducible] def opU (c : Dev nD) : FVec Ideal S2x4352x4096 .bf16 := V m c (Pipeline.arrRef spec0 2)
@[irreducible] def opM (c : Dev nD) : FVec Ideal S2x2x8x1024 .f32 := V m c (Pipeline.arrRef spec0 4)

theorem blk0 (c : Dev nD) (t : Fin cfg0.N) (r : Fin 256) (l : Fin 1024) :
    iblk m c 0 t (ix3 0 r l : S1x256x1024.Idx) = opX m c (ix3 (pB t) (pR t r) l) := by
  have read : ∀ (X : FVec Ideal S2x4352x1024 .f32) i j, ((cfg0.win 0).blk t).view.emb i = j → ((cfg0.win 0).blk t).view.read (Elt Ideal) X i = X j := by
    intro X i j h; subst h; rfl
  unfold iblk opX
  exact read _ _ _ (emb0 t r l)
theorem blk2 (c : Dev nD) (t : Fin cfg0.N) (r : Fin 256) (l : Fin 4096) :
    iblk m c 2 t (ix3 0 r l : S1x256x4096.Idx) = opU m c (ix3 (pB t) (pR t r) l) := by
  have read : ∀ (X : FVec Ideal S2x4352x4096 .bf16) i j, ((cfg0.win 2).blk t).view.emb i = j → ((cfg0.win 2).blk t).view.read (Elt Ideal) X i = X j := by
    intro X i j h; subst h; rfl
  unfold iblk opU
  exact read _ _ _ (emb2 t r l)
theorem blk4 (c : Dev nD) (t : Fin cfg0.N) (l : Fin 1024) (r : Fin 256) :
    iblk m c 4 t (ix4 0 0 5 l : S1x1x8x1024.Idx) = opM m c (ix4 (pB t) (stream (pR t r)) 5 l) := by
  have read : ∀ (X : FVec Ideal S2x2x8x1024 .f32) i j, ((cfg0.win 4).blk t).view.emb i = j → ((cfg0.win 4).blk t).view.read (Elt Ideal) X i = X j := by
    intro X i j h; subst h; rfl
  rw [← pS_eq t r]
  unfold iblk opM
  exact read _ _ _ (emb4 t 5 l)

/-! ## The arrays the call leaves -/

theorem idx_wide (y : S1x256x4096.Idx) : ∃ (r : Fin 256) (n : Fin 4096), y = ix3 0 r n := idx_eq y
theorem idx_narrow (y : S1x256x1024.Idx) : ∃ (r : Fin 256) (n : Fin 1024), y = ix3 0 r n := idx_eq y

theorem duAt_at (c : Dev nD) (t : Fin cfg0.N) (r : Fin 256) (n : Fin 4096) :
    duAt m c t (ix3 0 r n) = duOf (opX m c) (opU m c) (opM m c) (wt2 m c) (ix3 (pB t) (pR t r) n) := by
  unfold duAt
  refine (duBlock_at _ _ _ _ r n).trans ?_
  unfold duOf
  refine congrArg₂ (HMul.hMul (α := EReal) (β := EReal)) (Finset.sum_congr rfl fun l _ => congrArg₂ (HMul.hMul (α := EReal) (β := EReal)) (congrArg₂ (HMul.hMul (α := EReal) (β := EReal)) (blk0 m c t r l) (blk4 m c t l r)) rfl) ?_
  exact congrArg (fun u : EReal => HMul.hMul (α := EReal) (β := EReal) (Ideal.ofBits .f32 0x40000000#32) (max u 0)) (blk2 m c t r n)

theorem aAt_at (c : Dev nD) (t : Fin cfg0.N) (r : Fin 256) (n : Fin 4096) :
    aAt m c t (ix3 0 r n) = aOf (opU m c) (ix3 (pB t) (pR t r) n) := by
  unfold aAt
  refine (aBlock_at _ r n).trans ?_
  exact congrArg (fun u : EReal => HMul.hMul (α := EReal) (β := EReal) (max u 0) (max u 0)) (blk2 m c t r n)

theorem dyAt_at (c : Dev nD) (t : Fin cfg0.N) (r : Fin 256) (l : Fin 1024) :
    dyAt m c t (ix3 0 r l) = dyOf (opX m c) (opM m c) (ix3 (pB t) (pR t r) l) := by
  unfold dyAt
  refine (dyBlock_at _ _ r l).trans ?_
  exact congrArg₂ (HMul.hMul (α := EReal) (β := EReal)) (blk0 m c t r l) (blk4 m c t l r)

attribute [local irreducible] duAt aAt dyAt

theorem final7 (c : Dev nD) : (dats m 0 c).arrAt 7 cfg0.N = duOf (opX m c) (opU m c) (opM m c) (wt2 m c) := by
  refine (dats m 0 c).arrAt_eq_of_covers 7 _ (by decide +kernel) fun t hf y => ?_
  rw [after_7]
  obtain ⟨r, n, rfl⟩ := idx_wide y
  exact (duAt_at m c t r n).trans (congrArg (duOf (opX m c) (opU m c) (opM m c) (wt2 m c)) (emb7 t r n)).symm

theorem final8 (c : Dev nD) : (dats m 0 c).arrAt 8 cfg0.N = aOf (opU m c) := by
  refine (dats m 0 c).arrAt_eq_of_covers 8 _ (by decide +kernel) fun t hf y => ?_
  rw [after_8]
  obtain ⟨r, n, rfl⟩ := idx_wide y
  exact (aAt_at m c t r n).trans (congrArg (aOf (opU m c)) (emb8 t r n)).symm

theorem final9 (c : Dev nD) : (dats m 0 c).arrAt 9 cfg0.N = dyOf (opX m c) (opM m c) := by
  refine (dats m 0 c).arrAt_eq_of_covers 9 _ (by decide +kernel) fun t hf y => ?_
  rw [after_9]
  obtain ⟨r, n, rfl⟩ := idx_narrow y
  exact (dyAt_at m c t r n).trans (congrArg (dyOf (opX m c) (opM m c)) (emb9 t r n)).symm

theorem opX_eq (c : Dev nD) : opX m c = m ((c.tc : Thread nD τ).loc main_arg0) := by unfold opX; exact V_main_arg0 m c
theorem opM_eq (c : Dev nD) : opM m c = m ((c.tc : Thread nD τ).loc main_arg2) := by unfold opM; exact V_main_arg2 m c
theorem wt2_eq (c : Dev nD) : wt2 m c = m ((c.tc : Thread nD τ).loc main_arg5) := by
  unfold wt2
  rw [V_main_arg5]
  rfl
theorem opU_eq (c : Dev nD) : opU m c = truncf .bf16 (Cert.Reference6Ideal.Read.val_main_v54 (F := Ideal) (m ((c.tc : Thread nD τ).loc main_arg1)) (m ((c.tc : Thread nD τ).loc main_arg2))
        (m ((c.tc : Thread nD τ).loc main_arg3)) (m ((c.tc : Thread nD τ).loc main_arg4))) bitsLt_bf16_f32 := by unfold opU; exact hidden_eq m c

/-- Every execution leaves these three arrays, and the arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v60_1) = duOf (opX m c) (opU m c) (opM m c) (wt2 m c)
      ∧ r.2.mem ((c.tc : Thread nD τ).loc main_v60_2) = aOf (opU m c)
      ∧ r.2.mem ((c.tc : Thread nD τ).loc main_v60_3) = dyOf (opX m c) (opM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(((dats m 0 c).toRForget_arrAt_iff (fgt := unnamed) (w := 7) rfl cfg0.N _).mp ((h c).1 7)).trans (final7 m c),
      (((dats m 0 c).toRForget_arrAt_iff (fgt := unnamed) (w := 8) rfl cfg0.N _).mp ((h c).1 8)).trans (final8 m c),
      (((dats m 0 c).toRForget_arrAt_iff (fgt := unnamed) (w := 9) rfl cfg0.N _).mp ((h c).1 9)).trans (final9 m c),
      args_of m (fun c => (dats m 0 c).toRForget unnamed) (A_eq m) r h c⟩) (run_main m ρ)

end Cert.Kernel6Ideal.Mlp

end
-- ==== Proof.MlpRef.lean ====
/-
The plain `du`, `a` and `dy` of the reference, element by element.
-/
module

public import proofs.«01_k».proof.Proof.MlpVal
public import proofs.«01_k».proof.Proof.Gen.Reference6Ideal.Read
public import Idealize.ShloMosaic.Lib.KernelVsHost

@[expose] public section

set_option maxRecDepth 16384

noncomputable section

namespace Cert.Kernel6Ideal.Mlp

open Idealize.ShloMosaic Idealize.ShloMosaic.TcCoe Idealize.SL.Sem
open Idealize.ShloMosaic.Pipeline (Dat)
open Cert.Kernel6Ideal.Gen
open Cert.Grad
open Cert.Reference6Ideal.Read

variable (x0 x1 : FVec Ideal S2x4352x1024 .f32) (x2 : FVec Ideal S2x2x8x1024 .f32) (x3 : FVec Ideal S1x1024 .f32) (x4 : FVec Ideal S8x1024x512 .bf16) (x5 : FVec Ideal S8x512x1024 .bf16)

theorem zero_bits : Ideal.ofBits .f32 0x00000000#32 = (0 : EReal) := by
  simp [Ideal.ofBits, Ideal.ieee]

/-- The context's rows, -/
theorem ctx_at (b : Fin 2) (r : Fin 256) (l : Fin 1024) :
    (val_main_v73 (F := Ideal) x0 x2 (ix3 b r l) : EReal) = x2 (ix4 b 0 5 l) * x0 (ix3 b ⟨r, by omega⟩ l) := by
  unfold val_main_v73 val_main_v72 val_main_v57 val_main_v56 val_main_v67
  pointwise

/-- and the others. -/
theorem tgt_at (b : Fin 2) (r : Fin 4096) (l : Fin 1024) :
    (val_main_v70 (F := Ideal) x0 x2 (ix3 b r l) : EReal) = x2 (ix4 b 1 5 l) * x0 (ix3 b ⟨256 + r, by omega⟩ l) := by
  unfold val_main_v70 val_main_v69 val_main_v62 val_main_v61 val_main_v68
  pointwise

theorem dy32_at (b : Fin 2) (r : Fin 4352) (l : Fin 1024) :
    (val_main_v75 (F := Ideal) x0 x2 (ix3 b r l) : EReal) = x0 (ix3 b r l) * x2 (ix4 b (stream r) 5 l) := by
  rw [val_main_v75_apply]
  show HAdd.hAdd (α := EReal) (β := EReal) (val_main_v71 (F := Ideal) x0 x2 (ix3 b r l)) (val_main_v74 (F := Ideal) x0 x2 (ix3 b r l)) = _
  unfold stream
  by_cases h : (r : ℕ) < 256
  · have e1 : (val_main_v71 (F := Ideal) x0 x2 (ix3 b r l) : EReal) = 0 := by
      unfold val_main_v71
      refine (pad_apply_of_not_inside _ _ _ _ _ _ _ _ 1 fun hh => ?_).trans zero_bits
      have := hh.1
      change 256 ≤ (r : ℕ) at this
      omega
    have e2 : (val_main_v74 (F := Ideal) x0 x2 (ix3 b r l) : EReal) = val_main_v73 (F := Ideal) x0 x2 (ix3 b ⟨r, h⟩ l) := by
      unfold val_main_v74
      refine pad_apply_of_inside _ _ _ _ _ _ _ _ _ fun a => ?_
      match a with
      | ⟨0, _⟩ => show (b : ℕ) = 0 + (b : ℕ) * (0 + 1); omega
      | ⟨1, _⟩ => show (r : ℕ) = 0 + (r : ℕ) * (0 + 1); omega
      | ⟨2, _⟩ => show (l : ℕ) = 0 + (l : ℕ) * (0 + 1); omega
    rw [e1, e2, ctx_at, if_pos h, zero_add]
    exact mul_comm _ _
  · have e1 : (val_main_v74 (F := Ideal) x0 x2 (ix3 b r l) : EReal) = 0 := by
      unfold val_main_v74
      refine (pad_apply_of_not_inside _ _ _ _ _ _ _ _ 1 fun hh => ?_).trans zero_bits
      have := hh.2.2
      change ((r : ℕ) - 0) / (0 + 1) < 256 at this
      omega
    have e2 : (val_main_v71 (F := Ideal) x0 x2 (ix3 b r l) : EReal) = val_main_v70 (F := Ideal) x0 x2 (ix3 b ⟨(r : ℕ) - 256, by omega⟩ l) := by
      unfold val_main_v71
      refine pad_apply_of_inside _ _ _ _ _ _ _ _ _ fun a => ?_
      match a with
      | ⟨0, _⟩ => show (b : ℕ) = 0 + (b : ℕ) * (0 + 1); omega
      | ⟨1, _⟩ => show (r : ℕ) = 256 + ((r : ℕ) - 256) * (0 + 1); omega
      | ⟨2, _⟩ => show (l : ℕ) = 0 + (l : ℕ) * (0 + 1); omega
    rw [e1, e2, tgt_at, if_neg h, add_zero]
    have e3 : (⟨256 + ((⟨(r : ℕ) - 256, by omega⟩ : Fin 4096) : ℕ), by show 256 + ((r : ℕ) - 256) < 4352; omega⟩ : Fin 4352) = r :=
      Fin.ext (by show 256 + ((r : ℕ) - 256) = r; omega)
    rw [e3]
    exact mul_comm _ _

theorem dy_ref : val_main_v92 (F := Ideal) x0 x2 = dyOf x0 x2 := by
  funext i
  obtain ⟨b, r, l, rfl⟩ : ∃ b r l, i = (ix3 b r l : S2x4352x1024.Idx) := ⟨i 0, i 1, i 2, ix3_of i _ _ _ rfl rfl rfl⟩
  exact dy32_at x0 x2 b r l

theorem a_ref : val_main_v91 (F := Ideal) x1 x2 x3 x4 = aOf (truncf .bf16 (val_main_v54 (F := Ideal) x1 x2 x3 x4) bitsLt_bf16_f32) := by
  funext i
  rw [val_main_v91_apply, val_main_v89_apply, val_main_v88_apply, val_main_call1_v0_apply, val_main_call1_cst_apply]
  unfold aOf
  show HMul.hMul (α := EReal) (β := EReal) (max (val_main_v54 (F := Ideal) x1 x2 x3 x4 i : EReal) (Ideal.ofBits .f32 0x00000000#32)) (max (val_main_v54 (F := Ideal) x1 x2 x3 x4 i : EReal) (Ideal.ofBits .f32 0x00000000#32)) = _
  rw [zero_bits]
  rfl

theorem sum_ref (b : Fin 2) (r : Fin 4352) (n : Fin 4096) :
    (val_main_v84 (F := Ideal) x0 x2 x5 (ix3 b r n) : EReal)
      = ∑ l : Fin 1024, x0 (ix3 b r l) * x2 (ix4 b (stream r) 5 l) * x5 (ix3 ⟨(n : ℕ) / 512, by omega⟩ ⟨(n : ℕ) % 512, by omega⟩ l) := by
  rw [val_main_v84_apply]
  refine Finset.sum_congr rfl fun l _ => ?_
  have e1 : (val_main_v75 (F := Ideal) x0 x2 (lidx_main_v84 (ix3 b r n) l) : EReal) = x0 (ix3 b r l) * x2 (ix4 b (stream r) 5 l) :=
    (congrArg (val_main_v75 (F := Ideal) x0 x2) (ix3_of _ b r l rfl rfl rfl)).trans (dy32_at x0 x2 b r l)
  have e2 : (val_main_v4 (F := Ideal) x5 (ridx_main_v84 (ix3 b r n) l) : EReal) = x5 (ix3 ⟨(n : ℕ) / 512, by omega⟩ ⟨(n : ℕ) % 512, by omega⟩ l) := by
    rw [val_main_v4_apply, val_main_v3_apply]
    refine congrArg x5 (ix3_of _ _ _ _ ?_ ?_ ?_)
    · show ((n : ℕ) * 1024 + (l : ℕ)) / 524288 = (n : ℕ) / 512
      omega
    · show ((n : ℕ) * 1024 + (l : ℕ)) / 1024 % 512 = (n : ℕ) % 512
      omega
    · show ((n : ℕ) * 1024 + (l : ℕ)) % 1024 = (l : ℕ)
      omega
  exact congrArg₂ (· * ·) e1 e2

/-- Where the hidden layer is not positive both sides are zero. -/
theorem relu_select (s t u : EReal) : Scalar.select (Ideal.cmp .ogt u 0) (s * (t * max u 0)) 0 = s * (t * max u 0) := by
  by_cases h : 0 < u
  · have e : Ideal.cmp .ogt u 0 = 1#1 := by
      unfold Ideal.cmp
      simp [h]
    rw [e]
    rfl
  · rw [max_eq_right (not_lt.mp h), mul_zero, mul_zero]
    unfold Scalar.select
    split <;> rfl

theorem du_ref : val_main_v90 (F := Ideal) x0 x1 x2 x3 x4 x5 = duOf x0 (truncf .bf16 (val_main_v54 (F := Ideal) x1 x2 x3 x4) bitsLt_bf16_f32) x2 x5 := by
  funext i
  obtain ⟨b, r, n, rfl⟩ : ∃ b r n, i = (ix3 b r n : S2x4352x4096.Idx) := ⟨i 0, i 1, i 2, ix3_of i _ _ _ rfl rfl rfl⟩
  rw [val_main_v90_apply, val_main_v87_apply, val_main_v78_apply, val_main_v85_apply, val_main_v82_apply, val_main_v81_apply, val_main_v76_apply,
    val_main_v77_apply, val_main_v86_apply, val_main_call0_v0_apply, val_main_call0_cst_apply, val_main_cst_10_apply, val_main_cst_12_apply, val_main_cst_13_apply]
  generalize hu : val_main_v54 (F := Ideal) x1 x2 x3 x4 = U
  show Scalar.select (Ideal.cmp .ogt (U (ix3 b r n)) (Ideal.ofBits .f32 0x00000000#32)) (HMul.hMul (α := EReal) (β := EReal) (val_main_v84 (F := Ideal) x0 x2 x5 (ix3 b r n))
    (HMul.hMul (α := EReal) (β := EReal) (Ideal.ofBits .f32 0x40000000#32) (max (U (ix3 b r n)) (Ideal.ofBits .f32 0x00000000#32)))) (Ideal.ofBits .f32 0x00000000#32) = _
  rw [zero_bits, relu_select, sum_ref]
  rfl

end Cert.Kernel6Ideal.Mlp

end
-- ==== Proof.MlpSame.lean ====
/-
The MLP's backward call as the version has it and its ideal form are one program at any kind of floats.
-/
module

public import proofs.«01_k».proof.Proof.Gen.Kernel6.Skeleton
public import proofs.«01_k».proof.Proof.Gen.Kernel6Ideal.Skeleton

@[expose] public section

set_option maxHeartbeats 8000000

noncomputable section

namespace Cert.Proof

open Idealize.ShloMosaic Idealize.SL.Sem

variable [Cert.Kernel6.Facts] [Cert.Kernel6Ideal.Facts] {F : FTy → Type} [FloatOps F]

/-- The kernel of the MLP's backward call and its ideal form are one program, -/
theorem main6 : Cert.Kernel6.main (F := F) = Cert.Kernel6Ideal.main (F := F) := rfl

theorem bodies6 : Cert.Kernel6.defs₀ (F := F) = Cert.Kernel6Ideal.defs₀ (F := F) := by
  unfold Cert.Kernel6.defs₀ Cert.Kernel6Ideal.defs₀
  refine congrArg (Defs.onTc (τ := Cert.Kernel6.τ)) ?_
  funext l a
  match l, a with
  | 0, (t, s) => rfl

/-- with the same bodies, -/
theorem defs6 : Cert.Kernel6.defs (F := F) = Cert.Kernel6Ideal.defs (F := F) := by
  unfold Cert.Kernel6.defs Cert.Kernel6Ideal.defs
  rw [bodies6]
  rfl

end Cert.Proof

end
-- ==== Proof.FfnBlock.lean ====
/-
What the body of `mlp_fwd` leaves in the buffers of its four results, as functions of the blocks it reads and of the two
weights: the first point, which copies the weights in, and the later ones leave the same. The hidden layer is stored as eight
slabs of 512 columns, and the product with the second weight is a sum built up over the same eight slabs.
-/
module

public import proofs.«01_k».proof.Proof.MlpBlock
public import proofs.«01_k».proof.Proof.Gen.Kernel7Ideal.Value

@[expose] public section

set_option maxRecDepth 16384

noncomputable section

namespace Cert.Kernel7Ideal.Ffn

open Idealize.ShloMosaic Idealize.ShloMosaic.TcCoe Idealize.SL.Sem
open Cert.Kernel7Ideal.Gen
open Cert.Kernel6Ideal.Mlp (cols slabs canon_slabs canon_whole read_whole slabOf inSlab)
open Cert.Grad

variable {F : FTy → Type} [FloatOps F]

/-! ## The body's results -/

theorem slab1_inb (k : ℕ) (hk : k < 8) : ∀ a, (![k, 0, 0] : Fin 3 → ℕ) a + S1x1024x512.size a ≤ S8x1024x512.size a := by
  intro a
  fin_cases a
  · show k + 1 ≤ 8
    omega
  · exact Nat.le_refl 1024
  · exact Nat.le_refl 512

theorem slab2_inb (k : ℕ) (hk : k < 8) : ∀ a, (![k, 0, 0] : Fin 3 → ℕ) a + S1x512x1024.size a ≤ S8x512x1024.size a := by
  intro a
  fin_cases a
  · show k + 1 ≤ 8
    omega
  · exact Nat.le_refl 512
  · exact Nat.le_refl 1024

/-- The `k`-th slab of each weight. -/
abbrev part1 (k : Fin 8) : Rect S8x1024x512 := Rect.unit (s := S8x1024x512) ![(k : ℕ), 0, 0] S1x1024x512.size (slab1_inb k k.isLt)
abbrev part2 (k : Fin 8) : Rect S8x512x1024 := Rect.unit (s := S8x512x1024) ![(k : ℕ), 0, 0] S1x512x1024.size (slab2_inb k k.isLt)

/-- The rectangles the body reads and writes whole. -/
abbrev allX : Rect S1x256x1024 := Rect.unit (s := S1x256x1024) ![0, 0, 0] S1x256x1024.size inb_S1x256x1024_S1x256x1024_0_0_0
abbrev allM : Rect S1x1x8x1024 := Rect.unit (s := S1x1x8x1024) ![0, 0, 0, 0] S1x1x8x1024.size inb_S1x1x8x1024_S1x1x8x1024_0_0_0_0
abbrev allN : Rect S1x1024 := Rect.unit (s := S1x1024) ![0, 0] S1x1024.size inb_S1x1024_S1x1024_0_0

/-- The modulated norm of the block's rows, in the products' format. -/
def hMat (x : Vec F S1x256x1024 .f32) (M : Vec F S1x1x8x1024 .f32) (n : Vec F S1x1024 .f32) : FVec F S256x1024 .bf16 :=
  k0_pay9 (k0_pay4 x) n (k0_pay5 M) (k0_pay6 M) (k0_pay7 x) k0_pay8

/-- Seven of the eight terms of the product with the second weight. -/
def ySeven (x : Vec F S1x256x1024 .f32) (M : Vec F S1x1x8x1024 .f32) (n : Vec F S1x1024 .f32) (w : Fin 8 → Vec F S1x1024x512 .bf16) (v : Fin 8 → Vec F S1x512x1024 .bf16) :
    FVec F S256x1024 .f32 :=
  k0_pay31 (hMat x M n)
    (k0_pay25 (hMat x M n)
      (k0_pay19 (hMat x M n)
        (k0_pay13 (k0_pay4 x) n (k0_pay5 M) (k0_pay6 M) (k0_pay7 x) k0_pay8 (w 0) (v 0))
        (k0_pay14 (k0_pay4 x) n (k0_pay5 M) (k0_pay6 M) (k0_pay7 x) k0_pay8 (w 1)) (v 1) (w 2) (v 2))
      (k0_pay20 (hMat x M n) (w 3)) (v 3) (w 4) (v 4))
    (k0_pay26 (hMat x M n) (w 5)) k0_pay28 (v 5) (w 6) (v 6)

def hPieces (x : Vec F S1x256x1024 .f32) (M : Vec F S1x1x8x1024 .f32) (n : Vec F S1x1024 .f32) : List (View.Piece (Elt F) S1x256x1024 .bf16) :=
  [⟨allX, k0_pay10 (k0_pay4 x) n (k0_pay5 M) (k0_pay6 M) (k0_pay7 x) k0_pay8⟩]

def uPieces (x : Vec F S1x256x1024 .f32) (M : Vec F S1x1x8x1024 .f32) (n : Vec F S1x1024 .f32) (w : Fin 8 → Vec F S1x1024x512 .bf16) :
    List (View.Piece (Elt F) S1x256x4096 .bf16) :=
  slabs fun k => k0_pay18 (hMat x M n) (w k)

def yPieces (x : Vec F S1x256x1024 .f32) (M : Vec F S1x1x8x1024 .f32) (n : Vec F S1x1024 .f32) (w : Fin 8 → Vec F S1x1024x512 .bf16) (v : Fin 8 → Vec F S1x512x1024 .bf16) :
    List (View.Piece (Elt F) S1x256x1024 .bf16) :=
  [⟨allX, k0_pay2 (ySeven x M n w v) (k0_pay34 (hMat x M n) (w 7)) (v 7)⟩]

def xPieces (x : Vec F S1x256x1024 .f32) (M : Vec F S1x1x8x1024 .f32) (n : Vec F S1x1024 .f32) (w : Fin 8 → Vec F S1x1024x512 .bf16) (v : Fin 8 → Vec F S1x512x1024 .bf16) :
    List (View.Piece (Elt F) S1x256x1024 .f32) :=
  [⟨allX, k0_pay3 (k0_pay4 x) (ySeven x M n w v) (k0_pay34 (hMat x M n) (w 7)) (v 7) M⟩]

section
variable (c : Dev nD) (i : grid0.Coords) (arg2 : Memref sig .tc .vmem S1x256x1024 .f32) (harg2 : arg2.IsWhole) (arg3 : Memref sig .tc .vmem S1x1x8x1024 .f32) (harg3 : arg3.IsWhole) (arg4 : Memref sig .tc .vmem S1x1024 .f32) (harg4 : arg4.IsWhole) (arg7 : Memref sig .tc .vmem S1x256x1024 .f32) (harg7 : arg7.IsWhole) (arg8 : Memref sig .tc .vmem S1x256x1024 .bf16) (harg8 : arg8.IsWhole) (arg9 : Memref sig .tc .vmem S1x256x4096 .bf16) (harg9 : arg9.IsWhole) (arg10 : Memref sig .tc .vmem S1x256x1024 .bf16) (harg10 : arg10.IsWhole) (arg11 : Memref sig .tc .vmem S8x1024x512 .bf16) (harg11 : arg11.IsWhole) (arg12 : Memref sig .tc .vmem S8x512x1024 .bf16) (harg12 : arg12.IsWhole)
  (x0 : Vec F S1x256x1024 .f32) (x1 : Vec F S1x1x8x1024 .f32) (x2 : Vec F S1x1024 .f32) (xs0 : Vec F S8x1024x512 .bf16) (xs1 : Vec F S8x512x1024 .bf16) (fh0 : HbBuf0 (F := F) c hbM0_0) (fh1 : HbBuf0 (F := F) c hbM0_1)

set_option maxHeartbeats 4000000 in
theorem first_x (hc0 : cond0_0 i) : out0_A_3 c i arg2 harg2 arg3 harg3 arg4 harg4 arg7 harg7 arg8 harg8 arg9 harg9 arg10 harg10 arg11 harg11 arg12 harg12 hc0 x0 x1 x2 fh0 fh1 = View.canon (xPieces (View.ld x0 allX) (View.ld x1 allM) (View.ld x2 allN) (fun k => View.ld (hbM0_0.view.read (Elt F) fh0) (part1 k)) (fun k => View.ld (hbM0_1.view.read (Elt F) fh1) (part2 k))) := by
  have e : (kernelRun0_A c i arg2 harg2 arg3 harg3 arg4 harg4 arg7 harg7 arg8 harg8 arg9 harg9 arg10 harg10 arg11 harg11 arg12 harg12 hc0 x0 x1 x2 fh0 fh1).1 = xPieces (View.ld (arg2.view.read (Elt F) (harg2.unread x0)) allX) (View.ld (arg3.view.read (Elt F) (harg3.unread x1)) allM) (View.ld (arg4.view.read (Elt F) (harg4.unread x2)) allN) (fun k => arg11.view.readCov [⟨Rect.whole S8x1024x512, hbM0_0.view.read (Elt F) fh0⟩] (part1 k).toLoadRect) (fun k => arg12.view.readCov [⟨Rect.whole S8x512x1024, hbM0_1.view.read (Elt F) fh1⟩] (part2 k).toLoadRect) := rfl
  unfold out0_A_3
  rw [View.read_writes_eq_canon _ _ _ (cover0_A_3 c i arg2 harg2 arg3 harg3 arg4 harg4 arg7 harg7 arg8 harg8 arg9 harg9 arg10 harg10 arg11 harg11 arg12 harg12 hc0 x0 x1 x2 fh0 fh1), e, harg2.read_unread, harg3.read_unread, harg4.read_unread]
  have e1 : (fun k => arg11.view.readCov [⟨Rect.whole S8x1024x512, hbM0_0.view.read (Elt F) fh0⟩] (part1 k).toLoadRect) = fun k => View.ld (hbM0_0.view.read (Elt F) fh0) (part1 k) :=
    funext fun k => (View.readCov_eq_canon' arg11.view _ (part1 k).toLoadRect).trans (by rw [canon_whole])
  rw [e1]
  have e2 : (fun k => arg12.view.readCov [⟨Rect.whole S8x512x1024, hbM0_1.view.read (Elt F) fh1⟩] (part2 k).toLoadRect) = fun k => View.ld (hbM0_1.view.read (Elt F) fh1) (part2 k) :=
    funext fun k => (View.readCov_eq_canon' arg12.view _ (part2 k).toLoadRect).trans (by rw [canon_whole])
  rw [e2]

set_option maxHeartbeats 4000000 in
theorem later_x (hc0 : ¬cond0_0 i) : out0_B_3 c i arg2 harg2 arg3 harg3 arg4 harg4 arg7 harg7 arg8 harg8 arg9 harg9 arg10 harg10 arg11 harg11 arg12 harg12 hc0 x0 x1 x2 xs0 xs1 fh0 fh1 = View.canon (xPieces (View.ld x0 allX) (View.ld x1 allM) (View.ld x2 allN) (fun k => View.ld xs0 (part1 k)) (fun k => View.ld xs1 (part2 k))) := by
  have e : (kernelRun0_B c i arg2 harg2 arg3 harg3 arg4 harg4 arg7 harg7 arg8 harg8 arg9 harg9 arg10 harg10 arg11 harg11 arg12 harg12 hc0 x0 x1 x2 xs0 xs1 fh0 fh1).1 = xPieces (View.ld (arg2.view.read (Elt F) (harg2.unread x0)) allX) (View.ld (arg3.view.read (Elt F) (harg3.unread x1)) allM) (View.ld (arg4.view.read (Elt F) (harg4.unread x2)) allN) (fun k => View.ld (arg11.view.read (Elt F) (harg11.unread xs0)) (part1 k)) (fun k => View.ld (arg12.view.read (Elt F) (harg12.unread xs1)) (part2 k)) := rfl
  unfold out0_B_3
  rw [View.read_writes_eq_canon _ _ _ (cover0_B_3 c i arg2 harg2 arg3 harg3 arg4 harg4 arg7 harg7 arg8 harg8 arg9 harg9 arg10 harg10 arg11 harg11 arg12 harg12 hc0 x0 x1 x2 xs0 xs1 fh0 fh1), e, harg2.read_unread, harg3.read_unread, harg4.read_unread, harg11.read_unread, harg12.read_unread]

set_option maxHeartbeats 4000000 in
theorem first_h (hc0 : cond0_0 i) : out0_A_4 c i arg2 harg2 arg3 harg3 arg4 harg4 arg7 harg7 arg8 harg8 arg9 harg9 arg10 harg10 arg11 harg11 arg12 harg12 hc0 x0 x1 x2 fh0 fh1 = View.canon (hPieces (View.ld x0 allX) (View.ld x1 allM) (View.ld x2 allN)) := by
  have e : (kernelRun0_A c i arg2 harg2 arg3 harg3 arg4 harg4 arg7 harg7 arg8 harg8 arg9 harg9 arg10 harg10 arg11 harg11 arg12 harg12 hc0 x0 x1 x2 fh0 fh1).2.1 = hPieces (View.ld (arg2.view.read (Elt F) (harg2.unread x0)) allX) (View.ld (arg3.view.read (Elt F) (harg3.unread x1)) allM) (View.ld (arg4.view.read (Elt F) (harg4.unread x2)) allN) := rfl
  unfold out0_A_4
  rw [View.read_writes_eq_canon _ _ _ (cover0_A_4 c i arg2 harg2 arg3 harg3 arg4 harg4 arg7 harg7 arg8 harg8 arg9 harg9 arg10 harg10 arg11 harg11 arg12 harg12 hc0 x0 x1 x2 fh0 fh1), e, harg2.read_unread, harg3.read_unread, harg4.read_unread]

set_option maxHeartbeats 4000000 in
theorem later_h (hc0 : ¬cond0_0 i) : out0_B_4 c i arg2 harg2 arg3 harg3 arg4 harg4 arg7 harg7 arg8 harg8 arg9 harg9 arg10 harg10 arg11 harg11 arg12 harg12 hc0 x0 x1 x2 xs0 xs1 fh0 fh1 = View.canon (hPieces (View.ld x0 allX) (View.ld x1 allM) (View.ld x2 allN)) := by
  have e : (kernelRun0_B c i arg2 harg2 arg3 harg3 arg4 harg4 arg7 harg7 arg8 harg8 arg9 harg9 arg10 harg10 arg11 harg11 arg12 harg12 hc0 x0 x1 x2 xs0 xs1 fh0 fh1).2.1 = hPieces (View.ld (arg2.view.read (Elt F) (harg2.unread x0)) allX) (View.ld (arg3.view.read (Elt F) (harg3.unread x1)) allM) (View.ld (arg4.view.read (Elt F) (harg4.unread x2)) allN) := rfl
  unfold out0_B_4
  rw [View.read_writes_eq_canon _ _ _ (cover0_B_4 c i arg2 harg2 arg3 harg3 arg4 harg4 arg7 harg7 arg8 harg8 arg9 harg9 arg10 harg10 arg11 harg11 arg12 harg12 hc0 x0 x1 x2 xs0 xs1 fh0 fh1), e, harg2.read_unread, harg3.read_unread, harg4.read_unread]

set_option maxHeartbeats 4000000 in
theorem first_u (hc0 : cond0_0 i) : out0_A_5 c i arg2 harg2 arg3 harg3 arg4 harg4 arg7 harg7 arg8 harg8 arg9 harg9 arg10 harg10 arg11 harg11 arg12 harg12 hc0 x0 x1 x2 fh0 fh1 = View.canon (uPieces (View.ld x0 allX) (View.ld x1 allM) (View.ld x2 allN) (fun k => View.ld (hbM0_0.view.read (Elt F) fh0) (part1 k))) := by
  have e : (kernelRun0_A c i arg2 harg2 arg3 harg3 arg4 harg4 arg7 harg7 arg8 harg8 arg9 harg9 arg10 harg10 arg11 harg11 arg12 harg12 hc0 x0 x1 x2 fh0 fh1).2.2.1 = uPieces (View.ld (arg2.view.read (Elt F) (harg2.unread x0)) allX) (View.ld (arg3.view.read (Elt F) (harg3.unread x1)) allM) (View.ld (arg4.view.read (Elt F) (harg4.unread x2)) allN) (fun k => arg11.view.readCov [⟨Rect.whole S8x1024x512, hbM0_0.view.read (Elt F) fh0⟩] (part1 k).toLoadRect) := rfl
  unfold out0_A_5
  rw [View.read_writes_eq_canon _ _ _ (cover0_A_5 c i arg2 harg2 arg3 harg3 arg4 harg4 arg7 harg7 arg8 harg8 arg9 harg9 arg10 harg10 arg11 harg11 arg12 harg12 hc0 x0 x1 x2 fh0 fh1), e, harg2.read_unread, harg3.read_unread, harg4.read_unread]
  have e1 : (fun k => arg11.view.readCov [⟨Rect.whole S8x1024x512, hbM0_0.view.read (Elt F) fh0⟩] (part1 k).toLoadRect) = fun k => View.ld (hbM0_0.view.read (Elt F) fh0) (part1 k) :=
    funext fun k => (View.readCov_eq_canon' arg11.view _ (part1 k).toLoadRect).trans (by rw [canon_whole])
  rw [e1]

set_option maxHeartbeats 4000000 in
theorem later_u (hc0 : ¬cond0_0 i) : out0_B_5 c i arg2 harg2 arg3 harg3 arg4 harg4 arg7 harg7 arg8 harg8 arg9 harg9 arg10 harg10 arg11 harg11 arg12 harg12 hc0 x0 x1 x2 xs0 xs1 fh0 fh1 = View.canon (uPieces (View.ld x0 allX) (View.ld x1 allM) (View.ld x2 allN) (fun k => View.ld xs0 (part1 k))) := by
  have e : (kernelRun0_B c i arg2 harg2 arg3 harg3 arg4 harg4 arg7 harg7 arg8 harg8 arg9 harg9 arg10 harg10 arg11 harg11 arg12 harg12 hc0 x0 x1 x2 xs0 xs1 fh0 fh1).2.2.1 = uPieces (View.ld (arg2.view.read (Elt F) (harg2.unread x0)) allX) (View.ld (arg3.view.read (Elt F) (harg3.unread x1)) allM) (View.ld (arg4.view.read (Elt F) (harg4.unread x2)) allN) (fun k => View.ld (arg11.view.read (Elt F) (harg11.unread xs0)) (part1 k)) := rfl
  unfold out0_B_5
  rw [View.read_writes_eq_canon _ _ _ (cover0_B_5 c i arg2 harg2 arg3 harg3 arg4 harg4 arg7 harg7 arg8 harg8 arg9 harg9 arg10 harg10 arg11 harg11 arg12 harg12 hc0 x0 x1 x2 xs0 xs1 fh0 fh1), e, harg2.read_unread, harg3.read_unread, harg4.read_unread, harg11.read_unread]

set_option maxHeartbeats 4000000 in
theorem first_y (hc0 : cond0_0 i) : out0_A_6 c i arg2 harg2 arg3 harg3 arg4 harg4 arg7 harg7 arg8 harg8 arg9 harg9 arg10 harg10 arg11 harg11 arg12 harg12 hc0 x0 x1 x2 fh0 fh1 = View.canon (yPieces (View.ld x0 allX) (View.ld x1 allM) (View.ld x2 allN) (fun k => View.ld (hbM0_0.view.read (Elt F) fh0) (part1 k)) (fun k => View.ld (hbM0_1.view.read (Elt F) fh1) (part2 k))) := by
  have e : (kernelRun0_A c i arg2 harg2 arg3 harg3 arg4 harg4 arg7 harg7 arg8 harg8 arg9 harg9 arg10 harg10 arg11 harg11 arg12 harg12 hc0 x0 x1 x2 fh0 fh1).2.2.2.1 = yPieces (View.ld (arg2.view.read (Elt F) (harg2.unread x0)) allX) (View.ld (arg3.view.read (Elt F) (harg3.unread x1)) allM) (View.ld (arg4.view.read (Elt F) (harg4.unread x2)) allN) (fun k => arg11.view.readCov [⟨Rect.whole S8x1024x512, hbM0_0.view.read (Elt F) fh0⟩] (part1 k).toLoadRect) (fun k => arg12.view.readCov [⟨Rect.whole S8x512x1024, hbM0_1.view.read (Elt F) fh1⟩] (part2 k).toLoadRect) := rfl
  unfold out0_A_6
  rw [View.read_writes_eq_canon _ _ _ (cover0_A_6 c i arg2 harg2 arg3 harg3 arg4 harg4 arg7 harg7 arg8 harg8 arg9 harg9 arg10 harg10 arg11 harg11 arg12 harg12 hc0 x0 x1 x2 fh0 fh1), e, harg2.read_unread, harg3.read_unread, harg4.read_unread]
  have e1 : (fun k => arg11.view.readCov [⟨Rect.whole S8x1024x512, hbM0_0.view.read (Elt F) fh0⟩] (part1 k).toLoadRect) = fun k => View.ld (hbM0_0.view.read (Elt F) fh0) (part1 k) :=
    funext fun k => (View.readCov_eq_canon' arg11.view _ (part1 k).toLoadRect).trans (by rw [canon_whole])
  rw [e1]
  have e2 : (fun k => arg12.view.readCov [⟨Rect.whole S8x512x1024, hbM0_1.view.read (Elt F) fh1⟩] (part2 k).toLoadRect) = fun k => View.ld (hbM0_1.view.read (Elt F) fh1) (part2 k) :=
    funext fun k => (View.readCov_eq_canon' arg12.view _ (part2 k).toLoadRect).trans (by rw [canon_whole])
  rw [e2]

set_option maxHeartbeats 4000000 in
theorem later_y (hc0 : ¬cond0_0 i) : out0_B_6 c i arg2 harg2 arg3 harg3 arg4 harg4 arg7 harg7 arg8 harg8 arg9 harg9 arg10 harg10 arg11 harg11 arg12 harg12 hc0 x0 x1 x2 xs0 xs1 fh0 fh1 = View.canon (yPieces (View.ld x0 allX) (View.ld x1 allM) (View.ld x2 allN) (fun k => View.ld xs0 (part1 k)) (fun k => View.ld xs1 (part2 k))) := by
  have e : (kernelRun0_B c i arg2 harg2 arg3 harg3 arg4 harg4 arg7 harg7 arg8 harg8 arg9 harg9 arg10 harg10 arg11 harg11 arg12 harg12 hc0 x0 x1 x2 xs0 xs1 fh0 fh1).2.2.2.1 = yPieces (View.ld (arg2.view.read (Elt F) (harg2.unread x0)) allX) (View.ld (arg3.view.read (Elt F) (harg3.unread x1)) allM) (View.ld (arg4.view.read (Elt F) (harg4.unread x2)) allN) (fun k => View.ld (arg11.view.read (Elt F) (harg11.unread xs0)) (part1 k)) (fun k => View.ld (arg12.view.read (Elt F) (harg12.unread xs1)) (part2 k)) := rfl
  unfold out0_B_6
  rw [View.read_writes_eq_canon _ _ _ (cover0_B_6 c i arg2 harg2 arg3 harg3 arg4 harg4 arg7 harg7 arg8 harg8 arg9 harg9 arg10 harg10 arg11 harg11 arg12 harg12 hc0 x0 x1 x2 xs0 xs1 fh0 fh1), e, harg2.read_unread, harg3.read_unread, harg4.read_unread, harg11.read_unread, harg12.read_unread]

theorem first_w1 (hc0 : cond0_0 i) : sout0_A_0 c i arg2 harg2 arg3 harg3 arg4 harg4 arg7 harg7 arg8 harg8 arg9 harg9 arg10 harg10 arg11 harg11 arg12 harg12 hc0 x0 x1 x2 fh0 fh1 = hbM0_0.view.read (Elt F) fh0 :=
  read_whole VS0_0 _ _

theorem first_w2 (hc0 : cond0_0 i) : sout0_A_1 c i arg2 harg2 arg3 harg3 arg4 harg4 arg7 harg7 arg8 harg8 arg9 harg9 arg10 harg10 arg11 harg11 arg12 harg12 hc0 x0 x1 x2 fh0 fh1 = hbM0_1.view.read (Elt F) fh1 :=
  read_whole VS0_1 _ _

end

end Cert.Kernel7Ideal.Ffn

end
-- ==== Proof.FfnVal.lean ====
/-
The blocks of `mlp_fwd`'s four results, element by element, over the extended reals.
-/
module

public import proofs.«01_k».proof.Proof.FfnBlock
public import proofs.«01_k».proof.Proof.MlpVal

@[expose] public section

set_option maxRecDepth 16384

noncomputable section

namespace Cert.Kernel7Ideal.Ffn

open Idealize.ShloMosaic Idealize.ShloMosaic.TcCoe Idealize.SL.Sem
open Cert.Kernel7Ideal.Gen
open Cert.Kernel6Ideal.Mlp (cols slabs canon_slabs ld_all off3 off4 stream slabOf inSlab)
open Cert.Grad

/-! ## The mathematics of one row -/

/-- A row divided by the root of its mean square, scaled by the norm's weight and by one plus the modulation's scale, shifted
    by the modulation's shift. -/
def normed (x n sc sh : Fin 1024 → EReal) (l : Fin 1024) : EReal :=
  x l * Ideal.rsqrt (Ideal.div (∑ k, x k * x k) (Ideal.ofBits .f32 0x44800000#32) + Ideal.ofBits .f32 0x358637BD#32) * n l * (1 + sc l) + sh l

/-- A row's hidden layer at column `j` of the first weight's slab `k`. -/
def hid (h : Fin 1024 → EReal) (W : FVec Ideal S8x1024x512 .bf16) (k : Fin 8) (j : Fin 512) : EReal :=
  ∑ x, HMul.hMul (α := EReal) (β := EReal) (h x) (W (ix3 k x j))

/-- What slab `k` of the hidden layer contributes to column `l` of the second product. -/
def term (h : Fin 1024 → EReal) (W : FVec Ideal S8x1024x512 .bf16) (V : FVec Ideal S8x512x1024 .bf16) (k : Fin 8) (l : Fin 1024) : EReal :=
  ∑ j, HMul.hMul (α := EReal) (β := EReal) (max (hid h W k j) 0 * max (hid h W k j) 0) (V (ix3 k j l))

/-- A sum over the eight rows that keeps only row `p`. -/
theorem keep_row (p : Fin 8) (f : Fin 8 → EReal) :
    ∑ k : Fin 8, Scalar.select (IntOp.cmpi .eq (BitVec.ofNat 32 (k : ℕ)) (BitVec.ofNat 32 (p : ℕ))) (f k) 0 = f p := by
  have e : ∀ p k : Fin 8, IntOp.cmpi .eq (BitVec.ofNat 32 (k : ℕ)) (BitVec.ofNat 32 (p : ℕ)) = if k = p then 1#1 else 0#1 := by decide
  rw [Finset.sum_eq_single p]
  · rw [e, if_pos rfl]
    rfl
  · intro k _ hk
    rw [e, if_neg hk]
    rfl
  · intro h
    exact absurd (Finset.mem_univ _) h

/-! ## The payloads -/

theorem shift_at (M : FVec Ideal S1x1x8x1024 .f32) (l : Fin 1024) : (k0_pay5 (F := Ideal) M (ix2 0 l) : EReal) = M (ix4 0 0 3 l) := by
  unfold k0_pay5
  pointwise
  exact keep_row 3 fun k => M (ix4 0 0 k l)

theorem scale_at (M : FVec Ideal S1x1x8x1024 .f32) (l : Fin 1024) : (k0_pay6 (F := Ideal) M (ix2 0 l) : EReal) = M (ix4 0 0 4 l) := by
  unfold k0_pay6
  pointwise
  exact keep_row 4 fun k => M (ix4 0 0 k l)

theorem mean_at (x : FVec Ideal S1x256x1024 .f32) (r : Fin 256) :
    (k0_pay7 (F := Ideal) x (ix2 r 0) : EReal) = Ideal.div (∑ k : Fin 1024, HMul.hMul (α := EReal) (β := EReal) (x (ix3 0 r k)) (x (ix3 0 r k))) (Ideal.ofBits .f32 0x44800000#32) := by
  unfold k0_pay7 k0_pay4
  pointwise

theorem rows_at (x : FVec Ideal S1x256x1024 .f32) (r : Fin 256) (l : Fin 1024) : (k0_pay4 (F := Ideal) x (ix2 r l) : EReal) = x (ix3 0 r l) := by
  unfold k0_pay4
  pointwise

theorem eps_at (r : Fin 256) : (k0_pay8 (F := Ideal) (ix2 r 0) : EReal) = Ideal.ofBits .f32 0x358637BD#32 := by
  unfold k0_pay8
  pointwise

theorem mod_at (x : FVec Ideal S256x1024 .f32) (n a b : FVec Ideal S1x1024 .f32) (p q : FVec Ideal S256x1 .f32) (r : Fin 256) (l : Fin 1024) :
    (k0_pay9 (F := Ideal) x n a b p q (ix2 r l) : EReal) = x (ix2 r l) * Ideal.rsqrt (p (ix2 r 0) + q (ix2 r 0)) * n (ix2 0 l) * (1 + b (ix2 0 l)) + a (ix2 0 l) := by
  unfold k0_pay9
  pointwise

theorem hMat_at (x : FVec Ideal S1x256x1024 .f32) (M : FVec Ideal S1x1x8x1024 .f32) (n : FVec Ideal S1x1024 .f32) (r : Fin 256) (l : Fin 1024) :
    (hMat (F := Ideal) x M n (ix2 r l) : EReal)
      = normed (fun k => x (ix3 0 r k)) (fun k => n (ix2 0 k)) (fun k => M (ix4 0 0 4 k)) (fun k => M (ix4 0 0 3 k)) l := by
  unfold hMat
  rw [mod_at, rows_at, mean_at, eps_at, scale_at, shift_at]
  rfl

theorem ld_part1 (W : FVec Ideal S8x1024x512 .bf16) (k : Fin 8) (x : Fin 1024) (j : Fin 512) :
    (View.ld (Val := Elt Ideal) (e' := .bf16) W (part1 k) : FVec Ideal S1x1024x512 .bf16) (ix3 0 x j) = W (ix3 k x j) := by
  refine congrArg W (ix3_of _ _ _ _ ?_ ?_ ?_)
  · show (k : ℕ) + 1 * 0 = k; omega
  · show 0 + 1 * (x : ℕ) = x; omega
  · show 0 + 1 * (j : ℕ) = j; omega

theorem ld_part2 (V : FVec Ideal S8x512x1024 .bf16) (k : Fin 8) (j : Fin 512) (l : Fin 1024) :
    (View.ld (Val := Elt Ideal) (e' := .bf16) V (part2 k) : FVec Ideal S1x512x1024 .bf16) (ix3 0 j l) = V (ix3 k j l) := by
  refine congrArg V (ix3_of _ _ _ _ ?_ ?_ ?_)
  · show (k : ℕ) + 1 * 0 = k; omega
  · show 0 + 1 * (j : ℕ) = j; omega
  · show 0 + 1 * (l : ℕ) = l; omega

theorem add_at (A : FVec Ideal S256x1024 .f32) (p : FVec Ideal S256x512 .bf16) (w : FVec Ideal S1x512x1024 .bf16) (r : Fin 256) (l : Fin 1024) :
    (k0_pay1 (F := Ideal) A p w (ix2 r l) : EReal) = A (ix2 r l) + ∑ j : Fin 512, HMul.hMul (α := EReal) (β := EReal) (p (ix2 r j)) (w (ix3 0 j l)) := by
  unfold k0_pay1
  pointwise

theorem act_at (H : FVec Ideal S256x1024 .bf16) (w : FVec Ideal S1x1024x512 .bf16) (r : Fin 256) (j : Fin 512) :
    (k0_pay34 (F := Ideal) H w (ix2 r j) : EReal) = max (∑ x : Fin 1024, HMul.hMul (α := EReal) (β := EReal) (H (ix2 r x)) (w (ix3 0 x j))) 0
      * max (∑ x : Fin 1024, HMul.hMul (α := EReal) (β := EReal) (H (ix2 r x)) (w (ix3 0 x j))) 0 := by
  unfold k0_pay34 k0_pay32
  pointwise

theorem hidden_at (H : FVec Ideal S256x1024 .bf16) (w : FVec Ideal S1x1024x512 .bf16) (r : Fin 256) (j : Fin 512) :
    (k0_pay18 (F := Ideal) H w (ix3 0 r j) : EReal) = ∑ x : Fin 1024, HMul.hMul (α := EReal) (β := EReal) (H (ix2 r x)) (w (ix3 0 x j)) := by
  unfold k0_pay18 k0_pay17
  pointwise

/-- One step of the second product adds its slab's term. -/
theorem step (A : FVec Ideal S256x1024 .f32) (H : FVec Ideal S256x1024 .bf16) (W : FVec Ideal S8x1024x512 .bf16) (V : FVec Ideal S8x512x1024 .bf16) (k : Fin 8) (r : Fin 256) (l : Fin 1024) :
    (k0_pay1 (F := Ideal) A (k0_pay34 H (View.ld W (part1 k))) (View.ld V (part2 k)) (ix2 r l) : EReal) = A (ix2 r l) + term (fun x => H (ix2 r x)) W V k l := by
  refine (add_at _ _ _ r l).trans (congrArg (HAdd.hAdd (α := EReal) _) (Finset.sum_congr rfl fun j _ => ?_))
  have e : ∑ x : Fin 1024, HMul.hMul (α := EReal) (β := EReal) (H (ix2 r x)) ((View.ld (Val := Elt Ideal) (e' := .bf16) W (part1 k) : FVec Ideal S1x1024x512 .bf16) (ix3 0 x j)) = hid (fun x => H (ix2 r x)) W k j :=
    Finset.sum_congr rfl fun x _ => congrArg (HMul.hMul (α := EReal) (β := EReal) _) (ld_part1 W k x j)
  refine congrArg₂ (HMul.hMul (α := EReal) (β := EReal)) ((act_at _ _ r j).trans ?_) (ld_part2 V k j l)
  rw [e]

/-- The seven steps, one after another. -/
theorem ySeven_steps (x : FVec Ideal S1x256x1024 .f32) (M : FVec Ideal S1x1x8x1024 .f32) (n : FVec Ideal S1x1024 .f32) (w : Fin 8 → FVec Ideal S1x1024x512 .bf16) (v : Fin 8 → FVec Ideal S1x512x1024 .bf16) :
    ySeven (F := Ideal) x M n w v = k0_pay1 (k0_pay1 (k0_pay1 (k0_pay1 (k0_pay1 (k0_pay1 (k0_pay1 (broadcast S256x1024 (Scalar.ofBits (F := Ideal) .f32 0x00000000#32))
      (k0_pay34 (hMat x M n) (w 0)) (v 0)) (k0_pay34 (hMat x M n) (w 1)) (v 1)) (k0_pay34 (hMat x M n) (w 2)) (v 2)) (k0_pay34 (hMat x M n) (w 3)) (v 3))
      (k0_pay34 (hMat x M n) (w 4)) (v 4)) (k0_pay34 (hMat x M n) (w 5)) (v 5)) (k0_pay34 (hMat x M n) (w 6)) (v 6) := rfl

theorem zero_at (r : Fin 256) (l : Fin 1024) : ((broadcast S256x1024 (Scalar.ofBits (F := Ideal) .f32 0x00000000#32) : FVec Ideal S256x1024 .f32) (ix2 r l) : EReal) = 0 := by
  pointwise

/-- All eight steps leave the whole product. -/
theorem y_at (x : FVec Ideal S1x256x1024 .f32) (M : FVec Ideal S1x1x8x1024 .f32) (n : FVec Ideal S1x1024 .f32) (W : FVec Ideal S8x1024x512 .bf16) (V : FVec Ideal S8x512x1024 .bf16) (r : Fin 256) (l : Fin 1024) :
    (k0_pay1 (F := Ideal) (ySeven x M n (fun k => View.ld W (part1 k)) fun k => View.ld V (part2 k)) (k0_pay34 (hMat x M n) (View.ld W (part1 7))) (View.ld V (part2 7)) (ix2 r l) : EReal)
      = ∑ k : Fin 8, term (fun x' => hMat (F := Ideal) x M n (ix2 r x')) W V k l := by
  rw [ySeven_steps, Fin.sum_univ_eight]
  rw [step, step, step, step, step, step, step, step, zero_at, zero_add]

/-! ## The blocks -/

theorem hBlock_at (x : FVec Ideal S1x256x1024 .f32) (M : FVec Ideal S1x1x8x1024 .f32) (n : FVec Ideal S1x1024 .f32) (r : Fin 256) (l : Fin 1024) :
    (View.canon (hPieces (F := Ideal) x M n) (ix3 0 r l) : EReal) = hMat (F := Ideal) x M n (ix2 r l) := by
  unfold hPieces
  refine Eq.trans (congrFun (View.canon_unit_zero (Val := Elt Ideal) (S := S1x256x1024) (e := .bf16) (off := ![0, 0, 0]) off3 _ _) _) ?_
  unfold hMat k0_pay10
  generalize k0_pay9 (F := Ideal) (k0_pay4 x) n (k0_pay5 M) (k0_pay6 M) (k0_pay7 x) k0_pay8 = H
  pointwise

theorem uBlock_at (x : FVec Ideal S1x256x1024 .f32) (M : FVec Ideal S1x1x8x1024 .f32) (n : FVec Ideal S1x1024 .f32) (W : FVec Ideal S8x1024x512 .bf16) (r : Fin 256) (j : Fin 4096) :
    (View.canon (uPieces (F := Ideal) x M n fun k => View.ld W (part1 k)) (ix3 0 r j) : EReal)
      = hid (fun x' => hMat (F := Ideal) x M n (ix2 r x')) W ⟨(j : ℕ) / 512, by omega⟩ ⟨(j : ℕ) % 512, by omega⟩ := by
  unfold uPieces
  rw [canon_slabs]
  refine (hidden_at _ _ r ⟨(j : ℕ) % 512, by omega⟩).trans ?_
  exact Finset.sum_congr rfl fun x _ => congrArg (HMul.hMul (α := EReal) (β := EReal) _) (ld_part1 W _ x _)

theorem yBlock_at (x : FVec Ideal S1x256x1024 .f32) (M : FVec Ideal S1x1x8x1024 .f32) (n : FVec Ideal S1x1024 .f32) (W : FVec Ideal S8x1024x512 .bf16) (V : FVec Ideal S8x512x1024 .bf16) (r : Fin 256) (l : Fin 1024) :
    (View.canon (yPieces (F := Ideal) x M n (fun k => View.ld W (part1 k)) fun k => View.ld V (part2 k)) (ix3 0 r l) : EReal)
      = ∑ k : Fin 8, term (fun x' => hMat (F := Ideal) x M n (ix2 r x')) W V k l := by
  unfold yPieces
  refine Eq.trans (congrFun (View.canon_unit_zero (Val := Elt Ideal) (S := S1x256x1024) (e := .bf16) (off := ![0, 0, 0]) off3 _ _) _) ?_
  refine Eq.trans ?_ (y_at x M n W V r l)
  unfold k0_pay2
  generalize k0_pay1 (F := Ideal) _ _ _ = Y
  pointwise

theorem gate_at (X Y : FVec Ideal S256x1024 .f32) (p : FVec Ideal S256x512 .bf16) (w : FVec Ideal S1x512x1024 .bf16) (M : FVec Ideal S1x1x8x1024 .f32) (r : Fin 256) (l : Fin 1024) :
    (k0_pay3 (F := Ideal) X Y p w M (ix3 0 r l) : EReal) = X (ix2 r l) + M (ix4 0 0 5 l) * k0_pay1 (F := Ideal) Y p w (ix2 r l) := by
  unfold k0_pay3
  generalize k0_pay1 (F := Ideal) Y p w = Z
  pointwise
  rw [show ∑ k : Fin 8, Scalar.select (IntOp.cmpi .eq (BitVec.ofNat 32 (k : ℕ)) 5#32) (M (ix4 0 0 k l) : EReal) 0 = M (ix4 0 0 5 l) from keep_row 5 fun k => M (ix4 0 0 k l)]

theorem xBlock_at (x : FVec Ideal S1x256x1024 .f32) (M : FVec Ideal S1x1x8x1024 .f32) (n : FVec Ideal S1x1024 .f32) (W : FVec Ideal S8x1024x512 .bf16) (V : FVec Ideal S8x512x1024 .bf16) (r : Fin 256) (l : Fin 1024) :
    (View.canon (xPieces (F := Ideal) x M n (fun k => View.ld W (part1 k)) fun k => View.ld V (part2 k)) (ix3 0 r l) : EReal)
      = x (ix3 0 r l) + M (ix4 0 0 5 l) * ∑ k : Fin 8, term (fun x' => hMat (F := Ideal) x M n (ix2 r x')) W V k l := by
  unfold xPieces
  refine Eq.trans (congrFun (View.canon_unit_zero (Val := Elt Ideal) (S := S1x256x1024) (e := .f32) (off := ![0, 0, 0]) off3 _ _) _) ?_
  refine (gate_at _ _ _ _ M r l).trans ?_
  rw [rows_at]
  exact congrArg (fun z : EReal => x (ix3 0 r l) + M (ix4 0 0 5 l) * z) (y_at x M n W V r l)

/-! ## The arrays -/

/-- Row `r` of sequence `b`, normed and modulated by its stream's rows 4 and 3. -/
def rowOf (X : FVec Ideal S2x4352x1024 .f32) (M : FVec Ideal S2x2x8x1024 .f32) (N : FVec Ideal S1x1024 .f32) (b : Fin 2) (r : Fin 4352) : Fin 1024 → EReal :=
  normed (fun k => X (ix3 b r k)) (fun k => N (ix2 0 k)) (fun k => M (ix4 b (stream r) 4 k)) (fun k => M (ix4 b (stream r) 3 k))

def hOf (X : FVec Ideal S2x4352x1024 .f32) (M : FVec Ideal S2x2x8x1024 .f32) (N : FVec Ideal S1x1024 .f32) : FVec Ideal S2x4352x1024 .bf16 := fun i =>
  rowOf X M N (i 0) (i 1) (i 2)

/-- The hidden layer. -/
def uOf (X : FVec Ideal S2x4352x1024 .f32) (M : FVec Ideal S2x2x8x1024 .f32) (N : FVec Ideal S1x1024 .f32) (W : FVec Ideal S8x1024x512 .bf16) : FVec Ideal S2x4352x4096 .bf16 := fun i =>
  hid (rowOf X M N (i 0) (i 1)) W ⟨(i 2 : ℕ) / 512, by have h : (i 2 : ℕ) < 4096 := (i 2).isLt; omega⟩ ⟨(i 2 : ℕ) % 512, Nat.mod_lt _ (by decide)⟩

/-- The MLP's output. -/
def yOf (X : FVec Ideal S2x4352x1024 .f32) (M : FVec Ideal S2x2x8x1024 .f32) (N : FVec Ideal S1x1024 .f32) (W : FVec Ideal S8x1024x512 .bf16) (V : FVec Ideal S8x512x1024 .bf16) : FVec Ideal S2x4352x1024 .bf16 := fun i =>
  ∑ k : Fin 8, term (rowOf X M N (i 0) (i 1)) W V k (i 2)

/-- The layer's result: the rows plus the gated output. -/
def xOf (X : FVec Ideal S2x4352x1024 .f32) (M : FVec Ideal S2x2x8x1024 .f32) (N : FVec Ideal S1x1024 .f32) (W : FVec Ideal S8x1024x512 .bf16) (V : FVec Ideal S8x512x1024 .bf16) : FVec Ideal S2x4352x1024 .f32 := fun i =>
  HAdd.hAdd (α := EReal) (β := EReal) (X i) (HMul.hMul (α := EReal) (β := EReal) (M (ix4 (i 0) (stream (i 1)) 5 (i 2))) (∑ k : Fin 8, term (rowOf X M N (i 0) (i 1)) W V k (i 2)))

end Cert.Kernel7Ideal.Ffn

end
-- ==== Proof.FfnOut.lean ====
/-
The four arrays `mlp_fwd` leaves, over the extended reals, as functions of its operands.
-/
module

public import proofs.«01_k».proof.Proof.FfnVal

@[expose] public section

set_option maxRecDepth 16384

noncomputable section

namespace Cert.Kernel7Ideal.Ffn

open Idealize.ShloMosaic Idealize.ShloMosaic.TcCoe Idealize.SL.Sem
open Idealize.ShloMosaic.Pipeline (Dat)
open Cert.Kernel7Ideal.Gen
open Cert.Kernel6Ideal.Mlp (cols slabs ld_all off3 off4 stream)
open Cert.Grad

/-! ## Which rows a point works on -/

/-- The sequence and the rows of a point's blocks. -/
abbrev pB (t : Fin cfg0.N) : Fin 2 := ⟨t.val / 17, by have : t.val < 34 := t.isLt; omega⟩
abbrev pR (t : Fin cfg0.N) (r : Fin 256) : Fin 4352 := ⟨256 * (t.val % 17) + r, by omega⟩
/-- The stream of a point's rows: its first block of a sequence is the context. -/
abbrev pS (t : Fin cfg0.N) : Fin 2 := if t.val % 17 < 1 then 0 else 1

theorem pS_eq (t : Fin cfg0.N) (r : Fin 256) : pS t = stream (pR t r) := by
  unfold pS stream
  refine if_congr ?_ rfl rfl
  show t.val % 17 < 1 ↔ 256 * (t.val % 17) + r.val < 256
  omega

theorem idx0 : ∀ t : Fin cfg0.N, win0_0.index t = ![t.val / 17, t.val % 17, 0] := (by decide +kernel : ∀ t : Fin grid0.N, _)
theorem idx3 : ∀ t : Fin cfg0.N, win0_3.index t = ![t.val / 17, t.val % 17, 0] := (by decide +kernel : ∀ t : Fin grid0.N, _)
theorem idx4 : ∀ t : Fin cfg0.N, win0_4.index t = ![t.val / 17, t.val % 17, 0] := (by decide +kernel : ∀ t : Fin grid0.N, _)
theorem idx5 : ∀ t : Fin cfg0.N, win0_5.index t = ![t.val / 17, t.val % 17, 0] := (by decide +kernel : ∀ t : Fin grid0.N, _)
theorem idx6 : ∀ t : Fin cfg0.N, win0_6.index t = ![t.val / 17, t.val % 17, 0] := (by decide +kernel : ∀ t : Fin grid0.N, _)
theorem idx1 : ∀ t : Fin cfg0.N, win0_1.index t = ![t.val / 17, (if t.val % 17 < 1 then 0 else 1), 0, 0] := (by decide +kernel : ∀ t : Fin grid0.N, _)
theorem idx2 : ∀ t : Fin cfg0.N, win0_2.index t = ![0, 0] := (by decide +kernel : ∀ t : Fin grid0.N, _)

theorem emb0 (t : Fin cfg0.N) (r : Fin 256) (l : Fin 1024) :
    ((cfg0.win 0).blk t).view.emb (ix3 0 r l : S1x256x1024.Idx) = (ix3 (pB t) (pR t r) l : S2x4352x1024.Idx) := by
  have h := idx0 t
  refine ix3_of _ _ _ _ ?_ ?_ ?_
  · show win0_0.index t 0 * 1 + 1 * 0 = t.val / 17; rw [h]; simp
  · show win0_0.index t 1 * 256 + 1 * r.val = 256 * (t.val % 17) + r.val; rw [h]; simp; omega
  · show win0_0.index t 2 * 1024 + 1 * l.val = l.val; rw [h]; simp
theorem emb3 (t : Fin cfg0.N) (r : Fin 256) (l : Fin 1024) :
    ((cfg0.win 3).blk t).view.emb (ix3 0 r l : S1x256x1024.Idx) = (ix3 (pB t) (pR t r) l : S2x4352x1024.Idx) := by
  have h := idx3 t
  refine ix3_of _ _ _ _ ?_ ?_ ?_
  · show win0_3.index t 0 * 1 + 1 * 0 = t.val / 17; rw [h]; simp
  · show win0_3.index t 1 * 256 + 1 * r.val = 256 * (t.val % 17) + r.val; rw [h]; simp; omega
  · show win0_3.index t 2 * 1024 + 1 * l.val = l.val; rw [h]; simp
theorem emb4 (t : Fin cfg0.N) (r : Fin 256) (l : Fin 1024) :
    ((cfg0.win 4).blk t).view.emb (ix3 0 r l : S1x256x1024.Idx) = (ix3 (pB t) (pR t r) l : S2x4352x1024.Idx) := by
  have h := idx4 t
  refine ix3_of _ _ _ _ ?_ ?_ ?_
  · show win0_4.index t 0 * 1 + 1 * 0 = t.val / 17; rw [h]; simp
  · show win0_4.index t 1 * 256 + 1 * r.val = 256 * (t.val % 17) + r.val; rw [h]; simp; omega
  · show win0_4.index t 2 * 1024 + 1 * l.val = l.val; rw [h]; simp
theorem emb5 (t : Fin cfg0.N) (r : Fin 256) (l : Fin 4096) :
    ((cfg0.win 5).blk t).view.emb (ix3 0 r l : S1x256x4096.Idx) = (ix3 (pB t) (pR t r) l : S2x4352x4096.Idx) := by
  have h := idx5 t
  refine ix3_of _ _ _ _ ?_ ?_ ?_
  · show win0_5.index t 0 * 1 + 1 * 0 = t.val / 17; rw [h]; simp
  · show win0_5.index t 1 * 256 + 1 * r.val = 256 * (t.val % 17) + r.val; rw [h]; simp; omega
  · show win0_5.index t 2 * 4096 + 1 * l.val = l.val; rw [h]; simp
theorem emb6 (t : Fin cfg0.N) (r : Fin 256) (l : Fin 1024) :
    ((cfg0.win 6).blk t).view.emb (ix3 0 r l : S1x256x1024.Idx) = (ix3 (pB t) (pR t r) l : S2x4352x1024.Idx) := by
  have h := idx6 t
  refine ix3_of _ _ _ _ ?_ ?_ ?_
  · show win0_6.index t 0 * 1 + 1 * 0 = t.val / 17; rw [h]; simp
  · show win0_6.index t 1 * 256 + 1 * r.val = 256 * (t.val % 17) + r.val; rw [h]; simp; omega
  · show win0_6.index t 2 * 1024 + 1 * l.val = l.val; rw [h]; simp
theorem emb1 (t : Fin cfg0.N) (k : Fin 8) (l : Fin 1024) :
    ((cfg0.win 1).blk t).view.emb (ix4 0 0 k l : S1x1x8x1024.Idx) = (ix4 (pB t) (pS t) k l : S2x2x8x1024.Idx) := by
  have h := idx1 t
  refine (eq_ix4 _).trans ((ix4_inj ..).2 ⟨Fin.ext ?_, Fin.ext ?_, Fin.ext ?_, Fin.ext ?_⟩)
  · show win0_1.index t 0 * 1 + 1 * 0 = t.val / 17; rw [h]; simp
  · show win0_1.index t 1 * 1 + 1 * 0 = (pS t : ℕ)
    rw [h]
    unfold pS
    by_cases hh : t.val % 17 < 1 <;> simp [hh]
  · show win0_1.index t 2 * 8 + 1 * k.val = k.val; rw [h]; simp
  · show win0_1.index t 3 * 1024 + 1 * l.val = l.val; rw [h]; simp
theorem emb2 (t : Fin cfg0.N) (l : Fin 1024) :
    ((cfg0.win 2).blk t).view.emb (ix2 0 l : S1x1024.Idx) = (ix2 0 l : S1x1024.Idx) := by
  have h := idx2 t
  refine (eq_ix2 _).trans ((ix2_inj ..).2 ⟨Fin.ext ?_, Fin.ext ?_⟩)
  · show win0_2.index t 0 * 1 + 1 * 0 = 0; rw [h]; simp
  · show win0_2.index t 1 * 1024 + 1 * l.val = l.val; rw [h]; simp

/-! ## The blocks read -/

variable (m : (ℓ : Loc nD τ sig) → Buf (Elt Ideal) ℓ)

/-- The rows, the modulation, the norm's weight and the two weights. -/
@[irreducible] def opX (c : Dev nD) : FVec Ideal S2x4352x1024 .f32 := V m c main_arg0
@[irreducible] def opM (c : Dev nD) : FVec Ideal S2x2x8x1024 .f32 := V m c main_arg1
@[irreducible] def opN (c : Dev nD) : FVec Ideal S1x1024 .f32 := V m c main_arg2
@[irreducible] def wt1 (c : Dev nD) : FVec Ideal S8x1024x512 .bf16 := hbM0_0.view.read (Elt Ideal) (V m c main_arg3)
@[irreducible] def wt2 (c : Dev nD) : FVec Ideal S8x512x1024 .bf16 := hbM0_1.view.read (Elt Ideal) (V m c main_arg4)

theorem blk0 (c : Dev nD) (t : Fin cfg0.N) (r : Fin 256) (l : Fin 1024) :
    iblk m c 0 t (ix3 0 r l : S1x256x1024.Idx) = opX m c (ix3 (pB t) (pR t r) l) := by
  have read : ∀ (X : FVec Ideal S2x4352x1024 .f32) i j, ((cfg0.win 0).blk t).view.emb i = j → ((cfg0.win 0).blk t).view.read (Elt Ideal) X i = X j := by
    intro X i j h; subst h; rfl
  unfold iblk opX
  exact read _ _ _ (emb0 t r l)
theorem blk1 (c : Dev nD) (t : Fin cfg0.N) (r : Fin 256) (k : Fin 8) (l : Fin 1024) :
    iblk m c 1 t (ix4 0 0 k l : S1x1x8x1024.Idx) = opM m c (ix4 (pB t) (stream (pR t r)) k l) := by
  have read : ∀ (X : FVec Ideal S2x2x8x1024 .f32) i j, ((cfg0.win 1).blk t).view.emb i = j → ((cfg0.win 1).blk t).view.read (Elt Ideal) X i = X j := by
    intro X i j h; subst h; rfl
  rw [← pS_eq t r]
  unfold iblk opM
  exact read _ _ _ (emb1 t k l)
theorem blk2 (c : Dev nD) (t : Fin cfg0.N) (l : Fin 1024) :
    iblk m c 2 t (ix2 0 l : S1x1024.Idx) = opN m c (ix2 0 l) := by
  have read : ∀ (X : FVec Ideal S1x1024 .f32) i j, ((cfg0.win 2).blk t).view.emb i = j → ((cfg0.win 2).blk t).view.read (Elt Ideal) X i = X j := by
    intro X i j h; subst h; rfl
  unfold iblk opN
  exact read _ _ _ (emb2 t l)

/-! ## What a point leaves -/

theorem fst_of {α β : Type} {o : α × β} {a : α} {b : β} (h : o = (a, b)) : o.1 = a := by rw [h]
theorem snd_of {α β : Type} {o : α × β} {a : α} {b : β} (h : o = (a, b)) : o.2 = b := by rw [h]

/-- At the first point the weights are brought into their scratch, -/
theorem brought (c : Dev nD) (t : Fin cfg0.N) (h0 : t.val % 34 = 0) : (outsAt0 m c t.val t.isLt).2.2.2.2.1 = wt1 m c ∧ (outsAt0 m c t.val t.isLt).2.2.2.2.2 = wt2 m c := by
  unfold wt1 wt2
  exact ⟨(fst_of (snd_of (snd_of (snd_of (snd_of (outsAt0_A m c t h0)))))).trans (first_w1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (V m c main_arg3) (V m c main_arg4) ((hcond0_0 t).mpr h0)),
    (snd_of (snd_of (snd_of (snd_of (snd_of (outsAt0_A m c t h0)))))).trans (first_w2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (V m c main_arg3) (V m c main_arg4) ((hcond0_0 t).mpr h0))⟩

/-- and there they stay. -/
theorem kept (c : Dev nD) : ∀ (n : ℕ) (h : n < cfg0.N), (outsAt0 m c n h).2.2.2.2.1 = wt1 m c ∧ (outsAt0 m c n h).2.2.2.2.2 = wt2 m c := by
  intro n
  induction n with
  | zero => exact fun h => brought m c ⟨0, h⟩ rfl
  | succ n ih =>
    intro h
    by_cases h0 : (n + 1) % 34 = 0
    · exact brought m c ⟨n + 1, h⟩ h0
    · have k := ih (Nat.lt_of_succ_lt h)
      exact ⟨(fst_of (snd_of (snd_of (snd_of (snd_of (outsAt0_B m c ⟨n + 1, h⟩ h0)))))).trans k.1, (snd_of (snd_of (snd_of (snd_of (snd_of (outsAt0_B m c ⟨n + 1, h⟩ h0)))))).trans k.2⟩

variable (c : Dev nD) (t : Fin cfg0.N)

/-- The block of the rows, of the modulation and of the norm's weight at a point. -/
def bX : FVec Ideal S1x256x1024 .f32 := iblk m c 0 t
def bM : FVec Ideal S1x1x8x1024 .f32 := iblk m c 1 t
def bN : FVec Ideal S1x1024 .f32 := iblk m c 2 t

def hAt : FVec Ideal S1x256x1024 .bf16 := View.canon (hPieces (F := Ideal) (bX m c t) (bM m c t) (bN m c t))
def uAt : FVec Ideal S1x256x4096 .bf16 := View.canon (uPieces (F := Ideal) (bX m c t) (bM m c t) (bN m c t) fun k => View.ld (wt1 m c) (part1 k))
def yAt : FVec Ideal S1x256x1024 .bf16 := View.canon (yPieces (F := Ideal) (bX m c t) (bM m c t) (bN m c t) (fun k => View.ld (wt1 m c) (part1 k)) fun k => View.ld (wt2 m c) (part2 k))
def xAt : FVec Ideal S1x256x1024 .f32 := View.canon (xPieces (F := Ideal) (bX m c t) (bM m c t) (bN m c t) (fun k => View.ld (wt1 m c) (part1 k)) fun k => View.ld (wt2 m c) (part2 k))

theorem off2 : (![0, 0] : Fin 2 → ℕ) = fun _ => 0 := by funext a; fin_cases a <;> rfl

theorem whole_x : View.ld (Val := Elt Ideal) (e' := .f32) (iblk m c 0 t) allX = bX m c t := ld_all off3 _ _
theorem whole_m : View.ld (Val := Elt Ideal) (e' := .f32) (iblk m c 1 t) allM = bM m c t := ld_all off4 _ _
theorem whole_n : View.ld (Val := Elt Ideal) (e' := .f32) (iblk m c 2 t) allN = bN m c t := ld_all off2 _ _

theorem after_x : (dats m 0 c).after 3 t = xAt m c t := by
  rw [after0_3]
  unfold xAt
  by_cases h0 : t.val % 34 = 0
  · refine (fst_of (outsAt0_A m c t h0)).trans ?_
    refine (first_x (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (V m c main_arg3) (V m c main_arg4) ((hcond0_0 t).mpr h0)).trans ?_
    rw [whole_x, whole_m, whole_n]
    unfold wt1 wt2
    rfl
  · refine (fst_of (outsAt0_B m c t h0)).trans ?_
    refine (later_x (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg3) (V m c main_arg4) fun h => h0 ((hcond0_0 t).mp h)).trans ?_
    rw [whole_x, whole_m, whole_n, (kept m c _ _).1, (kept m c _ _).2]

theorem after_h : (dats m 0 c).after 4 t = hAt m c t := by
  rw [after0_4]
  unfold hAt
  by_cases h0 : t.val % 34 = 0
  · refine (fst_of (snd_of (outsAt0_A m c t h0))).trans ?_
    refine (first_h (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (V m c main_arg3) (V m c main_arg4) ((hcond0_0 t).mpr h0)).trans ?_
    rw [whole_x, whole_m, whole_n]
  · refine (fst_of (snd_of (outsAt0_B m c t h0))).trans ?_
    refine (later_h (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg3) (V m c main_arg4) fun h => h0 ((hcond0_0 t).mp h)).trans ?_
    rw [whole_x, whole_m, whole_n]

theorem after_u : (dats m 0 c).after 5 t = uAt m c t := by
  rw [after0_5]
  unfold uAt
  by_cases h0 : t.val % 34 = 0
  · refine (fst_of (snd_of (snd_of (outsAt0_A m c t h0)))).trans ?_
    refine (first_u (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (V m c main_arg3) (V m c main_arg4) ((hcond0_0 t).mpr h0)).trans ?_
    rw [whole_x, whole_m, whole_n]
    unfold wt1
    rfl
  · refine (fst_of (snd_of (snd_of (outsAt0_B m c t h0)))).trans ?_
    refine (later_u (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg3) (V m c main_arg4) fun h => h0 ((hcond0_0 t).mp h)).trans ?_
    rw [whole_x, whole_m, whole_n, (kept m c _ _).1]

theorem after_y : (dats m 0 c).after 6 t = yAt m c t := by
  rw [after0_6]
  unfold yAt
  by_cases h0 : t.val % 34 = 0
  · refine (fst_of (snd_of (snd_of (snd_of (outsAt0_A m c t h0))))).trans ?_
    refine (first_y (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (V m c main_arg3) (V m c main_arg4) ((hcond0_0 t).mpr h0)).trans ?_
    rw [whole_x, whole_m, whole_n]
    unfold wt1 wt2
    rfl
  · refine (fst_of (snd_of (snd_of (snd_of (outsAt0_B m c t h0))))).trans ?_
    refine (later_y (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (V m c main_arg3) (V m c main_arg4) fun h => h0 ((hcond0_0 t).mp h)).trans ?_
    rw [whole_x, whole_m, whole_n, (kept m c _ _).1, (kept m c _ _).2]

/-! ## The arrays the call leaves -/

theorem idx_wide (y : S1x256x4096.Idx) : ∃ (r : Fin 256) (n : Fin 4096), y = ix3 0 r n := idx_eq y
theorem idx_narrow (y : S1x256x1024.Idx) : ∃ (r : Fin 256) (n : Fin 1024), y = ix3 0 r n := idx_eq y

/-- The normed rows of a point's block are the normed rows of the array. -/
theorem normed_rows (r : Fin 256) (l : Fin 1024) :
    (hMat (F := Ideal) (bX m c t) (bM m c t) (bN m c t) (ix2 r l) : EReal) = rowOf (opX m c) (opM m c) (opN m c) (pB t) (pR t r) l := by
  rw [hMat_at]
  unfold rowOf
  have e0 : (fun k => bX m c t (ix3 0 r k) : Fin 1024 → EReal) = fun k => opX m c (ix3 (pB t) (pR t r) k) := funext fun k => blk0 m c t r k
  have e1 : (fun k => bN m c t (ix2 0 k) : Fin 1024 → EReal) = fun k => opN m c (ix2 0 k) := funext fun k => blk2 m c t k
  have e2 : (fun k => bM m c t (ix4 0 0 4 k) : Fin 1024 → EReal) = fun k => opM m c (ix4 (pB t) (stream (pR t r)) 4 k) := funext fun k => blk1 m c t r 4 k
  have e3 : (fun k => bM m c t (ix4 0 0 3 k) : Fin 1024 → EReal) = fun k => opM m c (ix4 (pB t) (stream (pR t r)) 3 k) := funext fun k => blk1 m c t r 3 k
  rw [e0, e1, e2, e3]

theorem normed_row (r : Fin 256) :
    (fun l => hMat (F := Ideal) (bX m c t) (bM m c t) (bN m c t) (ix2 r l) : Fin 1024 → EReal) = rowOf (opX m c) (opM m c) (opN m c) (pB t) (pR t r) :=
  funext fun l => normed_rows m c t r l

theorem hAt_at (r : Fin 256) (l : Fin 1024) : hAt m c t (ix3 0 r l) = hOf (opX m c) (opM m c) (opN m c) (ix3 (pB t) (pR t r) l) := by
  unfold hAt
  refine (hBlock_at _ _ _ r l).trans ((normed_rows m c t r l).trans ?_)
  rfl

theorem uAt_at (r : Fin 256) (n : Fin 4096) : uAt m c t (ix3 0 r n) = uOf (opX m c) (opM m c) (opN m c) (wt1 m c) (ix3 (pB t) (pR t r) n) := by
  unfold uAt
  refine (uBlock_at _ _ _ _ r n).trans ?_
  rw [normed_row]
  rfl

theorem yAt_at (r : Fin 256) (l : Fin 1024) : yAt m c t (ix3 0 r l) = yOf (opX m c) (opM m c) (opN m c) (wt1 m c) (wt2 m c) (ix3 (pB t) (pR t r) l) := by
  unfold yAt
  refine (yBlock_at _ _ _ _ _ r l).trans ?_
  rw [normed_row]
  rfl

theorem xAt_at (r : Fin 256) (l : Fin 1024) : xAt m c t (ix3 0 r l) = xOf (opX m c) (opM m c) (opN m c) (wt1 m c) (wt2 m c) (ix3 (pB t) (pR t r) l) := by
  unfold xAt
  refine (xBlock_at _ _ _ _ _ r l).trans ?_
  rw [normed_row]
  unfold xOf
  exact congrArg₂ (HAdd.hAdd (α := EReal) (β := EReal)) (blk0 m c t r l) (congrArg₂ (HMul.hMul (α := EReal) (β := EReal)) (blk1 m c t r 5 l) rfl)

attribute [local irreducible] hAt uAt yAt xAt

theorem final_x : (dats m 0 c).arrAt 3 cfg0.N = xOf (opX m c) (opM m c) (opN m c) (wt1 m c) (wt2 m c) := by
  refine (dats m 0 c).arrAt_eq_of_covers 3 _ (by decide +kernel) fun t hf y => ?_
  rw [after_x]
  obtain ⟨r, n, rfl⟩ := idx_narrow y
  exact (xAt_at m c t r n).trans (congrArg (xOf (opX m c) (opM m c) (opN m c) (wt1 m c) (wt2 m c)) (emb3 t r n)).symm

theorem final_h : (dats m 0 c).arrAt 4 cfg0.N = hOf (opX m c) (opM m c) (opN m c) := by
  refine (dats m 0 c).arrAt_eq_of_covers 4 _ (by decide +kernel) fun t hf y => ?_
  rw [after_h]
  obtain ⟨r, n, rfl⟩ := idx_narrow y
  exact (hAt_at m c t r n).trans (congrArg (hOf (opX m c) (opM m c) (opN m c)) (emb4 t r n)).symm

theorem final_u : (dats m 0 c).arrAt 5 cfg0.N = uOf (opX m c) (opM m c) (opN m c) (wt1 m c) := by
  refine (dats m 0 c).arrAt_eq_of_covers 5 _ (by decide +kernel) fun t hf y => ?_
  rw [after_u]
  obtain ⟨r, n, rfl⟩ := idx_wide y
  exact (uAt_at m c t r n).trans (congrArg (uOf (opX m c) (opM m c) (opN m c) (wt1 m c)) (emb5 t r n)).symm

theorem final_y : (dats m 0 c).arrAt 6 cfg0.N = yOf (opX m c) (opM m c) (opN m c) (wt1 m c) (wt2 m c) := by
  refine (dats m 0 c).arrAt_eq_of_covers 6 _ (by decide +kernel) fun t hf y => ?_
  rw [after_y]
  obtain ⟨r, n, rfl⟩ := idx_narrow y
  exact (yAt_at m c t r n).trans (congrArg (yOf (opX m c) (opM m c) (opN m c) (wt1 m c) (wt2 m c)) (emb6 t r n)).symm

theorem opX_eq : opX m c = m ((c.tc : Thread nD τ).loc main_arg0) := by unfold opX; exact V_main_arg0 m c
theorem opM_eq : opM m c = m ((c.tc : Thread nD τ).loc main_arg1) := by unfold opM; exact V_main_arg1 m c
theorem opN_eq : opN m c = m ((c.tc : Thread nD τ).loc main_arg2) := by unfold opN; exact V_main_arg2 m c
theorem wt1_eq : wt1 m c = m ((c.tc : Thread nD τ).loc main_arg3) := by
  unfold wt1
  rw [V_main_arg3]
  rfl
theorem wt2_eq : wt2 m c = m ((c.tc : Thread nD τ).loc main_arg4) := by
  unfold wt2
  rw [V_main_arg4]
  rfl

end Cert.Kernel7Ideal.Ffn

end
-- ==== Proof.FfnRef.lean ====
/-
The plain `mlp_fwd` of the reference, element by element: the same four arrays.
-/
module

public import proofs.«01_k».proof.Proof.FfnVal
public import proofs.«01_k».proof.Proof.MlpRef
public import proofs.«01_k».proof.Proof.Gen.Reference7Ideal.Read
public import Idealize.ShloMosaic.Lib.KernelVsHost

@[expose] public section

set_option maxRecDepth 16384

noncomputable section

namespace Cert.Kernel7Ideal.Ffn

open Idealize.ShloMosaic Idealize.ShloMosaic.TcCoe Idealize.SL.Sem
open Cert.Kernel7Ideal.Gen
open Cert.Kernel6Ideal.Mlp (stream zero_bits)
open Cert.Grad
open Cert.Reference7Ideal.Read

variable (x0 : FVec Ideal S2x4352x1024 .f32) (x1 : FVec Ideal S2x2x8x1024 .f32) (x2 : FVec Ideal S1x1024 .f32) (x3 : FVec Ideal S8x1024x512 .bf16) (x4 : FVec Ideal S8x512x1024 .bf16)

theorem one_bits : Ideal.ofBits .f32 0x3F800000#32 = (1 : EReal) := Ideal.ofBits_one_f32

/-! ## The normed rows -/

/-- The squares' sum of a row of the context, -/
theorem ctx_squares (b : Fin 2) (r : Fin 256) :
    (val_main_v8 (F := Ideal) x0 (ix3 b r 0) : EReal) = ∑ k : Fin 1024, HMul.hMul (α := EReal) (β := EReal) (x0 (ix3 b ⟨r, by omega⟩ k)) (x0 (ix3 b ⟨r, by omega⟩ k)) := by
  unfold val_main_v8 val_main_v7 val_main_v6 val_main_v5
  pointwise
  rw [show (val_main_cst (F := Ideal) (Shape.Idx.first Cert.Reference7Ideal.Gen.h_S_) : EReal) = 0 from zero_bits, zero_add]

/-- and of the others. -/
theorem tgt_squares (b : Fin 2) (r : Fin 4096) :
    (val_main_v32 (F := Ideal) x0 (ix3 b r 0) : EReal) = ∑ k : Fin 1024, HMul.hMul (α := EReal) (β := EReal) (x0 (ix3 b ⟨256 + r, by omega⟩ k)) (x0 (ix3 b ⟨256 + r, by omega⟩ k)) := by
  unfold val_main_v32 val_main_v31 val_main_v30 val_main_v29
  pointwise
  rw [show (val_main_cst_3 (F := Ideal) (Shape.Idx.first Cert.Reference7Ideal.Gen.h_S_) : EReal) = 0 from zero_bits, zero_add]

/-- A row of the context, normed and modulated by the context's rows, -/
theorem ctx_row (b : Fin 2) (r : Fin 256) (l : Fin 1024) :
    (val_main_v28 (F := Ideal) x0 x1 x2 (ix3 b r l) : EReal)
      = normed (fun k => x0 (ix3 b ⟨r, by omega⟩ k)) (fun k => x2 (ix2 0 k)) (fun k => x1 (ix4 b 0 4 k)) (fun k => x1 (ix4 b 0 3 k)) l := by
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v5
  pointwise
  rw [ctx_squares, show (val_main_cst_2 (F := Ideal) ix0 : EReal) = 1 from one_bits]
  rfl

/-- and one of the others by theirs. -/
theorem tgt_row (b : Fin 2) (r : Fin 4096) (l : Fin 1024) :
    (val_main_v52 (F := Ideal) x0 x1 x2 (ix3 b r l) : EReal)
      = normed (fun k => x0 (ix3 b ⟨256 + r, by omega⟩ k)) (fun k => x2 (ix2 0 k)) (fun k => x1 (ix4 b 1 4 k)) (fun k => x1 (ix4 b 1 3 k)) l := by
  unfold val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v29
  pointwise
  rw [tgt_squares, show (val_main_cst_6 (F := Ideal) ix0 : EReal) = 1 from one_bits]
  rfl

/-- The normed rows, both streams. -/
theorem rows_all (b : Fin 2) (r : Fin 4352) (l : Fin 1024) : (val_main_v53 (F := Ideal) x0 x1 x2 (ix3 b r l) : EReal) = rowOf x0 x1 x2 b r l := by
  unfold val_main_v53
  pointwise
  unfold rowOf stream
  by_cases h : (r : ℕ) < 256
  · rw [dif_pos h, if_pos h, ctx_row]
  · have e : (⟨256 + ((r : ℕ) - 256), by omega⟩ : Fin 4352) = r := Fin.ext (by show 256 + ((r : ℕ) - 256) = r; omega)
    rw [dif_neg h, if_neg h, tgt_row, e]

/-! ## The two products -/

theorem weight1 (k : Fin 1024) (n : Fin 4096) : (val_main_v2 (F := Ideal) x3 (ix2 k n) : EReal) = x3 (ix3 ⟨(n : ℕ) / 512, by omega⟩ k ⟨(n : ℕ) % 512, by omega⟩) := by
  unfold val_main_v2 val_main_v1 val_main_v0
  pointwise

theorem weight2 (n : Fin 4096) (l : Fin 1024) : (val_main_v4 (F := Ideal) x4 (ix2 n l) : EReal) = x4 (ix3 ⟨(n : ℕ) / 512, by omega⟩ ⟨(n : ℕ) % 512, by omega⟩ l) := by
  unfold val_main_v4 val_main_v3
  pointwise

theorem hidden_all (b : Fin 2) (r : Fin 4352) (n : Fin 4096) :
    (val_main_v54 (F := Ideal) x0 x1 x2 x3 (ix3 b r n) : EReal) = hid (rowOf x0 x1 x2 b r) x3 ⟨(n : ℕ) / 512, by omega⟩ ⟨(n : ℕ) % 512, by omega⟩ := by
  unfold val_main_v54
  pointwise
  exact Finset.sum_congr rfl fun k _ => congrArg₂ (HMul.hMul (α := EReal) (β := EReal)) (rows_all x0 x1 x2 b r k) (weight1 x3 k n)

/-- A sum over the 4096 hidden columns, slab by slab. -/
theorem by_slabs (f : Fin 8 → Fin 512 → EReal) : ∑ n : Fin 4096, f ⟨(n : ℕ) / 512, by omega⟩ ⟨(n : ℕ) % 512, by omega⟩ = ∑ k : Fin 8, ∑ j : Fin 512, f k j := by
  rw [← Fintype.sum_prod_type']
  refine Fintype.sum_equiv (finProdFinEquiv (m := 8) (n := 512)).symm _ _ fun n => ?_
  rfl

theorem out_all (b : Fin 2) (r : Fin 4352) (l : Fin 1024) :
    (val_main_v57 (F := Ideal) x0 x1 x2 x3 x4 (ix3 b r l) : EReal) = ∑ k : Fin 8, term (rowOf x0 x1 x2 b r) x3 x4 k l := by
  unfold val_main_v57 val_main_v56 val_main_v55 val_main_call0_v0
  pointwise
  rw [show (val_main_call0_cst (F := Ideal) ix0 : EReal) = 0 from zero_bits]
  refine Eq.trans (Finset.sum_congr rfl fun n _ => ?_) (by_slabs fun k j => HMul.hMul (α := EReal) (β := EReal) (max (hid (rowOf x0 x1 x2 b r) x3 k j) 0 * max (hid (rowOf x0 x1 x2 b r) x3 k j) 0) (x4 (ix3 k j l)))
  rw [hidden_all, weight2]

/-! ## The gated sum -/

theorem ctx_gated (b : Fin 2) (r : Fin 256) (l : Fin 1024) :
    (val_main_v62 (F := Ideal) x0 x1 x2 x3 x4 (ix3 b r l) : EReal) = x1 (ix4 b 0 5 l) * val_main_v57 (F := Ideal) x0 x1 x2 x3 x4 (ix3 b ⟨r, by omega⟩ l) := by
  unfold val_main_v62 val_main_v61 val_main_v60 val_main_v59 val_main_v58
  pointwise

theorem tgt_gated (b : Fin 2) (r : Fin 4096) (l : Fin 1024) :
    (val_main_v67 (F := Ideal) x0 x1 x2 x3 x4 (ix3 b r l) : EReal) = x1 (ix4 b 1 5 l) * val_main_v57 (F := Ideal) x0 x1 x2 x3 x4 (ix3 b ⟨256 + r, by omega⟩ l) := by
  unfold val_main_v67 val_main_v66 val_main_v65 val_main_v64 val_main_v63
  pointwise

theorem gated_all (b : Fin 2) (r : Fin 4352) (l : Fin 1024) :
    (val_main_v68 (F := Ideal) x0 x1 x2 x3 x4 (ix3 b r l) : EReal) = x1 (ix4 b (stream r) 5 l) * ∑ k : Fin 8, term (rowOf x0 x1 x2 b r) x3 x4 k l := by
  unfold val_main_v68
  pointwise
  unfold stream
  rw [← out_all]
  by_cases h : (r : ℕ) < 256
  · rw [dif_pos h, if_pos h, ctx_gated]
  · have e : (⟨256 + ((r : ℕ) - 256), by omega⟩ : Fin 4352) = r := Fin.ext (by show 256 + ((r : ℕ) - 256) = r; omega)
    rw [dif_neg h, if_neg h, tgt_gated, e]

/-! ## The four results -/

theorem idx_rows (i : S2x4352x1024.Idx) : ∃ (b : Fin 2) (r : Fin 4352) (l : Fin 1024), i = ix3 b r l := ⟨i 0, i 1, i 2, eq_ix3 i⟩
theorem idx_hidden (i : S2x4352x4096.Idx) : ∃ (b : Fin 2) (r : Fin 4352) (l : Fin 4096), i = ix3 b r l := ⟨i 0, i 1, i 2, eq_ix3 i⟩

theorem ref_h : val_main_v70 (F := Ideal) x0 x1 x2 = hOf x0 x1 x2 := by
  funext i
  obtain ⟨b, r, l, rfl⟩ := idx_rows i
  rw [val_main_v70_apply]
  show (val_main_v53 (F := Ideal) x0 x1 x2 (ix3 b r l) : EReal) = rowOf x0 x1 x2 b r l
  exact rows_all x0 x1 x2 b r l

theorem ref_u : val_main_v71 (F := Ideal) x0 x1 x2 x3 = uOf x0 x1 x2 x3 := by
  funext i
  obtain ⟨b, r, l, rfl⟩ := idx_hidden i
  rw [val_main_v71_apply]
  show (val_main_v54 (F := Ideal) x0 x1 x2 x3 (ix3 b r l) : EReal) = hid (rowOf x0 x1 x2 b r) x3 ⟨(l : ℕ) / 512, by omega⟩ ⟨(l : ℕ) % 512, by omega⟩
  exact hidden_all x0 x1 x2 x3 b r l

theorem ref_y : val_main_v72 (F := Ideal) x0 x1 x2 x3 x4 = yOf x0 x1 x2 x3 x4 := by
  funext i
  obtain ⟨b, r, l, rfl⟩ := idx_rows i
  rw [val_main_v72_apply]
  show (val_main_v57 (F := Ideal) x0 x1 x2 x3 x4 (ix3 b r l) : EReal) = ∑ k : Fin 8, term (rowOf x0 x1 x2 b r) x3 x4 k l
  exact out_all x0 x1 x2 x3 x4 b r l

theorem ref_x : val_main_v69 (F := Ideal) x0 x1 x2 x3 x4 = xOf x0 x1 x2 x3 x4 := by
  funext i
  obtain ⟨b, r, l, rfl⟩ := idx_rows i
  rw [val_main_v69_apply]
  show HAdd.hAdd (α := EReal) (β := EReal) (x0 (ix3 b r l)) (val_main_v68 (F := Ideal) x0 x1 x2 x3 x4 (ix3 b r l))
    = HAdd.hAdd (α := EReal) (β := EReal) (x0 (ix3 b r l)) (x1 (ix4 b (stream r) 5 l) * ∑ k : Fin 8, term (rowOf x0 x1 x2 b r) x3 x4 k l)
  rw [gated_all]

end Cert.Kernel7Ideal.Ffn

end
-- ==== Proof.HeadBlock.lean ====
/-
What the body of the last layer's `mlp_fwd_head` leaves in the buffers of three of its results, the normed rows, the hidden
layer and the MLP's output. On a block of the latents they are what `mlp_fwd` leaves; on a block of the context, whose MLP the
last layer leaves out, they are zeros. The first point also copies the weights in.
-/
module

public import proofs.«01_k».proof.Proof.FfnVal
public import proofs.«01_k».proof.Proof.Gen.Kernel8Ideal.Value

@[expose] public section

set_option maxRecDepth 16384

noncomputable section

namespace Cert.Kernel8Ideal.Head

open Idealize.ShloMosaic Idealize.ShloMosaic.TcCoe Idealize.SL.Sem
open Cert.Kernel8Ideal.Gen
open Cert.Kernel6Ideal.Mlp (read_whole off3)
open Cert.Kernel7Ideal.Ffn (allX allM allN part1 part2 hPieces uPieces yPieces)
open Cert.Grad

variable {F : FTy → Type} [FloatOps F]

/-- The whole block of the hidden layer. -/
abbrev allU : Rect S1x256x4096 := Rect.unit (s := S1x256x4096) ![0, 0, 0] S1x256x4096.size inb_S1x256x4096_S1x256x4096_0_0_0

section
variable (c : Dev nD) (i : grid0.Coords) (arg2 : Memref sig .tc .vmem S1x256x1024 .f32) (harg2 : arg2.IsWhole) (arg3 : Memref sig .tc .vmem S1x1x8x1024 .f32) (harg3 : arg3.IsWhole) (arg4 : Memref sig .tc .vmem S1x1024 .f32) (harg4 : arg4.IsWhole) (arg7 : Memref sig .tc .vmem S1x256x1024 .f32) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S1x256x1024 .bf16) (harg10 : arg10.IsWhole) (arg11 : Memref sig .tc .vmem S1x256x4096 .bf16) (harg11 : arg11.IsWhole) (arg12 : Memref sig .tc .vmem S1x256x1024 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S8x1024x512 .bf16) (harg15 : arg15.IsWhole) (arg16 : Memref sig .tc .vmem S8x512x1024 .bf16) (harg16 : arg16.IsWhole)
  (x0 : Vec F S1x256x1024 .f32) (x1 : Vec F S1x1x8x1024 .f32) (x2 : Vec F S1x1024 .f32) (x3 : Vec F S1x256x1024 .f32) (x4 : Vec F S1x1024 .f32) (xo9 : Vec F S8x128 .f32) (xo10 : Vec F S8x1024 .f32) (xs0 : Vec F S8x1024x512 .bf16) (xs1 : Vec F S8x512x1024 .bf16) (fh0 : HbBuf0 (F := F) c hbM0_0) (fh1 : HbBuf0 (F := F) c hbM0_1)

/-! ## The context's blocks -/

theorem first_h (hc0 : cond0_0 i) (hc1 : cond0_1 i) (hc2 : cond0_2 i) (hc3 : ¬cond0_3 i) (hc4 : cond0_4 i) (hc5 : ¬cond0_5 i) (hc6 : ¬cond0_6 i) : out0_A_6 c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 fh0 fh1 = k0_pay5 (F := F) := by
  have e : (kernelRun0_A c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 fh0 fh1).2.1 = [⟨allX, k0_pay5 (F := F)⟩] := rfl
  unfold out0_A_6
  rw [View.read_writes_eq_canon _ _ _ (cover0_A_6 c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 fh0 fh1), e]
  exact View.canon_unit_zero (Val := Elt F) (S := S1x256x1024) (e := .bf16) (off := ![0, 0, 0]) off3 _ _

theorem first_u (hc0 : cond0_0 i) (hc1 : cond0_1 i) (hc2 : cond0_2 i) (hc3 : ¬cond0_3 i) (hc4 : cond0_4 i) (hc5 : ¬cond0_5 i) (hc6 : ¬cond0_6 i) : out0_A_7 c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 fh0 fh1 = k0_pay6 (F := F) := by
  have e : (kernelRun0_A c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 fh0 fh1).2.2.1 = [⟨allU, k0_pay6 (F := F)⟩] := rfl
  unfold out0_A_7
  rw [View.read_writes_eq_canon _ _ _ (cover0_A_7 c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 fh0 fh1), e]
  exact View.canon_unit_zero (Val := Elt F) (S := S1x256x4096) (e := .bf16) (off := ![0, 0, 0]) off3 _ _

theorem first_y (hc0 : cond0_0 i) (hc1 : cond0_1 i) (hc2 : cond0_2 i) (hc3 : ¬cond0_3 i) (hc4 : cond0_4 i) (hc5 : ¬cond0_5 i) (hc6 : ¬cond0_6 i) : out0_A_8 c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 fh0 fh1 = k0_pay7 (F := F) := by
  have e : (kernelRun0_A c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 fh0 fh1).2.2.2.1 = [⟨allX, k0_pay7 (F := F)⟩] := rfl
  unfold out0_A_8
  rw [View.read_writes_eq_canon _ _ _ (cover0_A_8 c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 fh0 fh1), e]
  exact View.canon_unit_zero (Val := Elt F) (S := S1x256x1024) (e := .bf16) (off := ![0, 0, 0]) off3 _ _

theorem context_h (hc0 : ¬cond0_0 i) (hc1 : cond0_1 i) (hc2 : ¬cond0_2 i) (hc3 : cond0_3 i) (hc4 : ¬cond0_4 i) (hc5 : cond0_5 i) (hc6 : ¬cond0_6 i) : out0_C_6 c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 xo9 xo10 xs0 xs1 fh0 fh1 = k0_pay5 (F := F) := by
  have e : (kernelRun0_C c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 xo9 xo10 xs0 xs1 fh0 fh1).2.1 = [⟨allX, k0_pay5 (F := F)⟩] := rfl
  unfold out0_C_6
  rw [View.read_writes_eq_canon _ _ _ (cover0_C_6 c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 xo9 xo10 xs0 xs1 fh0 fh1), e]
  exact View.canon_unit_zero (Val := Elt F) (S := S1x256x1024) (e := .bf16) (off := ![0, 0, 0]) off3 _ _

theorem context_u (hc0 : ¬cond0_0 i) (hc1 : cond0_1 i) (hc2 : ¬cond0_2 i) (hc3 : cond0_3 i) (hc4 : ¬cond0_4 i) (hc5 : cond0_5 i) (hc6 : ¬cond0_6 i) : out0_C_7 c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 xo9 xo10 xs0 xs1 fh0 fh1 = k0_pay6 (F := F) := by
  have e : (kernelRun0_C c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 xo9 xo10 xs0 xs1 fh0 fh1).2.2.1 = [⟨allU, k0_pay6 (F := F)⟩] := rfl
  unfold out0_C_7
  rw [View.read_writes_eq_canon _ _ _ (cover0_C_7 c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 xo9 xo10 xs0 xs1 fh0 fh1), e]
  exact View.canon_unit_zero (Val := Elt F) (S := S1x256x4096) (e := .bf16) (off := ![0, 0, 0]) off3 _ _

theorem context_y (hc0 : ¬cond0_0 i) (hc1 : cond0_1 i) (hc2 : ¬cond0_2 i) (hc3 : cond0_3 i) (hc4 : ¬cond0_4 i) (hc5 : cond0_5 i) (hc6 : ¬cond0_6 i) : out0_C_8 c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 xo9 xo10 xs0 xs1 fh0 fh1 = k0_pay7 (F := F) := by
  have e : (kernelRun0_C c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 xo9 xo10 xs0 xs1 fh0 fh1).2.2.2.1 = [⟨allX, k0_pay7 (F := F)⟩] := rfl
  unfold out0_C_8
  rw [View.read_writes_eq_canon _ _ _ (cover0_C_8 c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 xo9 xo10 xs0 xs1 fh0 fh1), e]
  exact View.canon_unit_zero (Val := Elt F) (S := S1x256x1024) (e := .bf16) (off := ![0, 0, 0]) off3 _ _

/-! ## The weights -/

theorem first_w1 (hc0 : cond0_0 i) (hc1 : cond0_1 i) (hc2 : cond0_2 i) (hc3 : ¬cond0_3 i) (hc4 : cond0_4 i) (hc5 : ¬cond0_5 i) (hc6 : ¬cond0_6 i) : sout0_A_0 c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 fh0 fh1 = hbM0_0.view.read (Elt F) fh0 :=
  read_whole VS0_0 _ _

theorem first_w2 (hc0 : cond0_0 i) (hc1 : cond0_1 i) (hc2 : cond0_2 i) (hc3 : ¬cond0_3 i) (hc4 : cond0_4 i) (hc5 : ¬cond0_5 i) (hc6 : ¬cond0_6 i) : sout0_A_1 c i arg2 harg2 arg3 harg3 arg4 harg4 arg7 harg7 arg8 harg8 arg9 harg9 arg10 harg10 arg11 harg11 arg12 harg12 arg13 harg13 arg14 harg14 arg15 harg15 arg16 harg16 hc0 hc1 hc2 hc3 hc4 hc5 hc6 x0 x1 x2 x3 x4 fh0 fh1 = hbM0_1.view.read (Elt F) fh1 :=
  read_whole VS0_1 _ _

/-! ## The latents' blocks -/

set_option maxHeartbeats 4000000 in
theorem latent_h (hc0 : ¬cond0_0 i) (hc1 : ¬cond0_1 i) (hc6 : cond0_6 i) (hc7 : ¬cond0_7 i) (hc8 : cond0_8 i) (hc9 : ¬cond0_9 i) (hc10 : cond0_10 i) : out0_B_6 c i arg2 harg2 arg3 harg3 arg4 harg4 arg7 harg7 arg8 harg8 arg9 harg9 arg10 harg10 arg11 harg11 arg12 harg12 arg13 harg13 arg14 harg14 arg15 harg15 arg16 harg16 hc0 hc1 hc6 hc7 hc8 hc9 hc10 x0 x1 x2 x3 x4 xo9 xo10 xs0 xs1 fh0 fh1 = View.canon (hPieces (View.ld x0 allX) (View.ld x1 allM) (View.ld x2 allN)) := by
  have e : (kernelRun0_B c i arg2 harg2 arg3 harg3 arg4 harg4 arg7 harg7 arg8 harg8 arg9 harg9 arg10 harg10 arg11 harg11 arg12 harg12 arg13 harg13 arg14 harg14 arg15 harg15 arg16 harg16 hc0 hc1 hc6 hc7 hc8 hc9 hc10 x0 x1 x2 x3 x4 xo9 xo10 xs0 xs1 fh0 fh1).2.1 = hPieces (View.ld (arg2.view.read (Elt F) (harg2.unread x0)) allX) (View.ld (arg3.view.read (Elt F) (harg3.unread x1)) allM) (View.ld (arg4.view.read (Elt F) (harg4.unread x2)) allN) := rfl
  unfold out0_B_6
  rw [View.read_writes_eq_canon _ _ _ (cover0_B_6 c i arg2 harg2 arg3 harg3 arg4 harg4 arg7 harg7 arg8 harg8 arg9 harg9 arg10 harg10 arg11 harg11 arg12 harg12 arg13 harg13 arg14 harg14 arg15 harg15 arg16 harg16 hc0 hc1 hc6 hc7 hc8 hc9 hc10 x0 x1 x2 x3 x4 xo9 xo10 xs0 xs1 fh0 fh1), e, harg2.read_unread, harg3.read_unread, harg4.read_unread]

set_option maxHeartbeats 4000000 in
theorem latent_u (hc0 : ¬cond0_0 i) (hc1 : ¬cond0_1 i) (hc6 : cond0_6 i) (hc7 : ¬cond0_7 i) (hc8 : cond0_8 i) (hc9 : ¬cond0_9 i) (hc10 : cond0_10 i) : out0_B_7 c i arg2 harg2 arg3 harg3 arg4 harg4 arg7 harg7 arg8 harg8 arg9 harg9 arg10 harg10 arg11 harg11 arg12 harg12 arg13 harg13 arg14 harg14 arg15 harg15 arg16 harg16 hc0 hc1 hc6 hc7 hc8 hc9 hc10 x0 x1 x2 x3 x4 xo9 xo10 xs0 xs1 fh0 fh1 = View.canon (uPieces (View.ld x0 allX) (View.ld x1 allM) (View.ld x2 allN) (fun k => View.ld xs0 (part1 k))) := by
  have e : (kernelRun0_B c i arg2 harg2 arg3 harg3 arg4 harg4 arg7 harg7 arg8 harg8 arg9 harg9 arg10 harg10 arg11 harg11 arg12 harg12 arg13 harg13 arg14 harg14 arg15 harg15 arg16 harg16 hc0 hc1 hc6 hc7 hc8 hc9 hc10 x0 x1 x2 x3 x4 xo9 xo10 xs0 xs1 fh0 fh1).2.2.1 = uPieces (View.ld (arg2.view.read (Elt F) (harg2.unread x0)) allX) (View.ld (arg3.view.read (Elt F) (harg3.unread x1)) allM) (View.ld (arg4.view.read (Elt F) (harg4.unread x2)) allN) (fun k => View.ld (arg15.view.read (Elt F) (harg15.unread xs0)) (part1 k)) := rfl
  unfold out0_B_7
  rw [View.read_writes_eq_canon _ _ _ (cover0_B_7 c i arg2 harg2 arg3 harg3 arg4 harg4 arg7 harg7 arg8 harg8 arg9 harg9 arg10 harg10 arg11 harg11 arg12 harg12 arg13 harg13 arg14 harg14 arg15 harg15 arg16 harg16 hc0 hc1 hc6 hc7 hc8 hc9 hc10 x0 x1 x2 x3 x4 xo9 xo10 xs0 xs1 fh0 fh1), e, harg2.read_unread, harg3.read_unread, harg4.read_unread, harg15.read_unread]

set_option maxHeartbeats 4000000 in
theorem latent_y (hc0 : ¬cond0_0 i) (hc1 : ¬cond0_1 i) (hc6 : cond0_6 i) (hc7 : ¬cond0_7 i) (hc8 : cond0_8 i) (hc9 : ¬cond0_9 i) (hc10 : cond0_10 i) : out0_B_8 c i arg2 harg2 arg3 harg3 arg4 harg4 arg7 harg7 arg8 harg8 arg9 harg9 arg10 harg10 arg11 harg11 arg12 harg12 arg13 harg13 arg14 harg14 arg15 harg15 arg16 harg16 hc0 hc1 hc6 hc7 hc8 hc9 hc10 x0 x1 x2 x3 x4 xo9 xo10 xs0 xs1 fh0 fh1 = View.canon (yPieces (View.ld x0 allX) (View.ld x1 allM) (View.ld x2 allN) (fun k => View.ld xs0 (part1 k)) (fun k => View.ld xs1 (part2 k))) := by
  have e : (kernelRun0_B c i arg2 harg2 arg3 harg3 arg4 harg4 arg7 harg7 arg8 harg8 arg9 harg9 arg10 harg10 arg11 harg11 arg12 harg12 arg13 harg13 arg14 harg14 arg15 harg15 arg16 harg16 hc0 hc1 hc6 hc7 hc8 hc9 hc10 x0 x1 x2 x3 x4 xo9 xo10 xs0 xs1 fh0 fh1).2.2.2.1 = yPieces (View.ld (arg2.view.read (Elt F) (harg2.unread x0)) allX) (View.ld (arg3.view.read (Elt F) (harg3.unread x1)) allM) (View.ld (arg4.view.read (Elt F) (harg4.unread x2)) allN) (fun k => View.ld (arg15.view.read (Elt F) (harg15.unread xs0)) (part1 k)) (fun k => View.ld (arg16.view.read (Elt F) (harg16.unread xs1)) (part2 k)) := rfl
  unfold out0_B_8
  rw [View.read_writes_eq_canon _ _ _ (cover0_B_8 c i arg2 harg2 arg3 harg3 arg4 harg4 arg7 harg7 arg8 harg8 arg9 harg9 arg10 harg10 arg11 harg11 arg12 harg12 arg13 harg13 arg14 harg14 arg15 harg15 arg16 harg16 hc0 hc1 hc6 hc7 hc8 hc9 hc10 x0 x1 x2 x3 x4 xo9 xo10 xs0 xs1 fh0 fh1), e, harg2.read_unread, harg3.read_unread, harg4.read_unread, harg15.read_unread, harg16.read_unread]

end

end Cert.Kernel8Ideal.Head

end
-- ==== Proof.HeadRef.lean ====
/-
The plain last layer's MLP of the reference, element by element: the same three arrays.
-/
module

public import proofs.«01_k».proof.Proof.FfnRef
public import proofs.«01_k».proof.Proof.Gen.Reference8Ideal.Read

@[expose] public section

set_option maxRecDepth 16384

noncomputable section

namespace Cert.Kernel8Ideal.Head

open Idealize.ShloMosaic Idealize.ShloMosaic.TcCoe Idealize.SL.Sem
open Cert.Kernel7Ideal Cert.Kernel7Ideal.Gen
open Cert.Kernel6Ideal.Mlp (stream zero_bits)
open Cert.Kernel7Ideal.Ffn (normed hid term rowOf hOf uOf yOf one_bits by_slabs idx_rows idx_hidden)
open Cert.Grad
open Cert.Reference8Ideal.Read

/-! ## The arrays -/

/-- An array's latent rows, with zeros for the context's. -/
def latents {n : ℕ} (A : FVec Ideal ⟨3, ![2, 4352, n]⟩ .bf16) : FVec Ideal ⟨3, ![2, 4352, n]⟩ .bf16 := fun i => if (i 1 : ℕ) < 256 then (0 : EReal) else A i

variable (x0 : FVec Ideal S2x4352x1024 .f32) (x1 : FVec Ideal S2x2x8x1024 .f32) (x2 : FVec Ideal S1x1024 .f32) (x3 : FVec Ideal S8x1024x512 .bf16) (x4 : FVec Ideal S8x512x1024 .bf16)

/-- A latent's row among all the rows. -/
abbrev low (r : Fin 4096) : Fin 4352 := ⟨256 + r, by omega⟩

theorem low_back (r : Fin 4352) (h : ¬(r : ℕ) < 256) : low ⟨(r : ℕ) - 256, by omega⟩ = r := Fin.ext (by show 256 + ((r : ℕ) - 256) = r; omega)

/-! ## The normed rows -/

theorem squares (b : Fin 2) (r : Fin 4096) :
    (val_main_v8 (F := Ideal) x0 (ix3 b r 0) : EReal) = ∑ k : Fin 1024, HMul.hMul (α := EReal) (β := EReal) (x0 (ix3 b (low r) k)) (x0 (ix3 b (low r) k)) := by
  unfold val_main_v8 val_main_v7 val_main_v6 val_main_v5
  pointwise
  rw [show (val_main_cst (F := Ideal) (Shape.Idx.first Cert.Reference8Ideal.Gen.h_S_) : EReal) = 0 from zero_bits, zero_add]

theorem latent_row (b : Fin 2) (r : Fin 4096) (l : Fin 1024) : (val_main_v28 (F := Ideal) x0 x1 x2 (ix3 b r l) : EReal) = rowOf x0 x1 x2 b (low r) l := by
  have e : stream (low r) = 1 := if_neg (by show ¬256 + (r : ℕ) < 256; omega)
  unfold rowOf
  rw [e]
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v5
  pointwise
  rw [squares, show (val_main_cst_2 (F := Ideal) ix0 : EReal) = 1 from one_bits]
  rfl

/-! ## The two products -/

theorem weight1 (k : Fin 1024) (n : Fin 4096) : (val_main_v2 (F := Ideal) x3 (ix2 k n) : EReal) = x3 (ix3 ⟨(n : ℕ) / 512, by omega⟩ k ⟨(n : ℕ) % 512, by omega⟩) := by
  unfold val_main_v2 val_main_v1 val_main_v0
  pointwise

theorem weight2 (n : Fin 4096) (l : Fin 1024) : (val_main_v4 (F := Ideal) x4 (ix2 n l) : EReal) = x4 (ix3 ⟨(n : ℕ) / 512, by omega⟩ ⟨(n : ℕ) % 512, by omega⟩ l) := by
  unfold val_main_v4 val_main_v3
  pointwise

theorem hidden_row (b : Fin 2) (r : Fin 4096) (n : Fin 4096) :
    (val_main_v29 (F := Ideal) x0 x1 x2 x3 (ix3 b r n) : EReal) = hid (rowOf x0 x1 x2 b (low r)) x3 ⟨(n : ℕ) / 512, by omega⟩ ⟨(n : ℕ) % 512, by omega⟩ := by
  unfold val_main_v29
  pointwise
  exact Finset.sum_congr rfl fun k _ => congrArg₂ (HMul.hMul (α := EReal) (β := EReal)) (latent_row x0 x1 x2 b r k) (weight1 x3 k n)

theorem out_row (b : Fin 2) (r : Fin 4096) (l : Fin 1024) :
    (val_main_v32 (F := Ideal) x0 x1 x2 x3 x4 (ix3 b r l) : EReal) = ∑ k : Fin 8, term (rowOf x0 x1 x2 b (low r)) x3 x4 k l := by
  unfold val_main_v32 val_main_v31 val_main_v30 val_main_call0_v0
  pointwise
  rw [show (val_main_call0_cst (F := Ideal) ix0 : EReal) = 0 from zero_bits]
  refine Eq.trans (Finset.sum_congr rfl fun n _ => ?_) (by_slabs fun k j => HMul.hMul (α := EReal) (β := EReal) (max (hid (rowOf x0 x1 x2 b (low r)) x3 k j) 0 * max (hid (rowOf x0 x1 x2 b (low r)) x3 k j) 0) (x4 (ix3 k j l)))
  rw [hidden_row, weight2]

/-! ## The three results -/

theorem rows_h (b : Fin 2) (r : Fin 4352) (l : Fin 1024) : (val_main_v34 (F := Ideal) x0 x1 x2 (ix3 b r l) : EReal) = latents (hOf x0 x1 x2) (ix3 b r l) := by
  unfold val_main_v34 val_main_v33
  pointwise
  show _ = if (r : ℕ) < 256 then (0 : EReal) else hOf x0 x1 x2 (ix3 b r l)
  by_cases h : (r : ℕ) < 256
  · rw [dif_pos h, if_pos h]
    exact zero_bits
  · rw [dif_neg h, if_neg h, latent_row, low_back r h]
    rfl

theorem ref_h : val_main_v35 (F := Ideal) x0 x1 x2 = latents (hOf x0 x1 x2) := by
  funext i
  obtain ⟨b, r, l, rfl⟩ := idx_rows i
  rw [val_main_v35_apply]
  exact rows_h x0 x1 x2 b r l

theorem rows_u (b : Fin 2) (r : Fin 4352) (l : Fin 4096) : (val_main_v37 (F := Ideal) x0 x1 x2 x3 (ix3 b r l) : EReal) = latents (uOf x0 x1 x2 x3) (ix3 b r l) := by
  unfold val_main_v37 val_main_v36
  pointwise
  show _ = if (r : ℕ) < 256 then (0 : EReal) else uOf x0 x1 x2 x3 (ix3 b r l)
  by_cases h : (r : ℕ) < 256
  · rw [dif_pos h, if_pos h]
    exact zero_bits
  · rw [dif_neg h, if_neg h, hidden_row, low_back r h]
    rfl

theorem ref_u : val_main_v38 (F := Ideal) x0 x1 x2 x3 = latents (uOf x0 x1 x2 x3) := by
  funext i
  obtain ⟨b, r, l, rfl⟩ := idx_hidden i
  rw [val_main_v38_apply]
  exact rows_u x0 x1 x2 x3 b r l

theorem rows_y (b : Fin 2) (r : Fin 4352) (l : Fin 1024) : (val_main_v40 (F := Ideal) x0 x1 x2 x3 x4 (ix3 b r l) : EReal) = latents (yOf x0 x1 x2 x3 x4) (ix3 b r l) := by
  unfold val_main_v40 val_main_v39
  pointwise
  show _ = if (r : ℕ) < 256 then (0 : EReal) else yOf x0 x1 x2 x3 x4 (ix3 b r l)
  by_cases h : (r : ℕ) < 256
  · rw [dif_pos h, if_pos h]
    exact zero_bits
  · rw [dif_neg h, if_neg h, out_row, low_back r h]
    rfl

theorem ref_y : val_main_v41 (F := Ideal) x0 x1 x2 x3 x4 = latents (yOf x0 x1 x2 x3 x4) := by
  funext i
  obtain ⟨b, r, l, rfl⟩ := idx_rows i
  rw [val_main_v41_apply]
  exact rows_y x0 x1 x2 x3 x4 b r l

end Cert.Kernel8Ideal.Head

end
-- ==== Proof.HeadIn.lean ====
/-
The blocks the last layer's `mlp_fwd_head` reads, and the weights it keeps in scratch from its first point on.
-/
module

public import proofs.«01_k».proof.Proof.HeadBlock
public import proofs.«01_k».proof.Proof.HeadRef
public import proofs.«01_k».proof.Proof.FfnOut

@[expose] public section

set_option maxRecDepth 16384

noncomputable section

namespace Cert.Kernel8Ideal.Head

open Idealize.ShloMosaic Idealize.ShloMosaic.TcCoe Idealize.SL.Sem
open Idealize.ShloMosaic.Pipeline (Dat)
open Cert.Kernel8Ideal.Gen
open Cert.Kernel6Ideal.Mlp (ld_all off3 off4 stream zero_bits)
open Cert.Kernel7Ideal.Ffn (allX allM allN part1 part2 hMat hPieces uPieces yPieces hMat_at hBlock_at uBlock_at yBlock_at rowOf hOf uOf yOf fst_of snd_of off2 idx_wide idx_narrow)
open Cert.Grad

/-! ## Which rows a point works on -/

/-- The sequence and the rows of a point's blocks: its first block of a sequence is the context. -/
abbrev pB (t : Fin cfg0.N) : Fin 2 := ⟨t.val / 17, by have : t.val < 34 := t.isLt; omega⟩
abbrev pR (t : Fin cfg0.N) (r : Fin 256) : Fin 4352 := ⟨256 * (t.val % 17) + r, by omega⟩

theorem idx0 : ∀ t : Fin cfg0.N, ¬t.val % 17 = 0 → win0_0.index t = ![t.val / 17, t.val % 17, 0] := (by decide +kernel : ∀ t : Fin grid0.N, _)
theorem idx1 : ∀ t : Fin cfg0.N, ¬t.val % 17 = 0 → win0_1.index t = ![t.val / 17, 1, 0, 0] := (by decide +kernel : ∀ t : Fin grid0.N, _)
theorem idx2 : ∀ t : Fin cfg0.N, win0_2.index t = ![0, 0] := (by decide +kernel : ∀ t : Fin grid0.N, _)
theorem idx6 : ∀ t : Fin cfg0.N, win0_6.index t = ![t.val / 17, t.val % 17, 0] := (by decide +kernel : ∀ t : Fin grid0.N, _)
theorem idx7 : ∀ t : Fin cfg0.N, win0_7.index t = ![t.val / 17, t.val % 17, 0] := (by decide +kernel : ∀ t : Fin grid0.N, _)
theorem idx8 : ∀ t : Fin cfg0.N, win0_8.index t = ![t.val / 17, t.val % 17, 0] := (by decide +kernel : ∀ t : Fin grid0.N, _)

theorem emb0 (t : Fin cfg0.N) (ht : ¬t.val % 17 = 0) (r : Fin 256) (l : Fin 1024) :
    ((cfg0.win 0).blk t).view.emb (ix3 0 r l : S1x256x1024.Idx) = (ix3 (pB t) (pR t r) l : S2x4352x1024.Idx) := by
  have h := idx0 t ht
  refine ix3_of _ _ _ _ ?_ ?_ ?_
  · show win0_0.index t 0 * 1 + 1 * 0 = t.val / 17; rw [h]; simp
  · show win0_0.index t 1 * 256 + 1 * r.val = 256 * (t.val % 17) + r.val; rw [h]; simp; omega
  · show win0_0.index t 2 * 1024 + 1 * l.val = l.val; rw [h]; simp
theorem emb6 (t : Fin cfg0.N) (r : Fin 256) (l : Fin 1024) :
    ((cfg0.win 6).blk t).view.emb (ix3 0 r l : S1x256x1024.Idx) = (ix3 (pB t) (pR t r) l : S2x4352x1024.Idx) := by
  have h := idx6 t
  refine ix3_of _ _ _ _ ?_ ?_ ?_
  · show win0_6.index t 0 * 1 + 1 * 0 = t.val / 17; rw [h]; simp
  · show win0_6.index t 1 * 256 + 1 * r.val = 256 * (t.val % 17) + r.val; rw [h]; simp; omega
  · show win0_6.index t 2 * 1024 + 1 * l.val = l.val; rw [h]; simp
theorem emb7 (t : Fin cfg0.N) (r : Fin 256) (l : Fin 4096) :
    ((cfg0.win 7).blk t).view.emb (ix3 0 r l : S1x256x4096.Idx) = (ix3 (pB t) (pR t r) l : S2x4352x4096.Idx) := by
  have h := idx7 t
  refine ix3_of _ _ _ _ ?_ ?_ ?_
  · show win0_7.index t 0 * 1 + 1 * 0 = t.val / 17; rw [h]; simp
  · show win0_7.index t 1 * 256 + 1 * r.val = 256 * (t.val % 17) + r.val; rw [h]; simp; omega
  · show win0_7.index t 2 * 4096 + 1 * l.val = l.val; rw [h]; simp
theorem emb8 (t : Fin cfg0.N) (r : Fin 256) (l : Fin 1024) :
    ((cfg0.win 8).blk t).view.emb (ix3 0 r l : S1x256x1024.Idx) = (ix3 (pB t) (pR t r) l : S2x4352x1024.Idx) := by
  have h := idx8 t
  refine ix3_of _ _ _ _ ?_ ?_ ?_
  · show win0_8.index t 0 * 1 + 1 * 0 = t.val / 17; rw [h]; simp
  · show win0_8.index t 1 * 256 + 1 * r.val = 256 * (t.val % 17) + r.val; rw [h]; simp; omega
  · show win0_8.index t 2 * 1024 + 1 * l.val = l.val; rw [h]; simp
theorem emb1 (t : Fin cfg0.N) (ht : ¬t.val % 17 = 0) (k : Fin 8) (l : Fin 1024) :
    ((cfg0.win 1).blk t).view.emb (ix4 0 0 k l : S1x1x8x1024.Idx) = (ix4 (pB t) 1 k l : S2x2x8x1024.Idx) := by
  have h := idx1 t ht
  refine (eq_ix4 _).trans ((ix4_inj ..).2 ⟨Fin.ext ?_, Fin.ext ?_, Fin.ext ?_, Fin.ext ?_⟩)
  · show win0_1.index t 0 * 1 + 1 * 0 = t.val / 17; rw [h]; simp
  · show win0_1.index t 1 * 1 + 1 * 0 = 1; rw [h]; simp
  · show win0_1.index t 2 * 8 + 1 * k.val = k.val; rw [h]; simp
  · show win0_1.index t 3 * 1024 + 1 * l.val = l.val; rw [h]; simp
theorem emb2 (t : Fin cfg0.N) (l : Fin 1024) :
    ((cfg0.win 2).blk t).view.emb (ix2 0 l : S1x1024.Idx) = (ix2 0 l : S1x1024.Idx) := by
  have h := idx2 t
  refine (eq_ix2 _).trans ((ix2_inj ..).2 ⟨Fin.ext ?_, Fin.ext ?_⟩)
  · show win0_2.index t 0 * 1 + 1 * 0 = 0; rw [h]; simp
  · show win0_2.index t 1 * 1024 + 1 * l.val = l.val; rw [h]; simp

/-! ## The blocks read -/

variable (m : (ℓ : Loc nD τ sig) → Buf (Elt Ideal) ℓ)

/-- The rows, the modulation, the norm's weight and the two weights. -/
@[irreducible] def opX (c : Dev nD) : FVec Ideal S2x4352x1024 .f32 := V m c main_arg0
@[irreducible] def opM (c : Dev nD) : FVec Ideal S2x2x8x1024 .f32 := V m c main_arg1
@[irreducible] def opN (c : Dev nD) : FVec Ideal S1x1024 .f32 := V m c main_arg2
@[irreducible] def wt1 (c : Dev nD) : FVec Ideal S8x1024x512 .bf16 := hbM0_0.view.read (Elt Ideal) (V m c main_arg3)
@[irreducible] def wt2 (c : Dev nD) : FVec Ideal S8x512x1024 .bf16 := hbM0_1.view.read (Elt Ideal) (V m c main_arg4)

theorem blk0 (c : Dev nD) (t : Fin cfg0.N) (ht : ¬t.val % 17 = 0) (r : Fin 256) (l : Fin 1024) :
    iblk m c 0 t (ix3 0 r l : S1x256x1024.Idx) = opX m c (ix3 (pB t) (pR t r) l) := by
  have read : ∀ (X : FVec Ideal S2x4352x1024 .f32) i j, ((cfg0.win 0).blk t).view.emb i = j → ((cfg0.win 0).blk t).view.read (Elt Ideal) X i = X j := by
    intro X i j h; subst h; rfl
  unfold iblk opX
  exact read _ _ _ (emb0 t ht r l)
theorem blk1 (c : Dev nD) (t : Fin cfg0.N) (ht : ¬t.val % 17 = 0) (r : Fin 256) (k : Fin 8) (l : Fin 1024) :
    iblk m c 1 t (ix4 0 0 k l : S1x1x8x1024.Idx) = opM m c (ix4 (pB t) (stream (pR t r)) k l) := by
  have read : ∀ (X : FVec Ideal S2x2x8x1024 .f32) i j, ((cfg0.win 1).blk t).view.emb i = j → ((cfg0.win 1).blk t).view.read (Elt Ideal) X i = X j := by
    intro X i j h; subst h; rfl
  have e : stream (pR t r) = 1 := if_neg (by show ¬256 * (t.val % 17) + r.val < 256; omega)
  rw [e]
  unfold iblk opM
  exact read _ _ _ (emb1 t ht k l)
theorem blk2 (c : Dev nD) (t : Fin cfg0.N) (l : Fin 1024) :
    iblk m c 2 t (ix2 0 l : S1x1024.Idx) = opN m c (ix2 0 l) := by
  have read : ∀ (X : FVec Ideal S1x1024 .f32) i j, ((cfg0.win 2).blk t).view.emb i = j → ((cfg0.win 2).blk t).view.read (Elt Ideal) X i = X j := by
    intro X i j h; subst h; rfl
  unfold iblk opN
  exact read _ _ _ (emb2 t l)

/-! ## The weights in scratch -/

/-- At the first point the weights are brought into their scratch, -/
theorem brought (c : Dev nD) (t : Fin cfg0.N) (h0 : t.val % 34 = 0) : (outsAt0 m c t.val t.isLt).2.2.2.2.2.2.1 = wt1 m c ∧ (outsAt0 m c t.val t.isLt).2.2.2.2.2.2.2 = wt2 m c := by
  have h1 : t.val % 17 = 0 := by omega
  have h3 : ¬1 ≤ t.val := by have : t.val < 34 := t.isLt; omega
  have h6 : ¬1 ≤ t.val % 17 := by omega
  unfold wt1 wt2
  exact ⟨(fst_of (snd_of (snd_of (snd_of (snd_of (snd_of (snd_of (outsAt0_A m c t h0 h1 h0 h3 h0 h3 h6)))))))).trans (first_w1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (V m c main_arg3) (V m c main_arg4) ((hcond0_0 t).mpr h0) ((hcond0_1 t).mpr h1) ((hcond0_2 t).mpr h0) (fun h => h3 ((hcond0_3 t).mp h)) ((hcond0_4 t).mpr h0) (fun h => h3 ((hcond0_5 t).mp h)) (fun h => h6 ((hcond0_6 t).mp h))),
    (snd_of (snd_of (snd_of (snd_of (snd_of (snd_of (snd_of (outsAt0_A m c t h0 h1 h0 h3 h0 h3 h6)))))))).trans (first_w2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (V m c main_arg3) (V m c main_arg4) ((hcond0_0 t).mpr h0) ((hcond0_1 t).mpr h1) ((hcond0_2 t).mpr h0) (fun h => h3 ((hcond0_3 t).mp h)) ((hcond0_4 t).mpr h0) (fun h => h3 ((hcond0_5 t).mp h)) (fun h => h6 ((hcond0_6 t).mp h)))⟩

/-- and there they stay. -/
theorem kept (c : Dev nD) : ∀ (n : ℕ) (h : n < cfg0.N), (outsAt0 m c n h).2.2.2.2.2.2.1 = wt1 m c ∧ (outsAt0 m c n h).2.2.2.2.2.2.2 = wt2 m c := by
  intro n
  induction n with
  | zero => exact fun h => brought m c ⟨0, h⟩ rfl
  | succ n ih =>
    intro h
    have hn : n + 1 < 34 := h
    have h0 : ¬(n + 1) % 34 = 0 := by omega
    have h3 : 1 ≤ n + 1 := by omega
    have k := ih (Nat.lt_of_succ_lt h)
    by_cases h1 : (n + 1) % 17 = 0
    · have h6 : ¬1 ≤ (n + 1) % 17 := by omega
      exact ⟨(fst_of (snd_of (snd_of (snd_of (snd_of (snd_of (snd_of (outsAt0_C m c ⟨n + 1, h⟩ h0 h1 h0 h3 h0 h3 h6)))))))).trans k.1, (snd_of (snd_of (snd_of (snd_of (snd_of (snd_of (snd_of (outsAt0_C m c ⟨n + 1, h⟩ h0 h1 h0 h3 h0 h3 h6)))))))).trans k.2⟩
    · have h6 : 1 ≤ (n + 1) % 17 := by omega
      exact ⟨(fst_of (snd_of (snd_of (snd_of (snd_of (snd_of (snd_of (outsAt0_B m c ⟨n + 1, h⟩ h0 h1 h6 h0 h3 h0 h3)))))))).trans k.1, (snd_of (snd_of (snd_of (snd_of (snd_of (snd_of (snd_of (outsAt0_B m c ⟨n + 1, h⟩ h0 h1 h6 h0 h3 h0 h3)))))))).trans k.2⟩

end Cert.Kernel8Ideal.Head

end
-- ==== Proof.HeadOut.lean ====
/-
Three of the arrays the last layer's `mlp_fwd_head` leaves, over the extended reals, as functions of its operands.
-/
module

public import proofs.«01_k».proof.Proof.HeadIn

@[expose] public section

set_option maxRecDepth 16384

noncomputable section

namespace Cert.Kernel8Ideal.Head

open Idealize.ShloMosaic Idealize.ShloMosaic.TcCoe Idealize.SL.Sem
open Idealize.ShloMosaic.Pipeline (Dat)
open Cert.Kernel8Ideal.Gen
open Cert.Kernel6Ideal.Mlp (ld_all off3 off4 stream zero_bits)
open Cert.Kernel7Ideal.Ffn (allX allM allN part1 part2 hMat hPieces uPieces yPieces hMat_at hBlock_at uBlock_at yBlock_at rowOf hOf uOf yOf fst_of snd_of off2 idx_wide idx_narrow)
open Cert.Grad

variable (m : (ℓ : Loc nD τ sig) → Buf (Elt Ideal) ℓ)

/-! ## What a point leaves -/

variable (c : Dev nD) (t : Fin cfg0.N)

/-- The block of the rows, of the modulation and of the norm's weight at a point. -/
def bX : FVec Ideal S1x256x1024 .f32 := iblk m c 0 t
def bM : FVec Ideal S1x1x8x1024 .f32 := iblk m c 1 t
def bN : FVec Ideal S1x1024 .f32 := iblk m c 2 t

def hAt : FVec Ideal S1x256x1024 .bf16 := View.canon (hPieces (F := Ideal) (bX m c t) (bM m c t) (bN m c t))
def uAt : FVec Ideal S1x256x4096 .bf16 := View.canon (uPieces (F := Ideal) (bX m c t) (bM m c t) (bN m c t) fun k => View.ld (wt1 m c) (part1 k))
def yAt : FVec Ideal S1x256x1024 .bf16 := View.canon (yPieces (F := Ideal) (bX m c t) (bM m c t) (bN m c t) (fun k => View.ld (wt1 m c) (part1 k)) fun k => View.ld (wt2 m c) (part2 k))

theorem whole_x : View.ld (Val := Elt Ideal) (e' := .f32) (iblk m c 0 t) allX = bX m c t := ld_all off3 _ _
theorem whole_m : View.ld (Val := Elt Ideal) (e' := .f32) (iblk m c 1 t) allM = bM m c t := ld_all off4 _ _
theorem whole_n : View.ld (Val := Elt Ideal) (e' := .f32) (iblk m c 2 t) allN = bN m c t := ld_all off2 _ _

theorem after_h_context (h1 : t.val % 17 = 0) : (dats m 0 c).after 6 t = k0_pay5 (F := Ideal) := by
  rw [after0_6]
  have h6 : ¬1 ≤ t.val % 17 := by omega
  by_cases h0 : t.val % 34 = 0
  · have h3 : ¬1 ≤ t.val := by have : t.val < 34 := t.isLt; omega
    exact (fst_of (snd_of (outsAt0_A m c t h0 h1 h0 h3 h0 h3 h6))).trans (first_h (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (V m c main_arg3) (V m c main_arg4) ((hcond0_0 t).mpr h0) ((hcond0_1 t).mpr h1) ((hcond0_2 t).mpr h0) (fun h => h3 ((hcond0_3 t).mp h)) ((hcond0_4 t).mpr h0) (fun h => h3 ((hcond0_5 t).mp h)) (fun h => h6 ((hcond0_6 t).mp h)))
  · have h3 : 1 ≤ t.val := by omega
    exact (fst_of (snd_of (outsAt0_C m c t h0 h1 h0 h3 h0 h3 h6))).trans (context_h (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_arg3) (V m c main_arg4) (fun h => h0 ((hcond0_0 t).mp h)) ((hcond0_1 t).mpr h1) (fun h => h0 ((hcond0_2 t).mp h)) ((hcond0_3 t).mpr h3) (fun h => h0 ((hcond0_4 t).mp h)) ((hcond0_5 t).mpr h3) (fun h => h6 ((hcond0_6 t).mp h)))

theorem after_h (h1 : ¬t.val % 17 = 0) : (dats m 0 c).after 6 t = hAt m c t := by
  rw [after0_6]
  unfold hAt
  have h6 : 1 ≤ t.val % 17 := by omega
  have h0 : ¬t.val % 34 = 0 := by omega
  have h3 : 1 ≤ t.val := by omega
  refine (fst_of (snd_of (outsAt0_B m c t h0 h1 h6 h0 h3 h0 h3))).trans ?_
  refine (latent_h (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_arg3) (V m c main_arg4) (fun h => h0 ((hcond0_0 t).mp h)) (fun h => h1 ((hcond0_1 t).mp h)) ((hcond0_6 t).mpr h6) (fun h => h0 ((hcond0_7 t).mp h)) ((hcond0_8 t).mpr h3) (fun h => h0 ((hcond0_9 t).mp h)) ((hcond0_10 t).mpr h3)).trans ?_
  rw [whole_x, whole_m, whole_n]

theorem after_u_context (h1 : t.val % 17 = 0) : (dats m 0 c).after 7 t = k0_pay6 (F := Ideal) := by
  rw [after0_7]
  have h6 : ¬1 ≤ t.val % 17 := by omega
  by_cases h0 : t.val % 34 = 0
  · have h3 : ¬1 ≤ t.val := by have : t.val < 34 := t.isLt; omega
    exact (fst_of (snd_of (snd_of (outsAt0_A m c t h0 h1 h0 h3 h0 h3 h6)))).trans (first_u (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (V m c main_arg3) (V m c main_arg4) ((hcond0_0 t).mpr h0) ((hcond0_1 t).mpr h1) ((hcond0_2 t).mpr h0) (fun h => h3 ((hcond0_3 t).mp h)) ((hcond0_4 t).mpr h0) (fun h => h3 ((hcond0_5 t).mp h)) (fun h => h6 ((hcond0_6 t).mp h)))
  · have h3 : 1 ≤ t.val := by omega
    exact (fst_of (snd_of (snd_of (outsAt0_C m c t h0 h1 h0 h3 h0 h3 h6)))).trans (context_u (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_arg3) (V m c main_arg4) (fun h => h0 ((hcond0_0 t).mp h)) ((hcond0_1 t).mpr h1) (fun h => h0 ((hcond0_2 t).mp h)) ((hcond0_3 t).mpr h3) (fun h => h0 ((hcond0_4 t).mp h)) ((hcond0_5 t).mpr h3) (fun h => h6 ((hcond0_6 t).mp h)))

theorem after_u (h1 : ¬t.val % 17 = 0) : (dats m 0 c).after 7 t = uAt m c t := by
  rw [after0_7]
  unfold uAt
  have h6 : 1 ≤ t.val % 17 := by omega
  have h0 : ¬t.val % 34 = 0 := by omega
  have h3 : 1 ≤ t.val := by omega
  refine (fst_of (snd_of (snd_of (outsAt0_B m c t h0 h1 h6 h0 h3 h0 h3)))).trans ?_
  refine (latent_u (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_arg3) (V m c main_arg4) (fun h => h0 ((hcond0_0 t).mp h)) (fun h => h1 ((hcond0_1 t).mp h)) ((hcond0_6 t).mpr h6) (fun h => h0 ((hcond0_7 t).mp h)) ((hcond0_8 t).mpr h3) (fun h => h0 ((hcond0_9 t).mp h)) ((hcond0_10 t).mpr h3)).trans ?_
  rw [whole_x, whole_m, whole_n, (kept m c _ _).1]

theorem after_y_context (h1 : t.val % 17 = 0) : (dats m 0 c).after 8 t = k0_pay7 (F := Ideal) := by
  rw [after0_8]
  have h6 : ¬1 ≤ t.val % 17 := by omega
  by_cases h0 : t.val % 34 = 0
  · have h3 : ¬1 ≤ t.val := by have : t.val < 34 := t.isLt; omega
    exact (fst_of (snd_of (snd_of (snd_of (outsAt0_A m c t h0 h1 h0 h3 h0 h3 h6))))).trans (first_y (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (V m c main_arg3) (V m c main_arg4) ((hcond0_0 t).mpr h0) ((hcond0_1 t).mpr h1) ((hcond0_2 t).mpr h0) (fun h => h3 ((hcond0_3 t).mp h)) ((hcond0_4 t).mpr h0) (fun h => h3 ((hcond0_5 t).mp h)) (fun h => h6 ((hcond0_6 t).mp h)))
  · have h3 : 1 ≤ t.val := by omega
    exact (fst_of (snd_of (snd_of (snd_of (outsAt0_C m c t h0 h1 h0 h3 h0 h3 h6))))).trans (context_y (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_arg3) (V m c main_arg4) (fun h => h0 ((hcond0_0 t).mp h)) ((hcond0_1 t).mpr h1) (fun h => h0 ((hcond0_2 t).mp h)) ((hcond0_3 t).mpr h3) (fun h => h0 ((hcond0_4 t).mp h)) ((hcond0_5 t).mpr h3) (fun h => h6 ((hcond0_6 t).mp h)))

theorem after_y (h1 : ¬t.val % 17 = 0) : (dats m 0 c).after 8 t = yAt m c t := by
  rw [after0_8]
  unfold yAt
  have h6 : 1 ≤ t.val % 17 := by omega
  have h0 : ¬t.val % 34 = 0 := by omega
  have h3 : 1 ≤ t.val := by omega
  refine (fst_of (snd_of (snd_of (snd_of (outsAt0_B m c t h0 h1 h6 h0 h3 h0 h3))))).trans ?_
  refine (latent_y (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (V m c main_arg3) (V m c main_arg4) (fun h => h0 ((hcond0_0 t).mp h)) (fun h => h1 ((hcond0_1 t).mp h)) ((hcond0_6 t).mpr h6) (fun h => h0 ((hcond0_7 t).mp h)) ((hcond0_8 t).mpr h3) (fun h => h0 ((hcond0_9 t).mp h)) ((hcond0_10 t).mpr h3)).trans ?_
  rw [whole_x, whole_m, whole_n, (kept m c _ _).1, (kept m c _ _).2]

/-! ## The arrays the call leaves -/

/-- The normed rows of a latents' block are the normed rows of the array. -/
theorem normed_row (ht : ¬t.val % 17 = 0) (r : Fin 256) :
    (fun l => hMat (F := Ideal) (bX m c t) (bM m c t) (bN m c t) (ix2 r l) : Fin 1024 → EReal) = rowOf (opX m c) (opM m c) (opN m c) (pB t) (pR t r) := by
  funext l
  rw [hMat_at]
  unfold rowOf
  have e0 : (fun k => bX m c t (ix3 0 r k) : Fin 1024 → EReal) = fun k => opX m c (ix3 (pB t) (pR t r) k) := funext fun k => blk0 m c t ht r k
  have e1 : (fun k => bN m c t (ix2 0 k) : Fin 1024 → EReal) = fun k => opN m c (ix2 0 k) := funext fun k => blk2 m c t k
  have e2 : (fun k => bM m c t (ix4 0 0 4 k) : Fin 1024 → EReal) = fun k => opM m c (ix4 (pB t) (stream (pR t r)) 4 k) := funext fun k => blk1 m c t ht r 4 k
  have e3 : (fun k => bM m c t (ix4 0 0 3 k) : Fin 1024 → EReal) = fun k => opM m c (ix4 (pB t) (stream (pR t r)) 3 k) := funext fun k => blk1 m c t ht r 3 k
  rw [e0, e1, e2, e3]

theorem hAt_at (ht : ¬t.val % 17 = 0) (r : Fin 256) (l : Fin 1024) : hAt m c t (ix3 0 r l) = hOf (opX m c) (opM m c) (opN m c) (ix3 (pB t) (pR t r) l) := by
  unfold hAt
  refine (hBlock_at _ _ _ r l).trans ((congrFun (normed_row m c t ht r) l).trans ?_)
  rfl

theorem uAt_at (ht : ¬t.val % 17 = 0) (r : Fin 256) (n : Fin 4096) : uAt m c t (ix3 0 r n) = uOf (opX m c) (opM m c) (opN m c) (wt1 m c) (ix3 (pB t) (pR t r) n) := by
  unfold uAt
  refine (uBlock_at _ _ _ _ r n).trans ?_
  rw [normed_row m c t ht]
  rfl

theorem yAt_at (ht : ¬t.val % 17 = 0) (r : Fin 256) (l : Fin 1024) : yAt m c t (ix3 0 r l) = yOf (opX m c) (opM m c) (opN m c) (wt1 m c) (wt2 m c) (ix3 (pB t) (pR t r) l) := by
  unfold yAt
  refine (yBlock_at _ _ _ _ _ r l).trans ?_
  rw [normed_row m c t ht]
  rfl

theorem blank_h (r : Fin 256) (n : Fin 1024) : (k0_pay5 (F := Ideal) (ix3 0 r n) : EReal) = 0 := by
  unfold k0_pay5
  pointwise

theorem blank_u (r : Fin 256) (n : Fin 4096) : (k0_pay6 (F := Ideal) (ix3 0 r n) : EReal) = 0 := by
  unfold k0_pay6
  pointwise

theorem blank_y (r : Fin 256) (n : Fin 1024) : (k0_pay7 (F := Ideal) (ix3 0 r n) : EReal) = 0 := by
  unfold k0_pay7
  pointwise

attribute [local irreducible] hAt uAt yAt

theorem final_h : (dats m 0 c).arrAt 6 cfg0.N = latents (hOf (opX m c) (opM m c) (opN m c)) := by
  refine (dats m 0 c).arrAt_eq_of_covers 6 _ (by decide +kernel) fun t hf y => ?_
  obtain ⟨r, n, rfl⟩ := idx_narrow y
  by_cases ht : t.val % 17 = 0
  · rw [after_h_context m c t ht]
    have e : latents (hOf (opX m c) (opM m c) (opN m c)) (ix3 (pB t) (pR t r) n) = (0 : EReal) := if_pos (by show 256 * (t.val % 17) + r.val < 256; omega)
    exact (blank_h r n).trans (e.symm.trans (congrArg (latents (hOf (opX m c) (opM m c) (opN m c))) (emb6 t r n)).symm)
  · rw [after_h m c t ht]
    have e : latents (hOf (opX m c) (opM m c) (opN m c)) (ix3 (pB t) (pR t r) n) = hOf (opX m c) (opM m c) (opN m c) (ix3 (pB t) (pR t r) n) := if_neg (by show ¬256 * (t.val % 17) + r.val < 256; omega)
    exact (hAt_at m c t ht r n).trans (e.symm.trans (congrArg (latents (hOf (opX m c) (opM m c) (opN m c))) (emb6 t r n)).symm)

theorem final_u : (dats m 0 c).arrAt 7 cfg0.N = latents (uOf (opX m c) (opM m c) (opN m c) (wt1 m c)) := by
  refine (dats m 0 c).arrAt_eq_of_covers 7 _ (by decide +kernel) fun t hf y => ?_
  obtain ⟨r, n, rfl⟩ := idx_wide y
  by_cases ht : t.val % 17 = 0
  · rw [after_u_context m c t ht]
    have e : latents (uOf (opX m c) (opM m c) (opN m c) (wt1 m c)) (ix3 (pB t) (pR t r) n) = (0 : EReal) := if_pos (by show 256 * (t.val % 17) + r.val < 256; omega)
    exact (blank_u r n).trans (e.symm.trans (congrArg (latents (uOf (opX m c) (opM m c) (opN m c) (wt1 m c))) (emb7 t r n)).symm)
  · rw [after_u m c t ht]
    have e : latents (uOf (opX m c) (opM m c) (opN m c) (wt1 m c)) (ix3 (pB t) (pR t r) n) = uOf (opX m c) (opM m c) (opN m c) (wt1 m c) (ix3 (pB t) (pR t r) n) := if_neg (by show ¬256 * (t.val % 17) + r.val < 256; omega)
    exact (uAt_at m c t ht r n).trans (e.symm.trans (congrArg (latents (uOf (opX m c) (opM m c) (opN m c) (wt1 m c))) (emb7 t r n)).symm)

theorem final_y : (dats m 0 c).arrAt 8 cfg0.N = latents (yOf (opX m c) (opM m c) (opN m c) (wt1 m c) (wt2 m c)) := by
  refine (dats m 0 c).arrAt_eq_of_covers 8 _ (by decide +kernel) fun t hf y => ?_
  obtain ⟨r, n, rfl⟩ := idx_narrow y
  by_cases ht : t.val % 17 = 0
  · rw [after_y_context m c t ht]
    have e : latents (yOf (opX m c) (opM m c) (opN m c) (wt1 m c) (wt2 m c)) (ix3 (pB t) (pR t r) n) = (0 : EReal) := if_pos (by show 256 * (t.val % 17) + r.val < 256; omega)
    exact (blank_y r n).trans (e.symm.trans (congrArg (latents (yOf (opX m c) (opM m c) (opN m c) (wt1 m c) (wt2 m c))) (emb8 t r n)).symm)
  · rw [after_y m c t ht]
    have e : latents (yOf (opX m c) (opM m c) (opN m c) (wt1 m c) (wt2 m c)) (ix3 (pB t) (pR t r) n) = yOf (opX m c) (opM m c) (opN m c) (wt1 m c) (wt2 m c) (ix3 (pB t) (pR t r) n) := if_neg (by show ¬256 * (t.val % 17) + r.val < 256; omega)
    exact (yAt_at m c t ht r n).trans (e.symm.trans (congrArg (latents (yOf (opX m c) (opM m c) (opN m c) (wt1 m c) (wt2 m c))) (emb8 t r n)).symm)

theorem opX_eq : opX m c = m ((c.tc : Thread nD τ).loc main_arg0) := by unfold opX; exact V_main_arg0 m c
theorem opM_eq : opM m c = m ((c.tc : Thread nD τ).loc main_arg1) := by unfold opM; exact V_main_arg1 m c
theorem opN_eq : opN m c = m ((c.tc : Thread nD τ).loc main_arg2) := by unfold opN; exact V_main_arg2 m c
theorem wt1_eq : wt1 m c = m ((c.tc : Thread nD τ).loc main_arg3) := by
  unfold wt1
  rw [V_main_arg3]
  rfl
theorem wt2_eq : wt2 m c = m ((c.tc : Thread nD τ).loc main_arg4) := by
  unfold wt2
  rw [V_main_arg4]
  rfl

end Cert.Kernel8Ideal.Head

end
-- ==== Proof.lean ====
/- The attention's backward call: it runs at both instances, and on real arguments its three gradients are the
   derivatives of the reference's attention. The four calls that give a weight's gradient: they run at both instances, and
   on any arguments each result is the reference's gradient. The MLP's backward call: it runs at both instances, and on any
   arguments three of its results are the reference's. The MLP's forward call: it runs at both instances, and on any arguments
   its four results are the reference's. The last layer's MLP forward call: it runs at both instances, and on any arguments
   three of its results are the reference's. The parts are proved under Proof/; this module assembles the claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Finite
public import proofs.«01_k».proof.Proof.Result
public import proofs.«01_k».proof.Proof.GradRef
public import proofs.«01_k».proof.Proof.MlpOut
public import proofs.«01_k».proof.Proof.MlpRef
public import proofs.«01_k».proof.Proof.MlpSame
public import proofs.«01_k».proof.Proof.FfnOut
public import proofs.«01_k».proof.Proof.FfnRef
public import proofs.«01_k».proof.Proof.HeadOut
public import proofs.«01_k».proof.Proof.HeadRef
public import Idealize.ShloMosaic.Adequacy
public import Idealize.ShloMosaic.Init

@[expose] public section

noncomputable section

namespace Cert.Proof

open Idealize.ShloMosaic Idealize.SL.Sem Cert.Kernel

theorem frame_r (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono
    (fun r h => ⟨fun c => (h c).2.2.2, Idealize.ShloMosaic.sem_eq_zero_of_no_sems (by decide) r.2⟩)
    (Cert.ReferenceIdeal.Value.run m g)

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have R4 : ∀ c b H, ∃ Q K V G, Cert.KernelIdeal.FB.Real4 m c b H Q K V G := fun c => by
    obtain ⟨h0, h1, h2, h3⟩ := Cert.Pre_finite.FB.reals (hpre c)
    exact Cert.Join.real4 m c h0 h1 h2 h3
  refine ⟨fun c => Cert.KernelIdeal.FB.outDQ m c, fun c => Cert.KernelIdeal.FB.outDK m c, fun c => Cert.KernelIdeal.FB.outDV m c, ?_, ?_⟩
  · refine (θ_run Cert.KernelIdeal.defs _ _).mono (fun r h c => ?_) (Cert.KernelIdeal.Value.run_blocks m g)
    obtain ⟨h7, h8, h9, hargs⟩ := h c
    exact ⟨h7.trans (Cert.KernelIdeal.FB.final7 m c), h8.trans (Cert.KernelIdeal.FB.final8 m c), h9.trans (Cert.KernelIdeal.FB.final9 m c), hargs⟩
  · refine (θ_run Cert.ReferenceIdeal.defs _ _).mono (fun r h c => ?_) (Cert.ReferenceIdeal.Value.run m' g')
    obtain ⟨h0, h1, h2, hargs⟩ := h c
    obtain ⟨a0, a1, a2, a3⟩ := hagree c
    refine ⟨h0.trans ?_, h1.trans ?_, h2.trans ?_, hargs⟩
    · rw [Cert.ReferenceIdeal.Read.val_main_v87_eq, a0, a1, a2, a3]
      exact (Cert.Join.dq_eq m c (R4 c)).symm
    · rw [Cert.ReferenceIdeal.Read.val_main_v89_eq, a0, a1, a2, a3]
      exact (Cert.Join.dk_eq m c (R4 c)).symm
    · rw [Cert.ReferenceIdeal.Read.val_main_v91_eq, a0, a1, a3]
      exact (Cert.Join.dv_eq m c (R4 c)).symm

theorem frame_r2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0) :=
  (θ_run Cert.Reference2Ideal.defs _ _).mono
    (fun r h => ⟨fun c => (h c).2, Idealize.ShloMosaic.sem_eq_zero_of_no_sems (by decide) r.2⟩)
    (Cert.Reference2Ideal.Value.run m g)

theorem algebraic2 : Cert.algebraic_Kernel2Ideal_Reference2Ideal (hKernel2Ideal := Cert.Kernel2Ideal.Gen.facts) (hReference2Ideal := Cert.Reference2Ideal.Gen.facts) := by
  intro m g m' g' _ hagree
  refine ⟨fun c => Cert.Kernel2Ideal.WG.out m c, ?_, ?_⟩
  · exact (θ_run Cert.Kernel2Ideal.defs _ _).mono (fun r h c => ⟨(h c).1.trans (Cert.Kernel2Ideal.WG.final m c), (h c).2⟩) (Cert.Kernel2Ideal.Value.run_blocks m g)
  · refine (θ_run Cert.Reference2Ideal.defs _ _).mono (fun r h c => ?_) (Cert.Reference2Ideal.Value.run m' g')
    obtain ⟨a0, a1⟩ := hagree c
    refine ⟨(h c).1.trans ?_, (h c).2⟩
    rw [Cert.Reference2Ideal.Read.val_main_v7_eq, a0, a1, ← Cert.Kernel2Ideal.WG.opA_eq m c, ← Cert.Kernel2Ideal.WG.opG_eq m c]
    exact Cert.Grad.ref2 m c

theorem frame_r3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run Cert.Reference3Ideal.defs _ _).mono
    (fun r h => ⟨fun c => (h c).2, Idealize.ShloMosaic.sem_eq_zero_of_no_sems (by decide) r.2⟩)
    (Cert.Reference3Ideal.Value.run m g)

theorem algebraic3 : Cert.algebraic_Kernel3Ideal_Reference3Ideal (hKernel3Ideal := Cert.Kernel3Ideal.Gen.facts) (hReference3Ideal := Cert.Reference3Ideal.Gen.facts) := by
  intro m g m' g' _ hagree
  refine ⟨fun c => Cert.Kernel3Ideal.WG.out m c, ?_, ?_⟩
  · exact (θ_run Cert.Kernel3Ideal.defs _ _).mono (fun r h c => ⟨(h c).1.trans (Cert.Kernel3Ideal.WG.final m c), (h c).2⟩) (Cert.Kernel3Ideal.Value.run_blocks m g)
  · refine (θ_run Cert.Reference3Ideal.defs _ _).mono (fun r h c => ?_) (Cert.Reference3Ideal.Value.run m' g')
    obtain ⟨a0, a1⟩ := hagree c
    refine ⟨(h c).1.trans ?_, (h c).2⟩
    rw [Cert.Reference3Ideal.Read.val_main_v6_eq, a0, a1, ← Cert.Kernel3Ideal.WG.opA_eq m c, ← Cert.Kernel3Ideal.WG.opG_eq m c]
    exact Cert.Grad.ref3 m c

theorem frame_r4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run Cert.Reference4Ideal.defs _ _).mono
    (fun r h => ⟨fun c => (h c).2, Idealize.ShloMosaic.sem_eq_zero_of_no_sems (by decide) r.2⟩)
    (Cert.Reference4Ideal.Value.run m g)

theorem algebraic4 : Cert.algebraic_Kernel4Ideal_Reference4Ideal (hKernel4Ideal := Cert.Kernel4Ideal.Gen.facts) (hReference4Ideal := Cert.Reference4Ideal.Gen.facts) := by
  intro m g m' g' _ hagree
  refine ⟨fun c => Cert.Kernel4Ideal.WG.out m c, ?_, ?_⟩
  · exact (θ_run Cert.Kernel4Ideal.defs _ _).mono (fun r h c => ⟨(h c).1.trans (Cert.Kernel4Ideal.WG.final m c), (h c).2⟩) (Cert.Kernel4Ideal.Value.run_blocks m g)
  · refine (θ_run Cert.Reference4Ideal.defs _ _).mono (fun r h c => ?_) (Cert.Reference4Ideal.Value.run m' g')
    obtain ⟨a0, a1⟩ := hagree c
    refine ⟨(h c).1.trans ?_, (h c).2⟩
    rw [Cert.Reference4Ideal.Read.val_main_v6_eq, a0, a1, ← Cert.Kernel4Ideal.WG.opA_eq m c, ← Cert.Kernel4Ideal.WG.opG_eq m c]
    exact Cert.Grad.ref4 m c

theorem frame_r5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run Cert.Reference5Ideal.defs _ _).mono
    (fun r h => ⟨fun c => (h c).2, Idealize.ShloMosaic.sem_eq_zero_of_no_sems (by decide) r.2⟩)
    (Cert.Reference5Ideal.Value.run m g)

theorem algebraic5 : Cert.algebraic_Kernel5Ideal_Reference5Ideal (hKernel5Ideal := Cert.Kernel5Ideal.Gen.facts) (hReference5Ideal := Cert.Reference5Ideal.Gen.facts) := by
  intro m g m' g' _ hagree
  refine ⟨fun c => Cert.Kernel5Ideal.WG.out m c, ?_, ?_⟩
  · exact (θ_run Cert.Kernel5Ideal.defs _ _).mono (fun r h c => ⟨(h c).1.trans (Cert.Kernel5Ideal.WG.final m c), (h c).2⟩) (Cert.Kernel5Ideal.Value.run_blocks m g)
  · refine (θ_run Cert.Reference5Ideal.defs _ _).mono (fun r h c => ?_) (Cert.Reference5Ideal.Value.run m' g')
    obtain ⟨a0, a1⟩ := hagree c
    refine ⟨(h c).1.trans ?_, (h c).2⟩
    rw [Cert.Reference5Ideal.Read.val_main_v6_eq, a0, a1, ← Cert.Kernel5Ideal.WG.opA_eq m c, ← Cert.Kernel5Ideal.WG.opG_eq m c]
    exact Cert.Grad.ref5 m c

/-- so the frame proved of the one at any kind of floats holds of the other. -/
theorem frame_k6 (m : (ℓ : Loc Cert.Kernel6.nD Cert.Kernel6.τ Cert.Kernel6.sig) → Buf (Elt Bits) ℓ) (g : Dev Cert.Kernel6.nD → PrngReg) :
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0) := by
  rw [main6, defs6]
  exact Cert.Kernel6Ideal.Mlp.frame (F := Bits) m g

theorem frame_r6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0) :=
  (θ_run Cert.Reference6Ideal.defs _ _).mono
    (fun r h => ⟨fun c => (h c).2.2.2, Idealize.ShloMosaic.sem_eq_zero_of_no_sems (by decide) r.2⟩)
    (Cert.Reference6Ideal.Value.run m g)

theorem algebraic6 : Cert.algebraic_Kernel6Ideal_Reference6Ideal (hKernel6Ideal := Cert.Kernel6Ideal.Gen.facts) (hReference6Ideal := Cert.Reference6Ideal.Gen.facts) := by
  intro m g m' g' _ hagree
  refine ⟨fun c => Cert.Kernel6Ideal.Mlp.duOf (Cert.Kernel6Ideal.Mlp.opX m c) (Cert.Kernel6Ideal.Mlp.opU m c) (Cert.Kernel6Ideal.Mlp.opM m c) (Cert.Kernel6Ideal.Mlp.wt2 m c),
    fun c => Cert.Kernel6Ideal.Mlp.aOf (Cert.Kernel6Ideal.Mlp.opU m c),
    fun c => Cert.Kernel6Ideal.Mlp.dyOf (Cert.Kernel6Ideal.Mlp.opX m c) (Cert.Kernel6Ideal.Mlp.opM m c), Cert.Kernel6Ideal.Mlp.run_values m g, ?_⟩
  refine (θ_run Cert.Reference6Ideal.defs _ _).mono (fun r h c => ?_) (Cert.Reference6Ideal.Value.run m' g')
  obtain ⟨h0, h1, h2, hargs⟩ := h c
  obtain ⟨a0, a1, a2, a3, a4, a5⟩ := hagree c
  refine ⟨h0.trans ?_, h1.trans ?_, h2.trans ?_, hargs⟩
  · beta_reduce
    rw [Cert.Reference6Ideal.Read.val_main_v90_eq, a0, a1, a2, a3, a4, a5, Cert.Kernel6Ideal.Mlp.opX_eq, Cert.Kernel6Ideal.Mlp.opU_eq, Cert.Kernel6Ideal.Mlp.opM_eq, Cert.Kernel6Ideal.Mlp.wt2_eq]
    exact Cert.Kernel6Ideal.Mlp.du_ref _ _ _ _ _ _
  · beta_reduce
    rw [Cert.Reference6Ideal.Read.val_main_v91_eq, a1, a2, a3, a4, Cert.Kernel6Ideal.Mlp.opU_eq]
    exact Cert.Kernel6Ideal.Mlp.a_ref _ _ _ _
  · beta_reduce
    rw [Cert.Reference6Ideal.Read.val_main_v92_eq, a0, a2, Cert.Kernel6Ideal.Mlp.opX_eq, Cert.Kernel6Ideal.Mlp.opM_eq]
    exact Cert.Kernel6Ideal.Mlp.dy_ref _ _

theorem frame_r7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0) :=
  (θ_run Cert.Reference7Ideal.defs _ _).mono
    (fun r h => ⟨fun c => (h c).2.2.2.2, Idealize.ShloMosaic.sem_eq_zero_of_no_sems (by decide) r.2⟩)
    (Cert.Reference7Ideal.Value.run m g)

theorem algebraic7 : Cert.algebraic_Kernel7Ideal_Reference7Ideal (hKernel7Ideal := Cert.Kernel7Ideal.Gen.facts) (hReference7Ideal := Cert.Reference7Ideal.Gen.facts) := by
  intro m g m' g' _ hagree
  refine ⟨fun c => Cert.Kernel7Ideal.Ffn.xOf (Cert.Kernel7Ideal.Ffn.opX m c) (Cert.Kernel7Ideal.Ffn.opM m c) (Cert.Kernel7Ideal.Ffn.opN m c) (Cert.Kernel7Ideal.Ffn.wt1 m c) (Cert.Kernel7Ideal.Ffn.wt2 m c),
    fun c => Cert.Kernel7Ideal.Ffn.hOf (Cert.Kernel7Ideal.Ffn.opX m c) (Cert.Kernel7Ideal.Ffn.opM m c) (Cert.Kernel7Ideal.Ffn.opN m c),
    fun c => Cert.Kernel7Ideal.Ffn.uOf (Cert.Kernel7Ideal.Ffn.opX m c) (Cert.Kernel7Ideal.Ffn.opM m c) (Cert.Kernel7Ideal.Ffn.opN m c) (Cert.Kernel7Ideal.Ffn.wt1 m c),
    fun c => Cert.Kernel7Ideal.Ffn.yOf (Cert.Kernel7Ideal.Ffn.opX m c) (Cert.Kernel7Ideal.Ffn.opM m c) (Cert.Kernel7Ideal.Ffn.opN m c) (Cert.Kernel7Ideal.Ffn.wt1 m c) (Cert.Kernel7Ideal.Ffn.wt2 m c), ?_, ?_⟩
  · refine (θ_run Cert.Kernel7Ideal.defs _ _).mono (fun r h c => ?_) (Cert.Kernel7Ideal.Value.run_blocks m g)
    obtain ⟨h0, h1, h2, h3, hargs⟩ := h c
    exact ⟨h0.trans (Cert.Kernel7Ideal.Ffn.final_x m c), h1.trans (Cert.Kernel7Ideal.Ffn.final_h m c), h2.trans (Cert.Kernel7Ideal.Ffn.final_u m c), h3.trans (Cert.Kernel7Ideal.Ffn.final_y m c), hargs⟩
  · refine (θ_run Cert.Reference7Ideal.defs _ _).mono (fun r h c => ?_) (Cert.Reference7Ideal.Value.run m' g')
    obtain ⟨h0, h1, h2, h3, hargs⟩ := h c
    obtain ⟨a0, a1, a2, a3, a4⟩ := hagree c
    refine ⟨h0.trans ?_, h1.trans ?_, h2.trans ?_, h3.trans ?_, hargs⟩
    · beta_reduce
      rw [Cert.Reference7Ideal.Read.val_main_v69_eq, a0, a1, a2, a3, a4, Cert.Kernel7Ideal.Ffn.opX_eq, Cert.Kernel7Ideal.Ffn.opM_eq, Cert.Kernel7Ideal.Ffn.opN_eq, Cert.Kernel7Ideal.Ffn.wt1_eq, Cert.Kernel7Ideal.Ffn.wt2_eq]
      exact Cert.Kernel7Ideal.Ffn.ref_x _ _ _ _ _
    · beta_reduce
      rw [Cert.Reference7Ideal.Read.val_main_v70_eq, a0, a1, a2, Cert.Kernel7Ideal.Ffn.opX_eq, Cert.Kernel7Ideal.Ffn.opM_eq, Cert.Kernel7Ideal.Ffn.opN_eq]
      exact Cert.Kernel7Ideal.Ffn.ref_h _ _ _
    · beta_reduce
      rw [Cert.Reference7Ideal.Read.val_main_v71_eq, a0, a1, a2, a3, Cert.Kernel7Ideal.Ffn.opX_eq, Cert.Kernel7Ideal.Ffn.opM_eq, Cert.Kernel7Ideal.Ffn.opN_eq, Cert.Kernel7Ideal.Ffn.wt1_eq]
      exact Cert.Kernel7Ideal.Ffn.ref_u _ _ _ _
    · beta_reduce
      rw [Cert.Reference7Ideal.Read.val_main_v72_eq, a0, a1, a2, a3, a4, Cert.Kernel7Ideal.Ffn.opX_eq, Cert.Kernel7Ideal.Ffn.opM_eq, Cert.Kernel7Ideal.Ffn.opN_eq, Cert.Kernel7Ideal.Ffn.wt1_eq, Cert.Kernel7Ideal.Ffn.wt2_eq]
      exact Cert.Kernel7Ideal.Ffn.ref_y _ _ _ _ _

theorem frame_r8 (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0) :=
  (θ_run Cert.Reference8Ideal.defs _ _).mono
    (fun r h => ⟨fun c => (h c).2.2.2, Idealize.ShloMosaic.sem_eq_zero_of_no_sems (by decide) r.2⟩)
    (Cert.Reference8Ideal.Value.run m g)

theorem algebraic8 : Cert.algebraic_Kernel8Ideal_Reference8Ideal (hKernel8Ideal := Cert.Kernel8Ideal.Gen.facts) (hReference8Ideal := Cert.Reference8Ideal.Gen.facts) := by
  intro m g m' g' _ hagree
  refine ⟨fun c => Cert.Kernel8Ideal.Head.latents (Cert.Kernel7Ideal.Ffn.hOf (Cert.Kernel8Ideal.Head.opX m c) (Cert.Kernel8Ideal.Head.opM m c) (Cert.Kernel8Ideal.Head.opN m c)),
    fun c => Cert.Kernel8Ideal.Head.latents (Cert.Kernel7Ideal.Ffn.uOf (Cert.Kernel8Ideal.Head.opX m c) (Cert.Kernel8Ideal.Head.opM m c) (Cert.Kernel8Ideal.Head.opN m c) (Cert.Kernel8Ideal.Head.wt1 m c)),
    fun c => Cert.Kernel8Ideal.Head.latents (Cert.Kernel7Ideal.Ffn.yOf (Cert.Kernel8Ideal.Head.opX m c) (Cert.Kernel8Ideal.Head.opM m c) (Cert.Kernel8Ideal.Head.opN m c) (Cert.Kernel8Ideal.Head.wt1 m c) (Cert.Kernel8Ideal.Head.wt2 m c)), ?_, ?_⟩
  · refine (θ_run Cert.Kernel8Ideal.defs _ _).mono (fun r h c => ?_) (Cert.Kernel8Ideal.Value.run_blocks m g)
    obtain ⟨_, h1, h2, h3, _, _, hargs⟩ := h c
    exact ⟨h1.trans (Cert.Kernel8Ideal.Head.final_h m c), h2.trans (Cert.Kernel8Ideal.Head.final_u m c), h3.trans (Cert.Kernel8Ideal.Head.final_y m c), hargs⟩
  · refine (θ_run Cert.Reference8Ideal.defs _ _).mono (fun r h c => ?_) (Cert.Reference8Ideal.Value.run m' g')
    obtain ⟨h1, h2, h3, hargs⟩ := h c
    obtain ⟨a0, a1, a2, a3, a4, _, _⟩ := hagree c
    refine ⟨h1.trans ?_, h2.trans ?_, h3.trans ?_, hargs⟩
    · beta_reduce
      rw [Cert.Reference8Ideal.Read.val_main_v35_eq, a0, a1, a2, Cert.Kernel8Ideal.Head.opX_eq, Cert.Kernel8Ideal.Head.opM_eq, Cert.Kernel8Ideal.Head.opN_eq]
      exact Cert.Kernel8Ideal.Head.ref_h _ _ _
    · beta_reduce
      rw [Cert.Reference8Ideal.Read.val_main_v38_eq, a0, a1, a2, a3, Cert.Kernel8Ideal.Head.opX_eq, Cert.Kernel8Ideal.Head.opM_eq, Cert.Kernel8Ideal.Head.opN_eq, Cert.Kernel8Ideal.Head.wt1_eq]
      exact Cert.Kernel8Ideal.Head.ref_u _ _ _ _
    · beta_reduce
      rw [Cert.Reference8Ideal.Read.val_main_v41_eq, a0, a1, a2, a3, a4, Cert.Kernel8Ideal.Head.opX_eq, Cert.Kernel8Ideal.Head.opM_eq, Cert.Kernel8Ideal.Head.opN_eq, Cert.Kernel8Ideal.Head.wt1_eq, Cert.Kernel8Ideal.Head.wt2_eq]
      exact Cert.Kernel8Ideal.Head.ref_y _ _ _ _ _

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => frame_r m ρ, fun m ρ _ => frame_r m ρ,
  fun m ρ _ => Cert.Kernel2.Gen.frame m ρ, fun m ρ _ => Cert.Kernel2Ideal.Gen.frame m ρ, fun m ρ _ => frame_r2 m ρ,
  fun m ρ _ => Cert.Kernel3.Gen.frame m ρ, fun m ρ _ => Cert.Kernel3Ideal.Gen.frame m ρ, fun m ρ _ => frame_r3 m ρ,
  fun m ρ _ => Cert.Kernel4.Gen.frame m ρ, fun m ρ _ => Cert.Kernel4Ideal.Gen.frame m ρ, fun m ρ _ => frame_r4 m ρ,
  fun m ρ _ => Cert.Kernel5.Gen.frame m ρ, fun m ρ _ => Cert.Kernel5Ideal.Gen.frame m ρ, fun m ρ _ => frame_r5 m ρ,
  fun m ρ _ => frame_k6 m ρ, fun m ρ _ => Cert.Kernel6Ideal.Mlp.frame m ρ, fun m ρ _ => frame_r6 m ρ,
  fun m ρ _ => Cert.Kernel7.Gen.frame m ρ, fun m ρ _ => Cert.Kernel7Ideal.Gen.frame m ρ, fun m ρ _ => frame_r7 m ρ,
  fun m ρ _ => Cert.Kernel8.Gen.frame m ρ, fun m ρ _ => Cert.Kernel8Ideal.Gen.frame m ρ, fun m ρ _ => frame_r8 m ρ,
  trivial, algebraic, trivial, algebraic2, trivial, algebraic3, trivial, algebraic4, trivial, algebraic5, trivial, algebraic6, trivial, algebraic7, trivial, algebraic8⟩

end Cert.Proof

end
